-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)) (v2 : (c : Dev Cert.GateUpIdeal.nD) → Buf (Elt Ideal) ((c.tc : Thread Cert.GateUpIdeal.nD Cert.GateUpIdeal.τ).loc Cert.GateUpIdeal.main_v1_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_v1_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v0_0) = v0 c
          ∧ r.2.mem ((c.tc : Thread Cert.GateUpReferenceIdeal.nD Cert.GateUpReferenceIdeal.τ).loc Cert.GateUpReferenceIdeal.main_v0_1) = v1 c
          ∧ r.2.mem ((c.tc : Thread Cert.GateUpReferenceIdeal.nD Cert.GateUpReferenceIdeal.τ).loc Cert.GateUpReferenceIdeal.main_v0_2) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpReferenceIdeal : Cert.GateUpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpReferenceIdeal (hGateUpIdeal := hGateUpIdeal) (hGateUpReferenceIdeal := hGateUpReferenceIdeal)
-- ==== Kernel.lean ====
abbrev S1024x4352 : Shape := ⟨2, ![1024, 4352]⟩
abbrev S4352x5120 : Shape := ⟨2, ![4352, 5120]⟩
abbrev S34x40 : Shape := ⟨2, ![34, 40]⟩
abbrev S2048x5120 : Shape := ⟨2, ![2048, 5120]⟩
abbrev S40x34 : Shape := ⟨2, ![40, 34]⟩
abbrev S4352x512 : Shape := ⟨2, ![4352, 512]⟩
abbrev S2048x512 : Shape := ⟨2, ![2048, 512]⟩
abbrev S_ : Shape := ⟨0, ![]⟩
abbrev S1x1 : Shape := ⟨2, ![1, 1]⟩
abbrev S128x128 : Shape := ⟨2, ![128, 128]⟩
abbrev S256x512 : Shape := ⟨2, ![256, 512]⟩
abbrev S128x4352 : Shape := ⟨2, ![128, 4352]⟩
abbrev S256x4352 : Shape := ⟨2, ![256, 4352]⟩

abbrev nBuf : Space → Nat
  | .hbm => 6
  | .vmem => 9
  | .smem => 1
  | _ => 0

abbrev bufTy : (tb : Table) → Fin (tcTables nBuf tb) → BufTy
  | .hbm, ⟨0, _⟩ => ⟨S1024x4352, .i32⟩
  | .hbm, ⟨1, _⟩ => ⟨S4352x5120, .fp8e4m3⟩
  | .hbm, ⟨2, _⟩ => ⟨S34x40, .f32⟩
  | .hbm, ⟨3, _⟩ => ⟨S2048x5120, .f32⟩
  | .hbm, ⟨4, _⟩ => ⟨S40x34, .f32⟩
  | .hbm, ⟨5, _⟩ => ⟨S2048x5120, .bf16⟩
  | .local _ .vmem, ⟨0, _⟩ => ⟨S4352x512, .fp8e4m3⟩
  | .local _ .vmem, ⟨1, _⟩ => ⟨S4352x512, .fp8e4m3⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .vmem, ⟨6, _⟩ => ⟨S1024x4352, .i32⟩
  | .local _ .vmem, ⟨7, _⟩ => ⟨S4352x512, .bf16⟩
  | .local _ .vmem, ⟨8, _⟩ => ⟨S4352x512, .bf16⟩
  | .local _ .smem, ⟨0, _⟩ => ⟨S40x34, .f32⟩
  | _, _ => ⟨S1024x4352, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32_0 : BitVec 32 := 0#32
  let v2 : BitVec 1 := Scalar.cmpi .eq arg0 c0_i32_0
  let v3 : BitVec 32 := Scalar.extui v2
  let c0_i32_1 : BitVec 32 := 0#32
  let v4 : BitVec 1 := Scalar.cmpi .ne v3 c0_i32_1
  v4

def k0_off1 (i : grid0.Coords) (c0_i32_5 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v14 : BitVec 32 := Scalar.addi v13 c0_i32_5
  let v15 : Index := Scalar.indexCast v14
  let c0 : Index := 0#32
  ![v15.toNat, 0]
def k0_off2 (i : grid0.Coords) (c0_i32_23 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v58 : BitVec 32 := Scalar.addi v13 c0_i32_23
  let v59 : Index := Scalar.indexCast v58
  let c1 : Index := 1#32
  ![v59.toNat, 1]
def k0_off3 (i : grid0.Coords) (c0_i32_46 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v102 : BitVec 32 := Scalar.addi v13 c0_i32_46
  let v103 : Index := Scalar.indexCast v102
  let c2 : Index := 2#32
  ![v103.toNat, 2]
def k0_off4 (i : grid0.Coords) (c0_i32_69 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v146 : BitVec 32 := Scalar.addi v13 c0_i32_69
  let v147 : Index := Scalar.indexCast v146
  let c3 : Index := 3#32
  ![v147.toNat, 3]
def k0_off5 (i : grid0.Coords) (c0_i32_92 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v190 : BitVec 32 := Scalar.addi v13 c0_i32_92
  let v191 : Index := Scalar.indexCast v190
  let c4 : Index := 4#32
  ![v191.toNat, 4]
def k0_off6 (i : grid0.Coords) (c0_i32_114 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v234 : BitVec 32 := Scalar.addi v13 c0_i32_114
  let v235 : Index := Scalar.indexCast v234
  let c5 : Index := 5#32
  ![v235.toNat, 5]
def k0_off7 (i : grid0.Coords) (c0_i32_136 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v278 : BitVec 32 := Scalar.addi v13 c0_i32_136
  let v279 : Index := Scalar.indexCast v278
  let c6 : Index := 6#32
  ![v279.toNat, 6]
def k0_off8 (i : grid0.Coords) (c0_i32_158 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v322 : BitVec 32 := Scalar.addi v13 c0_i32_158
  let v323 : Index := Scalar.indexCast v322
  let c7 : Index := 7#32
  ![v323.toNat, 7]
def k0_off9 (i : grid0.Coords) (c0_i32_180 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v366 : BitVec 32 := Scalar.addi v13 c0_i32_180
  let v367 : Index := Scalar.indexCast v366
  let c8 : Index := 8#32
  ![v367.toNat, 8]
def k0_off10 (i : grid0.Coords) (c0_i32_202 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v410 : BitVec 32 := Scalar.addi v13 c0_i32_202
  let v411 : Index := Scalar.indexCast v410
  let c9 : Index := 9#32
  ![v411.toNat, 9]
def k0_off11 (i : grid0.Coords) (c0_i32_224 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v454 : BitVec 32 := Scalar.addi v13 c0_i32_224
  let v455 : Index := Scalar.indexCast v454
  let c10 : Index := 10#32
  ![v455.toNat, 10]
def k0_off12 (i : grid0.Coords) (c0_i32_246 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v498 : BitVec 32 := Scalar.addi v13 c0_i32_246
  let v499 : Index := Scalar.indexCast v498
  let c11 : Index := 11#32
  ![v499.toNat, 11]
def k0_off13 (i : grid0.Coords) (c0_i32_268 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v542 : BitVec 32 := Scalar.addi v13 c0_i32_268
  let v543 : Index := Scalar.indexCast v542
  let c12 : Index := 12#32
  ![v543.toNat, 12]
def k0_off14 (i : grid0.Coords) (c0_i32_290 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v586 : BitVec 32 := Scalar.addi v13 c0_i32_290
  let v587 : Index := Scalar.indexCast v586
  let c13 : Index := 13#32
  ![v587.toNat, 13]
def k0_off15 (i : grid0.Coords) (c0_i32_312 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v630 : BitVec 32 := Scalar.addi v13 c0_i32_312
  let v631 : Index := Scalar.indexCast v630
  let c14 : Index := 14#32
  ![v631.toNat, 14]
def k0_off16 (i : grid0.Coords) (c0_i32_334 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v674 : BitVec 32 := Scalar.addi v13 c0_i32_334
  let v675 : Index := Scalar.indexCast v674
  let c15 : Index := 15#32
  ![v675.toNat, 15]
def k0_off17 (i : grid0.Coords) (c0_i32_356 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v718 : BitVec 32 := Scalar.addi v13 c0_i32_356
  let v719 : Index := Scalar.indexCast v718
  let c16 : Index := 16#32
  ![v719.toNat, 16]
def k0_off18 (i : grid0.Coords) (c0_i32_378 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v762 : BitVec 32 := Scalar.addi v13 c0_i32_378
  let v763 : Index := Scalar.indexCast v762
  let c17 : Index := 17#32
  ![v763.toNat, 17]
def k0_off19 (i : grid0.Coords) (c0_i32_400 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v806 : BitVec 32 := Scalar.addi v13 c0_i32_400
  let v807 : Index := Scalar.indexCast v806
  let c18 : Index := 18#32
  ![v807.toNat, 18]
def k0_off20 (i : grid0.Coords) (c0_i32_422 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v850 : BitVec 32 := Scalar.addi v13 c0_i32_422
  let v851 : Index := Scalar.indexCast v850
  let c19 : Index := 19#32
  ![v851.toNat, 19]
def k0_off21 (i : grid0.Coords) (c0_i32_444 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v894 : BitVec 32 := Scalar.addi v13 c0_i32_444
  let v895 : Index := Scalar.indexCast v894
  let c20 : Index := 20#32
  ![v895.toNat, 20]
def k0_off22 (i : grid0.Coords) (c0_i32_466 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v938 : BitVec 32 := Scalar.addi v13 c0_i32_466
  let v939 : Index := Scalar.indexCast v938
  let c21 : Index := 21#32
  ![v939.toNat, 21]
def k0_off23 (i : grid0.Coords) (c0_i32_488 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v982 : BitVec 32 := Scalar.addi v13 c0_i32_488
  let v983 : Index := Scalar.indexCast v982
  let c22 : Index := 22#32
  ![v983.toNat, 22]
def k0_off24 (i : grid0.Coords) (c0_i32_510 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1026 : BitVec 32 := Scalar.addi v13 c0_i32_510
  let v1027 : Index := Scalar.indexCast v1026
  let c23 : Index := 23#32
  ![v1027.toNat, 23]
def k0_off25 (i : grid0.Coords) (c0_i32_532 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1070 : BitVec 32 := Scalar.addi v13 c0_i32_532
  let v1071 : Index := Scalar.indexCast v1070
  let c24 : Index := 24#32
  ![v1071.toNat, 24]
def k0_off26 (i : grid0.Coords) (c0_i32_554 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1114 : BitVec 32 := Scalar.addi v13 c0_i32_554
  let v1115 : Index := Scalar.indexCast v1114
  let c25 : Index := 25#32
  ![v1115.toNat, 25]
def k0_off27 (i : grid0.Coords) (c0_i32_576 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1158 : BitVec 32 := Scalar.addi v13 c0_i32_576
  let v1159 : Index := Scalar.indexCast v1158
  let c26 : Index := 26#32
  ![v1159.toNat, 26]
def k0_off28 (i : grid0.Coords) (c0_i32_598 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1202 : BitVec 32 := Scalar.addi v13 c0_i32_598
  let v1203 : Index := Scalar.indexCast v1202
  let c27 : Index := 27#32
  ![v1203.toNat, 27]
def k0_off29 (i : grid0.Coords) (c0_i32_620 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1246 : BitVec 32 := Scalar.addi v13 c0_i32_620
  let v1247 : Index := Scalar.indexCast v1246
  let c28 : Index := 28#32
  ![v1247.toNat, 28]
def k0_off30 (i : grid0.Coords) (c0_i32_642 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1290 : BitVec 32 := Scalar.addi v13 c0_i32_642
  let v1291 : Index := Scalar.indexCast v1290
  let c29 : Index := 29#32
  ![v1291.toNat, 29]
def k0_off31 (i : grid0.Coords) (c0_i32_664 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1334 : BitVec 32 := Scalar.addi v13 c0_i32_664
  let v1335 : Index := Scalar.indexCast v1334
  let c30 : Index := 30#32
  ![v1335.toNat, 30]
def k0_off32 (i : grid0.Coords) (c0_i32_686 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1378 : BitVec 32 := Scalar.addi v13 c0_i32_686
  let v1379 : Index := Scalar.indexCast v1378
  let c31 : Index := 31#32
  ![v1379.toNat, 31]
def k0_off33 (i : grid0.Coords) (c0_i32_708 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1422 : BitVec 32 := Scalar.addi v13 c0_i32_708
  let v1423 : Index := Scalar.indexCast v1422
  let c32 : Index := 32#32
  ![v1423.toNat, 32]
def k0_off34 (i : grid0.Coords) (c0_i32_730 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1466 : BitVec 32 := Scalar.addi v13 c0_i32_730
  let v1467 : Index := Scalar.indexCast v1466
  let c33 : Index := 33#32
  ![v1467.toNat, 33]
def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let c2_i32 : BitVec 32 := 2#32
  let v0 : BitVec 32 := Scalar.remsi arg0 c2_i32
  let c0_i32 : BitVec 32 := 0#32
  let v1 : BitVec 1 := Scalar.cmpi .eq v0 c0_i32
  let v6 : BitVec 1 := Scalar.andi v5 v1
  let v7 : BitVec 32 := Scalar.extui v6
  let c0_i32_3 : BitVec 32 := 0#32
  let v8 : BitVec 1 := Scalar.cmpi .ne v7 c0_i32_3
  v8

def k0_off35 (i : grid0.Coords) (c0_i32_5 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v14 : BitVec 32 := Scalar.addi v13 c0_i32_5
  let v15 : Index := Scalar.indexCast v14
  let c0 : Index := 0#32
  ![v15.toNat, 0]
def k0_off36 (i : grid0.Coords) (c0_i32_23 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v58 : BitVec 32 := Scalar.addi v13 c0_i32_23
  let v59 : Index := Scalar.indexCast v58
  let c1 : Index := 1#32
  ![v59.toNat, 1]
def k0_off37 (i : grid0.Coords) (c0_i32_46 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v102 : BitVec 32 := Scalar.addi v13 c0_i32_46
  let v103 : Index := Scalar.indexCast v102
  let c2 : Index := 2#32
  ![v103.toNat, 2]
def k0_off38 (i : grid0.Coords) (c0_i32_69 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v146 : BitVec 32 := Scalar.addi v13 c0_i32_69
  let v147 : Index := Scalar.indexCast v146
  let c3 : Index := 3#32
  ![v147.toNat, 3]
def k0_off39 (i : grid0.Coords) (c0_i32_92 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v190 : BitVec 32 := Scalar.addi v13 c0_i32_92
  let v191 : Index := Scalar.indexCast v190
  let c4 : Index := 4#32
  ![v191.toNat, 4]
def k0_off40 (i : grid0.Coords) (c0_i32_114 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v234 : BitVec 32 := Scalar.addi v13 c0_i32_114
  let v235 : Index := Scalar.indexCast v234
  let c5 : Index := 5#32
  ![v235.toNat, 5]
def k0_off41 (i : grid0.Coords) (c0_i32_136 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v278 : BitVec 32 := Scalar.addi v13 c0_i32_136
  let v279 : Index := Scalar.indexCast v278
  let c6 : Index := 6#32
  ![v279.toNat, 6]
def k0_off42 (i : grid0.Coords) (c0_i32_158 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v322 : BitVec 32 := Scalar.addi v13 c0_i32_158
  let v323 : Index := Scalar.indexCast v322
  let c7 : Index := 7#32
  ![v323.toNat, 7]
def k0_off43 (i : grid0.Coords) (c0_i32_180 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v366 : BitVec 32 := Scalar.addi v13 c0_i32_180
  let v367 : Index := Scalar.indexCast v366
  let c8 : Index := 8#32
  ![v367.toNat, 8]
def k0_off44 (i : grid0.Coords) (c0_i32_202 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v410 : BitVec 32 := Scalar.addi v13 c0_i32_202
  let v411 : Index := Scalar.indexCast v410
  let c9 : Index := 9#32
  ![v411.toNat, 9]
def k0_off45 (i : grid0.Coords) (c0_i32_224 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v454 : BitVec 32 := Scalar.addi v13 c0_i32_224
  let v455 : Index := Scalar.indexCast v454
  let c10 : Index := 10#32
  ![v455.toNat, 10]
def k0_off46 (i : grid0.Coords) (c0_i32_246 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v498 : BitVec 32 := Scalar.addi v13 c0_i32_246
  let v499 : Index := Scalar.indexCast v498
  let c11 : Index := 11#32
  ![v499.toNat, 11]
def k0_off47 (i : grid0.Coords) (c0_i32_268 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v542 : BitVec 32 := Scalar.addi v13 c0_i32_268
  let v543 : Index := Scalar.indexCast v542
  let c12 : Index := 12#32
  ![v543.toNat, 12]
def k0_off48 (i : grid0.Coords) (c0_i32_290 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v586 : BitVec 32 := Scalar.addi v13 c0_i32_290
  let v587 : Index := Scalar.indexCast v586
  let c13 : Index := 13#32
  ![v587.toNat, 13]
def k0_off49 (i : grid0.Coords) (c0_i32_312 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v630 : BitVec 32 := Scalar.addi v13 c0_i32_312
  let v631 : Index := Scalar.indexCast v630
  let c14 : Index := 14#32
  ![v631.toNat, 14]
def k0_off50 (i : grid0.Coords) (c0_i32_334 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v674 : BitVec 32 := Scalar.addi v13 c0_i32_334
  let v675 : Index := Scalar.indexCast v674
  let c15 : Index := 15#32
  ![v675.toNat, 15]
def k0_off51 (i : grid0.Coords) (c0_i32_356 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v718 : BitVec 32 := Scalar.addi v13 c0_i32_356
  let v719 : Index := Scalar.indexCast v718
  let c16 : Index := 16#32
  ![v719.toNat, 16]
def k0_off52 (i : grid0.Coords) (c0_i32_378 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v762 : BitVec 32 := Scalar.addi v13 c0_i32_378
  let v763 : Index := Scalar.indexCast v762
  let c17 : Index := 17#32
  ![v763.toNat, 17]
def k0_off53 (i : grid0.Coords) (c0_i32_400 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v806 : BitVec 32 := Scalar.addi v13 c0_i32_400
  let v807 : Index := Scalar.indexCast v806
  let c18 : Index := 18#32
  ![v807.toNat, 18]
def k0_off54 (i : grid0.Coords) (c0_i32_422 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v850 : BitVec 32 := Scalar.addi v13 c0_i32_422
  let v851 : Index := Scalar.indexCast v850
  let c19 : Index := 19#32
  ![v851.toNat, 19]
def k0_off55 (i : grid0.Coords) (c0_i32_444 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v894 : BitVec 32 := Scalar.addi v13 c0_i32_444
  let v895 : Index := Scalar.indexCast v894
  let c20 : Index := 20#32
  ![v895.toNat, 20]
def k0_off56 (i : grid0.Coords) (c0_i32_466 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v938 : BitVec 32 := Scalar.addi v13 c0_i32_466
  let v939 : Index := Scalar.indexCast v938
  let c21 : Index := 21#32
  ![v939.toNat, 21]
def k0_off57 (i : grid0.Coords) (c0_i32_488 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v982 : BitVec 32 := Scalar.addi v13 c0_i32_488
  let v983 : Index := Scalar.indexCast v982
  let c22 : Index := 22#32
  ![v983.toNat, 22]
def k0_off58 (i : grid0.Coords) (c0_i32_510 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1026 : BitVec 32 := Scalar.addi v13 c0_i32_510
  let v1027 : Index := Scalar.indexCast v1026
  let c23 : Index := 23#32
  ![v1027.toNat, 23]
def k0_off59 (i : grid0.Coords) (c0_i32_532 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1070 : BitVec 32 := Scalar.addi v13 c0_i32_532
  let v1071 : Index := Scalar.indexCast v1070
  let c24 : Index := 24#32
  ![v1071.toNat, 24]
def k0_off60 (i : grid0.Coords) (c0_i32_554 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1114 : BitVec 32 := Scalar.addi v13 c0_i32_554
  let v1115 : Index := Scalar.indexCast v1114
  let c25 : Index := 25#32
  ![v1115.toNat, 25]
def k0_off61 (i : grid0.Coords) (c0_i32_576 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1158 : BitVec 32 := Scalar.addi v13 c0_i32_576
  let v1159 : Index := Scalar.indexCast v1158
  let c26 : Index := 26#32
  ![v1159.toNat, 26]
def k0_off62 (i : grid0.Coords) (c0_i32_598 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1202 : BitVec 32 := Scalar.addi v13 c0_i32_598
  let v1203 : Index := Scalar.indexCast v1202
  let c27 : Index := 27#32
  ![v1203.toNat, 27]
def k0_off63 (i : grid0.Coords) (c0_i32_620 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1246 : BitVec 32 := Scalar.addi v13 c0_i32_620
  let v1247 : Index := Scalar.indexCast v1246
  let c28 : Index := 28#32
  ![v1247.toNat, 28]
def k0_off64 (i : grid0.Coords) (c0_i32_642 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1290 : BitVec 32 := Scalar.addi v13 c0_i32_642
  let v1291 : Index := Scalar.indexCast v1290
  let c29 : Index := 29#32
  ![v1291.toNat, 29]
def k0_off65 (i : grid0.Coords) (c0_i32_664 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1334 : BitVec 32 := Scalar.addi v13 c0_i32_664
  let v1335 : Index := Scalar.indexCast v1334
  let c30 : Index := 30#32
  ![v1335.toNat, 30]
def k0_off66 (i : grid0.Coords) (c0_i32_686 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1378 : BitVec 32 := Scalar.addi v13 c0_i32_686
  let v1379 : Index := Scalar.indexCast v1378
  let c31 : Index := 31#32
  ![v1379.toNat, 31]
def k0_off67 (i : grid0.Coords) (c0_i32_708 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1422 : BitVec 32 := Scalar.addi v13 c0_i32_708
  let v1423 : Index := Scalar.indexCast v1422
  let c32 : Index := 32#32
  ![v1423.toNat, 32]
def k0_off68 (i : grid0.Coords) (c0_i32_730 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1466 : BitVec 32 := Scalar.addi v13 c0_i32_730
  let v1467 : Index := Scalar.indexCast v1466
  let c33 : Index := 33#32
  ![v1467.toNat, 33]
def k0_cond3 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v_true : BitVec 1 := 1#1
  let v9 : BitVec 1 := Scalar.xori v1 v_true
  let v10 : BitVec 32 := Scalar.extui v9
  let c0_i32_4 : BitVec 32 := 0#32
  let v11 : BitVec 1 := Scalar.cmpi .ne v10 c0_i32_4
  v11

def k0_off69 (i : grid0.Coords) (c0_i32_5 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v14 : BitVec 32 := Scalar.addi v13 c0_i32_5
  let v15 : Index := Scalar.indexCast v14
  let c0 : Index := 0#32
  ![v15.toNat, 0]
def k0_off70 (i : grid0.Coords) (c0_i32_23 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v58 : BitVec 32 := Scalar.addi v13 c0_i32_23
  let v59 : Index := Scalar.indexCast v58
  let c1 : Index := 1#32
  ![v59.toNat, 1]
def k0_off71 (i : grid0.Coords) (c0_i32_46 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v102 : BitVec 32 := Scalar.addi v13 c0_i32_46
  let v103 : Index := Scalar.indexCast v102
  let c2 : Index := 2#32
  ![v103.toNat, 2]
def k0_off72 (i : grid0.Coords) (c0_i32_69 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v146 : BitVec 32 := Scalar.addi v13 c0_i32_69
  let v147 : Index := Scalar.indexCast v146
  let c3 : Index := 3#32
  ![v147.toNat, 3]
def k0_off73 (i : grid0.Coords) (c0_i32_92 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v190 : BitVec 32 := Scalar.addi v13 c0_i32_92
  let v191 : Index := Scalar.indexCast v190
  let c4 : Index := 4#32
  ![v191.toNat, 4]
def k0_off74 (i : grid0.Coords) (c0_i32_114 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v234 : BitVec 32 := Scalar.addi v13 c0_i32_114
  let v235 : Index := Scalar.indexCast v234
  let c5 : Index := 5#32
  ![v235.toNat, 5]
def k0_off75 (i : grid0.Coords) (c0_i32_136 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v278 : BitVec 32 := Scalar.addi v13 c0_i32_136
  let v279 : Index := Scalar.indexCast v278
  let c6 : Index := 6#32
  ![v279.toNat, 6]
def k0_off76 (i : grid0.Coords) (c0_i32_158 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v322 : BitVec 32 := Scalar.addi v13 c0_i32_158
  let v323 : Index := Scalar.indexCast v322
  let c7 : Index := 7#32
  ![v323.toNat, 7]
def k0_off77 (i : grid0.Coords) (c0_i32_180 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v366 : BitVec 32 := Scalar.addi v13 c0_i32_180
  let v367 : Index := Scalar.indexCast v366
  let c8 : Index := 8#32
  ![v367.toNat, 8]
def k0_off78 (i : grid0.Coords) (c0_i32_202 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v410 : BitVec 32 := Scalar.addi v13 c0_i32_202
  let v411 : Index := Scalar.indexCast v410
  let c9 : Index := 9#32
  ![v411.toNat, 9]
def k0_off79 (i : grid0.Coords) (c0_i32_224 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v454 : BitVec 32 := Scalar.addi v13 c0_i32_224
  let v455 : Index := Scalar.indexCast v454
  let c10 : Index := 10#32
  ![v455.toNat, 10]
def k0_off80 (i : grid0.Coords) (c0_i32_246 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v498 : BitVec 32 := Scalar.addi v13 c0_i32_246
  let v499 : Index := Scalar.indexCast v498
  let c11 : Index := 11#32
  ![v499.toNat, 11]
def k0_off81 (i : grid0.Coords) (c0_i32_268 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v542 : BitVec 32 := Scalar.addi v13 c0_i32_268
  let v543 : Index := Scalar.indexCast v542
  let c12 : Index := 12#32
  ![v543.toNat, 12]
def k0_off82 (i : grid0.Coords) (c0_i32_290 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v586 : BitVec 32 := Scalar.addi v13 c0_i32_290
  let v587 : Index := Scalar.indexCast v586
  let c13 : Index := 13#32
  ![v587.toNat, 13]
def k0_off83 (i : grid0.Coords) (c0_i32_312 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v630 : BitVec 32 := Scalar.addi v13 c0_i32_312
  let v631 : Index := Scalar.indexCast v630
  let c14 : Index := 14#32
  ![v631.toNat, 14]
def k0_off84 (i : grid0.Coords) (c0_i32_334 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v674 : BitVec 32 := Scalar.addi v13 c0_i32_334
  let v675 : Index := Scalar.indexCast v674
  let c15 : Index := 15#32
  ![v675.toNat, 15]
def k0_off85 (i : grid0.Coords) (c0_i32_356 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v718 : BitVec 32 := Scalar.addi v13 c0_i32_356
  let v719 : Index := Scalar.indexCast v718
  let c16 : Index := 16#32
  ![v719.toNat, 16]
def k0_off86 (i : grid0.Coords) (c0_i32_378 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v762 : BitVec 32 := Scalar.addi v13 c0_i32_378
  let v763 : Index := Scalar.indexCast v762
  let c17 : Index := 17#32
  ![v763.toNat, 17]
def k0_off87 (i : grid0.Coords) (c0_i32_400 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v806 : BitVec 32 := Scalar.addi v13 c0_i32_400
  let v807 : Index := Scalar.indexCast v806
  let c18 : Index := 18#32
  ![v807.toNat, 18]
def k0_off88 (i : grid0.Coords) (c0_i32_422 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v850 : BitVec 32 := Scalar.addi v13 c0_i32_422
  let v851 : Index := Scalar.indexCast v850
  let c19 : Index := 19#32
  ![v851.toNat, 19]
def k0_off89 (i : grid0.Coords) (c0_i32_444 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v894 : BitVec 32 := Scalar.addi v13 c0_i32_444
  let v895 : Index := Scalar.indexCast v894
  let c20 : Index := 20#32
  ![v895.toNat, 20]
def k0_off90 (i : grid0.Coords) (c0_i32_466 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v938 : BitVec 32 := Scalar.addi v13 c0_i32_466
  let v939 : Index := Scalar.indexCast v938
  let c21 : Index := 21#32
  ![v939.toNat, 21]
def k0_off91 (i : grid0.Coords) (c0_i32_488 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v982 : BitVec 32 := Scalar.addi v13 c0_i32_488
  let v983 : Index := Scalar.indexCast v982
  let c22 : Index := 22#32
  ![v983.toNat, 22]
def k0_off92 (i : grid0.Coords) (c0_i32_510 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1026 : BitVec 32 := Scalar.addi v13 c0_i32_510
  let v1027 : Index := Scalar.indexCast v1026
  let c23 : Index := 23#32
  ![v1027.toNat, 23]
def k0_off93 (i : grid0.Coords) (c0_i32_532 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1070 : BitVec 32 := Scalar.addi v13 c0_i32_532
  let v1071 : Index := Scalar.indexCast v1070
  let c24 : Index := 24#32
  ![v1071.toNat, 24]
def k0_off94 (i : grid0.Coords) (c0_i32_554 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1114 : BitVec 32 := Scalar.addi v13 c0_i32_554
  let v1115 : Index := Scalar.indexCast v1114
  let c25 : Index := 25#32
  ![v1115.toNat, 25]
def k0_off95 (i : grid0.Coords) (c0_i32_576 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1158 : BitVec 32 := Scalar.addi v13 c0_i32_576
  let v1159 : Index := Scalar.indexCast v1158
  let c26 : Index := 26#32
  ![v1159.toNat, 26]
def k0_off96 (i : grid0.Coords) (c0_i32_598 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1202 : BitVec 32 := Scalar.addi v13 c0_i32_598
  let v1203 : Index := Scalar.indexCast v1202
  let c27 : Index := 27#32
  ![v1203.toNat, 27]
def k0_off97 (i : grid0.Coords) (c0_i32_620 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1246 : BitVec 32 := Scalar.addi v13 c0_i32_620
  let v1247 : Index := Scalar.indexCast v1246
  let c28 : Index := 28#32
  ![v1247.toNat, 28]
def k0_off98 (i : grid0.Coords) (c0_i32_642 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1290 : BitVec 32 := Scalar.addi v13 c0_i32_642
  let v1291 : Index := Scalar.indexCast v1290
  let c29 : Index := 29#32
  ![v1291.toNat, 29]
def k0_off99 (i : grid0.Coords) (c0_i32_664 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1334 : BitVec 32 := Scalar.addi v13 c0_i32_664
  let v1335 : Index := Scalar.indexCast v1334
  let c30 : Index := 30#32
  ![v1335.toNat, 30]
def k0_off100 (i : grid0.Coords) (c0_i32_686 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1378 : BitVec 32 := Scalar.addi v13 c0_i32_686
  let v1379 : Index := Scalar.indexCast v1378
  let c31 : Index := 31#32
  ![v1379.toNat, 31]
def k0_off101 (i : grid0.Coords) (c0_i32_708 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1422 : BitVec 32 := Scalar.addi v13 c0_i32_708
  let v1423 : Index := Scalar.indexCast v1422
  let c32 : Index := 32#32
  ![v1423.toNat, 32]
def k0_off102 (i : grid0.Coords) (c0_i32_730 : BitVec 32) : Fin 2 → Nat :=
  let arg0 : BitVec 32 := BitVec.ofNat 32 (i 0).val
  let c9_i32 : BitVec 32 := 9#32
  let v12 : BitVec 32 := Scalar.minsi arg0 c9_i32
  let c4_i32 : BitVec 32 := 4#32
  let v13 : BitVec 32 := Scalar.muli v12 c4_i32
  let v1466 : BitVec 32 := Scalar.addi v13 c0_i32_730
  let v1467 : Index := Scalar.indexCast v1466
  let c33 : Index := 33#32
  ![v1467.toNat, 33]
def cc0_transform_1 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S4352x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S40x34 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x4352 : Shape := ⟨2, ![1024, 4352]⟩
abbrev S4352x5120 : Shape := ⟨2, ![4352, 5120]⟩
abbrev S34x40 : Shape := ⟨2, ![34, 40]⟩
abbrev S2048x5120 : Shape := ⟨2, ![2048, 5120]⟩
abbrev S2048x4352 : Shape := ⟨2, ![2048, 4352]⟩
abbrev S34x40x1 : Shape := ⟨3, ![34, 40, 1]⟩
abbrev S34x40x128 : Shape := ⟨3, ![34, 40, 128]⟩
abbrev S34x5120 : Shape := ⟨2, ![34, 5120]⟩
abbrev S34x128x5120 : Shape := ⟨3, ![34, 128, 5120]⟩
abbrev S34x1x5120 : Shape := ⟨3, ![34, 1, 5120]⟩

abbrev nBuf : Space → Nat
  | .hbm => 5
  | .vmem => 5
  | .smem => 0
  | _ => 0

abbrev bufTy : (tb : Table) → Fin (tcTables nBuf tb) → BufTy
  | .hbm, ⟨0, _⟩ => ⟨S1024x4352, .i32⟩
  | .hbm, ⟨1, _⟩ => ⟨S4352x5120, .fp8e4m3⟩
  | .hbm, ⟨2, _⟩ => ⟨S34x40, .f32⟩
  | .hbm, ⟨3, _⟩ => ⟨S2048x5120, .f32⟩
  | .hbm, ⟨4, _⟩ => ⟨S2048x5120, .bf16⟩
  | .local _ .vmem, ⟨0, _⟩ => ⟨S1024x4352, .i32⟩
  | .local _ .vmem, ⟨1, _⟩ => ⟨S4352x5120, .fp8e4m3⟩
  | .local _ .vmem, ⟨2, _⟩ => ⟨S34x40, .f32⟩
  | .local _ .vmem, ⟨3, _⟩ => ⟨S2048x5120, .f32⟩
  | .local _ .vmem, ⟨4, _⟩ => ⟨S2048x5120, .bf16⟩
  | _, _ => ⟨S1024x4352, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x4352 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4352x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S34x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S1024x5120 : Shape := ⟨2, ![1024, 5120]⟩
abbrev S5120x8704 : Shape := ⟨2, ![5120, 8704]⟩
abbrev S40x68 : Shape := ⟨2, ![40, 68]⟩
abbrev S68x40 : Shape := ⟨2, ![68, 40]⟩
abbrev S2048x4352 : Shape := ⟨2, ![2048, 4352]⟩
abbrev S2048x128 : Shape := ⟨2, ![2048, 128]⟩
abbrev S5120x256 : Shape := ⟨2, ![5120, 256]⟩
abbrev S2048x256 : Shape := ⟨2, ![2048, 256]⟩
abbrev S5120x512 : Shape := ⟨2, ![5120, 512]⟩
abbrev S_ : Shape := ⟨0, ![]⟩
abbrev S256x128 : Shape := ⟨2, ![256, 128]⟩
abbrev S1x1 : Shape := ⟨2, ![1, 1]⟩
abbrev S128x128 : Shape := ⟨2, ![128, 128]⟩
abbrev S128x5120 : Shape := ⟨2, ![128, 5120]⟩
abbrev S256x5120 : Shape := ⟨2, ![256, 5120]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 12
  | .smem => 1
  | _ => 0

abbrev bufTy : (tb : Table) → Fin (tcTables nBuf tb) → BufTy
  | .hbm, ⟨0, _⟩ => ⟨S1024x5120, .i32⟩
  | .hbm, ⟨1, _⟩ => ⟨S5120x8704, .fp8e4m3⟩
  | .hbm, ⟨2, _⟩ => ⟨S40x68, .f32⟩
  | .hbm, ⟨3, _⟩ => ⟨S68x40, .f32⟩
  | .hbm, ⟨4, _⟩ => ⟨S2048x4352, .fp8e4m3⟩
  | .hbm, ⟨5, _⟩ => ⟨S2048x128, .f32⟩
  | .hbm, ⟨6, _⟩ => ⟨S2048x4352, .bf16⟩
  | .local _ .vmem, ⟨0, _⟩ => ⟨S5120x256, .fp8e4m3⟩
  | .local _ .vmem, ⟨1, _⟩ => ⟨S5120x256, .fp8e4m3⟩
  | .local _ .vmem, ⟨2, _⟩ => ⟨S5120x256, .fp8e4m3⟩
  | .local _ .vmem, ⟨3, _⟩ => ⟨S5120x256, .fp8e4m3⟩
  | .local _ .vmem, ⟨4, _⟩ => ⟨S2048x256, .fp8e4m3⟩
  | .local _ .vmem, ⟨5, _⟩ => ⟨S2048x256, .fp8e4m3⟩
  | .local _ .vmem, ⟨6, _⟩ => ⟨S2048x128, .f32⟩
  | .local _ .vmem, ⟨7, _⟩ => ⟨S2048x256, .bf16⟩
  | .local _ .vmem, ⟨8, _⟩ => ⟨S2048x256, .bf16⟩
  | .local _ .vmem, ⟨9, _⟩ => ⟨S1024x5120, .i32⟩
  | .local _ .vmem, ⟨10, _⟩ => ⟨S5120x512, .bf16⟩
  | .local _ .vmem, ⟨11, _⟩ => ⟨S5120x512, .bf16⟩
  | .local _ .smem, ⟨0, _⟩ => ⟨S68x40, .f32⟩
  | _, _ => ⟨S1024x5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32_0 : BitVec 32 := 0#32
  let v5 : BitVec 1 := Scalar.cmpi .eq arg0 c0_i32_0
  let v6 : BitVec 32 := Scalar.extui v5
  let c0_i32_1 : BitVec 32 := 0#32
  let v7 : BitVec 1 := Scalar.cmpi .ne v6 c0_i32_1
  v7

def k0_off1 (i : grid0.Coords) (c0_i32_6 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v16 : BitVec 32 := Scalar.addi v15 c0_i32_6
  let v17 : Index := Scalar.indexCast v16
  let c0 : Index := 0#32
  ![v17.toNat, 0]
def k0_off2 (i : grid0.Coords) (c0_i32_16 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v38 : BitVec 32 := Scalar.addi v15 c0_i32_16
  let v39 : Index := Scalar.indexCast v38
  let c1 : Index := 1#32
  ![v39.toNat, 1]
def k0_off3 (i : grid0.Coords) (c0_i32_27 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v60 : BitVec 32 := Scalar.addi v15 c0_i32_27
  let v61 : Index := Scalar.indexCast v60
  let c2 : Index := 2#32
  ![v61.toNat, 2]
def k0_off4 (i : grid0.Coords) (c0_i32_37 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v82 : BitVec 32 := Scalar.addi v15 c0_i32_37
  let v83 : Index := Scalar.indexCast v82
  let c3 : Index := 3#32
  ![v83.toNat, 3]
def k0_off5 (i : grid0.Coords) (c0_i32_47 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v104 : BitVec 32 := Scalar.addi v15 c0_i32_47
  let v105 : Index := Scalar.indexCast v104
  let c4 : Index := 4#32
  ![v105.toNat, 4]
def k0_off6 (i : grid0.Coords) (c0_i32_57 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v126 : BitVec 32 := Scalar.addi v15 c0_i32_57
  let v127 : Index := Scalar.indexCast v126
  let c5 : Index := 5#32
  ![v127.toNat, 5]
def k0_off7 (i : grid0.Coords) (c0_i32_67 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v148 : BitVec 32 := Scalar.addi v15 c0_i32_67
  let v149 : Index := Scalar.indexCast v148
  let c6 : Index := 6#32
  ![v149.toNat, 6]
def k0_off8 (i : grid0.Coords) (c0_i32_77 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v170 : BitVec 32 := Scalar.addi v15 c0_i32_77
  let v171 : Index := Scalar.indexCast v170
  let c7 : Index := 7#32
  ![v171.toNat, 7]
def k0_off9 (i : grid0.Coords) (c0_i32_87 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v192 : BitVec 32 := Scalar.addi v15 c0_i32_87
  let v193 : Index := Scalar.indexCast v192
  let c8 : Index := 8#32
  ![v193.toNat, 8]
def k0_off10 (i : grid0.Coords) (c0_i32_97 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v214 : BitVec 32 := Scalar.addi v15 c0_i32_97
  let v215 : Index := Scalar.indexCast v214
  let c9 : Index := 9#32
  ![v215.toNat, 9]
def k0_off11 (i : grid0.Coords) (c0_i32_107 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v236 : BitVec 32 := Scalar.addi v15 c0_i32_107
  let v237 : Index := Scalar.indexCast v236
  let c10 : Index := 10#32
  ![v237.toNat, 10]
def k0_off12 (i : grid0.Coords) (c0_i32_117 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v258 : BitVec 32 := Scalar.addi v15 c0_i32_117
  let v259 : Index := Scalar.indexCast v258
  let c11 : Index := 11#32
  ![v259.toNat, 11]
def k0_off13 (i : grid0.Coords) (c0_i32_127 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v280 : BitVec 32 := Scalar.addi v15 c0_i32_127
  let v281 : Index := Scalar.indexCast v280
  let c12 : Index := 12#32
  ![v281.toNat, 12]
def k0_off14 (i : grid0.Coords) (c0_i32_137 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v302 : BitVec 32 := Scalar.addi v15 c0_i32_137
  let v303 : Index := Scalar.indexCast v302
  let c13 : Index := 13#32
  ![v303.toNat, 13]
def k0_off15 (i : grid0.Coords) (c0_i32_147 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v324 : BitVec 32 := Scalar.addi v15 c0_i32_147
  let v325 : Index := Scalar.indexCast v324
  let c14 : Index := 14#32
  ![v325.toNat, 14]
def k0_off16 (i : grid0.Coords) (c0_i32_157 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v346 : BitVec 32 := Scalar.addi v15 c0_i32_157
  let v347 : Index := Scalar.indexCast v346
  let c15 : Index := 15#32
  ![v347.toNat, 15]
def k0_off17 (i : grid0.Coords) (c0_i32_167 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v368 : BitVec 32 := Scalar.addi v15 c0_i32_167
  let v369 : Index := Scalar.indexCast v368
  let c16 : Index := 16#32
  ![v369.toNat, 16]
def k0_off18 (i : grid0.Coords) (c0_i32_177 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v390 : BitVec 32 := Scalar.addi v15 c0_i32_177
  let v391 : Index := Scalar.indexCast v390
  let c17 : Index := 17#32
  ![v391.toNat, 17]
def k0_off19 (i : grid0.Coords) (c0_i32_187 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v412 : BitVec 32 := Scalar.addi v15 c0_i32_187
  let v413 : Index := Scalar.indexCast v412
  let c18 : Index := 18#32
  ![v413.toNat, 18]
def k0_off20 (i : grid0.Coords) (c0_i32_197 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v434 : BitVec 32 := Scalar.addi v15 c0_i32_197
  let v435 : Index := Scalar.indexCast v434
  let c19 : Index := 19#32
  ![v435.toNat, 19]
def k0_off21 (i : grid0.Coords) (c0_i32_207 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v456 : BitVec 32 := Scalar.addi v15 c0_i32_207
  let v457 : Index := Scalar.indexCast v456
  let c20 : Index := 20#32
  ![v457.toNat, 20]
def k0_off22 (i : grid0.Coords) (c0_i32_217 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v478 : BitVec 32 := Scalar.addi v15 c0_i32_217
  let v479 : Index := Scalar.indexCast v478
  let c21 : Index := 21#32
  ![v479.toNat, 21]
def k0_off23 (i : grid0.Coords) (c0_i32_227 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v500 : BitVec 32 := Scalar.addi v15 c0_i32_227
  let v501 : Index := Scalar.indexCast v500
  let c22 : Index := 22#32
  ![v501.toNat, 22]
def k0_off24 (i : grid0.Coords) (c0_i32_237 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v522 : BitVec 32 := Scalar.addi v15 c0_i32_237
  let v523 : Index := Scalar.indexCast v522
  let c23 : Index := 23#32
  ![v523.toNat, 23]
def k0_off25 (i : grid0.Coords) (c0_i32_247 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v544 : BitVec 32 := Scalar.addi v15 c0_i32_247
  let v545 : Index := Scalar.indexCast v544
  let c24 : Index := 24#32
  ![v545.toNat, 24]
def k0_off26 (i : grid0.Coords) (c0_i32_257 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v566 : BitVec 32 := Scalar.addi v15 c0_i32_257
  let v567 : Index := Scalar.indexCast v566
  let c25 : Index := 25#32
  ![v567.toNat, 25]
def k0_off27 (i : grid0.Coords) (c0_i32_267 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v588 : BitVec 32 := Scalar.addi v15 c0_i32_267
  let v589 : Index := Scalar.indexCast v588
  let c26 : Index := 26#32
  ![v589.toNat, 26]
def k0_off28 (i : grid0.Coords) (c0_i32_277 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v610 : BitVec 32 := Scalar.addi v15 c0_i32_277
  let v611 : Index := Scalar.indexCast v610
  let c27 : Index := 27#32
  ![v611.toNat, 27]
def k0_off29 (i : grid0.Coords) (c0_i32_287 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v632 : BitVec 32 := Scalar.addi v15 c0_i32_287
  let v633 : Index := Scalar.indexCast v632
  let c28 : Index := 28#32
  ![v633.toNat, 28]
def k0_off30 (i : grid0.Coords) (c0_i32_297 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v654 : BitVec 32 := Scalar.addi v15 c0_i32_297
  let v655 : Index := Scalar.indexCast v654
  let c29 : Index := 29#32
  ![v655.toNat, 29]
def k0_off31 (i : grid0.Coords) (c0_i32_307 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v676 : BitVec 32 := Scalar.addi v15 c0_i32_307
  let v677 : Index := Scalar.indexCast v676
  let c30 : Index := 30#32
  ![v677.toNat, 30]
def k0_off32 (i : grid0.Coords) (c0_i32_317 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v698 : BitVec 32 := Scalar.addi v15 c0_i32_317
  let v699 : Index := Scalar.indexCast v698
  let c31 : Index := 31#32
  ![v699.toNat, 31]
def k0_off33 (i : grid0.Coords) (c0_i32_327 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v720 : BitVec 32 := Scalar.addi v15 c0_i32_327
  let v721 : Index := Scalar.indexCast v720
  let c32 : Index := 32#32
  ![v721.toNat, 32]
def k0_off34 (i : grid0.Coords) (c0_i32_337 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v742 : BitVec 32 := Scalar.addi v15 c0_i32_337
  let v743 : Index := Scalar.indexCast v742
  let c33 : Index := 33#32
  ![v743.toNat, 33]
def k0_off35 (i : grid0.Coords) (c0_i32_347 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v764 : BitVec 32 := Scalar.addi v15 c0_i32_347
  let v765 : Index := Scalar.indexCast v764
  let c34 : Index := 34#32
  ![v765.toNat, 34]
def k0_off36 (i : grid0.Coords) (c0_i32_357 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v786 : BitVec 32 := Scalar.addi v15 c0_i32_357
  let v787 : Index := Scalar.indexCast v786
  let c35 : Index := 35#32
  ![v787.toNat, 35]
def k0_off37 (i : grid0.Coords) (c0_i32_367 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v808 : BitVec 32 := Scalar.addi v15 c0_i32_367
  let v809 : Index := Scalar.indexCast v808
  let c36 : Index := 36#32
  ![v809.toNat, 36]
def k0_off38 (i : grid0.Coords) (c0_i32_377 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v830 : BitVec 32 := Scalar.addi v15 c0_i32_377
  let v831 : Index := Scalar.indexCast v830
  let c37 : Index := 37#32
  ![v831.toNat, 37]
def k0_off39 (i : grid0.Coords) (c0_i32_387 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v852 : BitVec 32 := Scalar.addi v15 c0_i32_387
  let v853 : Index := Scalar.indexCast v852
  let c38 : Index := 38#32
  ![v853.toNat, 38]
def k0_off40 (i : grid0.Coords) (c0_i32_397 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v874 : BitVec 32 := Scalar.addi v15 c0_i32_397
  let v875 : Index := Scalar.indexCast v874
  let c39 : Index := 39#32
  ![v875.toNat, 39]
def k0_off41 (i : grid0.Coords) (c0_i32_408 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v898 : BitVec 32 := Scalar.addi v897 c0_i32_408
  let v899 : Index := Scalar.indexCast v898
  let c0_409 : Index := 0#32
  ![v899.toNat, 0]
def k0_off42 (i : grid0.Coords) (c0_i32_420 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v920 : BitVec 32 := Scalar.addi v897 c0_i32_420
  let v921 : Index := Scalar.indexCast v920
  let c1_421 : Index := 1#32
  ![v921.toNat, 1]
def k0_off43 (i : grid0.Coords) (c0_i32_432 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v942 : BitVec 32 := Scalar.addi v897 c0_i32_432
  let v943 : Index := Scalar.indexCast v942
  let c2_433 : Index := 2#32
  ![v943.toNat, 2]
def k0_off44 (i : grid0.Coords) (c0_i32_444 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v964 : BitVec 32 := Scalar.addi v897 c0_i32_444
  let v965 : Index := Scalar.indexCast v964
  let c3_445 : Index := 3#32
  ![v965.toNat, 3]
def k0_off45 (i : grid0.Coords) (c0_i32_456 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v986 : BitVec 32 := Scalar.addi v897 c0_i32_456
  let v987 : Index := Scalar.indexCast v986
  let c4_457 : Index := 4#32
  ![v987.toNat, 4]
def k0_off46 (i : grid0.Coords) (c0_i32_468 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1008 : BitVec 32 := Scalar.addi v897 c0_i32_468
  let v1009 : Index := Scalar.indexCast v1008
  let c5_469 : Index := 5#32
  ![v1009.toNat, 5]
def k0_off47 (i : grid0.Coords) (c0_i32_480 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1030 : BitVec 32 := Scalar.addi v897 c0_i32_480
  let v1031 : Index := Scalar.indexCast v1030
  let c6_481 : Index := 6#32
  ![v1031.toNat, 6]
def k0_off48 (i : grid0.Coords) (c0_i32_492 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1052 : BitVec 32 := Scalar.addi v897 c0_i32_492
  let v1053 : Index := Scalar.indexCast v1052
  let c7_493 : Index := 7#32
  ![v1053.toNat, 7]
def k0_off49 (i : grid0.Coords) (c0_i32_504 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1074 : BitVec 32 := Scalar.addi v897 c0_i32_504
  let v1075 : Index := Scalar.indexCast v1074
  let c8_505 : Index := 8#32
  ![v1075.toNat, 8]
def k0_off50 (i : grid0.Coords) (c0_i32_516 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1096 : BitVec 32 := Scalar.addi v897 c0_i32_516
  let v1097 : Index := Scalar.indexCast v1096
  let c9_517 : Index := 9#32
  ![v1097.toNat, 9]
def k0_off51 (i : grid0.Coords) (c0_i32_528 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1118 : BitVec 32 := Scalar.addi v897 c0_i32_528
  let v1119 : Index := Scalar.indexCast v1118
  let c10_529 : Index := 10#32
  ![v1119.toNat, 10]
def k0_off52 (i : grid0.Coords) (c0_i32_540 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1140 : BitVec 32 := Scalar.addi v897 c0_i32_540
  let v1141 : Index := Scalar.indexCast v1140
  let c11_541 : Index := 11#32
  ![v1141.toNat, 11]
def k0_off53 (i : grid0.Coords) (c0_i32_552 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1162 : BitVec 32 := Scalar.addi v897 c0_i32_552
  let v1163 : Index := Scalar.indexCast v1162
  let c12_553 : Index := 12#32
  ![v1163.toNat, 12]
def k0_off54 (i : grid0.Coords) (c0_i32_564 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1184 : BitVec 32 := Scalar.addi v897 c0_i32_564
  let v1185 : Index := Scalar.indexCast v1184
  let c13_565 : Index := 13#32
  ![v1185.toNat, 13]
def k0_off55 (i : grid0.Coords) (c0_i32_576 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1206 : BitVec 32 := Scalar.addi v897 c0_i32_576
  let v1207 : Index := Scalar.indexCast v1206
  let c14_577 : Index := 14#32
  ![v1207.toNat, 14]
def k0_off56 (i : grid0.Coords) (c0_i32_588 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1228 : BitVec 32 := Scalar.addi v897 c0_i32_588
  let v1229 : Index := Scalar.indexCast v1228
  let c15_589 : Index := 15#32
  ![v1229.toNat, 15]
def k0_off57 (i : grid0.Coords) (c0_i32_600 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1250 : BitVec 32 := Scalar.addi v897 c0_i32_600
  let v1251 : Index := Scalar.indexCast v1250
  let c16_601 : Index := 16#32
  ![v1251.toNat, 16]
def k0_off58 (i : grid0.Coords) (c0_i32_612 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1272 : BitVec 32 := Scalar.addi v897 c0_i32_612
  let v1273 : Index := Scalar.indexCast v1272
  let c17_613 : Index := 17#32
  ![v1273.toNat, 17]
def k0_off59 (i : grid0.Coords) (c0_i32_624 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1294 : BitVec 32 := Scalar.addi v897 c0_i32_624
  let v1295 : Index := Scalar.indexCast v1294
  let c18_625 : Index := 18#32
  ![v1295.toNat, 18]
def k0_off60 (i : grid0.Coords) (c0_i32_636 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1316 : BitVec 32 := Scalar.addi v897 c0_i32_636
  let v1317 : Index := Scalar.indexCast v1316
  let c19_637 : Index := 19#32
  ![v1317.toNat, 19]
def k0_off61 (i : grid0.Coords) (c0_i32_648 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1338 : BitVec 32 := Scalar.addi v897 c0_i32_648
  let v1339 : Index := Scalar.indexCast v1338
  let c20_649 : Index := 20#32
  ![v1339.toNat, 20]
def k0_off62 (i : grid0.Coords) (c0_i32_660 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1360 : BitVec 32 := Scalar.addi v897 c0_i32_660
  let v1361 : Index := Scalar.indexCast v1360
  let c21_661 : Index := 21#32
  ![v1361.toNat, 21]
def k0_off63 (i : grid0.Coords) (c0_i32_672 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1382 : BitVec 32 := Scalar.addi v897 c0_i32_672
  let v1383 : Index := Scalar.indexCast v1382
  let c22_673 : Index := 22#32
  ![v1383.toNat, 22]
def k0_off64 (i : grid0.Coords) (c0_i32_684 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1404 : BitVec 32 := Scalar.addi v897 c0_i32_684
  let v1405 : Index := Scalar.indexCast v1404
  let c23_685 : Index := 23#32
  ![v1405.toNat, 23]
def k0_off65 (i : grid0.Coords) (c0_i32_696 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1426 : BitVec 32 := Scalar.addi v897 c0_i32_696
  let v1427 : Index := Scalar.indexCast v1426
  let c24_697 : Index := 24#32
  ![v1427.toNat, 24]
def k0_off66 (i : grid0.Coords) (c0_i32_708 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1448 : BitVec 32 := Scalar.addi v897 c0_i32_708
  let v1449 : Index := Scalar.indexCast v1448
  let c25_709 : Index := 25#32
  ![v1449.toNat, 25]
def k0_off67 (i : grid0.Coords) (c0_i32_720 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1470 : BitVec 32 := Scalar.addi v897 c0_i32_720
  let v1471 : Index := Scalar.indexCast v1470
  let c26_721 : Index := 26#32
  ![v1471.toNat, 26]
def k0_off68 (i : grid0.Coords) (c0_i32_732 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1492 : BitVec 32 := Scalar.addi v897 c0_i32_732
  let v1493 : Index := Scalar.indexCast v1492
  let c27_733 : Index := 27#32
  ![v1493.toNat, 27]
def k0_off69 (i : grid0.Coords) (c0_i32_744 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1514 : BitVec 32 := Scalar.addi v897 c0_i32_744
  let v1515 : Index := Scalar.indexCast v1514
  let c28_745 : Index := 28#32
  ![v1515.toNat, 28]
def k0_off70 (i : grid0.Coords) (c0_i32_756 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1536 : BitVec 32 := Scalar.addi v897 c0_i32_756
  let v1537 : Index := Scalar.indexCast v1536
  let c29_757 : Index := 29#32
  ![v1537.toNat, 29]
def k0_off71 (i : grid0.Coords) (c0_i32_768 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1558 : BitVec 32 := Scalar.addi v897 c0_i32_768
  let v1559 : Index := Scalar.indexCast v1558
  let c30_769 : Index := 30#32
  ![v1559.toNat, 30]
def k0_off72 (i : grid0.Coords) (c0_i32_780 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1580 : BitVec 32 := Scalar.addi v897 c0_i32_780
  let v1581 : Index := Scalar.indexCast v1580
  let c31_781 : Index := 31#32
  ![v1581.toNat, 31]
def k0_off73 (i : grid0.Coords) (c0_i32_792 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1602 : BitVec 32 := Scalar.addi v897 c0_i32_792
  let v1603 : Index := Scalar.indexCast v1602
  let c32_793 : Index := 32#32
  ![v1603.toNat, 32]
def k0_off74 (i : grid0.Coords) (c0_i32_804 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1624 : BitVec 32 := Scalar.addi v897 c0_i32_804
  let v1625 : Index := Scalar.indexCast v1624
  let c33_805 : Index := 33#32
  ![v1625.toNat, 33]
def k0_off75 (i : grid0.Coords) (c0_i32_816 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1646 : BitVec 32 := Scalar.addi v897 c0_i32_816
  let v1647 : Index := Scalar.indexCast v1646
  let c34_817 : Index := 34#32
  ![v1647.toNat, 34]
def k0_off76 (i : grid0.Coords) (c0_i32_828 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1668 : BitVec 32 := Scalar.addi v897 c0_i32_828
  let v1669 : Index := Scalar.indexCast v1668
  let c35_829 : Index := 35#32
  ![v1669.toNat, 35]
def k0_off77 (i : grid0.Coords) (c0_i32_840 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1690 : BitVec 32 := Scalar.addi v897 c0_i32_840
  let v1691 : Index := Scalar.indexCast v1690
  let c36_841 : Index := 36#32
  ![v1691.toNat, 36]
def k0_off78 (i : grid0.Coords) (c0_i32_852 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1712 : BitVec 32 := Scalar.addi v897 c0_i32_852
  let v1713 : Index := Scalar.indexCast v1712
  let c37_853 : Index := 37#32
  ![v1713.toNat, 37]
def k0_off79 (i : grid0.Coords) (c0_i32_864 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1734 : BitVec 32 := Scalar.addi v897 c0_i32_864
  let v1735 : Index := Scalar.indexCast v1734
  let c38_865 : Index := 38#32
  ![v1735.toNat, 38]
def k0_off80 (i : grid0.Coords) (c0_i32_876 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1756 : BitVec 32 := Scalar.addi v897 c0_i32_876
  let v1757 : Index := Scalar.indexCast v1756
  let c39_877 : Index := 39#32
  ![v1757.toNat, 39]
def k0_cond2 (i : grid0.Coords) : BitVec 1 :=
  let arg0 : BitVec 32 := BitVec.ofNat 32 (i 0).val
  let c0_i32_2 : BitVec 32 := 0#32
  let v8 : BitVec 1 := Scalar.cmpi .sgt arg0 c0_i32_2
  let c2_i32 : BitVec 32 := 2#32
  let v3 : BitVec 32 := Scalar.remsi arg0 c2_i32
  let c0_i32 : BitVec 32 := 0#32
  let v4 : BitVec 1 := Scalar.cmpi .eq v3 c0_i32
  let v9 : BitVec 1 := Scalar.andi v8 v4
  let v10 : BitVec 32 := Scalar.extui v9
  let c0_i32_3 : BitVec 32 := 0#32
  let v11 : BitVec 1 := Scalar.cmpi .ne v10 c0_i32_3
  v11

def k0_off81 (i : grid0.Coords) (c0_i32_6 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v16 : BitVec 32 := Scalar.addi v15 c0_i32_6
  let v17 : Index := Scalar.indexCast v16
  let c0 : Index := 0#32
  ![v17.toNat, 0]
def k0_off82 (i : grid0.Coords) (c0_i32_16 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v38 : BitVec 32 := Scalar.addi v15 c0_i32_16
  let v39 : Index := Scalar.indexCast v38
  let c1 : Index := 1#32
  ![v39.toNat, 1]
def k0_off83 (i : grid0.Coords) (c0_i32_27 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v60 : BitVec 32 := Scalar.addi v15 c0_i32_27
  let v61 : Index := Scalar.indexCast v60
  let c2 : Index := 2#32
  ![v61.toNat, 2]
def k0_off84 (i : grid0.Coords) (c0_i32_37 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v82 : BitVec 32 := Scalar.addi v15 c0_i32_37
  let v83 : Index := Scalar.indexCast v82
  let c3 : Index := 3#32
  ![v83.toNat, 3]
def k0_off85 (i : grid0.Coords) (c0_i32_47 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v104 : BitVec 32 := Scalar.addi v15 c0_i32_47
  let v105 : Index := Scalar.indexCast v104
  let c4 : Index := 4#32
  ![v105.toNat, 4]
def k0_off86 (i : grid0.Coords) (c0_i32_57 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v126 : BitVec 32 := Scalar.addi v15 c0_i32_57
  let v127 : Index := Scalar.indexCast v126
  let c5 : Index := 5#32
  ![v127.toNat, 5]
def k0_off87 (i : grid0.Coords) (c0_i32_67 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v148 : BitVec 32 := Scalar.addi v15 c0_i32_67
  let v149 : Index := Scalar.indexCast v148
  let c6 : Index := 6#32
  ![v149.toNat, 6]
def k0_off88 (i : grid0.Coords) (c0_i32_77 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v170 : BitVec 32 := Scalar.addi v15 c0_i32_77
  let v171 : Index := Scalar.indexCast v170
  let c7 : Index := 7#32
  ![v171.toNat, 7]
def k0_off89 (i : grid0.Coords) (c0_i32_87 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v192 : BitVec 32 := Scalar.addi v15 c0_i32_87
  let v193 : Index := Scalar.indexCast v192
  let c8 : Index := 8#32
  ![v193.toNat, 8]
def k0_off90 (i : grid0.Coords) (c0_i32_97 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v214 : BitVec 32 := Scalar.addi v15 c0_i32_97
  let v215 : Index := Scalar.indexCast v214
  let c9 : Index := 9#32
  ![v215.toNat, 9]
def k0_off91 (i : grid0.Coords) (c0_i32_107 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v236 : BitVec 32 := Scalar.addi v15 c0_i32_107
  let v237 : Index := Scalar.indexCast v236
  let c10 : Index := 10#32
  ![v237.toNat, 10]
def k0_off92 (i : grid0.Coords) (c0_i32_117 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v258 : BitVec 32 := Scalar.addi v15 c0_i32_117
  let v259 : Index := Scalar.indexCast v258
  let c11 : Index := 11#32
  ![v259.toNat, 11]
def k0_off93 (i : grid0.Coords) (c0_i32_127 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v280 : BitVec 32 := Scalar.addi v15 c0_i32_127
  let v281 : Index := Scalar.indexCast v280
  let c12 : Index := 12#32
  ![v281.toNat, 12]
def k0_off94 (i : grid0.Coords) (c0_i32_137 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v302 : BitVec 32 := Scalar.addi v15 c0_i32_137
  let v303 : Index := Scalar.indexCast v302
  let c13 : Index := 13#32
  ![v303.toNat, 13]
def k0_off95 (i : grid0.Coords) (c0_i32_147 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v324 : BitVec 32 := Scalar.addi v15 c0_i32_147
  let v325 : Index := Scalar.indexCast v324
  let c14 : Index := 14#32
  ![v325.toNat, 14]
def k0_off96 (i : grid0.Coords) (c0_i32_157 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v346 : BitVec 32 := Scalar.addi v15 c0_i32_157
  let v347 : Index := Scalar.indexCast v346
  let c15 : Index := 15#32
  ![v347.toNat, 15]
def k0_off97 (i : grid0.Coords) (c0_i32_167 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v368 : BitVec 32 := Scalar.addi v15 c0_i32_167
  let v369 : Index := Scalar.indexCast v368
  let c16 : Index := 16#32
  ![v369.toNat, 16]
def k0_off98 (i : grid0.Coords) (c0_i32_177 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v390 : BitVec 32 := Scalar.addi v15 c0_i32_177
  let v391 : Index := Scalar.indexCast v390
  let c17 : Index := 17#32
  ![v391.toNat, 17]
def k0_off99 (i : grid0.Coords) (c0_i32_187 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v412 : BitVec 32 := Scalar.addi v15 c0_i32_187
  let v413 : Index := Scalar.indexCast v412
  let c18 : Index := 18#32
  ![v413.toNat, 18]
def k0_off100 (i : grid0.Coords) (c0_i32_197 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v434 : BitVec 32 := Scalar.addi v15 c0_i32_197
  let v435 : Index := Scalar.indexCast v434
  let c19 : Index := 19#32
  ![v435.toNat, 19]
def k0_off101 (i : grid0.Coords) (c0_i32_207 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v456 : BitVec 32 := Scalar.addi v15 c0_i32_207
  let v457 : Index := Scalar.indexCast v456
  let c20 : Index := 20#32
  ![v457.toNat, 20]
def k0_off102 (i : grid0.Coords) (c0_i32_217 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v478 : BitVec 32 := Scalar.addi v15 c0_i32_217
  let v479 : Index := Scalar.indexCast v478
  let c21 : Index := 21#32
  ![v479.toNat, 21]
def k0_off103 (i : grid0.Coords) (c0_i32_227 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v500 : BitVec 32 := Scalar.addi v15 c0_i32_227
  let v501 : Index := Scalar.indexCast v500
  let c22 : Index := 22#32
  ![v501.toNat, 22]
def k0_off104 (i : grid0.Coords) (c0_i32_237 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v522 : BitVec 32 := Scalar.addi v15 c0_i32_237
  let v523 : Index := Scalar.indexCast v522
  let c23 : Index := 23#32
  ![v523.toNat, 23]
def k0_off105 (i : grid0.Coords) (c0_i32_247 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v544 : BitVec 32 := Scalar.addi v15 c0_i32_247
  let v545 : Index := Scalar.indexCast v544
  let c24 : Index := 24#32
  ![v545.toNat, 24]
def k0_off106 (i : grid0.Coords) (c0_i32_257 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v566 : BitVec 32 := Scalar.addi v15 c0_i32_257
  let v567 : Index := Scalar.indexCast v566
  let c25 : Index := 25#32
  ![v567.toNat, 25]
def k0_off107 (i : grid0.Coords) (c0_i32_267 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v588 : BitVec 32 := Scalar.addi v15 c0_i32_267
  let v589 : Index := Scalar.indexCast v588
  let c26 : Index := 26#32
  ![v589.toNat, 26]
def k0_off108 (i : grid0.Coords) (c0_i32_277 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v610 : BitVec 32 := Scalar.addi v15 c0_i32_277
  let v611 : Index := Scalar.indexCast v610
  let c27 : Index := 27#32
  ![v611.toNat, 27]
def k0_off109 (i : grid0.Coords) (c0_i32_287 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v632 : BitVec 32 := Scalar.addi v15 c0_i32_287
  let v633 : Index := Scalar.indexCast v632
  let c28 : Index := 28#32
  ![v633.toNat, 28]
def k0_off110 (i : grid0.Coords) (c0_i32_297 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v654 : BitVec 32 := Scalar.addi v15 c0_i32_297
  let v655 : Index := Scalar.indexCast v654
  let c29 : Index := 29#32
  ![v655.toNat, 29]
def k0_off111 (i : grid0.Coords) (c0_i32_307 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v676 : BitVec 32 := Scalar.addi v15 c0_i32_307
  let v677 : Index := Scalar.indexCast v676
  let c30 : Index := 30#32
  ![v677.toNat, 30]
def k0_off112 (i : grid0.Coords) (c0_i32_317 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v698 : BitVec 32 := Scalar.addi v15 c0_i32_317
  let v699 : Index := Scalar.indexCast v698
  let c31 : Index := 31#32
  ![v699.toNat, 31]
def k0_off113 (i : grid0.Coords) (c0_i32_327 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v720 : BitVec 32 := Scalar.addi v15 c0_i32_327
  let v721 : Index := Scalar.indexCast v720
  let c32 : Index := 32#32
  ![v721.toNat, 32]
def k0_off114 (i : grid0.Coords) (c0_i32_337 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v742 : BitVec 32 := Scalar.addi v15 c0_i32_337
  let v743 : Index := Scalar.indexCast v742
  let c33 : Index := 33#32
  ![v743.toNat, 33]
def k0_off115 (i : grid0.Coords) (c0_i32_347 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v764 : BitVec 32 := Scalar.addi v15 c0_i32_347
  let v765 : Index := Scalar.indexCast v764
  let c34 : Index := 34#32
  ![v765.toNat, 34]
def k0_off116 (i : grid0.Coords) (c0_i32_357 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v786 : BitVec 32 := Scalar.addi v15 c0_i32_357
  let v787 : Index := Scalar.indexCast v786
  let c35 : Index := 35#32
  ![v787.toNat, 35]
def k0_off117 (i : grid0.Coords) (c0_i32_367 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v808 : BitVec 32 := Scalar.addi v15 c0_i32_367
  let v809 : Index := Scalar.indexCast v808
  let c36 : Index := 36#32
  ![v809.toNat, 36]
def k0_off118 (i : grid0.Coords) (c0_i32_377 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v830 : BitVec 32 := Scalar.addi v15 c0_i32_377
  let v831 : Index := Scalar.indexCast v830
  let c37 : Index := 37#32
  ![v831.toNat, 37]
def k0_off119 (i : grid0.Coords) (c0_i32_387 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v852 : BitVec 32 := Scalar.addi v15 c0_i32_387
  let v853 : Index := Scalar.indexCast v852
  let c38 : Index := 38#32
  ![v853.toNat, 38]
def k0_off120 (i : grid0.Coords) (c0_i32_397 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v874 : BitVec 32 := Scalar.addi v15 c0_i32_397
  let v875 : Index := Scalar.indexCast v874
  let c39 : Index := 39#32
  ![v875.toNat, 39]
def k0_off121 (i : grid0.Coords) (c0_i32_408 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v898 : BitVec 32 := Scalar.addi v897 c0_i32_408
  let v899 : Index := Scalar.indexCast v898
  let c0_409 : Index := 0#32
  ![v899.toNat, 0]
def k0_off122 (i : grid0.Coords) (c0_i32_420 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v920 : BitVec 32 := Scalar.addi v897 c0_i32_420
  let v921 : Index := Scalar.indexCast v920
  let c1_421 : Index := 1#32
  ![v921.toNat, 1]
def k0_off123 (i : grid0.Coords) (c0_i32_432 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v942 : BitVec 32 := Scalar.addi v897 c0_i32_432
  let v943 : Index := Scalar.indexCast v942
  let c2_433 : Index := 2#32
  ![v943.toNat, 2]
def k0_off124 (i : grid0.Coords) (c0_i32_444 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v964 : BitVec 32 := Scalar.addi v897 c0_i32_444
  let v965 : Index := Scalar.indexCast v964
  let c3_445 : Index := 3#32
  ![v965.toNat, 3]
def k0_off125 (i : grid0.Coords) (c0_i32_456 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v986 : BitVec 32 := Scalar.addi v897 c0_i32_456
  let v987 : Index := Scalar.indexCast v986
  let c4_457 : Index := 4#32
  ![v987.toNat, 4]
def k0_off126 (i : grid0.Coords) (c0_i32_468 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1008 : BitVec 32 := Scalar.addi v897 c0_i32_468
  let v1009 : Index := Scalar.indexCast v1008
  let c5_469 : Index := 5#32
  ![v1009.toNat, 5]
def k0_off127 (i : grid0.Coords) (c0_i32_480 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1030 : BitVec 32 := Scalar.addi v897 c0_i32_480
  let v1031 : Index := Scalar.indexCast v1030
  let c6_481 : Index := 6#32
  ![v1031.toNat, 6]
def k0_off128 (i : grid0.Coords) (c0_i32_492 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1052 : BitVec 32 := Scalar.addi v897 c0_i32_492
  let v1053 : Index := Scalar.indexCast v1052
  let c7_493 : Index := 7#32
  ![v1053.toNat, 7]
def k0_off129 (i : grid0.Coords) (c0_i32_504 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1074 : BitVec 32 := Scalar.addi v897 c0_i32_504
  let v1075 : Index := Scalar.indexCast v1074
  let c8_505 : Index := 8#32
  ![v1075.toNat, 8]
def k0_off130 (i : grid0.Coords) (c0_i32_516 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1096 : BitVec 32 := Scalar.addi v897 c0_i32_516
  let v1097 : Index := Scalar.indexCast v1096
  let c9_517 : Index := 9#32
  ![v1097.toNat, 9]
def k0_off131 (i : grid0.Coords) (c0_i32_528 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1118 : BitVec 32 := Scalar.addi v897 c0_i32_528
  let v1119 : Index := Scalar.indexCast v1118
  let c10_529 : Index := 10#32
  ![v1119.toNat, 10]
def k0_off132 (i : grid0.Coords) (c0_i32_540 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1140 : BitVec 32 := Scalar.addi v897 c0_i32_540
  let v1141 : Index := Scalar.indexCast v1140
  let c11_541 : Index := 11#32
  ![v1141.toNat, 11]
def k0_off133 (i : grid0.Coords) (c0_i32_552 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1162 : BitVec 32 := Scalar.addi v897 c0_i32_552
  let v1163 : Index := Scalar.indexCast v1162
  let c12_553 : Index := 12#32
  ![v1163.toNat, 12]
def k0_off134 (i : grid0.Coords) (c0_i32_564 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1184 : BitVec 32 := Scalar.addi v897 c0_i32_564
  let v1185 : Index := Scalar.indexCast v1184
  let c13_565 : Index := 13#32
  ![v1185.toNat, 13]
def k0_off135 (i : grid0.Coords) (c0_i32_576 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1206 : BitVec 32 := Scalar.addi v897 c0_i32_576
  let v1207 : Index := Scalar.indexCast v1206
  let c14_577 : Index := 14#32
  ![v1207.toNat, 14]
def k0_off136 (i : grid0.Coords) (c0_i32_588 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1228 : BitVec 32 := Scalar.addi v897 c0_i32_588
  let v1229 : Index := Scalar.indexCast v1228
  let c15_589 : Index := 15#32
  ![v1229.toNat, 15]
def k0_off137 (i : grid0.Coords) (c0_i32_600 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1250 : BitVec 32 := Scalar.addi v897 c0_i32_600
  let v1251 : Index := Scalar.indexCast v1250
  let c16_601 : Index := 16#32
  ![v1251.toNat, 16]
def k0_off138 (i : grid0.Coords) (c0_i32_612 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1272 : BitVec 32 := Scalar.addi v897 c0_i32_612
  let v1273 : Index := Scalar.indexCast v1272
  let c17_613 : Index := 17#32
  ![v1273.toNat, 17]
def k0_off139 (i : grid0.Coords) (c0_i32_624 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1294 : BitVec 32 := Scalar.addi v897 c0_i32_624
  let v1295 : Index := Scalar.indexCast v1294
  let c18_625 : Index := 18#32
  ![v1295.toNat, 18]
def k0_off140 (i : grid0.Coords) (c0_i32_636 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1316 : BitVec 32 := Scalar.addi v897 c0_i32_636
  let v1317 : Index := Scalar.indexCast v1316
  let c19_637 : Index := 19#32
  ![v1317.toNat, 19]
def k0_off141 (i : grid0.Coords) (c0_i32_648 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1338 : BitVec 32 := Scalar.addi v897 c0_i32_648
  let v1339 : Index := Scalar.indexCast v1338
  let c20_649 : Index := 20#32
  ![v1339.toNat, 20]
def k0_off142 (i : grid0.Coords) (c0_i32_660 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1360 : BitVec 32 := Scalar.addi v897 c0_i32_660
  let v1361 : Index := Scalar.indexCast v1360
  let c21_661 : Index := 21#32
  ![v1361.toNat, 21]
def k0_off143 (i : grid0.Coords) (c0_i32_672 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1382 : BitVec 32 := Scalar.addi v897 c0_i32_672
  let v1383 : Index := Scalar.indexCast v1382
  let c22_673 : Index := 22#32
  ![v1383.toNat, 22]
def k0_off144 (i : grid0.Coords) (c0_i32_684 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1404 : BitVec 32 := Scalar.addi v897 c0_i32_684
  let v1405 : Index := Scalar.indexCast v1404
  let c23_685 : Index := 23#32
  ![v1405.toNat, 23]
def k0_off145 (i : grid0.Coords) (c0_i32_696 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1426 : BitVec 32 := Scalar.addi v897 c0_i32_696
  let v1427 : Index := Scalar.indexCast v1426
  let c24_697 : Index := 24#32
  ![v1427.toNat, 24]
def k0_off146 (i : grid0.Coords) (c0_i32_708 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1448 : BitVec 32 := Scalar.addi v897 c0_i32_708
  let v1449 : Index := Scalar.indexCast v1448
  let c25_709 : Index := 25#32
  ![v1449.toNat, 25]
def k0_off147 (i : grid0.Coords) (c0_i32_720 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1470 : BitVec 32 := Scalar.addi v897 c0_i32_720
  let v1471 : Index := Scalar.indexCast v1470
  let c26_721 : Index := 26#32
  ![v1471.toNat, 26]
def k0_off148 (i : grid0.Coords) (c0_i32_732 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1492 : BitVec 32 := Scalar.addi v897 c0_i32_732
  let v1493 : Index := Scalar.indexCast v1492
  let c27_733 : Index := 27#32
  ![v1493.toNat, 27]
def k0_off149 (i : grid0.Coords) (c0_i32_744 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1514 : BitVec 32 := Scalar.addi v897 c0_i32_744
  let v1515 : Index := Scalar.indexCast v1514
  let c28_745 : Index := 28#32
  ![v1515.toNat, 28]
def k0_off150 (i : grid0.Coords) (c0_i32_756 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1536 : BitVec 32 := Scalar.addi v897 c0_i32_756
  let v1537 : Index := Scalar.indexCast v1536
  let c29_757 : Index := 29#32
  ![v1537.toNat, 29]
def k0_off151 (i : grid0.Coords) (c0_i32_768 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1558 : BitVec 32 := Scalar.addi v897 c0_i32_768
  let v1559 : Index := Scalar.indexCast v1558
  let c30_769 : Index := 30#32
  ![v1559.toNat, 30]
def k0_off152 (i : grid0.Coords) (c0_i32_780 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1580 : BitVec 32 := Scalar.addi v897 c0_i32_780
  let v1581 : Index := Scalar.indexCast v1580
  let c31_781 : Index := 31#32
  ![v1581.toNat, 31]
def k0_off153 (i : grid0.Coords) (c0_i32_792 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1602 : BitVec 32 := Scalar.addi v897 c0_i32_792
  let v1603 : Index := Scalar.indexCast v1602
  let c32_793 : Index := 32#32
  ![v1603.toNat, 32]
def k0_off154 (i : grid0.Coords) (c0_i32_804 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1624 : BitVec 32 := Scalar.addi v897 c0_i32_804
  let v1625 : Index := Scalar.indexCast v1624
  let c33_805 : Index := 33#32
  ![v1625.toNat, 33]
def k0_off155 (i : grid0.Coords) (c0_i32_816 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1646 : BitVec 32 := Scalar.addi v897 c0_i32_816
  let v1647 : Index := Scalar.indexCast v1646
  let c34_817 : Index := 34#32
  ![v1647.toNat, 34]
def k0_off156 (i : grid0.Coords) (c0_i32_828 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1668 : BitVec 32 := Scalar.addi v897 c0_i32_828
  let v1669 : Index := Scalar.indexCast v1668
  let c35_829 : Index := 35#32
  ![v1669.toNat, 35]
def k0_off157 (i : grid0.Coords) (c0_i32_840 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1690 : BitVec 32 := Scalar.addi v897 c0_i32_840
  let v1691 : Index := Scalar.indexCast v1690
  let c36_841 : Index := 36#32
  ![v1691.toNat, 36]
def k0_off158 (i : grid0.Coords) (c0_i32_852 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1712 : BitVec 32 := Scalar.addi v897 c0_i32_852
  let v1713 : Index := Scalar.indexCast v1712
  let c37_853 : Index := 37#32
  ![v1713.toNat, 37]
def k0_off159 (i : grid0.Coords) (c0_i32_864 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1734 : BitVec 32 := Scalar.addi v897 c0_i32_864
  let v1735 : Index := Scalar.indexCast v1734
  let c38_865 : Index := 38#32
  ![v1735.toNat, 38]
def k0_off160 (i : grid0.Coords) (c0_i32_876 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1756 : BitVec 32 := Scalar.addi v897 c0_i32_876
  let v1757 : Index := Scalar.indexCast v1756
  let c39_877 : Index := 39#32
  ![v1757.toNat, 39]
def k0_cond3 (i : grid0.Coords) : BitVec 1 :=
  let arg0 : BitVec 32 := BitVec.ofNat 32 (i 0).val
  let c2_i32 : BitVec 32 := 2#32
  let v3 : BitVec 32 := Scalar.remsi arg0 c2_i32
  let c0_i32 : BitVec 32 := 0#32
  let v4 : BitVec 1 := Scalar.cmpi .eq v3 c0_i32
  let v_true : BitVec 1 := 1#1
  let v12 : BitVec 1 := Scalar.xori v4 v_true
  let v13 : BitVec 32 := Scalar.extui v12
  let c0_i32_4 : BitVec 32 := 0#32
  let v14 : BitVec 1 := Scalar.cmpi .ne v13 c0_i32_4
  v14

def k0_off161 (i : grid0.Coords) (c0_i32_6 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v16 : BitVec 32 := Scalar.addi v15 c0_i32_6
  let v17 : Index := Scalar.indexCast v16
  let c0 : Index := 0#32
  ![v17.toNat, 0]
def k0_off162 (i : grid0.Coords) (c0_i32_16 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v38 : BitVec 32 := Scalar.addi v15 c0_i32_16
  let v39 : Index := Scalar.indexCast v38
  let c1 : Index := 1#32
  ![v39.toNat, 1]
def k0_off163 (i : grid0.Coords) (c0_i32_27 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v60 : BitVec 32 := Scalar.addi v15 c0_i32_27
  let v61 : Index := Scalar.indexCast v60
  let c2 : Index := 2#32
  ![v61.toNat, 2]
def k0_off164 (i : grid0.Coords) (c0_i32_37 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v82 : BitVec 32 := Scalar.addi v15 c0_i32_37
  let v83 : Index := Scalar.indexCast v82
  let c3 : Index := 3#32
  ![v83.toNat, 3]
def k0_off165 (i : grid0.Coords) (c0_i32_47 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v104 : BitVec 32 := Scalar.addi v15 c0_i32_47
  let v105 : Index := Scalar.indexCast v104
  let c4 : Index := 4#32
  ![v105.toNat, 4]
def k0_off166 (i : grid0.Coords) (c0_i32_57 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v126 : BitVec 32 := Scalar.addi v15 c0_i32_57
  let v127 : Index := Scalar.indexCast v126
  let c5 : Index := 5#32
  ![v127.toNat, 5]
def k0_off167 (i : grid0.Coords) (c0_i32_67 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v148 : BitVec 32 := Scalar.addi v15 c0_i32_67
  let v149 : Index := Scalar.indexCast v148
  let c6 : Index := 6#32
  ![v149.toNat, 6]
def k0_off168 (i : grid0.Coords) (c0_i32_77 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v170 : BitVec 32 := Scalar.addi v15 c0_i32_77
  let v171 : Index := Scalar.indexCast v170
  let c7 : Index := 7#32
  ![v171.toNat, 7]
def k0_off169 (i : grid0.Coords) (c0_i32_87 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v192 : BitVec 32 := Scalar.addi v15 c0_i32_87
  let v193 : Index := Scalar.indexCast v192
  let c8 : Index := 8#32
  ![v193.toNat, 8]
def k0_off170 (i : grid0.Coords) (c0_i32_97 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v214 : BitVec 32 := Scalar.addi v15 c0_i32_97
  let v215 : Index := Scalar.indexCast v214
  let c9 : Index := 9#32
  ![v215.toNat, 9]
def k0_off171 (i : grid0.Coords) (c0_i32_107 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v236 : BitVec 32 := Scalar.addi v15 c0_i32_107
  let v237 : Index := Scalar.indexCast v236
  let c10 : Index := 10#32
  ![v237.toNat, 10]
def k0_off172 (i : grid0.Coords) (c0_i32_117 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v258 : BitVec 32 := Scalar.addi v15 c0_i32_117
  let v259 : Index := Scalar.indexCast v258
  let c11 : Index := 11#32
  ![v259.toNat, 11]
def k0_off173 (i : grid0.Coords) (c0_i32_127 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v280 : BitVec 32 := Scalar.addi v15 c0_i32_127
  let v281 : Index := Scalar.indexCast v280
  let c12 : Index := 12#32
  ![v281.toNat, 12]
def k0_off174 (i : grid0.Coords) (c0_i32_137 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v302 : BitVec 32 := Scalar.addi v15 c0_i32_137
  let v303 : Index := Scalar.indexCast v302
  let c13 : Index := 13#32
  ![v303.toNat, 13]
def k0_off175 (i : grid0.Coords) (c0_i32_147 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v324 : BitVec 32 := Scalar.addi v15 c0_i32_147
  let v325 : Index := Scalar.indexCast v324
  let c14 : Index := 14#32
  ![v325.toNat, 14]
def k0_off176 (i : grid0.Coords) (c0_i32_157 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v346 : BitVec 32 := Scalar.addi v15 c0_i32_157
  let v347 : Index := Scalar.indexCast v346
  let c15 : Index := 15#32
  ![v347.toNat, 15]
def k0_off177 (i : grid0.Coords) (c0_i32_167 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v368 : BitVec 32 := Scalar.addi v15 c0_i32_167
  let v369 : Index := Scalar.indexCast v368
  let c16 : Index := 16#32
  ![v369.toNat, 16]
def k0_off178 (i : grid0.Coords) (c0_i32_177 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v390 : BitVec 32 := Scalar.addi v15 c0_i32_177
  let v391 : Index := Scalar.indexCast v390
  let c17 : Index := 17#32
  ![v391.toNat, 17]
def k0_off179 (i : grid0.Coords) (c0_i32_187 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v412 : BitVec 32 := Scalar.addi v15 c0_i32_187
  let v413 : Index := Scalar.indexCast v412
  let c18 : Index := 18#32
  ![v413.toNat, 18]
def k0_off180 (i : grid0.Coords) (c0_i32_197 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v434 : BitVec 32 := Scalar.addi v15 c0_i32_197
  let v435 : Index := Scalar.indexCast v434
  let c19 : Index := 19#32
  ![v435.toNat, 19]
def k0_off181 (i : grid0.Coords) (c0_i32_207 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v456 : BitVec 32 := Scalar.addi v15 c0_i32_207
  let v457 : Index := Scalar.indexCast v456
  let c20 : Index := 20#32
  ![v457.toNat, 20]
def k0_off182 (i : grid0.Coords) (c0_i32_217 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v478 : BitVec 32 := Scalar.addi v15 c0_i32_217
  let v479 : Index := Scalar.indexCast v478
  let c21 : Index := 21#32
  ![v479.toNat, 21]
def k0_off183 (i : grid0.Coords) (c0_i32_227 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v500 : BitVec 32 := Scalar.addi v15 c0_i32_227
  let v501 : Index := Scalar.indexCast v500
  let c22 : Index := 22#32
  ![v501.toNat, 22]
def k0_off184 (i : grid0.Coords) (c0_i32_237 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v522 : BitVec 32 := Scalar.addi v15 c0_i32_237
  let v523 : Index := Scalar.indexCast v522
  let c23 : Index := 23#32
  ![v523.toNat, 23]
def k0_off185 (i : grid0.Coords) (c0_i32_247 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v544 : BitVec 32 := Scalar.addi v15 c0_i32_247
  let v545 : Index := Scalar.indexCast v544
  let c24 : Index := 24#32
  ![v545.toNat, 24]
def k0_off186 (i : grid0.Coords) (c0_i32_257 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v566 : BitVec 32 := Scalar.addi v15 c0_i32_257
  let v567 : Index := Scalar.indexCast v566
  let c25 : Index := 25#32
  ![v567.toNat, 25]
def k0_off187 (i : grid0.Coords) (c0_i32_267 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v588 : BitVec 32 := Scalar.addi v15 c0_i32_267
  let v589 : Index := Scalar.indexCast v588
  let c26 : Index := 26#32
  ![v589.toNat, 26]
def k0_off188 (i : grid0.Coords) (c0_i32_277 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v610 : BitVec 32 := Scalar.addi v15 c0_i32_277
  let v611 : Index := Scalar.indexCast v610
  let c27 : Index := 27#32
  ![v611.toNat, 27]
def k0_off189 (i : grid0.Coords) (c0_i32_287 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v632 : BitVec 32 := Scalar.addi v15 c0_i32_287
  let v633 : Index := Scalar.indexCast v632
  let c28 : Index := 28#32
  ![v633.toNat, 28]
def k0_off190 (i : grid0.Coords) (c0_i32_297 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v654 : BitVec 32 := Scalar.addi v15 c0_i32_297
  let v655 : Index := Scalar.indexCast v654
  let c29 : Index := 29#32
  ![v655.toNat, 29]
def k0_off191 (i : grid0.Coords) (c0_i32_307 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v676 : BitVec 32 := Scalar.addi v15 c0_i32_307
  let v677 : Index := Scalar.indexCast v676
  let c30 : Index := 30#32
  ![v677.toNat, 30]
def k0_off192 (i : grid0.Coords) (c0_i32_317 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v698 : BitVec 32 := Scalar.addi v15 c0_i32_317
  let v699 : Index := Scalar.indexCast v698
  let c31 : Index := 31#32
  ![v699.toNat, 31]
def k0_off193 (i : grid0.Coords) (c0_i32_327 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v720 : BitVec 32 := Scalar.addi v15 c0_i32_327
  let v721 : Index := Scalar.indexCast v720
  let c32 : Index := 32#32
  ![v721.toNat, 32]
def k0_off194 (i : grid0.Coords) (c0_i32_337 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v742 : BitVec 32 := Scalar.addi v15 c0_i32_337
  let v743 : Index := Scalar.indexCast v742
  let c33 : Index := 33#32
  ![v743.toNat, 33]
def k0_off195 (i : grid0.Coords) (c0_i32_347 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v764 : BitVec 32 := Scalar.addi v15 c0_i32_347
  let v765 : Index := Scalar.indexCast v764
  let c34 : Index := 34#32
  ![v765.toNat, 34]
def k0_off196 (i : grid0.Coords) (c0_i32_357 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v786 : BitVec 32 := Scalar.addi v15 c0_i32_357
  let v787 : Index := Scalar.indexCast v786
  let c35 : Index := 35#32
  ![v787.toNat, 35]
def k0_off197 (i : grid0.Coords) (c0_i32_367 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v808 : BitVec 32 := Scalar.addi v15 c0_i32_367
  let v809 : Index := Scalar.indexCast v808
  let c36 : Index := 36#32
  ![v809.toNat, 36]
def k0_off198 (i : grid0.Coords) (c0_i32_377 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v830 : BitVec 32 := Scalar.addi v15 c0_i32_377
  let v831 : Index := Scalar.indexCast v830
  let c37 : Index := 37#32
  ![v831.toNat, 37]
def k0_off199 (i : grid0.Coords) (c0_i32_387 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v852 : BitVec 32 := Scalar.addi v15 c0_i32_387
  let v853 : Index := Scalar.indexCast v852
  let c38 : Index := 38#32
  ![v853.toNat, 38]
def k0_off200 (i : grid0.Coords) (c0_i32_397 : BitVec 32) : Fin 2 → Nat :=
  let arg0 : BitVec 32 := BitVec.ofNat 32 (i 0).val
  let c16_i32 : BitVec 32 := 16#32
  let v0 : BitVec 32 := Scalar.minsi arg0 c16_i32
  let c2_i32_5 : BitVec 32 := 2#32
  let v15 : BitVec 32 := Scalar.muli v0 c2_i32_5
  let v874 : BitVec 32 := Scalar.addi v15 c0_i32_397
  let v875 : Index := Scalar.indexCast v874
  let c39 : Index := 39#32
  ![v875.toNat, 39]
def k0_off201 (i : grid0.Coords) (c0_i32_408 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v898 : BitVec 32 := Scalar.addi v897 c0_i32_408
  let v899 : Index := Scalar.indexCast v898
  let c0_409 : Index := 0#32
  ![v899.toNat, 0]
def k0_off202 (i : grid0.Coords) (c0_i32_420 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v920 : BitVec 32 := Scalar.addi v897 c0_i32_420
  let v921 : Index := Scalar.indexCast v920
  let c1_421 : Index := 1#32
  ![v921.toNat, 1]
def k0_off203 (i : grid0.Coords) (c0_i32_432 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v942 : BitVec 32 := Scalar.addi v897 c0_i32_432
  let v943 : Index := Scalar.indexCast v942
  let c2_433 : Index := 2#32
  ![v943.toNat, 2]
def k0_off204 (i : grid0.Coords) (c0_i32_444 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v964 : BitVec 32 := Scalar.addi v897 c0_i32_444
  let v965 : Index := Scalar.indexCast v964
  let c3_445 : Index := 3#32
  ![v965.toNat, 3]
def k0_off205 (i : grid0.Coords) (c0_i32_456 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v986 : BitVec 32 := Scalar.addi v897 c0_i32_456
  let v987 : Index := Scalar.indexCast v986
  let c4_457 : Index := 4#32
  ![v987.toNat, 4]
def k0_off206 (i : grid0.Coords) (c0_i32_468 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1008 : BitVec 32 := Scalar.addi v897 c0_i32_468
  let v1009 : Index := Scalar.indexCast v1008
  let c5_469 : Index := 5#32
  ![v1009.toNat, 5]
def k0_off207 (i : grid0.Coords) (c0_i32_480 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1030 : BitVec 32 := Scalar.addi v897 c0_i32_480
  let v1031 : Index := Scalar.indexCast v1030
  let c6_481 : Index := 6#32
  ![v1031.toNat, 6]
def k0_off208 (i : grid0.Coords) (c0_i32_492 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1052 : BitVec 32 := Scalar.addi v897 c0_i32_492
  let v1053 : Index := Scalar.indexCast v1052
  let c7_493 : Index := 7#32
  ![v1053.toNat, 7]
def k0_off209 (i : grid0.Coords) (c0_i32_504 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1074 : BitVec 32 := Scalar.addi v897 c0_i32_504
  let v1075 : Index := Scalar.indexCast v1074
  let c8_505 : Index := 8#32
  ![v1075.toNat, 8]
def k0_off210 (i : grid0.Coords) (c0_i32_516 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1096 : BitVec 32 := Scalar.addi v897 c0_i32_516
  let v1097 : Index := Scalar.indexCast v1096
  let c9_517 : Index := 9#32
  ![v1097.toNat, 9]
def k0_off211 (i : grid0.Coords) (c0_i32_528 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1118 : BitVec 32 := Scalar.addi v897 c0_i32_528
  let v1119 : Index := Scalar.indexCast v1118
  let c10_529 : Index := 10#32
  ![v1119.toNat, 10]
def k0_off212 (i : grid0.Coords) (c0_i32_540 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1140 : BitVec 32 := Scalar.addi v897 c0_i32_540
  let v1141 : Index := Scalar.indexCast v1140
  let c11_541 : Index := 11#32
  ![v1141.toNat, 11]
def k0_off213 (i : grid0.Coords) (c0_i32_552 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1162 : BitVec 32 := Scalar.addi v897 c0_i32_552
  let v1163 : Index := Scalar.indexCast v1162
  let c12_553 : Index := 12#32
  ![v1163.toNat, 12]
def k0_off214 (i : grid0.Coords) (c0_i32_564 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1184 : BitVec 32 := Scalar.addi v897 c0_i32_564
  let v1185 : Index := Scalar.indexCast v1184
  let c13_565 : Index := 13#32
  ![v1185.toNat, 13]
def k0_off215 (i : grid0.Coords) (c0_i32_576 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1206 : BitVec 32 := Scalar.addi v897 c0_i32_576
  let v1207 : Index := Scalar.indexCast v1206
  let c14_577 : Index := 14#32
  ![v1207.toNat, 14]
def k0_off216 (i : grid0.Coords) (c0_i32_588 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1228 : BitVec 32 := Scalar.addi v897 c0_i32_588
  let v1229 : Index := Scalar.indexCast v1228
  let c15_589 : Index := 15#32
  ![v1229.toNat, 15]
def k0_off217 (i : grid0.Coords) (c0_i32_600 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1250 : BitVec 32 := Scalar.addi v897 c0_i32_600
  let v1251 : Index := Scalar.indexCast v1250
  let c16_601 : Index := 16#32
  ![v1251.toNat, 16]
def k0_off218 (i : grid0.Coords) (c0_i32_612 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1272 : BitVec 32 := Scalar.addi v897 c0_i32_612
  let v1273 : Index := Scalar.indexCast v1272
  let c17_613 : Index := 17#32
  ![v1273.toNat, 17]
def k0_off219 (i : grid0.Coords) (c0_i32_624 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1294 : BitVec 32 := Scalar.addi v897 c0_i32_624
  let v1295 : Index := Scalar.indexCast v1294
  let c18_625 : Index := 18#32
  ![v1295.toNat, 18]
def k0_off220 (i : grid0.Coords) (c0_i32_636 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1316 : BitVec 32 := Scalar.addi v897 c0_i32_636
  let v1317 : Index := Scalar.indexCast v1316
  let c19_637 : Index := 19#32
  ![v1317.toNat, 19]
def k0_off221 (i : grid0.Coords) (c0_i32_648 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1338 : BitVec 32 := Scalar.addi v897 c0_i32_648
  let v1339 : Index := Scalar.indexCast v1338
  let c20_649 : Index := 20#32
  ![v1339.toNat, 20]
def k0_off222 (i : grid0.Coords) (c0_i32_660 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1360 : BitVec 32 := Scalar.addi v897 c0_i32_660
  let v1361 : Index := Scalar.indexCast v1360
  let c21_661 : Index := 21#32
  ![v1361.toNat, 21]
def k0_off223 (i : grid0.Coords) (c0_i32_672 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1382 : BitVec 32 := Scalar.addi v897 c0_i32_672
  let v1383 : Index := Scalar.indexCast v1382
  let c22_673 : Index := 22#32
  ![v1383.toNat, 22]
def k0_off224 (i : grid0.Coords) (c0_i32_684 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1404 : BitVec 32 := Scalar.addi v897 c0_i32_684
  let v1405 : Index := Scalar.indexCast v1404
  let c23_685 : Index := 23#32
  ![v1405.toNat, 23]
def k0_off225 (i : grid0.Coords) (c0_i32_696 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1426 : BitVec 32 := Scalar.addi v897 c0_i32_696
  let v1427 : Index := Scalar.indexCast v1426
  let c24_697 : Index := 24#32
  ![v1427.toNat, 24]
def k0_off226 (i : grid0.Coords) (c0_i32_708 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1448 : BitVec 32 := Scalar.addi v897 c0_i32_708
  let v1449 : Index := Scalar.indexCast v1448
  let c25_709 : Index := 25#32
  ![v1449.toNat, 25]
def k0_off227 (i : grid0.Coords) (c0_i32_720 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1470 : BitVec 32 := Scalar.addi v897 c0_i32_720
  let v1471 : Index := Scalar.indexCast v1470
  let c26_721 : Index := 26#32
  ![v1471.toNat, 26]
def k0_off228 (i : grid0.Coords) (c0_i32_732 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1492 : BitVec 32 := Scalar.addi v897 c0_i32_732
  let v1493 : Index := Scalar.indexCast v1492
  let c27_733 : Index := 27#32
  ![v1493.toNat, 27]
def k0_off229 (i : grid0.Coords) (c0_i32_744 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1514 : BitVec 32 := Scalar.addi v897 c0_i32_744
  let v1515 : Index := Scalar.indexCast v1514
  let c28_745 : Index := 28#32
  ![v1515.toNat, 28]
def k0_off230 (i : grid0.Coords) (c0_i32_756 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1536 : BitVec 32 := Scalar.addi v897 c0_i32_756
  let v1537 : Index := Scalar.indexCast v1536
  let c29_757 : Index := 29#32
  ![v1537.toNat, 29]
def k0_off231 (i : grid0.Coords) (c0_i32_768 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1558 : BitVec 32 := Scalar.addi v897 c0_i32_768
  let v1559 : Index := Scalar.indexCast v1558
  let c30_769 : Index := 30#32
  ![v1559.toNat, 30]
def k0_off232 (i : grid0.Coords) (c0_i32_780 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1580 : BitVec 32 := Scalar.addi v897 c0_i32_780
  let v1581 : Index := Scalar.indexCast v1580
  let c31_781 : Index := 31#32
  ![v1581.toNat, 31]
def k0_off233 (i : grid0.Coords) (c0_i32_792 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1602 : BitVec 32 := Scalar.addi v897 c0_i32_792
  let v1603 : Index := Scalar.indexCast v1602
  let c32_793 : Index := 32#32
  ![v1603.toNat, 32]
def k0_off234 (i : grid0.Coords) (c0_i32_804 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1624 : BitVec 32 := Scalar.addi v897 c0_i32_804
  let v1625 : Index := Scalar.indexCast v1624
  let c33_805 : Index := 33#32
  ![v1625.toNat, 33]
def k0_off235 (i : grid0.Coords) (c0_i32_816 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1646 : BitVec 32 := Scalar.addi v897 c0_i32_816
  let v1647 : Index := Scalar.indexCast v1646
  let c34_817 : Index := 34#32
  ![v1647.toNat, 34]
def k0_off236 (i : grid0.Coords) (c0_i32_828 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1668 : BitVec 32 := Scalar.addi v897 c0_i32_828
  let v1669 : Index := Scalar.indexCast v1668
  let c35_829 : Index := 35#32
  ![v1669.toNat, 35]
def k0_off237 (i : grid0.Coords) (c0_i32_840 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1690 : BitVec 32 := Scalar.addi v897 c0_i32_840
  let v1691 : Index := Scalar.indexCast v1690
  let c36_841 : Index := 36#32
  ![v1691.toNat, 36]
def k0_off238 (i : grid0.Coords) (c0_i32_852 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1712 : BitVec 32 := Scalar.addi v897 c0_i32_852
  let v1713 : Index := Scalar.indexCast v1712
  let c37_853 : Index := 37#32
  ![v1713.toNat, 37]
def k0_off239 (i : grid0.Coords) (c0_i32_864 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1734 : BitVec 32 := Scalar.addi v897 c0_i32_864
  let v1735 : Index := Scalar.indexCast v1734
  let c38_865 : Index := 38#32
  ![v1735.toNat, 38]
def k0_off240 (i : grid0.Coords) (c0_i32_876 : BitVec 32) : Fin 2 → Nat :=
  let c34_i32 : BitVec 32 := 34#32
  let arg0 : BitVec 32 := BitVec.ofNat 32 (i 0).val
  let c16_i32 : BitVec 32 := 16#32
  let v0 : BitVec 32 := Scalar.minsi arg0 c16_i32
  let c2_i32_407 : BitVec 32 := 2#32
  let v896 : BitVec 32 := Scalar.muli v0 c2_i32_407
  let v897 : BitVec 32 := Scalar.addi c34_i32 v896
  let v1756 : BitVec 32 := Scalar.addi v897 c0_i32_876
  let v1757 : Index := Scalar.indexCast v1756
  let c39_877 : Index := 39#32
  ![v1757.toNat, 39]
def cc0_transform_1 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.minsi arg0 c16_i32
  let c17_i32 : BitVec 32 := 17#32
  let v1 : BitVec 32 := Scalar.addi v0 c17_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S5120x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S68x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateUpReferenceIdeal.lean ====
abbrev S1024x5120 : Shape := ⟨2, ![1024, 5120]⟩
abbrev S5120x8704 : Shape := ⟨2, ![5120, 8704]⟩
abbrev S40x68 : Shape := ⟨2, ![40, 68]⟩
abbrev S2048x4352 : Shape := ⟨2, ![2048, 4352]⟩
abbrev S2048x128 : Shape := ⟨2, ![2048, 128]⟩
abbrev S2048x5120 : Shape := ⟨2, ![2048, 5120]⟩
abbrev S40x68x1 : Shape := ⟨3, ![40, 68, 1]⟩
abbrev S40x68x128 : Shape := ⟨3, ![40, 68, 128]⟩
abbrev S40x8704 : Shape := ⟨2, ![40, 8704]⟩
abbrev S40x128x8704 : Shape := ⟨3, ![40, 128, 8704]⟩
abbrev S40x1x8704 : Shape := ⟨3, ![40, 1, 8704]⟩
abbrev S2048x8704 : Shape := ⟨2, ![2048, 8704]⟩
abbrev S2048x34x128 : Shape := ⟨3, ![2048, 34, 128]⟩
abbrev S2048x34 : Shape := ⟨2, ![2048, 34]⟩
abbrev S2048x34x247 : Shape := ⟨3, ![2048, 34, 247]⟩
abbrev S2048x34x1 : Shape := ⟨3, ![2048, 34, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x5120, .i32⟩
  | .hbm, ⟨1, _⟩ => ⟨S5120x8704, .fp8e4m3⟩
  | .hbm, ⟨2, _⟩ => ⟨S40x68, .f32⟩
  | .hbm, ⟨3, _⟩ => ⟨S2048x4352, .fp8e4m3⟩
  | .hbm, ⟨4, _⟩ => ⟨S2048x128, .f32⟩
  | .hbm, ⟨5, _⟩ => ⟨S2048x4352, .bf16⟩
  | .local _ .vmem, ⟨0, _⟩ => ⟨S1024x5120, .i32⟩
  | .local _ .vmem, ⟨1, _⟩ => ⟨S5120x8704, .fp8e4m3⟩
  | .local _ .vmem, ⟨2, _⟩ => ⟨S40x68, .f32⟩
  | .local _ .vmem, ⟨3, _⟩ => ⟨S2048x4352, .fp8e4m3⟩
  | .local _ .vmem, ⟨4, _⟩ => ⟨S2048x128, .f32⟩
  | .local _ .vmem, ⟨5, _⟩ => ⟨S2048x4352, .bf16⟩
  | _, _ => ⟨S1024x5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x5120 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8704 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x68 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x4352 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4352 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Frame.KernelKit.lean ====
/- What the runs of the kernel body share: the program up to its pallas_call, the arrays found there, each window's
   block at a grid point, the branch conditions in closed form, the staging and scratch memrefs, the region's invariant. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Down

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 2 rfl).trans ((hA c 2).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at points 2, 4, 6, 8 and 10 only — decided over the grid. -/
theorem hcond0_1 : ∀ t : Fin cfg0.N, cond0_1 (grid0.coords t) ↔ (t.val % 11 = 2 ∨ t.val % 11 = 4 ∨ t.val % 11 = 6 ∨ t.val % 11 = 8 ∨ t.val % 11 = 10) :=
  (by decide +kernel : ∀ t : Fin grid0.N, cond0_1 (grid0.coords t) ↔ (t.val % 11 = 2 ∨ t.val % 11 = 4 ∨ t.val % 11 = 6 ∨ t.val % 11 = 8 ∨ t.val % 11 = 10))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4352x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S40x34 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x4352 .i32 := Memref.whole cc0_scratch0
abbrev scM0_1 : Memref sig .tc .vmem S4352x512 .bf16 := Memref.whole cc0_scratch1
abbrev scM0_2 : Memref sig .tc .vmem S4352x512 .bf16 := Memref.whole cc0_scratch2
/-- The operands left in HBM that the body copies into scratch itself, whole. -/
abbrev hbM0_0 : Memref sig .tc .hbm S1024x4352 .i32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 7] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 7) 0) ∗ iprop(hbPt0 c hbM0_0 (V m c main_arg0))) := by
  rw [Pipeline.ΦD_eq, scopedRest0_eq, ownSems00_eq, hbmPts0_eq]; simp only [scM0_0, scM0_1, scM0_2, owns_whole]; try rfl

end Cert.Kernel.Down

end
-- ==== Proof.Frame.KernelRunA.lean ====
/- The kernel body at grid point 0: the activations are copied in while the first weight block is dequantised into
   the first weight scratch. -/
module

public import proofs.«01_k».proof.Proof.Frame.KernelKit

@[expose] public section

-- membership in a rectangle of production extents (`View.cover_of_tiled`): the elaborator's structural look
-- recurses once per coordinate of the long axes
set_option maxRecDepth 16384

noncomputable section

namespace Cert.Kernel.Down

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 4400000 in
/-- The body's triple IN CASE A (`scf.if` 0 taken, the others not: point 0): on whole staging memrefs — the inputs' at their contents,
    the FORGOTTEN outputs' (3) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg2 : Memref sig .tc .vmem S4352x512 .fp8e4m3) (harg2 : arg2.IsWhole) (arg3 : Memref sig .tc .smem S40x34 .f32) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S1024x4352 .i32) (harg6 : arg6.IsWhole) (arg7 : Memref sig .tc .vmem S4352x512 .bf16) (harg7 : arg7.IsWhole) (arg8 : Memref sig .tc .vmem S4352x512 .bf16) (harg8 : arg8.IsWhole) (hc0 : cond0_0 i) (hc1 : ¬cond0_1 i) (hc2 : ¬cond0_2 i)
    (x0 : Vec F S4352x512 .fp8e4m3) (x1 : Vec F S40x34 .f32) (x2 : Vec F S2048x512 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_down i (Memref.whole main_arg0) (Memref.isWhole_whole _) arg2 harg2 arg3 harg3 arg4 harg4 arg5 harg5 arg6 harg6 arg7 harg7 arg8 harg8 cc0_scratch3) K := by
    intro W K
    simp only [cc0_down_eq_skeleton]; unfold cc0_down_skel
    rw [k0_part41_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hq0, Hh0, HW, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.Kernel.Down

end
-- ==== Proof.Frame.KernelRunB.lean ====
/- The kernel body at the odd grid points: the run that dequantises a weight block into the second
   weight scratch and multiplies by the first. Its effect on memory, contents of the written buffers left unnamed. -/
module

public import proofs.«01_k».proof.Proof.Frame.KernelKit

@[expose] public section

-- membership in a rectangle of production extents (`View.cover_of_tiled`): the elaborator's structural look
-- recurses once per coordinate of the long axes
set_option maxRecDepth 16384

noncomputable section

namespace Cert.Kernel.Down

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 4400000 in
/-- The body's triple IN CASE B (`scf.if` 0 not taken, `scf.if` 1 not taken, `scf.if` 2 taken: points 1, 3, 5, 7, 9): on whole staging memrefs — the inputs' at their contents,
    the FORGOTTEN outputs' (3) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg2 : Memref sig .tc .vmem S4352x512 .fp8e4m3) (harg2 : arg2.IsWhole) (arg3 : Memref sig .tc .smem S40x34 .f32) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S1024x4352 .i32) (harg6 : arg6.IsWhole) (arg7 : Memref sig .tc .vmem S4352x512 .bf16) (harg7 : arg7.IsWhole) (arg8 : Memref sig .tc .vmem S4352x512 .bf16) (harg8 : arg8.IsWhole) (hc0 : ¬cond0_0 i) (hc1 : ¬cond0_1 i) (hc2 : cond0_2 i)
    (x0 : Vec F S4352x512 .fp8e4m3) (x1 : Vec F S40x34 .f32) (x2 : Vec F S2048x512 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_down i (Memref.whole main_arg0) (Memref.isWhole_whole _) arg2 harg2 arg3 harg3 arg4 harg4 arg5 harg5 arg6 harg6 arg7 harg7 arg8 harg8 cc0_scratch3) K := by
    intro W K
    simp only [cc0_down_eq_skeleton]; unfold cc0_down_skel
    rw [k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hq0, Hh0, HW, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.Kernel.Down

end
-- ==== Proof.Frame.KernelRunC.lean ====
/- The kernel body at the even grid points after the first: the run that dequantises a weight block into
   the first weight scratch and multiplies by the second. -/
module

public import proofs.«01_k».proof.Proof.Frame.KernelKit

@[expose] public section

-- membership in a rectangle of production extents (`View.cover_of_tiled`): the elaborator's structural look
-- recurses once per coordinate of the long axes
set_option maxRecDepth 16384

noncomputable section

namespace Cert.Kernel.Down

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 4400000 in
/-- The body's triple IN CASE C (`scf.if` 0 not taken, `scf.if` 1 taken, `scf.if` 2 not taken: points 2, 4, 6, 8, 10): on whole staging memrefs — the inputs' at their contents,
    the FORGOTTEN outputs' (3) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_C (c : Dev nD) (i : grid0.Coords) (arg2 : Memref sig .tc .vmem S4352x512 .fp8e4m3) (harg2 : arg2.IsWhole) (arg3 : Memref sig .tc .smem S40x34 .f32) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S1024x4352 .i32) (harg6 : arg6.IsWhole) (arg7 : Memref sig .tc .vmem S4352x512 .bf16) (harg7 : arg7.IsWhole) (arg8 : Memref sig .tc .vmem S4352x512 .bf16) (harg8 : arg8.IsWhole) (hc0 : ¬cond0_0 i) (hc1 : cond0_1 i) (hc2 : ¬cond0_2 i)
    (x0 : Vec F S4352x512 .fp8e4m3) (x1 : Vec F S40x34 .f32) (x2 : Vec F S2048x512 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_down i (Memref.whole main_arg0) (Memref.isWhole_whole _) arg2 harg2 arg3 harg3 arg4 harg4 arg5 harg5 arg6 harg6 arg7 harg7 arg8 harg8 cc0_scratch3) K := by
    intro W K
    simp only [cc0_down_eq_skeleton]; unfold cc0_down_skel
    rw [k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hq0, Hh0, HW, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.Kernel.Down

end
-- ==== Proof.Frame.KernelFrame.lean ====
/- The frame of the whole program: every run ends, with the argument arrays unchanged and all semaphores at zero. -/
module

public import proofs.«01_k».proof.Proof.Frame.KernelRunA
public import proofs.«01_k».proof.Proof.Frame.KernelRunB
public import proofs.«01_k».proof.Proof.Frame.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Down

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d))

set_option maxHeartbeats 1200000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 11 := lt_of_lt_of_eq t.isLt (show cfg0.N = 11 from N_0)
  by_cases h0 : t.val % 11 = 0
  · by_cases h1 : (t.val % 11 = 2 ∨ t.val % 11 = 4 ∨ t.val % 11 = 6 ∨ t.val % 11 = 8 ∨ t.val % 11 = 10)
    · exfalso; omega
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        iintro ⟨⟨⟨HS0, HS1, HS2⟩, Hg, Hq0, Hh0⟩, ⟨%W, -, HW⟩, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (V m c main_arg0)) W _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, HS0, HS1, HS2, Hq0, Hh0, ⟨%W', HW'⟩⟩
        isplitl [HS0 HS1 HS2 Hg Hq0 Hh0]
        · isplitl [HS0 HS1 HS2]
          · isplitl [HS0]; · iexact HS0
            isplitl [HS1]; · iexact HS1
            iexact HS2
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        iexact H3
  · by_cases h1 : (t.val % 11 = 2 ∨ t.val % 11 = 4 ∨ t.val % 11 = 6 ∨ t.val % 11 = 8 ∨ t.val % 11 = 10)
    · by_cases h2 : t.val % 2 = 1
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        iintro ⟨⟨⟨HS0, HS1, HS2⟩, Hg, Hq0, Hh0⟩, ⟨%W, -, HW⟩, ⟨%d0, H0⟩, ⟨%d1, H1⟩, ⟨%d2, H2⟩, ⟨%d3, H3⟩⟩
        iapply ((kernelRun0_C c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (V m c main_arg0)) W _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, HS0, HS1, HS2, Hq0, Hh0, ⟨%W', HW'⟩⟩
        isplitl [HS0 HS1 HS2 Hg Hq0 Hh0]
        · isplitl [HS0 HS1 HS2]
          · isplitl [HS0]; · iexact HS0
            isplitl [HS1]; · iexact HS1
            iexact HS2
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        iexact H3
    · by_cases h2 : t.val % 2 = 1
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        iintro ⟨⟨⟨HS0, HS1, HS2⟩, Hg, Hq0, Hh0⟩, ⟨%W, -, HW⟩, ⟨%d0, H0⟩, ⟨%d1, H1⟩, ⟨%d2, H2⟩, ⟨%d3, H3⟩⟩
        iapply ((kernelRun0_B c (grid0.coords t) _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (V m c main_arg0)) W _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [Hq0]; · iexact Hq0
        isplitl [Hh0]; · iexact Hh0
        isplitl [HW]; · iexact HW
        iintro ⟨H0, H1, H2, H3, HS0, HS1, HS2, Hq0, Hh0, ⟨%W', HW'⟩⟩
        isplitl [HS0 HS1 HS2 Hg Hq0 Hh0]
        · isplitl [HS0 HS1 HS2]
          · isplitl [HS0]; · iexact HS0
            isplitl [HS1]; · iexact HS1
            iexact HS2
          isplitl [Hg]
          · iexact Hg
          isplitl [Hq0]
          · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        iexact H3
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Down

end
-- ==== Proof.Down.Kit.lean ====
/- What the runs of the kernel body share: the program up to its pallas_call, the arrays found there, each window's
   block at a grid point, the branch conditions in closed form, the staging and scratch memrefs, the region's invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Down

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 2 rfl).trans ((hA c 2).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at points 2, 4, 6, 8 and 10 only — decided over the grid. -/
theorem hcond0_1 : ∀ t : Fin cfg0.N, cond0_1 (grid0.coords t) ↔ (t.val % 11 = 2 ∨ t.val % 11 = 4 ∨ t.val % 11 = 6 ∨ t.val % 11 = 8 ∨ t.val % 11 = 10) :=
  (by decide +kernel : ∀ t : Fin grid0.N, cond0_1 (grid0.coords t) ↔ (t.val % 11 = 2 ∨ t.val % 11 = 4 ∨ t.val % 11 = 6 ∨ t.val % 11 = 8 ∨ t.val % 11 = 10))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4352x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S40x34 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x4352 .i32 := Memref.whole cc0_scratch0
abbrev scM0_1 : Memref sig .tc .vmem S4352x512 .bf16 := Memref.whole cc0_scratch1
abbrev scM0_2 : Memref sig .tc .vmem S4352x512 .bf16 := Memref.whole cc0_scratch2
/-- The operands left in HBM that the body copies into scratch itself, whole. -/
abbrev hbM0_0 : Memref sig .tc .hbm S1024x4352 .i32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 7] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 7) 0) ∗ iprop(hbPt0 c hbM0_0 (V m c main_arg0))) := by
  rw [Pipeline.ΦD_eq, scopedRest0_eq, ownSems00_eq, hbmPts0_eq]; simp only [scM0_0, scM0_1, scM0_2, owns_whole]; try rfl

end Cert.KernelIdeal.Down

end
-- ==== Proof.Down.Math.lean ====
/- What one grid point computes, as plain functions of the blocks it is given: the dequantised weight block and the
   output block, and the lemmas that each store of the body stores a piece of one of them. -/
module

public import proofs.«01_k».proof.Proof.Down.Kit
public import Idealize.ShloMosaic.Lib.Pipeline.Value
public import Idealize.ShloMosaic.Lib.Writes

@[expose] public section

set_option maxRecDepth 16384

noncomputable section

namespace Cert.KernelIdeal.Down

open Cert.KernelIdeal.Gen
open Idealize.ShloMosaic Idealize.ShloMosaic.TcCoe Idealize.ShloMosaic.Tactic

variable {F : FTy → Type} [FloatOps F]

/-- The number of the weight block that grid point `i` dequantises. -/
def blk (i : grid0.Coords) : ℕ := min (i 0).val 9

theorem blk_le (i : grid0.Coords) : blk i ≤ 9 := Nat.min_le_right _ _

/-- The scale of element `y` of the weight block `n`: one per 128 rows and 128 columns. -/
def sIdx (n : ℕ) (hn : n ≤ 9) (y : S4352x512.Idx) : S40x34.Idx :=
  Fin.cons ⟨4 * n + (y 1).val / 128, by have h : (y 1).val < 512 := (y 1).isLt; show _ < 40; omega⟩
    (Fin.cons ⟨(y 0).val / 128, by have h : (y 0).val < 4352 := (y 0).isLt; show _ < 34; omega⟩ finZeroElim)

/-- The dequantised weight block of grid point `i`. -/
def deq (i : grid0.Coords) (x0 : Vec F S4352x512 .fp8e4m3) (x1 : Vec F S40x34 .f32) : Vec F S4352x512 .bf16 :=
  fun y => FloatOps.mulf (φ := .bf16) (FloatOps.extf .bf16 bitsLt_fp8e4m3_bf16 (x0 y))
    (FloatOps.truncf .bf16 bitsLt_bf16_f32 (x1 (sIdx (blk i) (blk_le i) y)))

/-- The word arithmetic of a scale's row. -/
theorem sword (a : Fin 11) (n : Fin 4) :
    (Scalar.indexCast (Scalar.addi (Scalar.muli (Scalar.minsi (BitVec.ofNat 32 a.val) 9#32) 4#32) (BitVec.ofNat 32 n.val))).toNat
      = 4 * min a.val 9 + n.val := by
  revert a n; decide

theorem zero2 : (![0, 0] : Fin 2 → ℕ) = fun _ => 0 := by
  funext a; revert a; decide

/-- One store of the dequantisation stores a piece of `deq`. -/
theorem deq_piece (i : grid0.Coords) (arg2 : Memref sig .tc .vmem S4352x512 .fp8e4m3) (harg2 : arg2.IsWhole)
    (arg3 : Memref sig .tc .smem S40x34 .f32) (harg3 : arg3.IsWhole) (x0 : Vec F S4352x512 .fp8e4m3) (x1 : Vec F S40x34 .f32)
    (k n : ℕ) (hn : n < 4) (off soff : Fin 2 → ℕ) (ho0 : off 0 = 128 * k) (ho1 : off 1 = 128 * n)
    (hs0 : soff 0 = 4 * min (i 0).val 9 + n) (hs1 : soff 1 = k)
    (inb : ∀ a, off a + S128x128.size a ≤ S4352x512.size a) (inb' : ∀ a, soff a + S1x1.size a ≤ S40x34.size a)
    (hf : 0 < (Rect.unit (s := S40x34) soff S1x1.size inb').shape.numel)
    (hc : S128x128.ShapeCasts S128x128) (x : S128x128.Idx) :
    shapeCast S128x128 (mulf (F := F) (φ := .bf16) (extf .bf16 (View.readAt (Elt F) arg2.view (Rect.unit (s := S4352x512) off S128x128.size inb).toLoadRect
        (harg2.unread x0)) bitsLt_fp8e4m3_bf16)
      (truncf .bf16 (broadcast S128x128 (View.readAt (Elt F) arg3.view (Rect.unit (s := S40x34) soff S1x1.size inb').toLoadRect
        (harg3.unread x1) (Shape.Idx.first hf))) bitsLt_bf16_f32)) hc x
      = deq i x0 x1 ((Rect.unit (s := S4352x512) off S128x128.size inb).emb x) := by
  refine (congrFun (shapeCast_self (s := S128x128) _ hc) x).trans ?_
  simp only [View.readAt_eq_ld, harg2.read_unread, harg3.read_unread]
  show FloatOps.mulf (φ := .bf16) (FloatOps.extf .bf16 _ (x0 ((Rect.unit (s := S4352x512) off S128x128.size inb).emb x)))
      (FloatOps.truncf .bf16 _ (x1 ((Rect.unit (s := S40x34) soff S1x1.size inb').emb (Shape.Idx.first hf)))) = _
  unfold deq
  congr 3
  have hx0 : (x 0).val < 128 := (x 0).isLt
  have hx1 : (x 1).val < 128 := (x 1).isLt
  have e0 : ((Rect.unit (s := S4352x512) off S128x128.size inb).emb x 0 : ℕ) = off 0 + 1 * (x 0).val := rfl
  have e1 : ((Rect.unit (s := S4352x512) off S128x128.size inb).emb x 1 : ℕ) = off 1 + 1 * (x 1).val := rfl
  funext a
  refine Fin.ext ?_
  refine Fin.cases ?_ (fun a => Fin.cases ?_ (fun a => a.elim0) a) a
  · show soff 0 + 1 * 0 = 4 * min (i 0).val 9 + ((Rect.unit (s := S4352x512) off S128x128.size inb).emb x 1 : ℕ) / 128
    rw [e1, hs0, ho1]; omega
  · show soff 1 + 1 * 0 = ((Rect.unit (s := S4352x512) off S128x128.size inb).emb x 0 : ℕ) / 128
    rw [e0, hs1, ho0]; omega

/-- Rows `256 c` to `256 c + 255` of a residual block. -/
def rows4 (x2 : Vec F S2048x512 .f32) (c : ℕ) : Vec F S256x512 .f32 :=
  fun j => x2 (Fin.cons ⟨(256 * c + (j 0).val) % 2048, Nat.mod_lt _ (by decide)⟩ (Fin.cons (j 1) finZeroElim))

/-- Word rows `128 c` to `128 c + 127` of the activations. -/
def rows6 (x6 : Vec F S1024x4352 .i32) (c : ℕ) : Vec F S128x4352 .i32 :=
  fun j => x6 (Fin.cons ⟨(128 * c + (j 0).val) % 1024, Nat.mod_lt _ (by decide)⟩ (Fin.cons (j 1) finZeroElim))

/-- The output block: a residual block plus the product of the activations by a weight block, 256 rows at a time. -/
def out (x2 : Vec F S2048x512 .f32) (x6 : Vec F S1024x4352 .i32) (w : Vec F S4352x512 .bf16) : Vec F S2048x512 .bf16 :=
  fun y => k0_pay4 (rows4 x2 ((y 0).val / 256)) (rows6 x6 ((y 0).val / 256)) w
    (Fin.cons ⟨(y 0).val % 256, Nat.mod_lt _ (by decide)⟩ (Fin.cons (y 1) finZeroElim))

/-- One store of the product stores a piece of `out`. -/
theorem out_piece (arg4 : Memref sig .tc .vmem S2048x512 .f32) (harg4 : arg4.IsWhole)
    (arg6 : Memref sig .tc .vmem S1024x4352 .i32) (harg6 : arg6.IsWhole) (arg7 : Memref sig .tc .vmem S4352x512 .bf16) (harg7 : arg7.IsWhole)
    (x2 : Vec F S2048x512 .f32) (x6 : Vec F S1024x4352 .i32) (w : Vec F S4352x512 .bf16)
    (c : ℕ) (hc : c < 8) (off off' off'' : Fin 2 → ℕ) (h0 : off 0 = 256 * c) (h1 : off 1 = 0) (h0' : off' 0 = 128 * c) (h1' : off' 1 = 0)
    (h'' : off'' = fun _ => 0)
    (inb : ∀ a, off a + S256x512.size a ≤ S2048x512.size a) (inb' : ∀ a, off' a + S128x4352.size a ≤ S1024x4352.size a)
    (inb'' : ∀ a, off'' a + S4352x512.size a ≤ S4352x512.size a) (x : S256x512.Idx) :
    k0_pay4 (View.readAt (Elt F) arg4.view (Rect.unit (s := S2048x512) off S256x512.size inb).toLoadRect (harg4.unread x2))
      (View.readAt (Elt F) arg6.view (Rect.unit (s := S1024x4352) off' S128x4352.size inb').toLoadRect (harg6.unread x6))
      (View.readAt (Elt F) arg7.view (Rect.unit (s := S4352x512) off'' S4352x512.size inb'').toLoadRect (harg7.unread w)) x
      = out x2 x6 w ((Rect.unit (s := S2048x512) off S256x512.size inb).emb x) := by
  have hx0 : (x 0).val < 256 := (x 0).isLt
  have e0 : ((Rect.unit (s := S2048x512) off S256x512.size inb).emb x 0 : ℕ) = off 0 + 1 * (x 0).val := rfl
  have e1 : ((Rect.unit (s := S2048x512) off S256x512.size inb).emb x 1 : ℕ) = off 1 + 1 * (x 1).val := rfl
  have hq : ((Rect.unit (s := S2048x512) off S256x512.size inb).emb x 0 : ℕ) / 256 = c := by rw [e0, h0]; omega
  have hr : ((Rect.unit (s := S2048x512) off S256x512.size inb).emb x 0 : ℕ) % 256 = (x 0).val := by rw [e0, h0]; omega
  simp only [View.readAt_eq_ld, harg4.read_unread, harg6.read_unread, harg7.read_unread]
  rw [View.ld_unit_zero h'' inb'' w]
  have a4 : View.ld x2 (Rect.unit (s := S2048x512) off S256x512.size inb) = rows4 x2 c := by
    funext j
    refine congrArg x2 (funext fun a => Fin.ext ?_)
    have hj : (j 0).val < 256 := (j 0).isLt
    refine Fin.cases ?_ (fun a => Fin.cases ?_ (fun a => a.elim0) a) a
    · show off 0 + 1 * (j 0).val = (256 * c + (j 0).val) % 2048
      rw [h0]; omega
    · show off 1 + 1 * (j 1).val = (j 1).val
      rw [h1]; omega
  have a6 : View.ld x6 (Rect.unit (s := S1024x4352) off' S128x4352.size inb') = rows6 x6 c := by
    funext j
    refine congrArg x6 (funext fun a => Fin.ext ?_)
    have hj : (j 0).val < 128 := (j 0).isLt
    refine Fin.cases ?_ (fun a => Fin.cases ?_ (fun a => a.elim0) a) a
    · show off' 0 + 1 * (j 0).val = (128 * c + (j 0).val) % 1024
      rw [h0']; omega
    · show off' 1 + 1 * (j 1).val = (j 1).val
      rw [h1']; omega
  rw [a4, a6]
  unfold out
  rw [hq]
  refine congrArg (k0_pay4 (rows4 x2 c) (rows6 x6 c) w) (funext fun a => Fin.ext ?_)
  refine Fin.cases ?_ (fun a => Fin.cases ?_ (fun a => a.elim0) a) a
  · exact hr.symm
  · show (x 1).val = off 1 + 1 * (x 1).val
    rw [h1]; omega

end Cert.KernelIdeal.Down

end
-- ==== Proof.Down.RunA.lean ====
/- The body at grid point 0: the activations arrive in their scratch, and the first weight block, dequantised, in the
   first weight scratch. -/
module

public import proofs.«01_k».proof.Proof.Down.Math

@[expose] public section

set_option maxRecDepth 16384

noncomputable section

namespace Cert.KernelIdeal.Down

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4400000 in
/-- The body at grid point 0. -/
theorem runA (c : Dev nD) (i : grid0.Coords) (arg2 : Memref sig .tc .vmem S4352x512 .fp8e4m3) (harg2 : arg2.IsWhole) (arg3 : Memref sig .tc .smem S40x34 .f32) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S1024x4352 .i32) (harg6 : arg6.IsWhole) (arg7 : Memref sig .tc .vmem S4352x512 .bf16) (harg7 : arg7.IsWhole) (arg8 : Memref sig .tc .vmem S4352x512 .bf16) (harg8 : arg8.IsWhole) (hc0 : cond0_0 i) (hc1 : ¬cond0_1 i) (hc2 : ¬cond0_2 i)
    (x0 : Vec F S4352x512 .fp8e4m3) (x1 : Vec F S40x34 .f32) (x2 : Vec F S2048x512 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare fh0 ∗ owns (c : Thread nD τ) arg7 fullShare (deq i x0 x1) ∗ (∃ d, owns (c : Thread nD τ) arg8 fullShare d) ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_down i (Memref.whole main_arg0) (Memref.isWhole_whole _) arg2 harg2 arg3 harg3 arg4 harg4 arg5 harg5 arg6 harg6 arg7 harg7 arg8 harg8 cc0_scratch3) K := by
    intro W K
    simp only [cc0_down_eq_skeleton]; unfold cc0_down_skel
    rw [k0_part41_eq_skeleton]; unfold k0_part41_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hq0, Hh0, HW, Hk⟩
    obtain rfl := harg2.eq_unread hf0; obtain rfl := harg3.eq_unread hf1; obtain rfl := harg4.eq_unread hf2
    sl_exec! (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _; isplitr; swap; · iexact HS0
      ipureintro; funext y
      refine View.read_writes_apply_of_pieces _ _ (fun y => fh0 y) _ ?_ y ?hcov
      case hcov => exact View.cover_of_tiled (s := S1024x4352) _ S1024x4352.size (by rfl) y
      refine List.forall_mem_cons.2 ⟨fun x => ?_, List.forall_mem_nil _⟩
      show runA.sl.dma0 c fh0 x = fh0 ((Rect.whole S1024x4352).emb x)
      rw [Rect.emb_whole_apply]; rfl
    isplitl [HS1]
    · iexists _; isplitr; swap; · iexact HS1
      ipureintro; funext y
      refine View.read_writes_apply_of_pieces _ _ (deq i x0 x1) _ ?_ y ?hcov
      case hcov => exact View.cover_of_tiled (s := S4352x512) _ S128x128.size (by rfl) y
      refine List.forall_mem_cons.2 ⟨fun x => deq_piece i arg2 harg2 arg3 harg3 x0 x1 33 3 (by decide) ![4224, 384] (k0_off34 i 3#32) rfl rfl (sword (i 0) 3) rfl _ _ _ _ x, ?_⟩
      refine List.forall_mem_cons.2 ⟨fun x => deq_piece i arg2 harg2 arg3 harg3 x0 x1 33 2 (by decide) ![4224, 256] (k0_off34 i 2#32) rfl rfl (sword (i 0) 2) rfl _ _ _ _ x, ?_⟩
      refine List.forall_mem_cons.2 ⟨fun x => deq_piece i arg2 harg2 arg3 harg3 x0 x1 33 1 (by decide) ![4224, 128] (k0_off34 i 1#32) rfl rfl (sword (i 0) 1) rfl _ _ _ _ x, ?_⟩
      refine List.forall_mem_cons.2 ⟨fun x => deq_piece i arg2 harg2 arg3 harg3 x0 x1 33 0 (by decide) ![4224, 0] (k0_off34 i 0#32) rfl rfl (sword (i 0) 0) rfl _ _ _ _ x, ?_⟩
      refine List.forall_mem_cons.2 ⟨fun x => deq_piece i arg2 harg2 arg3 harg3 x0 x1 32 3 (by decide) ![4096, 384] (k0_off33 i 3#32) rfl rfl (sword (i 0) 3) rfl _ _ _ _ x, ?_⟩
      refine List.forall_mem_cons.2 ⟨fun x => deq_piece i arg2 harg2 arg3 harg3 x0 x1 32 2 (by decide) ![4096, 256] (k0_off33 i 2#32) rfl rfl (sword (i 0) 2) rfl _ _ _ _ x, ?_⟩
      refine List.forall_mem_cons.2 ⟨fun x => deq_piece i arg2 harg2 arg3 harg3 x0 x1 32 1 (by decide) ![4096, 128] (k0_off33 i 1#32) rfl rfl (sword (i 0) 1) rfl _ _ _ _ x, ?_⟩
      refine List.forall_mem_cons.2 ⟨fun x => deq_piece i arg2 harg2 arg3 harg3 x0 x1 32 0 (by decide) ![4096, 0] (k0_off33 i 0#32) rfl rfl (sword (i 0) 0) rfl _ _ _ _ x, ?_⟩
      refine List.forall_mem_cons.2 ⟨fun x => deq_piece i arg2 harg2 arg3 harg3 x0 x1 31 3 (by decide) ![3968, 384] (k0_off32 i 3#32) rfl rfl (sword (i 0) 3) rfl _ _ _ _ x, ?_⟩
      refine List.forall_mem_cons.2 ⟨fun x => deq_piece i arg2 harg2 arg3 harg3 x0 x1 31 2 (by decide) ![3968, 256] (k0_off32 i 2#32) rfl rfl (sword (i 0) 2) rfl _ _ _ _ x, ?_⟩
      refine List.forall_mem_cons.2 ⟨fun x => deq_piece i arg2 harg2 arg3 harg3 x0 x1 31 1 (by decide) ![3968, 128] (k0_off32 i 1#32) rfl rfl (sword (i 0) 1) rfl _ _ _ _ x, ?_⟩
      refine List.forall_mem_cons.2 ⟨fun x => deq_piece i arg2 harg2 arg3 harg3 x0 x1 31 0 (by decide) ![3968, 0] (k0_off32 i 0#32) rfl rfl (sword (i 0) 0) rfl _ _ _ _ x, ?_⟩
      refine List.forall_mem_cons.2 ⟨fun x => deq_piece i arg2 harg2 arg3 harg3 x0 x1 30 3 (by decide) ![3840, 384] (k0_off31 i 3#32) rfl rfl (sword (i 0) 3) rfl _ _ _ _ x, ?_⟩
      refine List.forall_mem_cons.2 ⟨fun x => deq_piece i arg2 harg2 arg3 harg3 x0 x1 30 2 (by decide) ![3840, 256] (k0_off31 i 2#32) rfl rfl (sword (i 0) 2) rfl _ _ _ _ x, ?_⟩
      refine List.forall_mem_cons.2 ⟨fun x => deq_piece i arg2 harg2 arg3 harg3 x0 x1 30 1 (by decide) ![3840, 128] (k0_off31 i 1#32) rfl rfl (sword (i 0) 1) rfl _ _ _ _ x, ?_⟩
      refine List.forall_mem_cons.2 ⟨fun x => deq_piece i arg2 harg2 arg3 harg3 x0 x1 30 0 (by decide) ![3840, 0] (k0_off31 i 0#32) rfl rfl (sword (i 0) 0) rfl _ _ _ _ x, ?_⟩
      refine List.forall_mem_cons.2 ⟨fun x => deq_piece i arg2 harg2 arg3 harg3 x0 x1 29 3 (by decide) ![3712, 384] (k0_off30 i 3#32) rfl rfl (sword (i 0) 3) rfl _ _ _ _ x, ?_⟩
      refine List.forall_mem_cons.2 ⟨fun x => deq_piece i arg2 harg2 arg3 harg3 x0 x1 29 2 (by decide) ![3712, 256] (k0_off30 i 2#32) rfl rfl (sword (i 0) 2) rfl _ _ _ _ x, ?_⟩
      refine List.forall_mem_cons.2 ⟨fun x => deq_piece i arg2 harg2 arg3 harg3 x0 x1 29 1 (by decide) ![3712, 128] (k0_off30 i 1#32) rfl rfl (sword (i 0) 1) rfl _ _ _ _ x, ?_⟩
      refine List.forall_mem_cons.2 ⟨fun x => deq_piece i arg2 harg2 arg3 harg3 x0 x1 29 0 (by decide) ![3712, 0] (k0_off30 i 0#32) rfl rfl (sword (i 0) 0) rfl _ _ _ _ x, ?_⟩
      refine List.forall_mem_cons.2 ⟨fun x => deq_piece i arg2 harg2 arg3 harg3 x0 x1 28 3 (by decide) ![3584, 384] (k0_off29 i 3#32) rfl rfl (sword (i 0) 3) rfl _ _ _ _ x, ?_⟩
      refine List.forall_mem_cons.2 ⟨fun x => deq_piece i arg2 harg2 arg3 harg3 x0 x1 28 2 (by decide) ![3584, 256] (k0_off29 i 2#32) rfl rfl (sword (i 0) 2) rfl _ _ _ _ x, ?_⟩
      refine List.forall_mem_cons.2 ⟨fun x => deq_piece i arg2 harg2 arg3 harg3 x0 x1 28 1 (by decide) ![3584, 128] (k0_off29 i 1#32) rfl rfl (sword (i 0) 1) rfl _ _ _ _ x, ?_⟩
      refine List.forall_mem_cons.2 ⟨fun x => deq_piece i arg2 harg2 arg3 harg3 x0 x1 28 0 (by decide) ![3584, 0] (k0_off29 i 0#32) rfl rfl (sword (i 0) 0) rfl _ _ _ _ x, ?_⟩
      refine List.forall_mem_cons.2 ⟨fun x => deq_piece i arg2 harg2 arg3 harg3 x0 x1 27 3 (by decide) ![3456, 384] (k0_off28 i 3#32) rfl rfl (sword (i 0) 3) rfl _ _ _ _ x, ?_⟩
      refine List.forall_mem_cons.2 ⟨fun x => deq_piece i arg2 harg2 arg3 harg3 x0 x1 27 2 (by decide) ![3456, 256] (k0_off28 i 2#32) rfl rfl (sword (i 0) 2) rfl _ _ _ _ x, ?_⟩
      refine List.forall_mem_cons.2 ⟨fun x => deq_piece i arg2 harg2 arg3 harg3 x0 x1 27 1 (by decide) ![3456, 128] (k0_off28 i 1#32) rfl rfl (sword (i 0) 1) rfl _ _ _ _ x, ?_⟩
      refine List.forall_mem_cons.2 ⟨fun x => deq_piece i arg2 harg2 arg3 harg3 x0 x1 27 0 (by decide) ![3456, 0] (k0_off28 i 0#32) rfl rfl (sword (i 0) 0) rfl _ _ _ _ x, ?_⟩
      refine List.forall_mem_cons.2 ⟨fun x => deq_piece i arg2 harg2 arg3 harg3 x0 x1 26 3 (by decide) ![3328, 384] (k0_off27 i 3#32) rfl rfl (sword (i 0) 3) rfl _ _ _ _ x, ?_⟩
      refine List.forall_mem_cons.2 ⟨fun x => deq_piece i arg2 harg2 arg3 harg3 x0 x1 26 2 (by decide) ![3328, 256] (k0_off27 i 2#32) rfl rfl (sword (i 0) 2) rfl _ _ _ _ x, ?_⟩
      refine List.forall_mem_cons.2 ⟨fun x => deq_piece i arg2 harg2 arg3 harg3 x0 x1 26 1 (by decide) ![3328, 128] (k0_off27 i 1#32) rfl rfl (sword (i 0) 1) rfl _ _ _ _ x, ?_⟩
      refine List.forall_mem_cons.2 ⟨fun x => deq_piece i arg2 harg2 arg3 harg3 x0 x1 26 0 (by decide) ![3328, 0] (k0_off27 i 0#32) rfl rfl (sword (i 0) 0) rfl _ _ _ _ x, ?_⟩
      refine List.forall_mem_cons.2 ⟨fun x => deq_piece i arg2 harg2 arg3 harg3 x0 x1 25 3 (by decide) ![3200, 384] (k0_off26 i 3#32) rfl rfl (sword (i 0) 3) rfl _ _ _ _ x, ?_⟩
      refine List.forall_mem_cons.2 ⟨fun x => deq_piece i arg2 harg2 arg3 harg3 x0 x1 25 2 (by decide) ![3200, 256] (k0_off26 i 2#32) rfl rfl (sword (i 0) 2) rfl _ _ _ _ x, ?_⟩
      refine List.forall_mem_cons.2 ⟨fun x => deq_piece i arg2 harg2 arg3 harg3 x0 x1 25 1 (by decide) ![3200, 128] (k0_off26 i 1#32) rfl rfl (sword (i 0) 1) rfl _ _ _ _ x, ?_⟩
      refine List.forall_mem_cons.2 ⟨fun x => deq_piece i arg2 harg2 arg3 harg3 x0 x1 25 0 (by decide) ![3200, 0] (k0_off26 i 0#32) rfl rfl (sword (i 0) 0) rfl _ _ _ _ x, ?_⟩
      refine List.forall_mem_cons.2 ⟨fun x => deq_piece i arg2 harg2 arg3 harg3 x0 x1 24 3 (by decide) ![3072, 384] (k0_off25 i 3#32) rfl rfl (sword (i 0) 3) rfl _ _ _ _ x, ?_⟩
      refine List.forall_mem_cons.2 ⟨fun x => deq_piece i arg2 harg2 arg3 harg3 x0 x1 24 2 (by decide) ![3072, 256] (k0_off25 i 2#32) rfl rfl (sword (i 0) 2) rfl _ _ _ _ x, ?_⟩
      refine List.forall_mem_cons.2 ⟨fun x => deq_piece i arg2 harg2 arg3 harg3 x0 x1 24 1 (by decide) ![3072, 128] (k0_off25 i 1#32) rfl rfl (sword (i 0) 1) rfl _ _ _ _ x, ?_⟩
      refine List.forall_mem_cons.2 ⟨fun x => deq_piece i arg2 harg2 arg3 harg3 x0 x1 24 0 (by decide) ![3072, 0] (k0_off25 i 0#32) rfl rfl (sword (i 0) 0) rfl _ _ _ _ x, ?_⟩
      refine List.forall_mem_cons.2 ⟨fun x => deq_piece i arg2 harg2 arg3 harg3 x0 x1 23 3 (by decide) ![2944, 384] (k0_off24 i 3#32) rfl rfl (sword (i 0) 3) rfl _ _ _ _ x, ?_⟩
      refine List.forall_mem_cons.2 ⟨fun x => deq_piece i arg2 harg2 arg3 harg3 x0 x1 23 2 (by decide) ![2944, 256] (k0_off24 i 2#32) rfl rfl (sword (i 0) 2) rfl _ _ _ _ x, ?_⟩
      refine List.forall_mem_cons.2 ⟨fun x => deq_piece i arg2 harg2 arg3 harg3 x0 x1 23 1 (by decide) ![2944, 128] (k0_off24 i 1#32) rfl rfl (sword (i 0) 1) rfl _ _ _ _ x, ?_⟩
      refine List.forall_mem_cons.2 ⟨fun x => deq_piece i arg2 harg2 arg3 harg3 x0 x1 23 0 (by decide) ![2944, 0] (k0_off24 i 0#32) rfl rfl (sword (i 0) 0) rfl _ _ _ _ x, ?_⟩
      refine List.forall_mem_cons.2 ⟨fun x => deq_piece i arg2 harg2 arg3 harg3 x0 x1 22 3 (by decide) ![2816, 384] (k0_off23 i 3#32) rfl rfl (sword (i 0) 3) rfl _ _ _ _ x, ?_⟩
      refine List.forall_mem_cons.2 ⟨fun x => deq_piece i arg2 harg2 arg3 harg3 x0 x1 22 2 (by decide) ![2816, 256] (k0_off23 i 2#32) rfl rfl (sword (i 0) 2) rfl _ _ _ _ x, ?_⟩
      refine List.forall_mem_cons.2 ⟨fun x => deq_piece i arg2 harg2 arg3 harg3 x0 x1 22 1 (by decide) ![2816, 128] (k0_off23 i 1#32) rfl rfl (sword (i 0) 1) rfl _ _ _ _ x, ?_⟩
      refine List.forall_mem_cons.2 ⟨fun x => deq_piece i arg2 harg2 arg3 harg3 x0 x1 22 0 (by decide) ![2816, 0] (k0_off23 i 0#32) rfl rfl (sword (i 0) 0) rfl _ _ _ _ x, ?_⟩
      refine List.forall_mem_cons.2 ⟨fun x => deq_piece i arg2 harg2 arg3 harg3 x0 x1 21 3 (by decide) ![2688, 384] (k0_off22 i 3#32) rfl rfl (sword (i 0) 3) rfl _ _ _ _ x, ?_⟩
      refine List.forall_mem_cons.2 ⟨fun x => deq_piece i arg2 harg2 arg3 harg3 x0 x1 21 2 (by decide) ![2688, 256] (k0_off22 i 2#32) rfl rfl (sword (i 0) 2) rfl _ _ _ _ x, ?_⟩
      refine List.forall_mem_cons.2 ⟨fun x => deq_piece i arg2 harg2 arg3 harg3 x0 x1 21 1 (by decide) ![2688, 128] (k0_off22 i 1#32) rfl rfl (sword (i 0) 1) rfl _ _ _ _ x, ?_⟩
      refine List.forall_mem_cons.2 ⟨fun x => deq_piece i arg2 harg2 arg3 harg3 x0 x1 21 0 (by decide) ![2688, 0] (k0_off22 i 0#32) rfl rfl (sword (i 0) 0) rfl _ _ _ _ x, ?_⟩
      refine List.forall_mem_cons.2 ⟨fun x => deq_piece i arg2 harg2 arg3 harg3 x0 x1 20 3 (by decide) ![2560, 384] (k0_off21 i 3#32) rfl rfl (sword (i 0) 3) rfl _ _ _ _ x, ?_⟩
      refine List.forall_mem_cons.2 ⟨fun x => deq_piece i arg2 harg2 arg3 harg3 x0 x1 20 2 (by decide) ![2560, 256] (k0_off21 i 2#32) rfl rfl (sword (i 0) 2) rfl _ _ _ _ x, ?_⟩
      refine List.forall_mem_cons.2 ⟨fun x => deq_piece i arg2 harg2 arg3 harg3 x0 x1 20 1 (by decide) ![2560, 128] (k0_off21 i 1#32) rfl rfl (sword (i 0) 1) rfl _ _ _ _ x, ?_⟩
      refine List.forall_mem_cons.2 ⟨fun x => deq_piece i arg2 harg2 arg3 harg3 x0 x1 20 0 (by decide) ![2560, 0] (k0_off21 i 0#32) rfl rfl (sword (i 0) 0) rfl _ _ _ _ x, ?_⟩
      refine List.forall_mem_cons.2 ⟨fun x => deq_piece i arg2 harg2 arg3 harg3 x0 x1 19 3 (by decide) ![2432, 384] (k0_off20 i 3#32) rfl rfl (sword (i 0) 3) rfl _ _ _ _ x, ?_⟩
      refine List.forall_mem_cons.2 ⟨fun x => deq_piece i arg2 harg2 arg3 harg3 x0 x1 19 2 (by decide) ![2432, 256] (k0_off20 i 2#32) rfl rfl (sword (i 0) 2) rfl _ _ _ _ x, ?_⟩
      refine List.forall_mem_cons.2 ⟨fun x => deq_piece i arg2 harg2 arg3 harg3 x0 x1 19 1 (by decide) ![2432, 128] (k0_off20 i 1#32) rfl rfl (sword (i 0) 1) rfl _ _ _ _ x, ?_⟩
      refine List.forall_mem_cons.2 ⟨fun x => deq_piece i arg2 harg2 arg3 harg3 x0 x1 19 0 (by decide) ![2432, 0] (k0_off20 i 0#32) rfl rfl (sword (i 0) 0) rfl _ _ _ _ x, ?_⟩
      refine List.forall_mem_cons.2 ⟨fun x => deq_piece i arg2 harg2 arg3 harg3 x0 x1 18 3 (by decide) ![2304, 384] (k0_off19 i 3#32) rfl rfl (sword (i 0) 3) rfl _ _ _ _ x, ?_⟩
      refine List.forall_mem_cons.2 ⟨fun x => deq_piece i arg2 harg2 arg3 harg3 x0 x1 18 2 (by decide) ![2304, 256] (k0_off19 i 2#32) rfl rfl (sword (i 0) 2) rfl _ _ _ _ x, ?_⟩
      refine List.forall_mem_cons.2 ⟨fun x => deq_piece i arg2 harg2 arg3 harg3 x0 x1 18 1 (by decide) ![2304, 128] (k0_off19 i 1#32) rfl rfl (sword (i 0) 1) rfl _ _ _ _ x, ?_⟩
      refine List.forall_mem_cons.2 ⟨fun x => deq_piece i arg2 harg2 arg3 harg3 x0 x1 18 0 (by decide) ![2304, 0] (k0_off19 i 0#32) rfl rfl (sword (i 0) 0) rfl _ _ _ _ x, ?_⟩
      refine List.forall_mem_cons.2 ⟨fun x => deq_piece i arg2 harg2 arg3 harg3 x0 x1 17 3 (by decide) ![2176, 384] (k0_off18 i 3#32) rfl rfl (sword (i 0) 3) rfl _ _ _ _ x, ?_⟩
      refine List.forall_mem_cons.2 ⟨fun x => deq_piece i arg2 harg2 arg3 harg3 x0 x1 17 2 (by decide) ![2176, 256] (k0_off18 i 2#32) rfl rfl (sword (i 0) 2) rfl _ _ _ _ x, ?_⟩
      refine List.forall_mem_cons.2 ⟨fun x => deq_piece i arg2 harg2 arg3 harg3 x0 x1 17 1 (by decide) ![2176, 128] (k0_off18 i 1#32) rfl rfl (sword (i 0) 1) rfl _ _ _ _ x, ?_⟩
      refine List.forall_mem_cons.2 ⟨fun x => deq_piece i arg2 harg2 arg3 harg3 x0 x1 17 0 (by decide) ![2176, 0] (k0_off18 i 0#32) rfl rfl (sword (i 0) 0) rfl _ _ _ _ x, ?_⟩
      refine List.forall_mem_cons.2 ⟨fun x => deq_piece i arg2 harg2 arg3 harg3 x0 x1 16 3 (by decide) ![2048, 384] (k0_off17 i 3#32) rfl rfl (sword (i 0) 3) rfl _ _ _ _ x, ?_⟩
      refine List.forall_mem_cons.2 ⟨fun x => deq_piece i arg2 harg2 arg3 harg3 x0 x1 16 2 (by decide) ![2048, 256] (k0_off17 i 2#32) rfl rfl (sword (i 0) 2) rfl _ _ _ _ x, ?_⟩
      refine List.forall_mem_cons.2 ⟨fun x => deq_piece i arg2 harg2 arg3 harg3 x0 x1 16 1 (by decide) ![2048, 128] (k0_off17 i 1#32) rfl rfl (sword (i 0) 1) rfl _ _ _ _ x, ?_⟩
      refine List.forall_mem_cons.2 ⟨fun x => deq_piece i arg2 harg2 arg3 harg3 x0 x1 16 0 (by decide) ![2048, 0] (k0_off17 i 0#32) rfl rfl (sword (i 0) 0) rfl _ _ _ _ x, ?_⟩
      refine List.forall_mem_cons.2 ⟨fun x => deq_piece i arg2 harg2 arg3 harg3 x0 x1 15 3 (by decide) ![1920, 384] (k0_off16 i 3#32) rfl rfl (sword (i 0) 3) rfl _ _ _ _ x, ?_⟩
      refine List.forall_mem_cons.2 ⟨fun x => deq_piece i arg2 harg2 arg3 harg3 x0 x1 15 2 (by decide) ![1920, 256] (k0_off16 i 2#32) rfl rfl (sword (i 0) 2) rfl _ _ _ _ x, ?_⟩
      refine List.forall_mem_cons.2 ⟨fun x => deq_piece i arg2 harg2 arg3 harg3 x0 x1 15 1 (by decide) ![1920, 128] (k0_off16 i 1#32) rfl rfl (sword (i 0) 1) rfl _ _ _ _ x, ?_⟩
      refine List.forall_mem_cons.2 ⟨fun x => deq_piece i arg2 harg2 arg3 harg3 x0 x1 15 0 (by decide) ![1920, 0] (k0_off16 i 0#32) rfl rfl (sword (i 0) 0) rfl _ _ _ _ x, ?_⟩
      refine List.forall_mem_cons.2 ⟨fun x => deq_piece i arg2 harg2 arg3 harg3 x0 x1 14 3 (by decide) ![1792, 384] (k0_off15 i 3#32) rfl rfl (sword (i 0) 3) rfl _ _ _ _ x, ?_⟩
      refine List.forall_mem_cons.2 ⟨fun x => deq_piece i arg2 harg2 arg3 harg3 x0 x1 14 2 (by decide) ![1792, 256] (k0_off15 i 2#32) rfl rfl (sword (i 0) 2) rfl _ _ _ _ x, ?_⟩
      refine List.forall_mem_cons.2 ⟨fun x => deq_piece i arg2 harg2 arg3 harg3 x0 x1 14 1 (by decide) ![1792, 128] (k0_off15 i 1#32) rfl rfl (sword (i 0) 1) rfl _ _ _ _ x, ?_⟩
      refine List.forall_mem_cons.2 ⟨fun x => deq_piece i arg2 harg2 arg3 harg3 x0 x1 14 0 (by decide) ![1792, 0] (k0_off15 i 0#32) rfl rfl (sword (i 0) 0) rfl _ _ _ _ x, ?_⟩
      refine List.forall_mem_cons.2 ⟨fun x => deq_piece i arg2 harg2 arg3 harg3 x0 x1 13 3 (by decide) ![1664, 384] (k0_off14 i 3#32) rfl rfl (sword (i 0) 3) rfl _ _ _ _ x, ?_⟩
      refine List.forall_mem_cons.2 ⟨fun x => deq_piece i arg2 harg2 arg3 harg3 x0 x1 13 2 (by decide) ![1664, 256] (k0_off14 i 2#32) rfl rfl (sword (i 0) 2) rfl _ _ _ _ x, ?_⟩
      refine List.forall_mem_cons.2 ⟨fun x => deq_piece i arg2 harg2 arg3 harg3 x0 x1 13 1 (by decide) ![1664, 128] (k0_off14 i 1#32) rfl rfl (sword (i 0) 1) rfl _ _ _ _ x, ?_⟩
      refine List.forall_mem_cons.2 ⟨fun x => deq_piece i arg2 harg2 arg3 harg3 x0 x1 13 0 (by decide) ![1664, 0] (k0_off14 i 0#32) rfl rfl (sword (i 0) 0) rfl _ _ _ _ x, ?_⟩
      refine List.forall_mem_cons.2 ⟨fun x => deq_piece i arg2 harg2 arg3 harg3 x0 x1 12 3 (by decide) ![1536, 384] (k0_off13 i 3#32) rfl rfl (sword (i 0) 3) rfl _ _ _ _ x, ?_⟩
      refine List.forall_mem_cons.2 ⟨fun x => deq_piece i arg2 harg2 arg3 harg3 x0 x1 12 2 (by decide) ![1536, 256] (k0_off13 i 2#32) rfl rfl (sword (i 0) 2) rfl _ _ _ _ x, ?_⟩
      refine List.forall_mem_cons.2 ⟨fun x => deq_piece i arg2 harg2 arg3 harg3 x0 x1 12 1 (by decide) ![1536, 128] (k0_off13 i 1#32) rfl rfl (sword (i 0) 1) rfl _ _ _ _ x, ?_⟩
      refine List.forall_mem_cons.2 ⟨fun x => deq_piece i arg2 harg2 arg3 harg3 x0 x1 12 0 (by decide) ![1536, 0] (k0_off13 i 0#32) rfl rfl (sword (i 0) 0) rfl _ _ _ _ x, ?_⟩
      refine List.forall_mem_cons.2 ⟨fun x => deq_piece i arg2 harg2 arg3 harg3 x0 x1 11 3 (by decide) ![1408, 384] (k0_off12 i 3#32) rfl rfl (sword (i 0) 3) rfl _ _ _ _ x, ?_⟩
      refine List.forall_mem_cons.2 ⟨fun x => deq_piece i arg2 harg2 arg3 harg3 x0 x1 11 2 (by decide) ![1408, 256] (k0_off12 i 2#32) rfl rfl (sword (i 0) 2) rfl _ _ _ _ x, ?_⟩
      refine List.forall_mem_cons.2 ⟨fun x => deq_piece i arg2 harg2 arg3 harg3 x0 x1 11 1 (by decide) ![1408, 128] (k0_off12 i 1#32) rfl rfl (sword (i 0) 1) rfl _ _ _ _ x, ?_⟩
      refine List.forall_mem_cons.2 ⟨fun x => deq_piece i arg2 harg2 arg3 harg3 x0 x1 11 0 (by decide) ![1408, 0] (k0_off12 i 0#32) rfl rfl (sword (i 0) 0) rfl _ _ _ _ x, ?_⟩
      refine List.forall_mem_cons.2 ⟨fun x => deq_piece i arg2 harg2 arg3 harg3 x0 x1 10 3 (by decide) ![1280, 384] (k0_off11 i 3#32) rfl rfl (sword (i 0) 3) rfl _ _ _ _ x, ?_⟩
      refine List.forall_mem_cons.2 ⟨fun x => deq_piece i arg2 harg2 arg3 harg3 x0 x1 10 2 (by decide) ![1280, 256] (k0_off11 i 2#32) rfl rfl (sword (i 0) 2) rfl _ _ _ _ x, ?_⟩
      refine List.forall_mem_cons.2 ⟨fun x => deq_piece i arg2 harg2 arg3 harg3 x0 x1 10 1 (by decide) ![1280, 128] (k0_off11 i 1#32) rfl rfl (sword (i 0) 1) rfl _ _ _ _ x, ?_⟩
      refine List.forall_mem_cons.2 ⟨fun x => deq_piece i arg2 harg2 arg3 harg3 x0 x1 10 0 (by decide) ![1280, 0] (k0_off11 i 0#32) rfl rfl (sword (i 0) 0) rfl _ _ _ _ x, ?_⟩
      refine List.forall_mem_cons.2 ⟨fun x => deq_piece i arg2 harg2 arg3 harg3 x0 x1 9 3 (by decide) ![1152, 384] (k0_off10 i 3#32) rfl rfl (sword (i 0) 3) rfl _ _ _ _ x, ?_⟩
      refine List.forall_mem_cons.2 ⟨fun x => deq_piece i arg2 harg2 arg3 harg3 x0 x1 9 2 (by decide) ![1152, 256] (k0_off10 i 2#32) rfl rfl (sword (i 0) 2) rfl _ _ _ _ x, ?_⟩
      refine List.forall_mem_cons.2 ⟨fun x => deq_piece i arg2 harg2 arg3 harg3 x0 x1 9 1 (by decide) ![1152, 128] (k0_off10 i 1#32) rfl rfl (sword (i 0) 1) rfl _ _ _ _ x, ?_⟩
      refine List.forall_mem_cons.2 ⟨fun x => deq_piece i arg2 harg2 arg3 harg3 x0 x1 9 0 (by decide) ![1152, 0] (k0_off10 i 0#32) rfl rfl (sword (i 0) 0) rfl _ _ _ _ x, ?_⟩
      refine List.forall_mem_cons.2 ⟨fun x => deq_piece i arg2 harg2 arg3 harg3 x0 x1 8 3 (by decide) ![1024, 384] (k0_off9 i 3#32) rfl rfl (sword (i 0) 3) rfl _ _ _ _ x, ?_⟩
      refine List.forall_mem_cons.2 ⟨fun x => deq_piece i arg2 harg2 arg3 harg3 x0 x1 8 2 (by decide) ![1024, 256] (k0_off9 i 2#32) rfl rfl (sword (i 0) 2) rfl _ _ _ _ x, ?_⟩
      refine List.forall_mem_cons.2 ⟨fun x => deq_piece i arg2 harg2 arg3 harg3 x0 x1 8 1 (by decide) ![1024, 128] (k0_off9 i 1#32) rfl rfl (sword (i 0) 1) rfl _ _ _ _ x, ?_⟩
      refine List.forall_mem_cons.2 ⟨fun x => deq_piece i arg2 harg2 arg3 harg3 x0 x1 8 0 (by decide) ![1024, 0] (k0_off9 i 0#32) rfl rfl (sword (i 0) 0) rfl _ _ _ _ x, ?_⟩
      refine List.forall_mem_cons.2 ⟨fun x => deq_piece i arg2 harg2 arg3 harg3 x0 x1 7 3 (by decide) ![896, 384] (k0_off8 i 3#32) rfl rfl (sword (i 0) 3) rfl _ _ _ _ x, ?_⟩
      refine List.forall_mem_cons.2 ⟨fun x => deq_piece i arg2 harg2 arg3 harg3 x0 x1 7 2 (by decide) ![896, 256] (k0_off8 i 2#32) rfl rfl (sword (i 0) 2) rfl _ _ _ _ x, ?_⟩
      refine List.forall_mem_cons.2 ⟨fun x => deq_piece i arg2 harg2 arg3 harg3 x0 x1 7 1 (by decide) ![896, 128] (k0_off8 i 1#32) rfl rfl (sword (i 0) 1) rfl _ _ _ _ x, ?_⟩
      refine List.forall_mem_cons.2 ⟨fun x => deq_piece i arg2 harg2 arg3 harg3 x0 x1 7 0 (by decide) ![896, 0] (k0_off8 i 0#32) rfl rfl (sword (i 0) 0) rfl _ _ _ _ x, ?_⟩
      refine List.forall_mem_cons.2 ⟨fun x => deq_piece i arg2 harg2 arg3 harg3 x0 x1 6 3 (by decide) ![768, 384] (k0_off7 i 3#32) rfl rfl (sword (i 0) 3) rfl _ _ _ _ x, ?_⟩
      refine List.forall_mem_cons.2 ⟨fun x => deq_piece i arg2 harg2 arg3 harg3 x0 x1 6 2 (by decide) ![768, 256] (k0_off7 i 2#32) rfl rfl (sword (i 0) 2) rfl _ _ _ _ x, ?_⟩
      refine List.forall_mem_cons.2 ⟨fun x => deq_piece i arg2 harg2 arg3 harg3 x0 x1 6 1 (by decide) ![768, 128] (k0_off7 i 1#32) rfl rfl (sword (i 0) 1) rfl _ _ _ _ x, ?_⟩
      refine List.forall_mem_cons.2 ⟨fun x => deq_piece i arg2 harg2 arg3 harg3 x0 x1 6 0 (by decide) ![768, 0] (k0_off7 i 0#32) rfl rfl (sword (i 0) 0) rfl _ _ _ _ x, ?_⟩
      refine List.forall_mem_cons.2 ⟨fun x => deq_piece i arg2 harg2 arg3 harg3 x0 x1 5 3 (by decide) ![640, 384] (k0_off6 i 3#32) rfl rfl (sword (i 0) 3) rfl _ _ _ _ x, ?_⟩
      refine List.forall_mem_cons.2 ⟨fun x => deq_piece i arg2 harg2 arg3 harg3 x0 x1 5 2 (by decide) ![640, 256] (k0_off6 i 2#32) rfl rfl (sword (i 0) 2) rfl _ _ _ _ x, ?_⟩
      refine List.forall_mem_cons.2 ⟨fun x => deq_piece i arg2 harg2 arg3 harg3 x0 x1 5 1 (by decide) ![640, 128] (k0_off6 i 1#32) rfl rfl (sword (i 0) 1) rfl _ _ _ _ x, ?_⟩
      refine List.forall_mem_cons.2 ⟨fun x => deq_piece i arg2 harg2 arg3 harg3 x0 x1 5 0 (by decide) ![640, 0] (k0_off6 i 0#32) rfl rfl (sword (i 0) 0) rfl _ _ _ _ x, ?_⟩
      refine List.forall_mem_cons.2 ⟨fun x => deq_piece i arg2 harg2 arg3 harg3 x0 x1 4 3 (by decide) ![512, 384] (k0_off5 i 3#32) rfl rfl (sword (i 0) 3) rfl _ _ _ _ x, ?_⟩
      refine List.forall_mem_cons.2 ⟨fun x => deq_piece i arg2 harg2 arg3 harg3 x0 x1 4 2 (by decide) ![512, 256] (k0_off5 i 2#32) rfl rfl (sword (i 0) 2) rfl _ _ _ _ x, ?_⟩
      refine List.forall_mem_cons.2 ⟨fun x => deq_piece i arg2 harg2 arg3 harg3 x0 x1 4 1 (by decide) ![512, 128] (k0_off5 i 1#32) rfl rfl (sword (i 0) 1) rfl _ _ _ _ x, ?_⟩
      refine List.forall_mem_cons.2 ⟨fun x => deq_piece i arg2 harg2 arg3 harg3 x0 x1 4 0 (by decide) ![512, 0] (k0_off5 i 0#32) rfl rfl (sword (i 0) 0) rfl _ _ _ _ x, ?_⟩
      refine List.forall_mem_cons.2 ⟨fun x => deq_piece i arg2 harg2 arg3 harg3 x0 x1 3 3 (by decide) ![384, 384] (k0_off4 i 3#32) rfl rfl (sword (i 0) 3) rfl _ _ _ _ x, ?_⟩
      refine List.forall_mem_cons.2 ⟨fun x => deq_piece i arg2 harg2 arg3 harg3 x0 x1 3 2 (by decide) ![384, 256] (k0_off4 i 2#32) rfl rfl (sword (i 0) 2) rfl _ _ _ _ x, ?_⟩
      refine List.forall_mem_cons.2 ⟨fun x => deq_piece i arg2 harg2 arg3 harg3 x0 x1 3 1 (by decide) ![384, 128] (k0_off4 i 1#32) rfl rfl (sword (i 0) 1) rfl _ _ _ _ x, ?_⟩
      refine List.forall_mem_cons.2 ⟨fun x => deq_piece i arg2 harg2 arg3 harg3 x0 x1 3 0 (by decide) ![384, 0] (k0_off4 i 0#32) rfl rfl (sword (i 0) 0) rfl _ _ _ _ x, ?_⟩
      refine List.forall_mem_cons.2 ⟨fun x => deq_piece i arg2 harg2 arg3 harg3 x0 x1 2 3 (by decide) ![256, 384] (k0_off3 i 3#32) rfl rfl (sword (i 0) 3) rfl _ _ _ _ x, ?_⟩
      refine List.forall_mem_cons.2 ⟨fun x => deq_piece i arg2 harg2 arg3 harg3 x0 x1 2 2 (by decide) ![256, 256] (k0_off3 i 2#32) rfl rfl (sword (i 0) 2) rfl _ _ _ _ x, ?_⟩
      refine List.forall_mem_cons.2 ⟨fun x => deq_piece i arg2 harg2 arg3 harg3 x0 x1 2 1 (by decide) ![256, 128] (k0_off3 i 1#32) rfl rfl (sword (i 0) 1) rfl _ _ _ _ x, ?_⟩
      refine List.forall_mem_cons.2 ⟨fun x => deq_piece i arg2 harg2 arg3 harg3 x0 x1 2 0 (by decide) ![256, 0] (k0_off3 i 0#32) rfl rfl (sword (i 0) 0) rfl _ _ _ _ x, ?_⟩
      refine List.forall_mem_cons.2 ⟨fun x => deq_piece i arg2 harg2 arg3 harg3 x0 x1 1 3 (by decide) ![128, 384] (k0_off2 i 3#32) rfl rfl (sword (i 0) 3) rfl _ _ _ _ x, ?_⟩
      refine List.forall_mem_cons.2 ⟨fun x => deq_piece i arg2 harg2 arg3 harg3 x0 x1 1 2 (by decide) ![128, 256] (k0_off2 i 2#32) rfl rfl (sword (i 0) 2) rfl _ _ _ _ x, ?_⟩
      refine List.forall_mem_cons.2 ⟨fun x => deq_piece i arg2 harg2 arg3 harg3 x0 x1 1 1 (by decide) ![128, 128] (k0_off2 i 1#32) rfl rfl (sword (i 0) 1) rfl _ _ _ _ x, ?_⟩
      refine List.forall_mem_cons.2 ⟨fun x => deq_piece i arg2 harg2 arg3 harg3 x0 x1 1 0 (by decide) ![128, 0] (k0_off2 i 0#32) rfl rfl (sword (i 0) 0) rfl _ _ _ _ x, ?_⟩
      refine List.forall_mem_cons.2 ⟨fun x => deq_piece i arg2 harg2 arg3 harg3 x0 x1 0 3 (by decide) ![0, 384] (k0_off1 i 3#32) rfl rfl (sword (i 0) 3) rfl _ _ _ _ x, ?_⟩
      refine List.forall_mem_cons.2 ⟨fun x => deq_piece i arg2 harg2 arg3 harg3 x0 x1 0 2 (by decide) ![0, 256] (k0_off1 i 2#32) rfl rfl (sword (i 0) 2) rfl _ _ _ _ x, ?_⟩
      refine List.forall_mem_cons.2 ⟨fun x => deq_piece i arg2 harg2 arg3 harg3 x0 x1 0 1 (by decide) ![0, 128] (k0_off1 i 1#32) rfl rfl (sword (i 0) 1) rfl _ _ _ _ x, ?_⟩
      refine List.forall_mem_cons.2 ⟨fun x => deq_piece i arg2 harg2 arg3 harg3 x0 x1 0 0 (by decide) ![0, 0] (k0_off1 i 0#32) rfl rfl (sword (i 0) 0) rfl _ _ _ _ x, ?_⟩
      exact List.forall_mem_nil _
    isplitl [HS2]
    · iexists _, _; isplitr; swap; · iexact HS2
      ipureintro; rfl
    isplitl [Hq0]; · iexact Hq0
    isplitl [Hh0]; · iexact Hh0
    iexists _; iexact HW

end Cert.KernelIdeal.Down

end
-- ==== Proof.Down.RunB.lean ====
/- The body at an odd grid point: the weight block goes dequantised into the second weight scratch, and the output block
   is computed from the first. -/
module

public import proofs.«01_k».proof.Proof.Down.Math

@[expose] public section

set_option maxRecDepth 16384

noncomputable section

namespace Cert.KernelIdeal.Down

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4400000 in
/-- The body at an odd grid point. -/
theorem runB (c : Dev nD) (i : grid0.Coords) (arg2 : Memref sig .tc .vmem S4352x512 .fp8e4m3) (harg2 : arg2.IsWhole) (arg3 : Memref sig .tc .smem S40x34 .f32) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S1024x4352 .i32) (harg6 : arg6.IsWhole) (arg7 : Memref sig .tc .vmem S4352x512 .bf16) (harg7 : arg7.IsWhole) (arg8 : Memref sig .tc .vmem S4352x512 .bf16) (harg8 : arg8.IsWhole) (hc0 : ¬cond0_0 i) (hc1 : ¬cond0_1 i) (hc2 : cond0_2 i)
    (x0 : Vec F S4352x512 .fp8e4m3) (x1 : Vec F S40x34 .f32) (x2 : Vec F S2048x512 .f32) (x6 : Vec F S1024x4352 .i32) (x7 : Vec F S4352x512 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x6 ∗ owns (c : Thread nD τ) arg7 fullShare x7 ∗ (∃ d, owns (c : Thread nD τ) arg8 fullShare d) ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (out x2 x6 x7) ∗ owns (c : Thread nD τ) arg6 fullShare x6 ∗ owns (c : Thread nD τ) arg7 fullShare x7 ∗ owns (c : Thread nD τ) arg8 fullShare (deq i x0 x1) ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_down i (Memref.whole main_arg0) (Memref.isWhole_whole _) arg2 harg2 arg3 harg3 arg4 harg4 arg5 harg5 arg6 harg6 arg7 harg7 arg8 harg8 cc0_scratch3) K := by
    intro W K
    simp only [cc0_down_eq_skeleton]; unfold cc0_down_skel
    rw [k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, Hq0, Hh0, HW, Hk⟩
    obtain rfl := harg2.eq_unread hf0; obtain rfl := harg3.eq_unread hf1; obtain rfl := harg4.eq_unread hf2; obtain rfl := harg6.eq_unread hfs0; obtain rfl := harg7.eq_unread hfs1
    sl_exec! (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; funext y
      refine View.read_writes_apply_of_pieces _ _ (out x2 x6 x7) _ ?_ y ?hcov
      case hcov => exact View.cover_of_tiled (s := S2048x512) _ S256x512.size (by rfl) y
      refine List.forall_mem_cons.2 ⟨fun x => out_piece arg4 harg4 arg6 harg6 arg7 harg7 x2 x6 x7 7 (by decide) ![1792, 0] ![896, 0] ![0, 0] rfl rfl rfl rfl zero2 _ _ _ x, ?_⟩
      refine List.forall_mem_cons.2 ⟨fun x => out_piece arg4 harg4 arg6 harg6 arg7 harg7 x2 x6 x7 6 (by decide) ![1536, 0] ![768, 0] ![0, 0] rfl rfl rfl rfl zero2 _ _ _ x, ?_⟩
      refine List.forall_mem_cons.2 ⟨fun x => out_piece arg4 harg4 arg6 harg6 arg7 harg7 x2 x6 x7 5 (by decide) ![1280, 0] ![640, 0] ![0, 0] rfl rfl rfl rfl zero2 _ _ _ x, ?_⟩
      refine List.forall_mem_cons.2 ⟨fun x => out_piece arg4 harg4 arg6 harg6 arg7 harg7 x2 x6 x7 4 (by decide) ![1024, 0] ![512, 0] ![0, 0] rfl rfl rfl rfl zero2 _ _ _ x, ?_⟩
      refine List.forall_mem_cons.2 ⟨fun x => out_piece arg4 harg4 arg6 harg6 arg7 harg7 x2 x6 x7 3 (by decide) ![768, 0] ![384, 0] ![0, 0] rfl rfl rfl rfl zero2 _ _ _ x, ?_⟩
      refine List.forall_mem_cons.2 ⟨fun x => out_piece arg4 harg4 arg6 harg6 arg7 harg7 x2 x6 x7 2 (by decide) ![512, 0] ![256, 0] ![0, 0] rfl rfl rfl rfl zero2 _ _ _ x, ?_⟩
      refine List.forall_mem_cons.2 ⟨fun x => out_piece arg4 harg4 arg6 harg6 arg7 harg7 x2 x6 x7 1 (by decide) ![256, 0] ![128, 0] ![0, 0] rfl rfl rfl rfl zero2 _ _ _ x, ?_⟩
      refine List.forall_mem_cons.2 ⟨fun x => out_piece arg4 harg4 arg6 harg6 arg7 harg7 x2 x6 x7 0 (by decide) ![0, 0] ![0, 0] ![0, 0] rfl rfl rfl rfl zero2 _ _ _ x, ?_⟩
      exact List.forall_mem_nil _
    isplitl [HS0]
    · iexists _; isplitr; · ipureintro; exact harg6.read_unread _
      iexact HS0
    isplitl [HS1]
    · iexists _; isplitr; · ipureintro; exact harg7.read_unread _
      iexact HS1
    isplitl [HS2]
    · iexists _; isplitr; swap; · iexact HS2
      ipureintro; funext y
      refine View.read_writes_apply_of_pieces _ _ (deq i x0 x1) _ ?_ y ?hcov
      case hcov => exact View.cover_of_tiled (s := S4352x512) _ S128x128.size (by rfl) y
      refine List.forall_mem_cons.2 ⟨fun x => deq_piece i arg2 harg2 arg3 harg3 x0 x1 33 3 (by decide) ![4224, 384] (k0_off102 i 3#32) rfl rfl (sword (i 0) 3) rfl _ _ _ _ x, ?_⟩
      refine List.forall_mem_cons.2 ⟨fun x => deq_piece i arg2 harg2 arg3 harg3 x0 x1 33 2 (by decide) ![4224, 256] (k0_off102 i 2#32) rfl rfl (sword (i 0) 2) rfl _ _ _ _ x, ?_⟩
      refine List.forall_mem_cons.2 ⟨fun x => deq_piece i arg2 harg2 arg3 harg3 x0 x1 33 1 (by decide) ![4224, 128] (k0_off102 i 1#32) rfl rfl (sword (i 0) 1) rfl _ _ _ _ x, ?_⟩
      refine List.forall_mem_cons.2 ⟨fun x => deq_piece i arg2 harg2 arg3 harg3 x0 x1 33 0 (by decide) ![4224, 0] (k0_off102 i 0#32) rfl rfl (sword (i 0) 0) rfl _ _ _ _ x, ?_⟩
      refine List.forall_mem_cons.2 ⟨fun x => deq_piece i arg2 harg2 arg3 harg3 x0 x1 32 3 (by decide) ![4096, 384] (k0_off101 i 3#32) rfl rfl (sword (i 0) 3) rfl _ _ _ _ x, ?_⟩
      refine List.forall_mem_cons.2 ⟨fun x => deq_piece i arg2 harg2 arg3 harg3 x0 x1 32 2 (by decide) ![4096, 256] (k0_off101 i 2#32) rfl rfl (sword (i 0) 2) rfl _ _ _ _ x, ?_⟩
      refine List.forall_mem_cons.2 ⟨fun x => deq_piece i arg2 harg2 arg3 harg3 x0 x1 32 1 (by decide) ![4096, 128] (k0_off101 i 1#32) rfl rfl (sword (i 0) 1) rfl _ _ _ _ x, ?_⟩
      refine List.forall_mem_cons.2 ⟨fun x => deq_piece i arg2 harg2 arg3 harg3 x0 x1 32 0 (by decide) ![4096, 0] (k0_off101 i 0#32) rfl rfl (sword (i 0) 0) rfl _ _ _ _ x, ?_⟩
      refine List.forall_mem_cons.2 ⟨fun x => deq_piece i arg2 harg2 arg3 harg3 x0 x1 31 3 (by decide) ![3968, 384] (k0_off100 i 3#32) rfl rfl (sword (i 0) 3) rfl _ _ _ _ x, ?_⟩
      refine List.forall_mem_cons.2 ⟨fun x => deq_piece i arg2 harg2 arg3 harg3 x0 x1 31 2 (by decide) ![3968, 256] (k0_off100 i 2#32) rfl rfl (sword (i 0) 2) rfl _ _ _ _ x, ?_⟩
      refine List.forall_mem_cons.2 ⟨fun x => deq_piece i arg2 harg2 arg3 harg3 x0 x1 31 1 (by decide) ![3968, 128] (k0_off100 i 1#32) rfl rfl (sword (i 0) 1) rfl _ _ _ _ x, ?_⟩
      refine List.forall_mem_cons.2 ⟨fun x => deq_piece i arg2 harg2 arg3 harg3 x0 x1 31 0 (by decide) ![3968, 0] (k0_off100 i 0#32) rfl rfl (sword (i 0) 0) rfl _ _ _ _ x, ?_⟩
      refine List.forall_mem_cons.2 ⟨fun x => deq_piece i arg2 harg2 arg3 harg3 x0 x1 30 3 (by decide) ![3840, 384] (k0_off99 i 3#32) rfl rfl (sword (i 0) 3) rfl _ _ _ _ x, ?_⟩
      refine List.forall_mem_cons.2 ⟨fun x => deq_piece i arg2 harg2 arg3 harg3 x0 x1 30 2 (by decide) ![3840, 256] (k0_off99 i 2#32) rfl rfl (sword (i 0) 2) rfl _ _ _ _ x, ?_⟩
      refine List.forall_mem_cons.2 ⟨fun x => deq_piece i arg2 harg2 arg3 harg3 x0 x1 30 1 (by decide) ![3840, 128] (k0_off99 i 1#32) rfl rfl (sword (i 0) 1) rfl _ _ _ _ x, ?_⟩
      refine List.forall_mem_cons.2 ⟨fun x => deq_piece i arg2 harg2 arg3 harg3 x0 x1 30 0 (by decide) ![3840, 0] (k0_off99 i 0#32) rfl rfl (sword (i 0) 0) rfl _ _ _ _ x, ?_⟩
      refine List.forall_mem_cons.2 ⟨fun x => deq_piece i arg2 harg2 arg3 harg3 x0 x1 29 3 (by decide) ![3712, 384] (k0_off98 i 3#32) rfl rfl (sword (i 0) 3) rfl _ _ _ _ x, ?_⟩
      refine List.forall_mem_cons.2 ⟨fun x => deq_piece i arg2 harg2 arg3 harg3 x0 x1 29 2 (by decide) ![3712, 256] (k0_off98 i 2#32) rfl rfl (sword (i 0) 2) rfl _ _ _ _ x, ?_⟩
      refine List.forall_mem_cons.2 ⟨fun x => deq_piece i arg2 harg2 arg3 harg3 x0 x1 29 1 (by decide) ![3712, 128] (k0_off98 i 1#32) rfl rfl (sword (i 0) 1) rfl _ _ _ _ x, ?_⟩
      refine List.forall_mem_cons.2 ⟨fun x => deq_piece i arg2 harg2 arg3 harg3 x0 x1 29 0 (by decide) ![3712, 0] (k0_off98 i 0#32) rfl rfl (sword (i 0) 0) rfl _ _ _ _ x, ?_⟩
      refine List.forall_mem_cons.2 ⟨fun x => deq_piece i arg2 harg2 arg3 harg3 x0 x1 28 3 (by decide) ![3584, 384] (k0_off97 i 3#32) rfl rfl (sword (i 0) 3) rfl _ _ _ _ x, ?_⟩
      refine List.forall_mem_cons.2 ⟨fun x => deq_piece i arg2 harg2 arg3 harg3 x0 x1 28 2 (by decide) ![3584, 256] (k0_off97 i 2#32) rfl rfl (sword (i 0) 2) rfl _ _ _ _ x, ?_⟩
      refine List.forall_mem_cons.2 ⟨fun x => deq_piece i arg2 harg2 arg3 harg3 x0 x1 28 1 (by decide) ![3584, 128] (k0_off97 i 1#32) rfl rfl (sword (i 0) 1) rfl _ _ _ _ x, ?_⟩
      refine List.forall_mem_cons.2 ⟨fun x => deq_piece i arg2 harg2 arg3 harg3 x0 x1 28 0 (by decide) ![3584, 0] (k0_off97 i 0#32) rfl rfl (sword (i 0) 0) rfl _ _ _ _ x, ?_⟩
      refine List.forall_mem_cons.2 ⟨fun x => deq_piece i arg2 harg2 arg3 harg3 x0 x1 27 3 (by decide) ![3456, 384] (k0_off96 i 3#32) rfl rfl (sword (i 0) 3) rfl _ _ _ _ x, ?_⟩
      refine List.forall_mem_cons.2 ⟨fun x => deq_piece i arg2 harg2 arg3 harg3 x0 x1 27 2 (by decide) ![3456, 256] (k0_off96 i 2#32) rfl rfl (sword (i 0) 2) rfl _ _ _ _ x, ?_⟩
      refine List.forall_mem_cons.2 ⟨fun x => deq_piece i arg2 harg2 arg3 harg3 x0 x1 27 1 (by decide) ![3456, 128] (k0_off96 i 1#32) rfl rfl (sword (i 0) 1) rfl _ _ _ _ x, ?_⟩
      refine List.forall_mem_cons.2 ⟨fun x => deq_piece i arg2 harg2 arg3 harg3 x0 x1 27 0 (by decide) ![3456, 0] (k0_off96 i 0#32) rfl rfl (sword (i 0) 0) rfl _ _ _ _ x, ?_⟩
      refine List.forall_mem_cons.2 ⟨fun x => deq_piece i arg2 harg2 arg3 harg3 x0 x1 26 3 (by decide) ![3328, 384] (k0_off95 i 3#32) rfl rfl (sword (i 0) 3) rfl _ _ _ _ x, ?_⟩
      refine List.forall_mem_cons.2 ⟨fun x => deq_piece i arg2 harg2 arg3 harg3 x0 x1 26 2 (by decide) ![3328, 256] (k0_off95 i 2#32) rfl rfl (sword (i 0) 2) rfl _ _ _ _ x, ?_⟩
      refine List.forall_mem_cons.2 ⟨fun x => deq_piece i arg2 harg2 arg3 harg3 x0 x1 26 1 (by decide) ![3328, 128] (k0_off95 i 1#32) rfl rfl (sword (i 0) 1) rfl _ _ _ _ x, ?_⟩
      refine List.forall_mem_cons.2 ⟨fun x => deq_piece i arg2 harg2 arg3 harg3 x0 x1 26 0 (by decide) ![3328, 0] (k0_off95 i 0#32) rfl rfl (sword (i 0) 0) rfl _ _ _ _ x, ?_⟩
      refine List.forall_mem_cons.2 ⟨fun x => deq_piece i arg2 harg2 arg3 harg3 x0 x1 25 3 (by decide) ![3200, 384] (k0_off94 i 3#32) rfl rfl (sword (i 0) 3) rfl _ _ _ _ x, ?_⟩
      refine List.forall_mem_cons.2 ⟨fun x => deq_piece i arg2 harg2 arg3 harg3 x0 x1 25 2 (by decide) ![3200, 256] (k0_off94 i 2#32) rfl rfl (sword (i 0) 2) rfl _ _ _ _ x, ?_⟩
      refine List.forall_mem_cons.2 ⟨fun x => deq_piece i arg2 harg2 arg3 harg3 x0 x1 25 1 (by decide) ![3200, 128] (k0_off94 i 1#32) rfl rfl (sword (i 0) 1) rfl _ _ _ _ x, ?_⟩
      refine List.forall_mem_cons.2 ⟨fun x => deq_piece i arg2 harg2 arg3 harg3 x0 x1 25 0 (by decide) ![3200, 0] (k0_off94 i 0#32) rfl rfl (sword (i 0) 0) rfl _ _ _ _ x, ?_⟩
      refine List.forall_mem_cons.2 ⟨fun x => deq_piece i arg2 harg2 arg3 harg3 x0 x1 24 3 (by decide) ![3072, 384] (k0_off93 i 3#32) rfl rfl (sword (i 0) 3) rfl _ _ _ _ x, ?_⟩
      refine List.forall_mem_cons.2 ⟨fun x => deq_piece i arg2 harg2 arg3 harg3 x0 x1 24 2 (by decide) ![3072, 256] (k0_off93 i 2#32) rfl rfl (sword (i 0) 2) rfl _ _ _ _ x, ?_⟩
      refine List.forall_mem_cons.2 ⟨fun x => deq_piece i arg2 harg2 arg3 harg3 x0 x1 24 1 (by decide) ![3072, 128] (k0_off93 i 1#32) rfl rfl (sword (i 0) 1) rfl _ _ _ _ x, ?_⟩
      refine List.forall_mem_cons.2 ⟨fun x => deq_piece i arg2 harg2 arg3 harg3 x0 x1 24 0 (by decide) ![3072, 0] (k0_off93 i 0#32) rfl rfl (sword (i 0) 0) rfl _ _ _ _ x, ?_⟩
      refine List.forall_mem_cons.2 ⟨fun x => deq_piece i arg2 harg2 arg3 harg3 x0 x1 23 3 (by decide) ![2944, 384] (k0_off92 i 3#32) rfl rfl (sword (i 0) 3) rfl _ _ _ _ x, ?_⟩
      refine List.forall_mem_cons.2 ⟨fun x => deq_piece i arg2 harg2 arg3 harg3 x0 x1 23 2 (by decide) ![2944, 256] (k0_off92 i 2#32) rfl rfl (sword (i 0) 2) rfl _ _ _ _ x, ?_⟩
      refine List.forall_mem_cons.2 ⟨fun x => deq_piece i arg2 harg2 arg3 harg3 x0 x1 23 1 (by decide) ![2944, 128] (k0_off92 i 1#32) rfl rfl (sword (i 0) 1) rfl _ _ _ _ x, ?_⟩
      refine List.forall_mem_cons.2 ⟨fun x => deq_piece i arg2 harg2 arg3 harg3 x0 x1 23 0 (by decide) ![2944, 0] (k0_off92 i 0#32) rfl rfl (sword (i 0) 0) rfl _ _ _ _ x, ?_⟩
      refine List.forall_mem_cons.2 ⟨fun x => deq_piece i arg2 harg2 arg3 harg3 x0 x1 22 3 (by decide) ![2816, 384] (k0_off91 i 3#32) rfl rfl (sword (i 0) 3) rfl _ _ _ _ x, ?_⟩
      refine List.forall_mem_cons.2 ⟨fun x => deq_piece i arg2 harg2 arg3 harg3 x0 x1 22 2 (by decide) ![2816, 256] (k0_off91 i 2#32) rfl rfl (sword (i 0) 2) rfl _ _ _ _ x, ?_⟩
      refine List.forall_mem_cons.2 ⟨fun x => deq_piece i arg2 harg2 arg3 harg3 x0 x1 22 1 (by decide) ![2816, 128] (k0_off91 i 1#32) rfl rfl (sword (i 0) 1) rfl _ _ _ _ x, ?_⟩
      refine List.forall_mem_cons.2 ⟨fun x => deq_piece i arg2 harg2 arg3 harg3 x0 x1 22 0 (by decide) ![2816, 0] (k0_off91 i 0#32) rfl rfl (sword (i 0) 0) rfl _ _ _ _ x, ?_⟩
      refine List.forall_mem_cons.2 ⟨fun x => deq_piece i arg2 harg2 arg3 harg3 x0 x1 21 3 (by decide) ![2688, 384] (k0_off90 i 3#32) rfl rfl (sword (i 0) 3) rfl _ _ _ _ x, ?_⟩
      refine List.forall_mem_cons.2 ⟨fun x => deq_piece i arg2 harg2 arg3 harg3 x0 x1 21 2 (by decide) ![2688, 256] (k0_off90 i 2#32) rfl rfl (sword (i 0) 2) rfl _ _ _ _ x, ?_⟩
      refine List.forall_mem_cons.2 ⟨fun x => deq_piece i arg2 harg2 arg3 harg3 x0 x1 21 1 (by decide) ![2688, 128] (k0_off90 i 1#32) rfl rfl (sword (i 0) 1) rfl _ _ _ _ x, ?_⟩
      refine List.forall_mem_cons.2 ⟨fun x => deq_piece i arg2 harg2 arg3 harg3 x0 x1 21 0 (by decide) ![2688, 0] (k0_off90 i 0#32) rfl rfl (sword (i 0) 0) rfl _ _ _ _ x, ?_⟩
      refine List.forall_mem_cons.2 ⟨fun x => deq_piece i arg2 harg2 arg3 harg3 x0 x1 20 3 (by decide) ![2560, 384] (k0_off89 i 3#32) rfl rfl (sword (i 0) 3) rfl _ _ _ _ x, ?_⟩
      refine List.forall_mem_cons.2 ⟨fun x => deq_piece i arg2 harg2 arg3 harg3 x0 x1 20 2 (by decide) ![2560, 256] (k0_off89 i 2#32) rfl rfl (sword (i 0) 2) rfl _ _ _ _ x, ?_⟩
      refine List.forall_mem_cons.2 ⟨fun x => deq_piece i arg2 harg2 arg3 harg3 x0 x1 20 1 (by decide) ![2560, 128] (k0_off89 i 1#32) rfl rfl (sword (i 0) 1) rfl _ _ _ _ x, ?_⟩
      refine List.forall_mem_cons.2 ⟨fun x => deq_piece i arg2 harg2 arg3 harg3 x0 x1 20 0 (by decide) ![2560, 0] (k0_off89 i 0#32) rfl rfl (sword (i 0) 0) rfl _ _ _ _ x, ?_⟩
      refine List.forall_mem_cons.2 ⟨fun x => deq_piece i arg2 harg2 arg3 harg3 x0 x1 19 3 (by decide) ![2432, 384] (k0_off88 i 3#32) rfl rfl (sword (i 0) 3) rfl _ _ _ _ x, ?_⟩
      refine List.forall_mem_cons.2 ⟨fun x => deq_piece i arg2 harg2 arg3 harg3 x0 x1 19 2 (by decide) ![2432, 256] (k0_off88 i 2#32) rfl rfl (sword (i 0) 2) rfl _ _ _ _ x, ?_⟩
      refine List.forall_mem_cons.2 ⟨fun x => deq_piece i arg2 harg2 arg3 harg3 x0 x1 19 1 (by decide) ![2432, 128] (k0_off88 i 1#32) rfl rfl (sword (i 0) 1) rfl _ _ _ _ x, ?_⟩
      refine List.forall_mem_cons.2 ⟨fun x => deq_piece i arg2 harg2 arg3 harg3 x0 x1 19 0 (by decide) ![2432, 0] (k0_off88 i 0#32) rfl rfl (sword (i 0) 0) rfl _ _ _ _ x, ?_⟩
      refine List.forall_mem_cons.2 ⟨fun x => deq_piece i arg2 harg2 arg3 harg3 x0 x1 18 3 (by decide) ![2304, 384] (k0_off87 i 3#32) rfl rfl (sword (i 0) 3) rfl _ _ _ _ x, ?_⟩
      refine List.forall_mem_cons.2 ⟨fun x => deq_piece i arg2 harg2 arg3 harg3 x0 x1 18 2 (by decide) ![2304, 256] (k0_off87 i 2#32) rfl rfl (sword (i 0) 2) rfl _ _ _ _ x, ?_⟩
      refine List.forall_mem_cons.2 ⟨fun x => deq_piece i arg2 harg2 arg3 harg3 x0 x1 18 1 (by decide) ![2304, 128] (k0_off87 i 1#32) rfl rfl (sword (i 0) 1) rfl _ _ _ _ x, ?_⟩
      refine List.forall_mem_cons.2 ⟨fun x => deq_piece i arg2 harg2 arg3 harg3 x0 x1 18 0 (by decide) ![2304, 0] (k0_off87 i 0#32) rfl rfl (sword (i 0) 0) rfl _ _ _ _ x, ?_⟩
      refine List.forall_mem_cons.2 ⟨fun x => deq_piece i arg2 harg2 arg3 harg3 x0 x1 17 3 (by decide) ![2176, 384] (k0_off86 i 3#32) rfl rfl (sword (i 0) 3) rfl _ _ _ _ x, ?_⟩
      refine List.forall_mem_cons.2 ⟨fun x => deq_piece i arg2 harg2 arg3 harg3 x0 x1 17 2 (by decide) ![2176, 256] (k0_off86 i 2#32) rfl rfl (sword (i 0) 2) rfl _ _ _ _ x, ?_⟩
      refine List.forall_mem_cons.2 ⟨fun x => deq_piece i arg2 harg2 arg3 harg3 x0 x1 17 1 (by decide) ![2176, 128] (k0_off86 i 1#32) rfl rfl (sword (i 0) 1) rfl _ _ _ _ x, ?_⟩
      refine List.forall_mem_cons.2 ⟨fun x => deq_piece i arg2 harg2 arg3 harg3 x0 x1 17 0 (by decide) ![2176, 0] (k0_off86 i 0#32) rfl rfl (sword (i 0) 0) rfl _ _ _ _ x, ?_⟩
      refine List.forall_mem_cons.2 ⟨fun x => deq_piece i arg2 harg2 arg3 harg3 x0 x1 16 3 (by decide) ![2048, 384] (k0_off85 i 3#32) rfl rfl (sword (i 0) 3) rfl _ _ _ _ x, ?_⟩
      refine List.forall_mem_cons.2 ⟨fun x => deq_piece i arg2 harg2 arg3 harg3 x0 x1 16 2 (by decide) ![2048, 256] (k0_off85 i 2#32) rfl rfl (sword (i 0) 2) rfl _ _ _ _ x, ?_⟩
      refine List.forall_mem_cons.2 ⟨fun x => deq_piece i arg2 harg2 arg3 harg3 x0 x1 16 1 (by decide) ![2048, 128] (k0_off85 i 1#32) rfl rfl (sword (i 0) 1) rfl _ _ _ _ x, ?_⟩
      refine List.forall_mem_cons.2 ⟨fun x => deq_piece i arg2 harg2 arg3 harg3 x0 x1 16 0 (by decide) ![2048, 0] (k0_off85 i 0#32) rfl rfl (sword (i 0) 0) rfl _ _ _ _ x, ?_⟩
      refine List.forall_mem_cons.2 ⟨fun x => deq_piece i arg2 harg2 arg3 harg3 x0 x1 15 3 (by decide) ![1920, 384] (k0_off84 i 3#32) rfl rfl (sword (i 0) 3) rfl _ _ _ _ x, ?_⟩
      refine List.forall_mem_cons.2 ⟨fun x => deq_piece i arg2 harg2 arg3 harg3 x0 x1 15 2 (by decide) ![1920, 256] (k0_off84 i 2#32) rfl rfl (sword (i 0) 2) rfl _ _ _ _ x, ?_⟩
      refine List.forall_mem_cons.2 ⟨fun x => deq_piece i arg2 harg2 arg3 harg3 x0 x1 15 1 (by decide) ![1920, 128] (k0_off84 i 1#32) rfl rfl (sword (i 0) 1) rfl _ _ _ _ x, ?_⟩
      refine List.forall_mem_cons.2 ⟨fun x => deq_piece i arg2 harg2 arg3 harg3 x0 x1 15 0 (by decide) ![1920, 0] (k0_off84 i 0#32) rfl rfl (sword (i 0) 0) rfl _ _ _ _ x, ?_⟩
      refine List.forall_mem_cons.2 ⟨fun x => deq_piece i arg2 harg2 arg3 harg3 x0 x1 14 3 (by decide) ![1792, 384] (k0_off83 i 3#32) rfl rfl (sword (i 0) 3) rfl _ _ _ _ x, ?_⟩
      refine List.forall_mem_cons.2 ⟨fun x => deq_piece i arg2 harg2 arg3 harg3 x0 x1 14 2 (by decide) ![1792, 256] (k0_off83 i 2#32) rfl rfl (sword (i 0) 2) rfl _ _ _ _ x, ?_⟩
      refine List.forall_mem_cons.2 ⟨fun x => deq_piece i arg2 harg2 arg3 harg3 x0 x1 14 1 (by decide) ![1792, 128] (k0_off83 i 1#32) rfl rfl (sword (i 0) 1) rfl _ _ _ _ x, ?_⟩
      refine List.forall_mem_cons.2 ⟨fun x => deq_piece i arg2 harg2 arg3 harg3 x0 x1 14 0 (by decide) ![1792, 0] (k0_off83 i 0#32) rfl rfl (sword (i 0) 0) rfl _ _ _ _ x, ?_⟩
      refine List.forall_mem_cons.2 ⟨fun x => deq_piece i arg2 harg2 arg3 harg3 x0 x1 13 3 (by decide) ![1664, 384] (k0_off82 i 3#32) rfl rfl (sword (i 0) 3) rfl _ _ _ _ x, ?_⟩
      refine List.forall_mem_cons.2 ⟨fun x => deq_piece i arg2 harg2 arg3 harg3 x0 x1 13 2 (by decide) ![1664, 256] (k0_off82 i 2#32) rfl rfl (sword (i 0) 2) rfl _ _ _ _ x, ?_⟩
      refine List.forall_mem_cons.2 ⟨fun x => deq_piece i arg2 harg2 arg3 harg3 x0 x1 13 1 (by decide) ![1664, 128] (k0_off82 i 1#32) rfl rfl (sword (i 0) 1) rfl _ _ _ _ x, ?_⟩
      refine List.forall_mem_cons.2 ⟨fun x => deq_piece i arg2 harg2 arg3 harg3 x0 x1 13 0 (by decide) ![1664, 0] (k0_off82 i 0#32) rfl rfl (sword (i 0) 0) rfl _ _ _ _ x, ?_⟩
      refine List.forall_mem_cons.2 ⟨fun x => deq_piece i arg2 harg2 arg3 harg3 x0 x1 12 3 (by decide) ![1536, 384] (k0_off81 i 3#32) rfl rfl (sword (i 0) 3) rfl _ _ _ _ x, ?_⟩
      refine List.forall_mem_cons.2 ⟨fun x => deq_piece i arg2 harg2 arg3 harg3 x0 x1 12 2 (by decide) ![1536, 256] (k0_off81 i 2#32) rfl rfl (sword (i 0) 2) rfl _ _ _ _ x, ?_⟩
      refine List.forall_mem_cons.2 ⟨fun x => deq_piece i arg2 harg2 arg3 harg3 x0 x1 12 1 (by decide) ![1536, 128] (k0_off81 i 1#32) rfl rfl (sword (i 0) 1) rfl _ _ _ _ x, ?_⟩
      refine List.forall_mem_cons.2 ⟨fun x => deq_piece i arg2 harg2 arg3 harg3 x0 x1 12 0 (by decide) ![1536, 0] (k0_off81 i 0#32) rfl rfl (sword (i 0) 0) rfl _ _ _ _ x, ?_⟩
      refine List.forall_mem_cons.2 ⟨fun x => deq_piece i arg2 harg2 arg3 harg3 x0 x1 11 3 (by decide) ![1408, 384] (k0_off80 i 3#32) rfl rfl (sword (i 0) 3) rfl _ _ _ _ x, ?_⟩
      refine List.forall_mem_cons.2 ⟨fun x => deq_piece i arg2 harg2 arg3 harg3 x0 x1 11 2 (by decide) ![1408, 256] (k0_off80 i 2#32) rfl rfl (sword (i 0) 2) rfl _ _ _ _ x, ?_⟩
      refine List.forall_mem_cons.2 ⟨fun x => deq_piece i arg2 harg2 arg3 harg3 x0 x1 11 1 (by decide) ![1408, 128] (k0_off80 i 1#32) rfl rfl (sword (i 0) 1) rfl _ _ _ _ x, ?_⟩
      refine List.forall_mem_cons.2 ⟨fun x => deq_piece i arg2 harg2 arg3 harg3 x0 x1 11 0 (by decide) ![1408, 0] (k0_off80 i 0#32) rfl rfl (sword (i 0) 0) rfl _ _ _ _ x, ?_⟩
      refine List.forall_mem_cons.2 ⟨fun x => deq_piece i arg2 harg2 arg3 harg3 x0 x1 10 3 (by decide) ![1280, 384] (k0_off79 i 3#32) rfl rfl (sword (i 0) 3) rfl _ _ _ _ x, ?_⟩
      refine List.forall_mem_cons.2 ⟨fun x => deq_piece i arg2 harg2 arg3 harg3 x0 x1 10 2 (by decide) ![1280, 256] (k0_off79 i 2#32) rfl rfl (sword (i 0) 2) rfl _ _ _ _ x, ?_⟩
      refine List.forall_mem_cons.2 ⟨fun x => deq_piece i arg2 harg2 arg3 harg3 x0 x1 10 1 (by decide) ![1280, 128] (k0_off79 i 1#32) rfl rfl (sword (i 0) 1) rfl _ _ _ _ x, ?_⟩
      refine List.forall_mem_cons.2 ⟨fun x => deq_piece i arg2 harg2 arg3 harg3 x0 x1 10 0 (by decide) ![1280, 0] (k0_off79 i 0#32) rfl rfl (sword (i 0) 0) rfl _ _ _ _ x, ?_⟩
      refine List.forall_mem_cons.2 ⟨fun x => deq_piece i arg2 harg2 arg3 harg3 x0 x1 9 3 (by decide) ![1152, 384] (k0_off78 i 3#32) rfl rfl (sword (i 0) 3) rfl _ _ _ _ x, ?_⟩
      refine List.forall_mem_cons.2 ⟨fun x => deq_piece i arg2 harg2 arg3 harg3 x0 x1 9 2 (by decide) ![1152, 256] (k0_off78 i 2#32) rfl rfl (sword (i 0) 2) rfl _ _ _ _ x, ?_⟩
      refine List.forall_mem_cons.2 ⟨fun x => deq_piece i arg2 harg2 arg3 harg3 x0 x1 9 1 (by decide) ![1152, 128] (k0_off78 i 1#32) rfl rfl (sword (i 0) 1) rfl _ _ _ _ x, ?_⟩
      refine List.forall_mem_cons.2 ⟨fun x => deq_piece i arg2 harg2 arg3 harg3 x0 x1 9 0 (by decide) ![1152, 0] (k0_off78 i 0#32) rfl rfl (sword (i 0) 0) rfl _ _ _ _ x, ?_⟩
      refine List.forall_mem_cons.2 ⟨fun x => deq_piece i arg2 harg2 arg3 harg3 x0 x1 8 3 (by decide) ![1024, 384] (k0_off77 i 3#32) rfl rfl (sword (i 0) 3) rfl _ _ _ _ x, ?_⟩
      refine List.forall_mem_cons.2 ⟨fun x => deq_piece i arg2 harg2 arg3 harg3 x0 x1 8 2 (by decide) ![1024, 256] (k0_off77 i 2#32) rfl rfl (sword (i 0) 2) rfl _ _ _ _ x, ?_⟩
      refine List.forall_mem_cons.2 ⟨fun x => deq_piece i arg2 harg2 arg3 harg3 x0 x1 8 1 (by decide) ![1024, 128] (k0_off77 i 1#32) rfl rfl (sword (i 0) 1) rfl _ _ _ _ x, ?_⟩
      refine List.forall_mem_cons.2 ⟨fun x => deq_piece i arg2 harg2 arg3 harg3 x0 x1 8 0 (by decide) ![1024, 0] (k0_off77 i 0#32) rfl rfl (sword (i 0) 0) rfl _ _ _ _ x, ?_⟩
      refine List.forall_mem_cons.2 ⟨fun x => deq_piece i arg2 harg2 arg3 harg3 x0 x1 7 3 (by decide) ![896, 384] (k0_off76 i 3#32) rfl rfl (sword (i 0) 3) rfl _ _ _ _ x, ?_⟩
      refine List.forall_mem_cons.2 ⟨fun x => deq_piece i arg2 harg2 arg3 harg3 x0 x1 7 2 (by decide) ![896, 256] (k0_off76 i 2#32) rfl rfl (sword (i 0) 2) rfl _ _ _ _ x, ?_⟩
      refine List.forall_mem_cons.2 ⟨fun x => deq_piece i arg2 harg2 arg3 harg3 x0 x1 7 1 (by decide) ![896, 128] (k0_off76 i 1#32) rfl rfl (sword (i 0) 1) rfl _ _ _ _ x, ?_⟩
      refine List.forall_mem_cons.2 ⟨fun x => deq_piece i arg2 harg2 arg3 harg3 x0 x1 7 0 (by decide) ![896, 0] (k0_off76 i 0#32) rfl rfl (sword (i 0) 0) rfl _ _ _ _ x, ?_⟩
      refine List.forall_mem_cons.2 ⟨fun x => deq_piece i arg2 harg2 arg3 harg3 x0 x1 6 3 (by decide) ![768, 384] (k0_off75 i 3#32) rfl rfl (sword (i 0) 3) rfl _ _ _ _ x, ?_⟩
      refine List.forall_mem_cons.2 ⟨fun x => deq_piece i arg2 harg2 arg3 harg3 x0 x1 6 2 (by decide) ![768, 256] (k0_off75 i 2#32) rfl rfl (sword (i 0) 2) rfl _ _ _ _ x, ?_⟩
      refine List.forall_mem_cons.2 ⟨fun x => deq_piece i arg2 harg2 arg3 harg3 x0 x1 6 1 (by decide) ![768, 128] (k0_off75 i 1#32) rfl rfl (sword (i 0) 1) rfl _ _ _ _ x, ?_⟩
      refine List.forall_mem_cons.2 ⟨fun x => deq_piece i arg2 harg2 arg3 harg3 x0 x1 6 0 (by decide) ![768, 0] (k0_off75 i 0#32) rfl rfl (sword (i 0) 0) rfl _ _ _ _ x, ?_⟩
      refine List.forall_mem_cons.2 ⟨fun x => deq_piece i arg2 harg2 arg3 harg3 x0 x1 5 3 (by decide) ![640, 384] (k0_off74 i 3#32) rfl rfl (sword (i 0) 3) rfl _ _ _ _ x, ?_⟩
      refine List.forall_mem_cons.2 ⟨fun x => deq_piece i arg2 harg2 arg3 harg3 x0 x1 5 2 (by decide) ![640, 256] (k0_off74 i 2#32) rfl rfl (sword (i 0) 2) rfl _ _ _ _ x, ?_⟩
      refine List.forall_mem_cons.2 ⟨fun x => deq_piece i arg2 harg2 arg3 harg3 x0 x1 5 1 (by decide) ![640, 128] (k0_off74 i 1#32) rfl rfl (sword (i 0) 1) rfl _ _ _ _ x, ?_⟩
      refine List.forall_mem_cons.2 ⟨fun x => deq_piece i arg2 harg2 arg3 harg3 x0 x1 5 0 (by decide) ![640, 0] (k0_off74 i 0#32) rfl rfl (sword (i 0) 0) rfl _ _ _ _ x, ?_⟩
      refine List.forall_mem_cons.2 ⟨fun x => deq_piece i arg2 harg2 arg3 harg3 x0 x1 4 3 (by decide) ![512, 384] (k0_off73 i 3#32) rfl rfl (sword (i 0) 3) rfl _ _ _ _ x, ?_⟩
      refine List.forall_mem_cons.2 ⟨fun x => deq_piece i arg2 harg2 arg3 harg3 x0 x1 4 2 (by decide) ![512, 256] (k0_off73 i 2#32) rfl rfl (sword (i 0) 2) rfl _ _ _ _ x, ?_⟩
      refine List.forall_mem_cons.2 ⟨fun x => deq_piece i arg2 harg2 arg3 harg3 x0 x1 4 1 (by decide) ![512, 128] (k0_off73 i 1#32) rfl rfl (sword (i 0) 1) rfl _ _ _ _ x, ?_⟩
      refine List.forall_mem_cons.2 ⟨fun x => deq_piece i arg2 harg2 arg3 harg3 x0 x1 4 0 (by decide) ![512, 0] (k0_off73 i 0#32) rfl rfl (sword (i 0) 0) rfl _ _ _ _ x, ?_⟩
      refine List.forall_mem_cons.2 ⟨fun x => deq_piece i arg2 harg2 arg3 harg3 x0 x1 3 3 (by decide) ![384, 384] (k0_off72 i 3#32) rfl rfl (sword (i 0) 3) rfl _ _ _ _ x, ?_⟩
      refine List.forall_mem_cons.2 ⟨fun x => deq_piece i arg2 harg2 arg3 harg3 x0 x1 3 2 (by decide) ![384, 256] (k0_off72 i 2#32) rfl rfl (sword (i 0) 2) rfl _ _ _ _ x, ?_⟩
      refine List.forall_mem_cons.2 ⟨fun x => deq_piece i arg2 harg2 arg3 harg3 x0 x1 3 1 (by decide) ![384, 128] (k0_off72 i 1#32) rfl rfl (sword (i 0) 1) rfl _ _ _ _ x, ?_⟩
      refine List.forall_mem_cons.2 ⟨fun x => deq_piece i arg2 harg2 arg3 harg3 x0 x1 3 0 (by decide) ![384, 0] (k0_off72 i 0#32) rfl rfl (sword (i 0) 0) rfl _ _ _ _ x, ?_⟩
      refine List.forall_mem_cons.2 ⟨fun x => deq_piece i arg2 harg2 arg3 harg3 x0 x1 2 3 (by decide) ![256, 384] (k0_off71 i 3#32) rfl rfl (sword (i 0) 3) rfl _ _ _ _ x, ?_⟩
      refine List.forall_mem_cons.2 ⟨fun x => deq_piece i arg2 harg2 arg3 harg3 x0 x1 2 2 (by decide) ![256, 256] (k0_off71 i 2#32) rfl rfl (sword (i 0) 2) rfl _ _ _ _ x, ?_⟩
      refine List.forall_mem_cons.2 ⟨fun x => deq_piece i arg2 harg2 arg3 harg3 x0 x1 2 1 (by decide) ![256, 128] (k0_off71 i 1#32) rfl rfl (sword (i 0) 1) rfl _ _ _ _ x, ?_⟩
      refine List.forall_mem_cons.2 ⟨fun x => deq_piece i arg2 harg2 arg3 harg3 x0 x1 2 0 (by decide) ![256, 0] (k0_off71 i 0#32) rfl rfl (sword (i 0) 0) rfl _ _ _ _ x, ?_⟩
      refine List.forall_mem_cons.2 ⟨fun x => deq_piece i arg2 harg2 arg3 harg3 x0 x1 1 3 (by decide) ![128, 384] (k0_off70 i 3#32) rfl rfl (sword (i 0) 3) rfl _ _ _ _ x, ?_⟩
      refine List.forall_mem_cons.2 ⟨fun x => deq_piece i arg2 harg2 arg3 harg3 x0 x1 1 2 (by decide) ![128, 256] (k0_off70 i 2#32) rfl rfl (sword (i 0) 2) rfl _ _ _ _ x, ?_⟩
      refine List.forall_mem_cons.2 ⟨fun x => deq_piece i arg2 harg2 arg3 harg3 x0 x1 1 1 (by decide) ![128, 128] (k0_off70 i 1#32) rfl rfl (sword (i 0) 1) rfl _ _ _ _ x, ?_⟩
      refine List.forall_mem_cons.2 ⟨fun x => deq_piece i arg2 harg2 arg3 harg3 x0 x1 1 0 (by decide) ![128, 0] (k0_off70 i 0#32) rfl rfl (sword (i 0) 0) rfl _ _ _ _ x, ?_⟩
      refine List.forall_mem_cons.2 ⟨fun x => deq_piece i arg2 harg2 arg3 harg3 x0 x1 0 3 (by decide) ![0, 384] (k0_off69 i 3#32) rfl rfl (sword (i 0) 3) rfl _ _ _ _ x, ?_⟩
      refine List.forall_mem_cons.2 ⟨fun x => deq_piece i arg2 harg2 arg3 harg3 x0 x1 0 2 (by decide) ![0, 256] (k0_off69 i 2#32) rfl rfl (sword (i 0) 2) rfl _ _ _ _ x, ?_⟩
      refine List.forall_mem_cons.2 ⟨fun x => deq_piece i arg2 harg2 arg3 harg3 x0 x1 0 1 (by decide) ![0, 128] (k0_off69 i 1#32) rfl rfl (sword (i 0) 1) rfl _ _ _ _ x, ?_⟩
      refine List.forall_mem_cons.2 ⟨fun x => deq_piece i arg2 harg2 arg3 harg3 x0 x1 0 0 (by decide) ![0, 0] (k0_off69 i 0#32) rfl rfl (sword (i 0) 0) rfl _ _ _ _ x, ?_⟩
      exact List.forall_mem_nil _
    isplitl [Hq0]; · iexact Hq0
    isplitl [Hh0]; · iexact Hh0
    iexists _; iexact HW

end Cert.KernelIdeal.Down

end
-- ==== Proof.Down.RunC.lean ====
/- The body at an even grid point after the first: the weight block goes dequantised into the first weight scratch, and
   the output block is computed from the second. -/
module

public import proofs.«01_k».proof.Proof.Down.Math

@[expose] public section

set_option maxRecDepth 16384

noncomputable section

namespace Cert.KernelIdeal.Down

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4400000 in
/-- The body at an even grid point after the first. -/
theorem runC (c : Dev nD) (i : grid0.Coords) (arg2 : Memref sig .tc .vmem S4352x512 .fp8e4m3) (harg2 : arg2.IsWhole) (arg3 : Memref sig .tc .smem S40x34 .f32) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S1024x4352 .i32) (harg6 : arg6.IsWhole) (arg7 : Memref sig .tc .vmem S4352x512 .bf16) (harg7 : arg7.IsWhole) (arg8 : Memref sig .tc .vmem S4352x512 .bf16) (harg8 : arg8.IsWhole) (hc0 : ¬cond0_0 i) (hc1 : cond0_1 i) (hc2 : ¬cond0_2 i)
    (x0 : Vec F S4352x512 .fp8e4m3) (x1 : Vec F S40x34 .f32) (x2 : Vec F S2048x512 .f32) (x6 : Vec F S1024x4352 .i32) (x8 : Vec F S4352x512 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x6 ∗ (∃ d, owns (c : Thread nD τ) arg7 fullShare d) ∗ owns (c : Thread nD τ) arg8 fullShare x8 ∗ semVal ((c : Thread nD τ), SemLoc.dma 7) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (out x2 x6 x8) ∗ owns (c : Thread nD τ) arg6 fullShare x6 ∗ owns (c : Thread nD τ) arg7 fullShare (deq i x0 x1) ∗ owns (c : Thread nD τ) arg8 fullShare x8 ∗ semVal ((c : Thread nD τ), SemLoc.dma 7) 0 ∗ hbPt0 c hbM0_0 fh0 ∗ (∃ W', owes (c : Thread nD τ) 0 W')) -∗ K ⟨⟩))
          ⊢ wp frame (wpE (defs₀ (F := F)) Variants.none c none) Set.univ (cc0_down i (Memref.whole main_arg0) (Memref.isWhole_whole _) arg2 harg2 arg3 harg3 arg4 harg4 arg5 harg5 arg6 harg6 arg7 harg7 arg8 harg8 cc0_scratch3) K := by
    intro W K
    simp only [cc0_down_eq_skeleton]; unfold cc0_down_skel
    rw [k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, ⟨%fs2, %hfs2, HS2⟩, Hq0, Hh0, HW, Hk⟩
    obtain rfl := harg2.eq_unread hf0; obtain rfl := harg3.eq_unread hf1; obtain rfl := harg4.eq_unread hf2; obtain rfl := harg6.eq_unread hfs0; obtain rfl := harg8.eq_unread hfs2
    sl_exec! (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; funext y
      refine View.read_writes_apply_of_pieces _ _ (out x2 x6 x8) _ ?_ y ?hcov
      case hcov => exact View.cover_of_tiled (s := S2048x512) _ S256x512.size (by rfl) y
      refine List.forall_mem_cons.2 ⟨fun x => out_piece arg4 harg4 arg6 harg6 arg8 harg8 x2 x6 x8 7 (by decide) ![1792, 0] ![896, 0] ![0, 0] rfl rfl rfl rfl zero2 _ _ _ x, ?_⟩
      refine List.forall_mem_cons.2 ⟨fun x => out_piece arg4 harg4 arg6 harg6 arg8 harg8 x2 x6 x8 6 (by decide) ![1536, 0] ![768, 0] ![0, 0] rfl rfl rfl rfl zero2 _ _ _ x, ?_⟩
      refine List.forall_mem_cons.2 ⟨fun x => out_piece arg4 harg4 arg6 harg6 arg8 harg8 x2 x6 x8 5 (by decide) ![1280, 0] ![640, 0] ![0, 0] rfl rfl rfl rfl zero2 _ _ _ x, ?_⟩
      refine List.forall_mem_cons.2 ⟨fun x => out_piece arg4 harg4 arg6 harg6 arg8 harg8 x2 x6 x8 4 (by decide) ![1024, 0] ![512, 0] ![0, 0] rfl rfl rfl rfl zero2 _ _ _ x, ?_⟩
      refine List.forall_mem_cons.2 ⟨fun x => out_piece arg4 harg4 arg6 harg6 arg8 harg8 x2 x6 x8 3 (by decide) ![768, 0] ![384, 0] ![0, 0] rfl rfl rfl rfl zero2 _ _ _ x, ?_⟩
      refine List.forall_mem_cons.2 ⟨fun x => out_piece arg4 harg4 arg6 harg6 arg8 harg8 x2 x6 x8 2 (by decide) ![512, 0] ![256, 0] ![0, 0] rfl rfl rfl rfl zero2 _ _ _ x, ?_⟩
      refine List.forall_mem_cons.2 ⟨fun x => out_piece arg4 harg4 arg6 harg6 arg8 harg8 x2 x6 x8 1 (by decide) ![256, 0] ![128, 0] ![0, 0] rfl rfl rfl rfl zero2 _ _ _ x, ?_⟩
      refine List.forall_mem_cons.2 ⟨fun x => out_piece arg4 harg4 arg6 harg6 arg8 harg8 x2 x6 x8 0 (by decide) ![0, 0] ![0, 0] ![0, 0] rfl rfl rfl rfl zero2 _ _ _ x, ?_⟩
      exact List.forall_mem_nil _
    isplitl [HS0]
    · iexists _; isplitr; · ipureintro; exact harg6.read_unread _
      iexact HS0
    isplitl [HS1]
    · iexists _; isplitr; swap; · iexact HS1
      ipureintro; funext y
      refine View.read_writes_apply_of_pieces _ _ (deq i x0 x1) _ ?_ y ?hcov
      case hcov => exact View.cover_of_tiled (s := S4352x512) _ S128x128.size (by rfl) y
      refine List.forall_mem_cons.2 ⟨fun x => deq_piece i arg2 harg2 arg3 harg3 x0 x1 33 3 (by decide) ![4224, 384] (k0_off68 i 3#32) rfl rfl (sword (i 0) 3) rfl _ _ _ _ x, ?_⟩
      refine List.forall_mem_cons.2 ⟨fun x => deq_piece i arg2 harg2 arg3 harg3 x0 x1 33 2 (by decide) ![4224, 256] (k0_off68 i 2#32) rfl rfl (sword (i 0) 2) rfl _ _ _ _ x, ?_⟩
      refine List.forall_mem_cons.2 ⟨fun x => deq_piece i arg2 harg2 arg3 harg3 x0 x1 33 1 (by decide) ![4224, 128] (k0_off68 i 1#32) rfl rfl (sword (i 0) 1) rfl _ _ _ _ x, ?_⟩
      refine List.forall_mem_cons.2 ⟨fun x => deq_piece i arg2 harg2 arg3 harg3 x0 x1 33 0 (by decide) ![4224, 0] (k0_off68 i 0#32) rfl rfl (sword (i 0) 0) rfl _ _ _ _ x, ?_⟩
      refine List.forall_mem_cons.2 ⟨fun x => deq_piece i arg2 harg2 arg3 harg3 x0 x1 32 3 (by decide) ![4096, 384] (k0_off67 i 3#32) rfl rfl (sword (i 0) 3) rfl _ _ _ _ x, ?_⟩
      refine List.forall_mem_cons.2 ⟨fun x => deq_piece i arg2 harg2 arg3 harg3 x0 x1 32 2 (by decide) ![4096, 256] (k0_off67 i 2#32) rfl rfl (sword (i 0) 2) rfl _ _ _ _ x, ?_⟩
      refine List.forall_mem_cons.2 ⟨fun x => deq_piece i arg2 harg2 arg3 harg3 x0 x1 32 1 (by decide) ![4096, 128] (k0_off67 i 1#32) rfl rfl (sword (i 0) 1) rfl _ _ _ _ x, ?_⟩
      refine List.forall_mem_cons.2 ⟨fun x => deq_piece i arg2 harg2 arg3 harg3 x0 x1 32 0 (by decide) ![4096, 0] (k0_off67 i 0#32) rfl rfl (sword (i 0) 0) rfl _ _ _ _ x, ?_⟩
      refine List.forall_mem_cons.2 ⟨fun x => deq_piece i arg2 harg2 arg3 harg3 x0 x1 31 3 (by decide) ![3968, 384] (k0_off66 i 3#32) rfl rfl (sword (i 0) 3) rfl _ _ _ _ x, ?_⟩
      refine List.forall_mem_cons.2 ⟨fun x => deq_piece i arg2 harg2 arg3 harg3 x0 x1 31 2 (by decide) ![3968, 256] (k0_off66 i 2#32) rfl rfl (sword (i 0) 2) rfl _ _ _ _ x, ?_⟩
      refine List.forall_mem_cons.2 ⟨fun x => deq_piece i arg2 harg2 arg3 harg3 x0 x1 31 1 (by decide) ![3968, 128] (k0_off66 i 1#32) rfl rfl (sword (i 0) 1) rfl _ _ _ _ x, ?_⟩
      refine List.forall_mem_cons.2 ⟨fun x => deq_piece i arg2 harg2 arg3 harg3 x0 x1 31 0 (by decide) ![3968, 0] (k0_off66 i 0#32) rfl rfl (sword (i 0) 0) rfl _ _ _ _ x, ?_⟩
      refine List.forall_mem_cons.2 ⟨fun x => deq_piece i arg2 harg2 arg3 harg3 x0 x1 30 3 (by decide) ![3840, 384] (k0_off65 i 3#32) rfl rfl (sword (i 0) 3) rfl _ _ _ _ x, ?_⟩
      refine List.forall_mem_cons.2 ⟨fun x => deq_piece i arg2 harg2 arg3 harg3 x0 x1 30 2 (by decide) ![3840, 256] (k0_off65 i 2#32) rfl rfl (sword (i 0) 2) rfl _ _ _ _ x, ?_⟩
      refine List.forall_mem_cons.2 ⟨fun x => deq_piece i arg2 harg2 arg3 harg3 x0 x1 30 1 (by decide) ![3840, 128] (k0_off65 i 1#32) rfl rfl (sword (i 0) 1) rfl _ _ _ _ x, ?_⟩
      refine List.forall_mem_cons.2 ⟨fun x => deq_piece i arg2 harg2 arg3 harg3 x0 x1 30 0 (by decide) ![3840, 0] (k0_off65 i 0#32) rfl rfl (sword (i 0) 0) rfl _ _ _ _ x, ?_⟩
      refine List.forall_mem_cons.2 ⟨fun x => deq_piece i arg2 harg2 arg3 harg3 x0 x1 29 3 (by decide) ![3712, 384] (k0_off64 i 3#32) rfl rfl (sword (i 0) 3) rfl _ _ _ _ x, ?_⟩
      refine List.forall_mem_cons.2 ⟨fun x => deq_piece i arg2 harg2 arg3 harg3 x0 x1 29 2 (by decide) ![3712, 256] (k0_off64 i 2#32) rfl rfl (sword (i 0) 2) rfl _ _ _ _ x, ?_⟩
      refine List.forall_mem_cons.2 ⟨fun x => deq_piece i arg2 harg2 arg3 harg3 x0 x1 29 1 (by decide) ![3712, 128] (k0_off64 i 1#32) rfl rfl (sword (i 0) 1) rfl _ _ _ _ x, ?_⟩
      refine List.forall_mem_cons.2 ⟨fun x => deq_piece i arg2 harg2 arg3 harg3 x0 x1 29 0 (by decide) ![3712, 0] (k0_off64 i 0#32) rfl rfl (sword (i 0) 0) rfl _ _ _ _ x, ?_⟩
      refine List.forall_mem_cons.2 ⟨fun x => deq_piece i arg2 harg2 arg3 harg3 x0 x1 28 3 (by decide) ![3584, 384] (k0_off63 i 3#32) rfl rfl (sword (i 0) 3) rfl _ _ _ _ x, ?_⟩
      refine List.forall_mem_cons.2 ⟨fun x => deq_piece i arg2 harg2 arg3 harg3 x0 x1 28 2 (by decide) ![3584, 256] (k0_off63 i 2#32) rfl rfl (sword (i 0) 2) rfl _ _ _ _ x, ?_⟩
      refine List.forall_mem_cons.2 ⟨fun x => deq_piece i arg2 harg2 arg3 harg3 x0 x1 28 1 (by decide) ![3584, 128] (k0_off63 i 1#32) rfl rfl (sword (i 0) 1) rfl _ _ _ _ x, ?_⟩
      refine List.forall_mem_cons.2 ⟨fun x => deq_piece i arg2 harg2 arg3 harg3 x0 x1 28 0 (by decide) ![3584, 0] (k0_off63 i 0#32) rfl rfl (sword (i 0) 0) rfl _ _ _ _ x, ?_⟩
      refine List.forall_mem_cons.2 ⟨fun x => deq_piece i arg2 harg2 arg3 harg3 x0 x1 27 3 (by decide) ![3456, 384] (k0_off62 i 3#32) rfl rfl (sword (i 0) 3) rfl _ _ _ _ x, ?_⟩
      refine List.forall_mem_cons.2 ⟨fun x => deq_piece i arg2 harg2 arg3 harg3 x0 x1 27 2 (by decide) ![3456, 256] (k0_off62 i 2#32) rfl rfl (sword (i 0) 2) rfl _ _ _ _ x, ?_⟩
      refine List.forall_mem_cons.2 ⟨fun x => deq_piece i arg2 harg2 arg3 harg3 x0 x1 27 1 (by decide) ![3456, 128] (k0_off62 i 1#32) rfl rfl (sword (i 0) 1) rfl _ _ _ _ x, ?_⟩
      refine List.forall_mem_cons.2 ⟨fun x => deq_piece i arg2 harg2 arg3 harg3 x0 x1 27 0 (by decide) ![3456, 0] (k0_off62 i 0#32) rfl rfl (sword (i 0) 0) rfl _ _ _ _ x, ?_⟩
      refine List.forall_mem_cons.2 ⟨fun x => deq_piece i arg2 harg2 arg3 harg3 x0 x1 26 3 (by decide) ![3328, 384] (k0_off61 i 3#32) rfl rfl (sword (i 0) 3) rfl _ _ _ _ x, ?_⟩
      refine List.forall_mem_cons.2 ⟨fun x => deq_piece i arg2 harg2 arg3 harg3 x0 x1 26 2 (by decide) ![3328, 256] (k0_off61 i 2#32) rfl rfl (sword (i 0) 2) rfl _ _ _ _ x, ?_⟩
      refine List.forall_mem_cons.2 ⟨fun x => deq_piece i arg2 harg2 arg3 harg3 x0 x1 26 1 (by decide) ![3328, 128] (k0_off61 i 1#32) rfl rfl (sword (i 0) 1) rfl _ _ _ _ x, ?_⟩
      refine List.forall_mem_cons.2 ⟨fun x => deq_piece i arg2 harg2 arg3 harg3 x0 x1 26 0 (by decide) ![3328, 0] (k0_off61 i 0#32) rfl rfl (sword (i 0) 0) rfl _ _ _ _ x, ?_⟩
      refine List.forall_mem_cons.2 ⟨fun x => deq_piece i arg2 harg2 arg3 harg3 x0 x1 25 3 (by decide) ![3200, 384] (k0_off60 i 3#32) rfl rfl (sword (i 0) 3) rfl _ _ _ _ x, ?_⟩
      refine List.forall_mem_cons.2 ⟨fun x => deq_piece i arg2 harg2 arg3 harg3 x0 x1 25 2 (by decide) ![3200, 256] (k0_off60 i 2#32) rfl rfl (sword (i 0) 2) rfl _ _ _ _ x, ?_⟩
      refine List.forall_mem_cons.2 ⟨fun x => deq_piece i arg2 harg2 arg3 harg3 x0 x1 25 1 (by decide) ![3200, 128] (k0_off60 i 1#32) rfl rfl (sword (i 0) 1) rfl _ _ _ _ x, ?_⟩
      refine List.forall_mem_cons.2 ⟨fun x => deq_piece i arg2 harg2 arg3 harg3 x0 x1 25 0 (by decide) ![3200, 0] (k0_off60 i 0#32) rfl rfl (sword (i 0) 0) rfl _ _ _ _ x, ?_⟩
      refine List.forall_mem_cons.2 ⟨fun x => deq_piece i arg2 harg2 arg3 harg3 x0 x1 24 3 (by decide) ![3072, 384] (k0_off59 i 3#32) rfl rfl (sword (i 0) 3) rfl _ _ _ _ x, ?_⟩
      refine List.forall_mem_cons.2 ⟨fun x => deq_piece i arg2 harg2 arg3 harg3 x0 x1 24 2 (by decide) ![3072, 256] (k0_off59 i 2#32) rfl rfl (sword (i 0) 2) rfl _ _ _ _ x, ?_⟩
      refine List.forall_mem_cons.2 ⟨fun x => deq_piece i arg2 harg2 arg3 harg3 x0 x1 24 1 (by decide) ![3072, 128] (k0_off59 i 1#32) rfl rfl (sword (i 0) 1) rfl _ _ _ _ x, ?_⟩
      refine List.forall_mem_cons.2 ⟨fun x => deq_piece i arg2 harg2 arg3 harg3 x0 x1 24 0 (by decide) ![3072, 0] (k0_off59 i 0#32) rfl rfl (sword (i 0) 0) rfl _ _ _ _ x, ?_⟩
      refine List.forall_mem_cons.2 ⟨fun x => deq_piece i arg2 harg2 arg3 harg3 x0 x1 23 3 (by decide) ![2944, 384] (k0_off58 i 3#32) rfl rfl (sword (i 0) 3) rfl _ _ _ _ x, ?_⟩
      refine List.forall_mem_cons.2 ⟨fun x => deq_piece i arg2 harg2 arg3 harg3 x0 x1 23 2 (by decide) ![2944, 256] (k0_off58 i 2#32) rfl rfl (sword (i 0) 2) rfl _ _ _ _ x, ?_⟩
      refine List.forall_mem_cons.2 ⟨fun x => deq_piece i arg2 harg2 arg3 harg3 x0 x1 23 1 (by decide) ![2944, 128] (k0_off58 i 1#32) rfl rfl (sword (i 0) 1) rfl _ _ _ _ x, ?_⟩
      refine List.forall_mem_cons.2 ⟨fun x => deq_piece i arg2 harg2 arg3 harg3 x0 x1 23 0 (by decide) ![2944, 0] (k0_off58 i 0#32) rfl rfl (sword (i 0) 0) rfl _ _ _ _ x, ?_⟩
      refine List.forall_mem_cons.2 ⟨fun x => deq_piece i arg2 harg2 arg3 harg3 x0 x1 22 3 (by decide) ![2816, 384] (k0_off57 i 3#32) rfl rfl (sword (i 0) 3) rfl _ _ _ _ x, ?_⟩
      refine List.forall_mem_cons.2 ⟨fun x => deq_piece i arg2 harg2 arg3 harg3 x0 x1 22 2 (by decide) ![2816, 256] (k0_off57 i 2#32) rfl rfl (sword (i 0) 2) rfl _ _ _ _ x, ?_⟩
      refine List.forall_mem_cons.2 ⟨fun x => deq_piece i arg2 harg2 arg3 harg3 x0 x1 22 1 (by decide) ![2816, 128] (k0_off57 i 1#32) rfl rfl (sword (i 0) 1) rfl _ _ _ _ x, ?_⟩
      refine List.forall_mem_cons.2 ⟨fun x => deq_piece i arg2 harg2 arg3 harg3 x0 x1 22 0 (by decide) ![2816, 0] (k0_off57 i 0#32) rfl rfl (sword (i 0) 0) rfl _ _ _ _ x, ?_⟩
      refine List.forall_mem_cons.2 ⟨fun x => deq_piece i arg2 harg2 arg3 harg3 x0 x1 21 3 (by decide) ![2688, 384] (k0_off56 i 3#32) rfl rfl (sword (i 0) 3) rfl _ _ _ _ x, ?_⟩
      refine List.forall_mem_cons.2 ⟨fun x => deq_piece i arg2 harg2 arg3 harg3 x0 x1 21 2 (by decide) ![2688, 256] (k0_off56 i 2#32) rfl rfl (sword (i 0) 2) rfl _ _ _ _ x, ?_⟩
      refine List.forall_mem_cons.2 ⟨fun x => deq_piece i arg2 harg2 arg3 harg3 x0 x1 21 1 (by decide) ![2688, 128] (k0_off56 i 1#32) rfl rfl (sword (i 0) 1) rfl _ _ _ _ x, ?_⟩
      refine List.forall_mem_cons.2 ⟨fun x => deq_piece i arg2 harg2 arg3 harg3 x0 x1 21 0 (by decide) ![2688, 0] (k0_off56 i 0#32) rfl rfl (sword (i 0) 0) rfl _ _ _ _ x, ?_⟩
      refine List.forall_mem_cons.2 ⟨fun x => deq_piece i arg2 harg2 arg3 harg3 x0 x1 20 3 (by decide) ![2560, 384] (k0_off55 i 3#32) rfl rfl (sword (i 0) 3) rfl _ _ _ _ x, ?_⟩
      refine List.forall_mem_cons.2 ⟨fun x => deq_piece i arg2 harg2 arg3 harg3 x0 x1 20 2 (by decide) ![2560, 256] (k0_off55 i 2#32) rfl rfl (sword (i 0) 2) rfl _ _ _ _ x, ?_⟩
      refine List.forall_mem_cons.2 ⟨fun x => deq_piece i arg2 harg2 arg3 harg3 x0 x1 20 1 (by decide) ![2560, 128] (k0_off55 i 1#32) rfl rfl (sword (i 0) 1) rfl _ _ _ _ x, ?_⟩
      refine List.forall_mem_cons.2 ⟨fun x => deq_piece i arg2 harg2 arg3 harg3 x0 x1 20 0 (by decide) ![2560, 0] (k0_off55 i 0#32) rfl rfl (sword (i 0) 0) rfl _ _ _ _ x, ?_⟩
      refine List.forall_mem_cons.2 ⟨fun x => deq_piece i arg2 harg2 arg3 harg3 x0 x1 19 3 (by decide) ![2432, 384] (k0_off54 i 3#32) rfl rfl (sword (i 0) 3) rfl _ _ _ _ x, ?_⟩
      refine List.forall_mem_cons.2 ⟨fun x => deq_piece i arg2 harg2 arg3 harg3 x0 x1 19 2 (by decide) ![2432, 256] (k0_off54 i 2#32) rfl rfl (sword (i 0) 2) rfl _ _ _ _ x, ?_⟩
      refine List.forall_mem_cons.2 ⟨fun x => deq_piece i arg2 harg2 arg3 harg3 x0 x1 19 1 (by decide) ![2432, 128] (k0_off54 i 1#32) rfl rfl (sword (i 0) 1) rfl _ _ _ _ x, ?_⟩
      refine List.forall_mem_cons.2 ⟨fun x => deq_piece i arg2 harg2 arg3 harg3 x0 x1 19 0 (by decide) ![2432, 0] (k0_off54 i 0#32) rfl rfl (sword (i 0) 0) rfl _ _ _ _ x, ?_⟩
      refine List.forall_mem_cons.2 ⟨fun x => deq_piece i arg2 harg2 arg3 harg3 x0 x1 18 3 (by decide) ![2304, 384] (k0_off53 i 3#32) rfl rfl (sword (i 0) 3) rfl _ _ _ _ x, ?_⟩
      refine List.forall_mem_cons.2 ⟨fun x => deq_piece i arg2 harg2 arg3 harg3 x0 x1 18 2 (by decide) ![2304, 256] (k0_off53 i 2#32) rfl rfl (sword (i 0) 2) rfl _ _ _ _ x, ?_⟩
      refine List.forall_mem_cons.2 ⟨fun x => deq_piece i arg2 harg2 arg3 harg3 x0 x1 18 1 (by decide) ![2304, 128] (k0_off53 i 1#32) rfl rfl (sword (i 0) 1) rfl _ _ _ _ x, ?_⟩
      refine List.forall_mem_cons.2 ⟨fun x => deq_piece i arg2 harg2 arg3 harg3 x0 x1 18 0 (by decide) ![2304, 0] (k0_off53 i 0#32) rfl rfl (sword (i 0) 0) rfl _ _ _ _ x, ?_⟩
      refine List.forall_mem_cons.2 ⟨fun x => deq_piece i arg2 harg2 arg3 harg3 x0 x1 17 3 (by decide) ![2176, 384] (k0_off52 i 3#32) rfl rfl (sword (i 0) 3) rfl _ _ _ _ x, ?_⟩
      refine List.forall_mem_cons.2 ⟨fun x => deq_piece i arg2 harg2 arg3 harg3 x0 x1 17 2 (by decide) ![2176, 256] (k0_off52 i 2#32) rfl rfl (sword (i 0) 2) rfl _ _ _ _ x, ?_⟩
      refine List.forall_mem_cons.2 ⟨fun x => deq_piece i arg2 harg2 arg3 harg3 x0 x1 17 1 (by decide) ![2176, 128] (k0_off52 i 1#32) rfl rfl (sword (i 0) 1) rfl _ _ _ _ x, ?_⟩
      refine List.forall_mem_cons.2 ⟨fun x => deq_piece i arg2 harg2 arg3 harg3 x0 x1 17 0 (by decide) ![2176, 0] (k0_off52 i 0#32) rfl rfl (sword (i 0) 0) rfl _ _ _ _ x, ?_⟩
      refine List.forall_mem_cons.2 ⟨fun x => deq_piece i arg2 harg2 arg3 harg3 x0 x1 16 3 (by decide) ![2048, 384] (k0_off51 i 3#32) rfl rfl (sword (i 0) 3) rfl _ _ _ _ x, ?_⟩
      refine List.forall_mem_cons.2 ⟨fun x => deq_piece i arg2 harg2 arg3 harg3 x0 x1 16 2 (by decide) ![2048, 256] (k0_off51 i 2#32) rfl rfl (sword (i 0) 2) rfl _ _ _ _ x, ?_⟩
      refine List.forall_mem_cons.2 ⟨fun x => deq_piece i arg2 harg2 arg3 harg3 x0 x1 16 1 (by decide) ![2048, 128] (k0_off51 i 1#32) rfl rfl (sword (i 0) 1) rfl _ _ _ _ x, ?_⟩
      refine List.forall_mem_cons.2 ⟨fun x => deq_piece i arg2 harg2 arg3 harg3 x0 x1 16 0 (by decide) ![2048, 0] (k0_off51 i 0#32) rfl rfl (sword (i 0) 0) rfl _ _ _ _ x, ?_⟩
      refine List.forall_mem_cons.2 ⟨fun x => deq_piece i arg2 harg2 arg3 harg3 x0 x1 15 3 (by decide) ![1920, 384] (k0_off50 i 3#32) rfl rfl (sword (i 0) 3) rfl _ _ _ _ x, ?_⟩
      refine List.forall_mem_cons.2 ⟨fun x => deq_piece i arg2 harg2 arg3 harg3 x0 x1 15 2 (by decide) ![1920, 256] (k0_off50 i 2#32) rfl rfl (sword (i 0) 2) rfl _ _ _ _ x, ?_⟩
      refine List.forall_mem_cons.2 ⟨fun x => deq_piece i arg2 harg2 arg3 harg3 x0 x1 15 1 (by decide) ![1920, 128] (k0_off50 i 1#32) rfl rfl (sword (i 0) 1) rfl _ _ _ _ x, ?_⟩
      refine List.forall_mem_cons.2 ⟨fun x => deq_piece i arg2 harg2 arg3 harg3 x0 x1 15 0 (by decide) ![1920, 0] (k0_off50 i 0#32) rfl rfl (sword (i 0) 0) rfl _ _ _ _ x, ?_⟩
      refine List.forall_mem_cons.2 ⟨fun x => deq_piece i arg2 harg2 arg3 harg3 x0 x1 14 3 (by decide) ![1792, 384] (k0_off49 i 3#32) rfl rfl (sword (i 0) 3) rfl _ _ _ _ x, ?_⟩
      refine List.forall_mem_cons.2 ⟨fun x => deq_piece i arg2 harg2 arg3 harg3 x0 x1 14 2 (by decide) ![1792, 256] (k0_off49 i 2#32) rfl rfl (sword (i 0) 2) rfl _ _ _ _ x, ?_⟩
      refine List.forall_mem_cons.2 ⟨fun x => deq_piece i arg2 harg2 arg3 harg3 x0 x1 14 1 (by decide) ![1792, 128] (k0_off49 i 1#32) rfl rfl (sword (i 0) 1) rfl _ _ _ _ x, ?_⟩
      refine List.forall_mem_cons.2 ⟨fun x => deq_piece i arg2 harg2 arg3 harg3 x0 x1 14 0 (by decide) ![1792, 0] (k0_off49 i 0#32) rfl rfl (sword (i 0) 0) rfl _ _ _ _ x, ?_⟩
      refine List.forall_mem_cons.2 ⟨fun x => deq_piece i arg2 harg2 arg3 harg3 x0 x1 13 3 (by decide) ![1664, 384] (k0_off48 i 3#32) rfl rfl (sword (i 0) 3) rfl _ _ _ _ x, ?_⟩
      refine List.forall_mem_cons.2 ⟨fun x => deq_piece i arg2 harg2 arg3 harg3 x0 x1 13 2 (by decide) ![1664, 256] (k0_off48 i 2#32) rfl rfl (sword (i 0) 2) rfl _ _ _ _ x, ?_⟩
      refine List.forall_mem_cons.2 ⟨fun x => deq_piece i arg2 harg2 arg3 harg3 x0 x1 13 1 (by decide) ![1664, 128] (k0_off48 i 1#32) rfl rfl (sword (i 0) 1) rfl _ _ _ _ x, ?_⟩
      refine List.forall_mem_cons.2 ⟨fun x => deq_piece i arg2 harg2 arg3 harg3 x0 x1 13 0 (by decide) ![1664, 0] (k0_off48 i 0#32) rfl rfl (sword (i 0) 0) rfl _ _ _ _ x, ?_⟩
      refine List.forall_mem_cons.2 ⟨fun x => deq_piece i arg2 harg2 arg3 harg3 x0 x1 12 3 (by decide) ![1536, 384] (k0_off47 i 3#32) rfl rfl (sword (i 0) 3) rfl _ _ _ _ x, ?_⟩
      refine List.forall_mem_cons.2 ⟨fun x => deq_piece i arg2 harg2 arg3 harg3 x0 x1 12 2 (by decide) ![1536, 256] (k0_off47 i 2#32) rfl rfl (sword (i 0) 2) rfl _ _ _ _ x, ?_⟩
      refine List.forall_mem_cons.2 ⟨fun x => deq_piece i arg2 harg2 arg3 harg3 x0 x1 12 1 (by decide) ![1536, 128] (k0_off47 i 1#32) rfl rfl (sword (i 0) 1) rfl _ _ _ _ x, ?_⟩
      refine List.forall_mem_cons.2 ⟨fun x => deq_piece i arg2 harg2 arg3 harg3 x0 x1 12 0 (by decide) ![1536, 0] (k0_off47 i 0#32) rfl rfl (sword (i 0) 0) rfl _ _ _ _ x, ?_⟩
      refine List.forall_mem_cons.2 ⟨fun x => deq_piece i arg2 harg2 arg3 harg3 x0 x1 11 3 (by decide) ![1408, 384] (k0_off46 i 3#32) rfl rfl (sword (i 0) 3) rfl _ _ _ _ x, ?_⟩
      refine List.forall_mem_cons.2 ⟨fun x => deq_piece i arg2 harg2 arg3 harg3 x0 x1 11 2 (by decide) ![1408, 256] (k0_off46 i 2#32) rfl rfl (sword (i 0) 2) rfl _ _ _ _ x, ?_⟩
      refine List.forall_mem_cons.2 ⟨fun x => deq_piece i arg2 harg2 arg3 harg3 x0 x1 11 1 (by decide) ![1408, 128] (k0_off46 i 1#32) rfl rfl (sword (i 0) 1) rfl _ _ _ _ x, ?_⟩
      refine List.forall_mem_cons.2 ⟨fun x => deq_piece i arg2 harg2 arg3 harg3 x0 x1 11 0 (by decide) ![1408, 0] (k0_off46 i 0#32) rfl rfl (sword (i 0) 0) rfl _ _ _ _ x, ?_⟩
      refine List.forall_mem_cons.2 ⟨fun x => deq_piece i arg2 harg2 arg3 harg3 x0 x1 10 3 (by decide) ![1280, 384] (k0_off45 i 3#32) rfl rfl (sword (i 0) 3) rfl _ _ _ _ x, ?_⟩
      refine List.forall_mem_cons.2 ⟨fun x => deq_piece i arg2 harg2 arg3 harg3 x0 x1 10 2 (by decide) ![1280, 256] (k0_off45 i 2#32) rfl rfl (sword (i 0) 2) rfl _ _ _ _ x, ?_⟩
      refine List.forall_mem_cons.2 ⟨fun x => deq_piece i arg2 harg2 arg3 harg3 x0 x1 10 1 (by decide) ![1280, 128] (k0_off45 i 1#32) rfl rfl (sword (i 0) 1) rfl _ _ _ _ x, ?_⟩
      refine List.forall_mem_cons.2 ⟨fun x => deq_piece i arg2 harg2 arg3 harg3 x0 x1 10 0 (by decide) ![1280, 0] (k0_off45 i 0#32) rfl rfl (sword (i 0) 0) rfl _ _ _ _ x, ?_⟩
      refine List.forall_mem_cons.2 ⟨fun x => deq_piece i arg2 harg2 arg3 harg3 x0 x1 9 3 (by decide) ![1152, 384] (k0_off44 i 3#32) rfl rfl (sword (i 0) 3) rfl _ _ _ _ x, ?_⟩
      refine List.forall_mem_cons.2 ⟨fun x => deq_piece i arg2 harg2 arg3 harg3 x0 x1 9 2 (by decide) ![1152, 256] (k0_off44 i 2#32) rfl rfl (sword (i 0) 2) rfl _ _ _ _ x, ?_⟩
      refine List.forall_mem_cons.2 ⟨fun x => deq_piece i arg2 harg2 arg3 harg3 x0 x1 9 1 (by decide) ![1152, 128] (k0_off44 i 1#32) rfl rfl (sword (i 0) 1) rfl _ _ _ _ x, ?_⟩
      refine List.forall_mem_cons.2 ⟨fun x => deq_piece i arg2 harg2 arg3 harg3 x0 x1 9 0 (by decide) ![1152, 0] (k0_off44 i 0#32) rfl rfl (sword (i 0) 0) rfl _ _ _ _ x, ?_⟩
      refine List.forall_mem_cons.2 ⟨fun x => deq_piece i arg2 harg2 arg3 harg3 x0 x1 8 3 (by decide) ![1024, 384] (k0_off43 i 3#32) rfl rfl (sword (i 0) 3) rfl _ _ _ _ x, ?_⟩
      refine List.forall_mem_cons.2 ⟨fun x => deq_piece i arg2 harg2 arg3 harg3 x0 x1 8 2 (by decide) ![1024, 256] (k0_off43 i 2#32) rfl rfl (sword (i 0) 2) rfl _ _ _ _ x, ?_⟩
      refine List.forall_mem_cons.2 ⟨fun x => deq_piece i arg2 harg2 arg3 harg3 x0 x1 8 1 (by decide) ![1024, 128] (k0_off43 i 1#32) rfl rfl (sword (i 0) 1) rfl _ _ _ _ x, ?_⟩
      refine List.forall_mem_cons.2 ⟨fun x => deq_piece i arg2 harg2 arg3 harg3 x0 x1 8 0 (by decide) ![1024, 0] (k0_off43 i 0#32) rfl rfl (sword (i 0) 0) rfl _ _ _ _ x, ?_⟩
      refine List.forall_mem_cons.2 ⟨fun x => deq_piece i arg2 harg2 arg3 harg3 x0 x1 7 3 (by decide) ![896, 384] (k0_off42 i 3#32) rfl rfl (sword (i 0) 3) rfl _ _ _ _ x, ?_⟩
      refine List.forall_mem_cons.2 ⟨fun x => deq_piece i arg2 harg2 arg3 harg3 x0 x1 7 2 (by decide) ![896, 256] (k0_off42 i 2#32) rfl rfl (sword (i 0) 2) rfl _ _ _ _ x, ?_⟩
      refine List.forall_mem_cons.2 ⟨fun x => deq_piece i arg2 harg2 arg3 harg3 x0 x1 7 1 (by decide) ![896, 128] (k0_off42 i 1#32) rfl rfl (sword (i 0) 1) rfl _ _ _ _ x, ?_⟩
      refine List.forall_mem_cons.2 ⟨fun x => deq_piece i arg2 harg2 arg3 harg3 x0 x1 7 0 (by decide) ![896, 0] (k0_off42 i 0#32) rfl rfl (sword (i 0) 0) rfl _ _ _ _ x, ?_⟩
      refine List.forall_mem_cons.2 ⟨fun x => deq_piece i arg2 harg2 arg3 harg3 x0 x1 6 3 (by decide) ![768, 384] (k0_off41 i 3#32) rfl rfl (sword (i 0) 3) rfl _ _ _ _ x, ?_⟩
      refine List.forall_mem_cons.2 ⟨fun x => deq_piece i arg2 harg2 arg3 harg3 x0 x1 6 2 (by decide) ![768, 256] (k0_off41 i 2#32) rfl rfl (sword (i 0) 2) rfl _ _ _ _ x, ?_⟩
      refine List.forall_mem_cons.2 ⟨fun x => deq_piece i arg2 harg2 arg3 harg3 x0 x1 6 1 (by decide) ![768, 128] (k0_off41 i 1#32) rfl rfl (sword (i 0) 1) rfl _ _ _ _ x, ?_⟩
      refine List.forall_mem_cons.2 ⟨fun x => deq_piece i arg2 harg2 arg3 harg3 x0 x1 6 0 (by decide) ![768, 0] (k0_off41 i 0#32) rfl rfl (sword (i 0) 0) rfl _ _ _ _ x, ?_⟩
      refine List.forall_mem_cons.2 ⟨fun x => deq_piece i arg2 harg2 arg3 harg3 x0 x1 5 3 (by decide) ![640, 384] (k0_off40 i 3#32) rfl rfl (sword (i 0) 3) rfl _ _ _ _ x, ?_⟩
      refine List.forall_mem_cons.2 ⟨fun x => deq_piece i arg2 harg2 arg3 harg3 x0 x1 5 2 (by decide) ![640, 256] (k0_off40 i 2#32) rfl rfl (sword (i 0) 2) rfl _ _ _ _ x, ?_⟩
      refine List.forall_mem_cons.2 ⟨fun x => deq_piece i arg2 harg2 arg3 harg3 x0 x1 5 1 (by decide) ![640, 128] (k0_off40 i 1#32) rfl rfl (sword (i 0) 1) rfl _ _ _ _ x, ?_⟩
      refine List.forall_mem_cons.2 ⟨fun x => deq_piece i arg2 harg2 arg3 harg3 x0 x1 5 0 (by decide) ![640, 0] (k0_off40 i 0#32) rfl rfl (sword (i 0) 0) rfl _ _ _ _ x, ?_⟩
      refine List.forall_mem_cons.2 ⟨fun x => deq_piece i arg2 harg2 arg3 harg3 x0 x1 4 3 (by decide) ![512, 384] (k0_off39 i 3#32) rfl rfl (sword (i 0) 3) rfl _ _ _ _ x, ?_⟩
      refine List.forall_mem_cons.2 ⟨fun x => deq_piece i arg2 harg2 arg3 harg3 x0 x1 4 2 (by decide) ![512, 256] (k0_off39 i 2#32) rfl rfl (sword (i 0) 2) rfl _ _ _ _ x, ?_⟩
      refine List.forall_mem_cons.2 ⟨fun x => deq_piece i arg2 harg2 arg3 harg3 x0 x1 4 1 (by decide) ![512, 128] (k0_off39 i 1#32) rfl rfl (sword (i 0) 1) rfl _ _ _ _ x, ?_⟩
      refine List.forall_mem_cons.2 ⟨fun x => deq_piece i arg2 harg2 arg3 harg3 x0 x1 4 0 (by decide) ![512, 0] (k0_off39 i 0#32) rfl rfl (sword (i 0) 0) rfl _ _ _ _ x, ?_⟩
      refine List.forall_mem_cons.2 ⟨fun x => deq_piece i arg2 harg2 arg3 harg3 x0 x1 3 3 (by decide) ![384, 384] (k0_off38 i 3#32) rfl rfl (sword (i 0) 3) rfl _ _ _ _ x, ?_⟩
      refine List.forall_mem_cons.2 ⟨fun x => deq_piece i arg2 harg2 arg3 harg3 x0 x1 3 2 (by decide) ![384, 256] (k0_off38 i 2#32) rfl rfl (sword (i 0) 2) rfl _ _ _ _ x, ?_⟩
      refine List.forall_mem_cons.2 ⟨fun x => deq_piece i arg2 harg2 arg3 harg3 x0 x1 3 1 (by decide) ![384, 128] (k0_off38 i 1#32) rfl rfl (sword (i 0) 1) rfl _ _ _ _ x, ?_⟩
      refine List.forall_mem_cons.2 ⟨fun x => deq_piece i arg2 harg2 arg3 harg3 x0 x1 3 0 (by decide) ![384, 0] (k0_off38 i 0#32) rfl rfl (sword (i 0) 0) rfl _ _ _ _ x, ?_⟩
      refine List.forall_mem_cons.2 ⟨fun x => deq_piece i arg2 harg2 arg3 harg3 x0 x1 2 3 (by decide) ![256, 384] (k0_off37 i 3#32) rfl rfl (sword (i 0) 3) rfl _ _ _ _ x, ?_⟩
      refine List.forall_mem_cons.2 ⟨fun x => deq_piece i arg2 harg2 arg3 harg3 x0 x1 2 2 (by decide) ![256, 256] (k0_off37 i 2#32) rfl rfl (sword (i 0) 2) rfl _ _ _ _ x, ?_⟩
      refine List.forall_mem_cons.2 ⟨fun x => deq_piece i arg2 harg2 arg3 harg3 x0 x1 2 1 (by decide) ![256, 128] (k0_off37 i 1#32) rfl rfl (sword (i 0) 1) rfl _ _ _ _ x, ?_⟩
      refine List.forall_mem_cons.2 ⟨fun x => deq_piece i arg2 harg2 arg3 harg3 x0 x1 2 0 (by decide) ![256, 0] (k0_off37 i 0#32) rfl rfl (sword (i 0) 0) rfl _ _ _ _ x, ?_⟩
      refine List.forall_mem_cons.2 ⟨fun x => deq_piece i arg2 harg2 arg3 harg3 x0 x1 1 3 (by decide) ![128, 384] (k0_off36 i 3#32) rfl rfl (sword (i 0) 3) rfl _ _ _ _ x, ?_⟩
      refine List.forall_mem_cons.2 ⟨fun x => deq_piece i arg2 harg2 arg3 harg3 x0 x1 1 2 (by decide) ![128, 256] (k0_off36 i 2#32) rfl rfl (sword (i 0) 2) rfl _ _ _ _ x, ?_⟩
      refine List.forall_mem_cons.2 ⟨fun x => deq_piece i arg2 harg2 arg3 harg3 x0 x1 1 1 (by decide) ![128, 128] (k0_off36 i 1#32) rfl rfl (sword (i 0) 1) rfl _ _ _ _ x, ?_⟩
      refine List.forall_mem_cons.2 ⟨fun x => deq_piece i arg2 harg2 arg3 harg3 x0 x1 1 0 (by decide) ![128, 0] (k0_off36 i 0#32) rfl rfl (sword (i 0) 0) rfl _ _ _ _ x, ?_⟩
      refine List.forall_mem_cons.2 ⟨fun x => deq_piece i arg2 harg2 arg3 harg3 x0 x1 0 3 (by decide) ![0, 384] (k0_off35 i 3#32) rfl rfl (sword (i 0) 3) rfl _ _ _ _ x, ?_⟩
      refine List.forall_mem_cons.2 ⟨fun x => deq_piece i arg2 harg2 arg3 harg3 x0 x1 0 2 (by decide) ![0, 256] (k0_off35 i 2#32) rfl rfl (sword (i 0) 2) rfl _ _ _ _ x, ?_⟩
      refine List.forall_mem_cons.2 ⟨fun x => deq_piece i arg2 harg2 arg3 harg3 x0 x1 0 1 (by decide) ![0, 128] (k0_off35 i 1#32) rfl rfl (sword (i 0) 1) rfl _ _ _ _ x, ?_⟩
      refine List.forall_mem_cons.2 ⟨fun x => deq_piece i arg2 harg2 arg3 harg3 x0 x1 0 0 (by decide) ![0, 0] (k0_off35 i 0#32) rfl rfl (sword (i 0) 0) rfl _ _ _ _ x, ?_⟩
      exact List.forall_mem_nil _
    isplitl [HS2]
    · iexists _; isplitr; · ipureintro; exact harg8.read_unread _
      iexact HS2
    isplitl [Hq0]; · iexact Hq0
    isplitl [Hh0]; · iexact Hh0
    iexists _; iexact HW

end Cert.KernelIdeal.Down

end
-- ==== Proof.Down.Run.lean ====
/- The run of the whole program: it ends, the result array holds the blocks that the grid points compute, and the
   argument arrays are unchanged. A grid point dequantises one weight block into one of two scratch buffers, and from the
   second point on multiplies by the block that the point before it left in the other. -/
module

public import proofs.«01_k».proof.Proof.Down.RunA
public import proofs.«01_k».proof.Proof.Down.RunB
public import proofs.«01_k».proof.Proof.Down.RunC
public import Idealize.ShloMosaic.Lib.Claim

@[expose] public section

set_option maxRecDepth 16384

noncomputable section

namespace Cert.KernelIdeal.Down

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points leave -/

/-- The point before `t` (`t` itself at the first point). -/
def prv (t : Fin cfg0.N) : Fin cfg0.N := ⟨t.val - 1, lt_of_le_of_lt (Nat.sub_le _ _) t.isLt⟩

/-- The weight block that point `t` dequantises. -/
def dq (c : Dev nD) (t : Fin cfg0.N) : Vec F S4352x512 .bf16 := deq (grid0.coords t) (iblk m c 0 t) (iblk m c 1 t)

/-- The output block that point `t` computes, from the weight block of the point before it. -/
def ob (c : Dev nD) (t : Fin cfg0.N) : Vec F S2048x512 .bf16 := out (iblk m c 2 t) (V m c main_arg0) (dq m c (prv t))

/-- The resources that no point changes. -/
def rest (c : Dev nD) : sProp 𝕄 :=
  iprop((∃ r, prngReg c r) ∗ iprop(semVal ((c : Thread nD τ), SemLoc.dma 7) 0) ∗ iprop(hbPt0 c hbM0_0 (V m c main_arg0)))

/-- What holds before point `k`: before the first, the launch contents; after that the activations are in their scratch
    buffer, and the block of the point before is in the first weight buffer if that point is even, else in the second. -/
def inv (c : Dev nD) (k : ℕ) (hk : k < cfg0.N + 1) : sProp 𝕄 :=
  if h0 : k = 0 then Pipeline.ΦD osem0 spec0 H0 (V m) c
  else if k % 2 = 1 then
    iprop((owns (c : Thread nD τ) scM0_0 fullShare (V m c main_arg0) ∗ owns (c : Thread nD τ) scM0_1 fullShare (dq m c ⟨k - 1, by omega⟩) ∗ (∃ d, owns (c : Thread nD τ) scM0_2 fullShare d)) ∗ rest m c)
  else
    iprop((owns (c : Thread nD τ) scM0_0 fullShare (V m c main_arg0) ∗ (∃ d, owns (c : Thread nD τ) scM0_1 fullShare d) ∗ owns (c : Thread nD τ) scM0_2 fullShare (dq m c ⟨k - 1, by omega⟩)) ∗ rest m c)

theorem inv_zero (c : Dev nD) (hk) :
    inv m c 0 hk = iprop(((∃ d, owns (c : Thread nD τ) scM0_0 fullShare d) ∗ (∃ d, owns (c : Thread nD τ) scM0_1 fullShare d) ∗ (∃ d, owns (c : Thread nD τ) scM0_2 fullShare d)) ∗ rest m c) := by
  unfold inv rest; rw [dif_pos rfl, PhiD0_eq]

theorem inv_even (c : Dev nD) (t : Fin cfg0.N) (h : t.val % 2 = 0) (hk) :
    inv m c (t.val + 1) hk = iprop((owns (c : Thread nD τ) scM0_0 fullShare (V m c main_arg0) ∗ owns (c : Thread nD τ) scM0_1 fullShare (dq m c t) ∗ (∃ d, owns (c : Thread nD τ) scM0_2 fullShare d)) ∗ rest m c) := by
  unfold inv; rw [dif_neg (by omega), if_pos (by omega)]; rfl

theorem inv_odd (c : Dev nD) (t : Fin cfg0.N) (h : t.val % 2 = 1) (hk) :
    inv m c (t.val + 1) hk = iprop((owns (c : Thread nD τ) scM0_0 fullShare (V m c main_arg0) ∗ (∃ d, owns (c : Thread nD τ) scM0_1 fullShare d) ∗ owns (c : Thread nD τ) scM0_2 fullShare (dq m c t)) ∗ rest m c) := by
  unfold inv; rw [dif_neg (by omega), if_neg (by omega)]; rfl

theorem inv_at_odd (c : Dev nD) (t : Fin cfg0.N) (h : t.val % 2 = 1) (hk) :
    inv m c t.val hk = iprop((owns (c : Thread nD τ) scM0_0 fullShare (V m c main_arg0) ∗ owns (c : Thread nD τ) scM0_1 fullShare (dq m c (prv t)) ∗ (∃ d, owns (c : Thread nD τ) scM0_2 fullShare d)) ∗ rest m c) := by
  unfold inv; rw [dif_neg (by omega), if_pos (by omega)]; rfl

theorem inv_at_even (c : Dev nD) (t : Fin cfg0.N) (h : t.val % 2 = 0) (h' : t.val ≠ 0) (hk) :
    inv m c t.val hk = iprop((owns (c : Thread nD τ) scM0_0 fullShare (V m c main_arg0) ∗ (∃ d, owns (c : Thread nD τ) scM0_1 fullShare d) ∗ owns (c : Thread nD τ) scM0_2 fullShare (dq m c (prv t))) ∗ rest m c) := by
  unfold inv; rw [dif_neg h', if_neg (by omega)]; rfl

/-! ## The pipeline's proof data -/

/-- The proof data of the one pipeline on core `c`: the arrays as the region finds them (`V`); after the body at
    point `t` each input's buffer at its block and the output's at `ob`; the invariant `inv`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ob m c t
  Φ t := inv m c t.val t.isLt
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = ob m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The output's buffer holds anything at the first point. -/
theorem before0_3_zero (c : Dev nD) (t : Fin cfg0.N) (h : t.val = 0) (d) : (dats m 0 c).before 3 t d = d := by
  unfold Dat.before; rw [show (cfg0.win 3).fetch t = false from rfl, if_neg Bool.false_ne_true, if_pos h]

/-- The output is idle at the first point only, and is not written back there. -/
theorem idle0_3 : ∀ t : Fin cfg0.N, t.val = 0 → cfg0.idle 3 (grid0.coords t) = true :=
  (by decide +kernel : ∀ t : Fin grid0.N, t.val = 0 → idle0 3 (grid0.coords t) = true)
theorem live0_3 : ∀ t : Fin cfg0.N, t.val ≠ 0 → cfg0.idle 3 (grid0.coords t) = false :=
  (by decide +kernel : ∀ t : Fin grid0.N, t.val ≠ 0 → idle0 3 (grid0.coords t) = false)
theorem flush0_3 : ∀ t : Fin cfg0.N, (cfg0.win 3).flush t = !decide (t.val = 0) :=
  (by decide +kernel : ∀ t : Fin grid0.N, win0_3.flush t = !decide (t.val = 0))

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1200000 in
/-- The body at any point, by the three cases of its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = inv m c t.val t.castSucc.isLt from rfl, show (dats m 0 c).Φ t.succ = inv m c (t.val + 1) t.succ.isLt from rfl]
  unfold Dat.owesAt Pipeline.owesWithin
  rw [show (dats m 0 c).owed t.castSucc = 0 from rfl, show (dats m 0 c).owed t.succ = 0 from rfl]
  have hN : t.val < 11 := lt_of_lt_of_eq t.isLt (show cfg0.N = 11 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · rw [Dat.leavesExact_idle _ 3 t (idle0_3 t h0) ((flush0_3 t).trans (by rw [decide_eq_true h0]; rfl))]
    simp only [before0_3_zero m c t h0]
    rw [show inv m c t.val t.castSucc.isLt = inv m c 0 (Nat.succ_pos _) from by congr 1, inv_zero, inv_even m c t (by omega)]
    unfold rest
    iintro ⟨⟨⟨HS0, HS1, HS2⟩, Hg, Hq0, Hh0⟩, ⟨%W, -, HW⟩, ⟨%d0, H0⟩, ⟨%d1, H1⟩, ⟨%d2, H2⟩, ⟨%d3, H3⟩⟩
    iapply ((runA c (grid0.coords t) _ _ _ _ _ _ _ _ _ _ _ _ _ _ ((hcond0_0 t).mpr (by omega)) (fun h => absurd ((hcond0_1 t).mp h) (by omega)) (fun h => absurd ((hcond0_2 t).mp h) (by omega)) (iblk m c 0 t) (iblk m c 1 t) (iblk m c 2 t) (V m c main_arg0)) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    iexact H3
  · by_cases h2 : t.val % 2 = 1
    · rw [show (dats m 0 c).leavesExact 3 t = owns (c : Thread nD τ) (ms0_3 t) fullShare ((dats m 0 c).after 3 t) from by
        unfold Dat.leavesExact; rw [live0_3 t h0], after0_3]
      rw [inv_at_odd m c t h2, inv_odd m c t h2]
      unfold rest
      iintro ⟨⟨⟨HS0, HS1, HS2⟩, Hg, Hq0, Hh0⟩, ⟨%W, -, HW⟩, ⟨%d0, H0⟩, ⟨%d1, H1⟩, ⟨%d2, H2⟩, ⟨%d3, H3⟩⟩
      iapply ((runB c (grid0.coords t) _ _ _ _ _ _ _ _ _ _ _ _ _ _ (fun h => absurd ((hcond0_0 t).mp h) (by omega)) (fun h => absurd ((hcond0_1 t).mp h) (by omega)) ((hcond0_2 t).mpr h2) (iblk m c 0 t) (iblk m c 1 t) (iblk m c 2 t) (V m c main_arg0) (dq m c (prv t)) (V m c main_arg0)) W _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [Hq0]; · iexact Hq0
      isplitl [Hh0]; · iexact Hh0
      isplitl [HW]; · iexact HW
      iintro ⟨H0, H1, H2, H3, HS0, HS1, HS2, Hq0, Hh0, ⟨%W', HW'⟩⟩
      isplitl [HS0 HS1 HS2 Hg Hq0 Hh0]
      · isplitl [HS0 HS1 HS2]
        · isplitl [HS0]; · iexact HS0
          isplitl [HS1]; · iexists _; iexact HS1
          iexact HS2
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      iexact H3
    · rw [show (dats m 0 c).leavesExact 3 t = owns (c : Thread nD τ) (ms0_3 t) fullShare ((dats m 0 c).after 3 t) from by
        unfold Dat.leavesExact; rw [live0_3 t h0], after0_3]
      rw [inv_at_even m c t (by omega) h0, inv_even m c t (by omega)]
      unfold rest
      iintro ⟨⟨⟨HS0, HS1, HS2⟩, Hg, Hq0, Hh0⟩, ⟨%W, -, HW⟩, ⟨%d0, H0⟩, ⟨%d1, H1⟩, ⟨%d2, H2⟩, ⟨%d3, H3⟩⟩
      iapply ((runC c (grid0.coords t) _ _ _ _ _ _ _ _ _ _ _ _ _ _ (fun h => absurd ((hcond0_0 t).mp h) (by omega)) ((hcond0_1 t).mpr (by rw [Nat.mod_eq_of_lt hN]; omega)) (fun h => absurd ((hcond0_2 t).mp h) (by omega)) (iblk m c 0 t) (iblk m c 1 t) (iblk m c 2 t) (V m c main_arg0) (dq m c (prv t)) (V m c main_arg0)) W _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [Hq0]; · iexact Hq0
      isplitl [Hh0]; · iexact Hh0
      isplitl [HW]; · iexact HW
      iintro ⟨H0, H1, H2, H3, HS0, HS1, HS2, Hq0, Hh0, ⟨%W', HW'⟩⟩
      isplitl [HS0 HS1 HS2 Hg Hq0 Hh0]
      · isplitl [HS0 HS1 HS2]
        · isplitl [HS0]; · iexact HS0
          isplitl [HS1]; · iexact HS1
          iexists _; iexact HS2
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- After the last point the scratch holds something. -/
theorem inv_last (c : Dev nD) : (dats m 0 c).Φ (Fin.last cfg0.N) ⊢ Pipeline.ΦD osem0 spec0 H0 (V m) c := by
  have hN : cfg0.N = 11 := N_0
  have e : ∀ (k : ℕ) (hk : k < cfg0.N + 1) (hk' : 10 + 1 < cfg0.N + 1), k = 10 + 1 → inv m c k hk = inv m c (10 + 1) hk' := by
    intro k hk hk' h; subst h; rfl
  rw [show (dats m 0 c).Φ (Fin.last cfg0.N) = inv m c cfg0.N (Nat.lt_succ_self _) from rfl, e _ _ (by omega) hN,
    inv_even m c ⟨10, by omega⟩ (show 10 % 2 = 0 from rfl), PhiD0_eq]
  unfold rest
  iintro ⟨⟨HS0, HS1, HS2⟩, Hg, Hq0, Hh0⟩
  isplitl [HS0 HS1 HS2]
  · isplitl [HS0]; · iexists _; iexact HS0
    isplitl [HS1]; · iexists _; iexact HS1
    iexact HS2
  isplitl [Hg]; · iexact Hg
  isplitl [Hq0]; · iexact Hq0
  iexact Hh0

set_option backward.isDefEq.respectTransparency.types false in
/-- Every run ends with the arrays at what the proof data say and every semaphore counter at zero. -/
theorem run_main : θ_run defs (onTc (τ := τ) (main (F := F))) (s₀ m ρ) (fun r => Pipeline.FramePost cfgs (dats m) (0 : Fin 1) (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Entails.of_eq (by show _ = inv m c 0 (Nat.succ_pos _); unfold inv; rw [dif_pos rfl])) (hout := inv_last m)

end Cert.KernelIdeal.Down

end
-- ==== Proof.Down.Spec.lean ====
/- The result as one formula over the extended reals, and the two payloads that equal it: the reference's, and the
   kernel's for one block of 256 rows and 512 columns. -/
module

public import proofs.«01_k».proof.Proof.Down.Math
public import proofs.«01_k».proof.Proof.Gen.ReferenceIdeal.Skeleton
public import Idealize.ShloMosaic.Lib.BitcastPair
public import Idealize.ShloMosaic.Lib.MatmulPlain

@[expose] public section

set_option maxRecDepth 16384

noncomputable section

namespace Cert.Down

open Idealize.ShloMosaic Idealize.ShloMosaic.ValueIdx
open scoped BigOperators

/-- Activation row `r` at column `k`: rows `2p` and `2p + 1` are the low and the high half of word row `p`. -/
def act {P K : ℕ} (a0 : Vec Ideal ⟨2, ![P, K]⟩ .i32) (r : ℕ) (hr : r / 2 < P) (k : Fin K) : EReal :=
  FloatOps.ofBits (F := Ideal) .bf16 ((a0 (ix2 ⟨r / 2, hr⟩ k)).extractLsb' (16 * (r % 2)) 16)

/-- The words of activation rows read as sixteen-bit floats. -/
theorem act_eq {P M K : ℕ} (a0 : Vec Ideal ⟨2, ![P, K]⟩ .i32)
    (h : (⟨2, ![P, K]⟩ : Shape).Bitcasts 32 ⟨2, ![M, K]⟩ 16) (r : Fin M) (hr : r.val / 2 < P) (k : Fin K) :
    bitcastToFloat (F := Ideal) .bf16 (bitcast ⟨2, ![M, K]⟩ 16 a0 h) (ix2 r k) = act a0 r.val hr k := by
  show FloatOps.ofBits (F := Ideal) .bf16 (bitcast ⟨2, ![M, K]⟩ 16 a0 h (ix2 r k)) = _
  rw [bitcast_32_16]
  unfold act
  refine congrArg (FloatOps.ofBits (F := Ideal) .bf16) ?_
  have e : ∀ (i i' : (⟨2, ![P, K]⟩ : Shape).Idx) (n n' : ℕ), i = i' → n = n' →
      (a0 i).extractLsb' (16 * n) 16 = (a0 i').extractLsb' (16 * n') 16 := by rintro i _ n _ rfl rfl; rfl
  refine e _ _ _ _ ?_ rfl
  funext a; apply Fin.ext
  match a with
  | ⟨0, _⟩ => rfl
  | ⟨1, _⟩ => rfl

/-- The result at row `r` and column `q`. -/
def spec (a0 : Vec Ideal ⟨2, ![1024, 4352]⟩ .i32) (a1 : Vec Ideal ⟨2, ![4352, 5120]⟩ .fp8e4m3) (a2 : Vec Ideal ⟨2, ![34, 40]⟩ .f32)
    (a3 : Vec Ideal ⟨2, ![2048, 5120]⟩ .f32) (r : Fin 2048) (q : Fin 5120) : EReal :=
  a3 (ix2 r q) + ∑ k : Fin 4352, act a0 r.val (by omega) k
    * (a1 (ix2 k q) * a2 (ix2 (⟨k.val / 128, by omega⟩ : Fin 34) (⟨q.val / 128, by omega⟩ : Fin 40)))

/-- The reference's payload is the formula. -/
theorem ref_eq (a0 : Vec Ideal ⟨2, ![1024, 4352]⟩ .i32) (a1 : Vec Ideal ⟨2, ![4352, 5120]⟩ .fp8e4m3) (a2 : Vec Ideal ⟨2, ![34, 40]⟩ .f32)
    (a3 : Vec Ideal ⟨2, ![2048, 5120]⟩ .f32) (r : Fin 2048) (q : Fin 5120) :
    Cert.ReferenceIdeal.Gen.k0_pay1 (F := Ideal) a0 a1 a2 a3 (ix2 r q) = spec a0 a1 a2 a3 r q := by
  unfold Cert.ReferenceIdeal.Gen.k0_pay1 spec
  show a3 (ix2 r q) + FloatOps.matmul (F := Ideal) (DotDims.plain 2048 4352 5120) none _ _ _ (ix2 r q) = _
  rw [Ideal.matmul_plain_apply]
  refine congrArg (a3 (ix2 r q) + ·) ?_
  show Ideal.ofBits .f32 0x00000000#32 + _ = _
  rw [Ideal.ofBits_zero_f32, zero_add]
  refine Finset.sum_congr rfl fun k _ => ?_
  refine congrArg₂ (· * ·) (act_eq a0 _ r _ k) ?_
  refine (shapeCast_apply _ _ (ix2 k q) (ix3 (⟨k.val / 128, by omega⟩ : Fin 34) (⟨k.val % 128, by omega⟩ : Fin 128) q) ?_).trans ?_
  · rw [Shape.rowMajor_val_three, Shape.rowMajor_val_two]
    show (k.val / 128 * 128 + k.val % 128) * 5120 + q.val = k.val * 5120 + q.val
    omega
  refine congrArg₂ (· * ·) ?_ ?_
  · refine (shapeCast_apply _ _ _ (ix2 k q) ?_).trans rfl
    rw [Shape.rowMajor_val_three, Shape.rowMajor_val_two]
    show k.val * 5120 + q.val = (k.val / 128 * 128 + k.val % 128) * 5120 + q.val
    omega
  refine (broadcastTo_apply _ _ _ (ix3 (⟨k.val / 128, by omega⟩ : Fin 34) (0 : Fin 1) q) ?_).trans ?_
  · intro a
    match a with
    | ⟨0, _⟩ => rfl
    | ⟨1, _⟩ => rfl
    | ⟨2, _⟩ => rfl
  refine (shapeCast_apply _ _ _ (ix2 (⟨k.val / 128, by omega⟩ : Fin 34) q) ?_).trans ?_
  · rw [Shape.rowMajor_val_three, Shape.rowMajor_val_two]
    show k.val / 128 * 5120 + q.val = (k.val / 128 * 1 + 0) * 5120 + q.val
    omega
  refine (shapeCast_apply _ _ _ (ix3 (⟨k.val / 128, by omega⟩ : Fin 34) (⟨q.val / 128, by omega⟩ : Fin 40) (⟨q.val % 128, by omega⟩ : Fin 128)) ?_).trans ?_
  · rw [Shape.rowMajor_val_three, Shape.rowMajor_val_two]
    show (k.val / 128 * 40 + q.val / 128) * 128 + q.val % 128 = k.val / 128 * 5120 + q.val
    omega
  refine (broadcastTo_apply _ _ _ (ix3 (⟨k.val / 128, by omega⟩ : Fin 34) (⟨q.val / 128, by omega⟩ : Fin 40) (0 : Fin 1)) ?_).trans ?_
  · intro a
    match a with
    | ⟨0, _⟩ => rfl
    | ⟨1, _⟩ => rfl
    | ⟨2, _⟩ => rfl
  refine (shapeCast_apply _ _ _ (ix2 (⟨k.val / 128, by omega⟩ : Fin 34) (⟨q.val / 128, by omega⟩ : Fin 40)) ?_).trans rfl
  rw [Shape.rowMajor_val_three, Shape.rowMajor_val_two]
  show k.val / 128 * 40 + q.val / 128 = (k.val / 128 * 40 + q.val / 128) * 1 + 0
  omega

open Cert.KernelIdeal.Down in
/-- The kernel's output block, at row `r` and column `p`. -/
theorem out_eq (x2 : Vec Ideal ⟨2, ![2048, 512]⟩ .f32) (x6 : Vec Ideal ⟨2, ![1024, 4352]⟩ .i32) (w : Vec Ideal ⟨2, ![4352, 512]⟩ .bf16)
    (r : Fin 2048) (p : Fin 512) :
    out (F := Ideal) x2 x6 w (ix2 r p) = x2 (ix2 r p) + ∑ k : Fin 4352, act x6 r.val (by omega) k * w (ix2 k p) := by
  have e2 : ∀ (i i' : (⟨2, ![2048, 512]⟩ : Shape).Idx), i = i' → x2 i = x2 i' := by rintro i _ rfl; rfl
  unfold out Cert.KernelIdeal.Gen.k0_pay4
  have ej : (Fin.cons (⟨r.val % 256, Nat.mod_lt _ (by decide)⟩ : Fin 256) (Fin.cons p finZeroElim) : (⟨2, ![256, 512]⟩ : Shape).Idx)
      = ix2 (⟨r.val % 256, Nat.mod_lt _ (by decide)⟩ : Fin 256) p := by
    funext a
    match a with
    | ⟨0, _⟩ => rfl
    | ⟨1, _⟩ => rfl
  show rows4 x2 (r.val / 256) (Fin.cons (⟨r.val % 256, Nat.mod_lt _ (by decide)⟩ : Fin 256) (Fin.cons p finZeroElim))
    + FloatOps.matmul (F := Ideal) (DotDims.plain 256 4352 512) none
      (bitcastToFloat (F := Ideal) .bf16 (bitcast ⟨2, ![256, 4352]⟩ 16 (rows6 x6 (r.val / 256)) _)) w _
      (Fin.cons (⟨r.val % 256, Nat.mod_lt _ (by decide)⟩ : Fin 256) (Fin.cons p finZeroElim)) = _
  rw [ej, Ideal.matmul_plain_apply]
  refine congrArg₂ (· + ·) ?_ ?_
  · refine e2 _ _ (funext fun a => Fin.ext ?_)
    match a with
    | ⟨0, _⟩ => show (256 * (r.val / 256) + r.val % 256) % 2048 = r.val; omega
    | ⟨1, _⟩ => rfl
  show Ideal.ofBits .f32 0x00000000#32 + _ = _
  rw [Ideal.ofBits_zero_f32, zero_add]
  refine Finset.sum_congr rfl fun k _ => congrArg (· * w (ix2 k p)) ?_
  refine (act_eq (rows6 x6 (r.val / 256)) _ (⟨r.val % 256, Nat.mod_lt _ (by decide)⟩ : Fin 256) (by show r.val % 256 / 2 < 128; omega) k).trans ?_
  unfold act
  have e : ∀ (i i' : (⟨2, ![1024, 4352]⟩ : Shape).Idx) (n n' : ℕ), i = i' → n = n' →
      FloatOps.ofBits (F := Ideal) .bf16 ((x6 i).extractLsb' (16 * n) 16) = FloatOps.ofBits (F := Ideal) .bf16 ((x6 i').extractLsb' (16 * n') 16) := by
    rintro i _ n _ rfl rfl; rfl
  refine e _ _ _ _ (funext fun a => Fin.ext ?_) (by show r.val % 256 % 2 = r.val % 2; omega)
  match a with
  | ⟨0, _⟩ => show (128 * (r.val / 256) + r.val % 256 / 2) % 1024 = r.val / 2; omega
  | ⟨1, _⟩ => rfl

end Cert.Down

end
-- ==== Proof.Down.Value.lean ====
/- The result array after a run of the kernel, at the extended reals: the formula `Cert.Down.spec` of the arguments. -/
module

public import proofs.«01_k».proof.Proof.Down.Run
public import proofs.«01_k».proof.Proof.Down.Spec

@[expose] public section

set_option maxRecDepth 16384

noncomputable section

namespace Cert.KernelIdeal.Down

open Cert.KernelIdeal.Gen Cert.Down

open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

section Blocks

variable {F : FTy → Type} [FloatOps F] (m : (ℓ : Loc nD τ sig) → Buf (Elt F) ℓ)

/-- The pipeline is entered with the scales transposed. -/
theorem V_scales (c : Dev nD) : V m c main_v0 = transpose S40x34 [1, 0] (m ((c : Thread nD τ).loc main_arg2)) transposes_S34x40_S40x34_1_0 := by
  show StableHlo.after hostOps0 _ (Proc.devRef .tc main_v0) = _
  after_results

/-- The block numbers of the windows at point `t`. -/
theorem idx0 : ∀ t : Fin cfg0.N, win0_0.index t (0 : Fin 2) = 0 ∧ win0_0.index t (1 : Fin 2) = min t.val 9 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val - 1 :=
  (by decide +kernel : ∀ t : Fin grid0.N, _)
theorem idx3 : ∀ t : Fin cfg0.N, win0_3.index t (0 : Fin 2) = 0 ∧ win0_3.index t (1 : Fin 2) = t.val - 1 :=
  (by decide +kernel : ∀ t : Fin grid0.N, _)
theorem coord0 : ∀ t : Fin cfg0.N, (grid0.coords t 0).val = t.val :=
  (by decide +kernel : ∀ t : Fin grid0.N, _)

theorem lt11 (t : Fin cfg0.N) : t.val < 11 := lt_of_lt_of_eq t.isLt (show cfg0.N = 11 from N_0)

/-- The weight block of point `t`. -/
theorem iblk0_apply (c : Dev nD) (t : Fin cfg0.N) (k : Fin 4352) (p : Fin 512) :
    iblk m c 0 t (ix2 k p) = m ((c : Thread nD τ).loc main_arg1) (ix2 k (⟨512 * min t.val 9 + p.val, by omega⟩ : Fin 5120)) := by
  show V m c main_arg1 (((cfg0.win 0).blk t).view.emb (ix2 k p)) = _
  rw [V_main_arg1]
  obtain ⟨e0, e1⟩ := idx0 t
  refine congrArg (m ((c : Thread nD τ).loc main_arg1)) (funext fun a => Fin.ext ?_)
  match a with
  | ⟨0, _⟩ => show win0_0.index t (0 : Fin 2) * 4352 + 1 * k.val = k.val; omega
  | ⟨1, _⟩ => show win0_0.index t (1 : Fin 2) * 512 + 1 * p.val = 512 * min t.val 9 + p.val; omega

/-- The scales, at every point. -/
theorem iblk1_apply (c : Dev nD) (t : Fin cfg0.N) (a : Fin 40) (b : Fin 34) :
    iblk m c 1 t (ix2 a b) = m ((c : Thread nD τ).loc main_arg2) (ix2 b a) := by
  show V m c main_v0 (((cfg0.win 1).blk t).view.emb (ix2 a b)) = _
  rw [V_scales]
  obtain ⟨e0, e1⟩ := idx1 t
  refine transpose_apply _ _ _ _ _ ?_
  intro x
  match x with
  | ⟨0, _⟩ => show a.val = win0_1.index t (0 : Fin 2) * 40 + 1 * a.val; omega
  | ⟨1, _⟩ => show b.val = win0_1.index t (1 : Fin 2) * 34 + 1 * b.val; omega

/-- The residual block of point `t`. -/
theorem iblk2_apply (c : Dev nD) (t : Fin cfg0.N) (r : Fin 2048) (p : Fin 512) :
    iblk m c 2 t (ix2 r p) = m ((c : Thread nD τ).loc main_arg3) (ix2 r (⟨512 * (t.val - 1) + p.val, by have := lt11 t; omega⟩ : Fin 5120)) := by
  show V m c main_arg3 (((cfg0.win 2).blk t).view.emb (ix2 r p)) = _
  rw [V_main_arg3]
  obtain ⟨e0, e1⟩ := idx2 t
  refine congrArg (m ((c : Thread nD τ).loc main_arg3)) (funext fun a => Fin.ext ?_)
  match a with
  | ⟨0, _⟩ => show win0_2.index t (0 : Fin 2) * 2048 + 1 * r.val = r.val; omega
  | ⟨1, _⟩ => show win0_2.index t (1 : Fin 2) * 512 + 1 * p.val = 512 * (t.val - 1) + p.val; omega

end Blocks

variable (m : (ℓ : Loc nD τ sig) → Buf (Elt Ideal) ℓ) (ρ : Dev nD → PrngReg)

/-- The weights and the scales, as arrays of extended reals. -/
abbrev wts (c : Dev nD) : Vec Ideal S4352x5120 .fp8e4m3 := m ((c : Thread nD τ).loc main_arg1)
abbrev scl (c : Dev nD) : Vec Ideal S34x40 .f32 := m ((c : Thread nD τ).loc main_arg2)

/-- The dequantised weight block of point `t`: weights times scales. -/
theorem dq_apply (c : Dev nD) (t : Fin cfg0.N) (k : Fin 4352) (p : Fin 512) :
    dq m c t (ix2 k p) = wts m c (ix2 k (⟨512 * min t.val 9 + p.val, by omega⟩ : Fin 5120))
      * scl m c (ix2 (⟨k.val / 128, by omega⟩ : Fin 34) (⟨(512 * min t.val 9 + p.val) / 128, by omega⟩ : Fin 40)) := by
  unfold dq deq
  refine congrArg₂ (fun a b : EReal => a * b) (iblk0_apply m c t k p) ?_
  refine Eq.trans ?_ (iblk1_apply m c t _ _)
  refine congrArg (iblk m c 1 t) (funext fun a => Fin.ext ?_)
  match a with
  | ⟨0, _⟩ =>
    show 4 * min (grid0.coords t 0).val 9 + p.val / 128 = (512 * min t.val 9 + p.val) / 128
    rw [coord0]; omega
  | ⟨1, _⟩ => rfl

/-- The formula of the arguments, as an array. -/
def res (c : Dev nD) : Vec Ideal S2048x5120 .bf16 := fun y =>
  spec (m ((c : Thread nD τ).loc main_arg0)) (m ((c : Thread nD τ).loc main_arg1)) (m ((c : Thread nD τ).loc main_arg2))
    (m ((c : Thread nD τ).loc main_arg3)) (y 0) (y 1)

/-- What point `t` computes is its block of the formula. -/
theorem ob_apply (c : Dev nD) (t : Fin cfg0.N) (h : t.val ≠ 0) (r : Fin 2048) (p : Fin 512) :
    ob m c t (ix2 r p) = res m c (ix2 r (⟨512 * (t.val - 1) + p.val, by have := lt11 t; omega⟩ : Fin 5120)) := by
  have ht := lt11 t
  unfold ob res spec
  refine (out_eq _ _ _ r p).trans ?_
  rw [V_main_arg0]
  refine congrArg₂ (fun a b : EReal => a + b) (iblk2_apply m c t r p) ?_
  refine Finset.sum_congr rfl fun k _ => congrArg (fun b : EReal => act _ r.val _ k * b) ?_
  refine (dq_apply m c (prv t) k p).trans ?_
  have e : min (prv t).val 9 = t.val - 1 := by show min (t.val - 1) 9 = _; omega
  simp only [e]

/-- What point `t` writes back. -/
theorem flushed_eq (c : Dev nD) (t : Fin cfg0.N) (hf : (cfg0.win 3).flush t = true) :
    (dats m 0 c).flushed 3 t = ((cfg0.win 3).blk t).view.read (Elt Ideal) (res m c) := by
  have h : t.val ≠ 0 := by
    intro h; rw [flush0_3, decide_eq_true h] at hf; exact absurd hf (by decide)
  show (cfg0.win 3).cut (grid0.coords t) ((dats m 0 c).after 3 t) = _
  rw [after0_3]
  funext j
  show ob m c t j = res m c (((cfg0.win 3).blk t).view.emb j)
  obtain ⟨e0, e1⟩ := idx3 t
  have hj : j = ix2 (j 0) (j 1) := eq_ix2 (n0 := 2048) (n1 := 512) j
  rw [hj]
  refine (ob_apply m c t h (j 0) (j 1)).trans (congrArg (res m c) (funext fun a => Fin.ext ?_))
  match a with
  | ⟨0, _⟩ => show (j 0).val = win0_3.index t (0 : Fin 2) * 2048 + 1 * (j 0).val; omega
  | ⟨1, _⟩ => show 512 * (t.val - 1) + (j 1).val = win0_3.index t (1 : Fin 2) * 512 + 1 * (j 1).val; omega

/-- Every index is in the block that some point writes back. -/
theorem covered (i : S2048x5120.Idx) :
    ∃ t : Fin cfg0.N, (cfg0.win 3).flush t = true ∧ i ∈ ((cfg0.win 3).blk t).view.set := by
  have h0 : (i 0).val < 2048 := (i 0).isLt
  have h1 : (i 1).val < 5120 := (i 1).isLt
  have hN : cfg0.N = 11 := N_0
  let t : Fin cfg0.N := ⟨(i 1).val / 512 + 1, by omega⟩
  refine ⟨t, (flush0_3 t).trans (by rw [decide_eq_false (show ¬ (i 1).val / 512 + 1 = 0 by omega)]; rfl), ?_⟩
  have e := ((cfg0.win 3).blk t).view.emb_mem_set (ix2 (i 0) (⟨(i 1).val % 512, Nat.mod_lt _ (by decide)⟩ : Fin 512))
  obtain ⟨e0, e1⟩ := idx3 t
  have ei : ((cfg0.win 3).blk t).view.emb (ix2 (i 0) (⟨(i 1).val % 512, Nat.mod_lt _ (by decide)⟩ : Fin 512)) = i := by
    funext a; apply Fin.ext
    match a with
    | ⟨0, _⟩ => show win0_3.index t (0 : Fin 2) * 2048 + 1 * (i 0).val = (i 0).val; omega
    | ⟨1, _⟩ =>
      have e2 : win0_3.index t (1 : Fin 2) = (i 1).val / 512 := e1
      show win0_3.index t (1 : Fin 2) * 512 + 1 * ((i 1).val % 512) = (i 1).val; omega
  rwa [ei] at e

/-- The result array after the run. -/
theorem final (c : Dev nD) : (dats m 0 c).arrAt 3 cfg0.N = res m c :=
  (dats m 0 c).arrAt_eq_of_cover 3 (res m c) (flushed_eq m c) covered

/-- The arguments after the run are as launched. -/
theorem kept (F : FTy → Type) [FloatOps F] (m : (ℓ : Loc nD τ sig) → Buf (Elt F) ℓ)
    (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c),
    ((h c).1 2).trans (((dats m 0 c).arrAt_in 2 rfl _).trans ((A_eq m c 2).trans (V_main_arg3 m c)))⟩

/-- Every run ends with the formula in the result array and the arguments unchanged. -/
theorem run : θ_run defs (onTc (τ := τ) (main (F := Ideal))) ⟨m, fun _ => 0, ρ⟩ fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 3).trans (final m c), kept Ideal m r h.1 c⟩) (run_main m ρ)

/-- The frame: every run ends, with the argument arrays unchanged and all semaphores at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept F m r h.1 c, h.2⟩) (run_main m ρ)

end Cert.KernelIdeal.Down

end
-- ==== Proof.GateFrame.Kit.lean ====
/- What the runs of the kernel body share: the program up to its pallas_call, the arrays found there, each window's
   block at a grid point, the branch conditions in closed form, the staging and scratch memrefs, the region's invariant. -/
module

public import proofs.«01_k».proof.Proof.Gen.GateUp.Launch
public import proofs.«01_k».proof.Proof.Gen.GateUp.Skeleton
public import proofs.«01_k».proof.Proof.Gen.GateUp.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GateUp.Gate

open Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-- The condition of the body's `scf.if` 1 (`k0_h2`), from the grid coordinates (the skeleton's scalar
    chain substituted). -/
abbrev cond0_1 (i : grid0.Coords) : Prop := k0_cond2 i = 1#1
/-- It holds at the even points after the first — decided over the grid. -/
theorem hcond0_1 : ∀ t : Fin cfg0.N, cond0_1 (grid0.coords t) ↔ (t.val % 2 = 0 ∧ t.val ≠ 0) :=
  (by decide +kernel : ∀ t : Fin grid0.N, cond0_1 (grid0.coords t) ↔ (t.val % 2 = 0 ∧ t.val ≠ 0))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S5120x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S68x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x5120 .i32 := Memref.whole cc0_scratch0
abbrev scM0_1 : Memref sig .tc .vmem S5120x512 .bf16 := Memref.whole cc0_scratch1
abbrev scM0_2 : Memref sig .tc .vmem S5120x512 .bf16 := Memref.whole cc0_scratch2
/-- The operands left in HBM that the body copies into scratch itself, whole. -/
abbrev hbM0_0 : Memref sig .tc .hbm S1024x5120 .i32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 10] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg0))) := by
  rw [Pipeline.ΦD_eq, scopedRest0_eq, ownSems00_eq, hbmPts0_eq]; simp only [scM0_0, scM0_1, scM0_2, owns_whole]; try rfl

end Cert.GateUp.Gate

end
-- ==== Proof.GateFrame.RunA.lean ====
/- The kernel body at the even grid points after the first: the run that dequantises a weight block into
   the first weight scratch and multiplies by the second. -/
module

public import proofs.«01_k».proof.Proof.GateFrame.Kit

@[expose] public section

-- membership in a rectangle of production extents (`View.cover_of_tiled`): the elaborator's structural look
-- recurses once per coordinate of the long axes
set_option maxRecDepth 16384

noncomputable section

namespace Cert.GateUp.Gate

open Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at the first grid point: the argument blocks come back as they were, the rest at some contents. -/
theorem runA (c : Dev nD) (i : grid0.Coords) (arg2 : Memref sig .tc .vmem S5120x256 .fp8e4m3) (harg2 : arg2.IsWhole) (arg3 : Memref sig .tc .vmem S5120x256 .fp8e4m3) (harg3 : arg3.IsWhole) (arg4 : Memref sig .tc .smem S68x40 .f32) (harg4 : arg4.IsWhole) (arg5 : Memref sig .tc .vmem S2048x256 .fp8e4m3) (harg5 : arg5.IsWhole) (arg6 : Memref sig .tc .vmem S2048x128 .f32) (harg6 : arg6.IsWhole) (arg7 : Memref sig .tc .vmem S2048x256 .bf16) (harg7 : arg7.IsWhole) (arg8 : Memref sig .tc .vmem S1024x5120 .i32) (harg8 : arg8.IsWhole) (arg9 : Memref sig .tc .vmem S5120x512 .bf16) (harg9 : arg9.IsWhole) (arg10 : Memref sig .tc .vmem S5120x512 .bf16) (harg10 : arg10.IsWhole) (hc0 : cond0_0 i) (hc1 : ¬cond0_1 i) (hc2 : ¬cond0_2 i)
    (x0 : Vec F S5120x256 .fp8e4m3) (x1 : Vec F S5120x256 .fp8e4m3) (x2 : Vec F S68x40 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_gate_up i (Memref.whole main_arg0) (Memref.isWhole_whole _) arg2 harg2 arg3 harg3 arg4 harg4 arg5 harg5 arg6 harg6 arg7 harg7 arg8 harg8 arg9 harg9 arg10 harg10 cc0_scratch3) K := by
    intro W K
    simp only [cc0_gate_up_eq_skeleton]; unfold cc0_gate_up_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%d3, %g3, -, H3⟩, ⟨%d4, %g4, -, H4⟩, ⟨%d5, %g5, -, H5⟩, ⟨%d6, %g6, -, HS0⟩, ⟨%d7, %g7, -, HS1⟩, ⟨%d8, %g8, -, HS2⟩, Hq0, Hh0, HW, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.GateUp.Gate

end
-- ==== Proof.GateFrame.RunB.lean ====
/- The kernel body at the even grid points after the first: the run that dequantises a weight block into
   the first weight scratch and multiplies by the second. -/
module

public import proofs.«01_k».proof.Proof.GateFrame.Kit

@[expose] public section

-- membership in a rectangle of production extents (`View.cover_of_tiled`): the elaborator's structural look
-- recurses once per coordinate of the long axes
set_option maxRecDepth 16384

noncomputable section

namespace Cert.GateUp.Gate

open Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at an odd grid point: the argument blocks come back as they were, the rest at some contents. -/
theorem runB (c : Dev nD) (i : grid0.Coords) (arg2 : Memref sig .tc .vmem S5120x256 .fp8e4m3) (harg2 : arg2.IsWhole) (arg3 : Memref sig .tc .vmem S5120x256 .fp8e4m3) (harg3 : arg3.IsWhole) (arg4 : Memref sig .tc .smem S68x40 .f32) (harg4 : arg4.IsWhole) (arg5 : Memref sig .tc .vmem S2048x256 .fp8e4m3) (harg5 : arg5.IsWhole) (arg6 : Memref sig .tc .vmem S2048x128 .f32) (harg6 : arg6.IsWhole) (arg7 : Memref sig .tc .vmem S2048x256 .bf16) (harg7 : arg7.IsWhole) (arg8 : Memref sig .tc .vmem S1024x5120 .i32) (harg8 : arg8.IsWhole) (arg9 : Memref sig .tc .vmem S5120x512 .bf16) (harg9 : arg9.IsWhole) (arg10 : Memref sig .tc .vmem S5120x512 .bf16) (harg10 : arg10.IsWhole) (hc0 : ¬cond0_0 i) (hc1 : ¬cond0_1 i) (hc2 : cond0_2 i)
    (x0 : Vec F S5120x256 .fp8e4m3) (x1 : Vec F S5120x256 .fp8e4m3) (x2 : Vec F S68x40 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_gate_up i (Memref.whole main_arg0) (Memref.isWhole_whole _) arg2 harg2 arg3 harg3 arg4 harg4 arg5 harg5 arg6 harg6 arg7 harg7 arg8 harg8 arg9 harg9 arg10 harg10 cc0_scratch3) K := by
    intro W K
    simp only [cc0_gate_up_eq_skeleton]; unfold cc0_gate_up_skel
    rw [k0_part231_eq_skeleton, k0_part232_eq_skeleton]; unfold k0_part231_skel k0_part232_skel
    rw [k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton]
    unfold owns
    iintro ⟨⟨%f0, %hf0, H0⟩, ⟨%f1, %hf1, H1⟩, ⟨%f2, %hf2, H2⟩, ⟨%d3, %g3, -, H3⟩, ⟨%d4, %g4, -, H4⟩, ⟨%d5, %g5, -, H5⟩, ⟨%d6, %g6, -, HS0⟩, ⟨%d7, %g7, -, HS1⟩, ⟨%d8, %g8, -, HS2⟩, Hq0, Hh0, HW, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.GateUp.Gate

end
-- ==== Proof.GateFrame.RunC.lean ====
/- The kernel body at the even grid points after the first: the run that dequantises a weight block into
   the first weight scratch and multiplies by the second. -/
module

public import proofs.«01_k».proof.Proof.GateFrame.Kit

@[expose] public section

-- membership in a rectangle of production extents (`View.cover_of_tiled`): the elaborator's structural look
-- recurses once per coordinate of the long axes
set_option maxRecDepth 16384

noncomputable section

namespace Cert.GateUp.Gate

open Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at an even grid point after the first: the argument blocks come back as they were, the rest at some contents. -/
theorem runC (c : Dev nD) (i : grid0.Coords) (arg2 : Memref sig .tc .vmem S5120x256 .fp8e4m3) (harg2 : arg2.IsWhole) (arg3 : Memref sig .tc .vmem S5120x256 .fp8e4m3) (harg3 : arg3.IsWhole) (arg4 : Memref sig .tc .smem S68x40 .f32) (harg4 : arg4.IsWhole) (arg5 : Memref sig .tc .vmem S2048x256 .fp8e4m3) (harg5 : arg5.IsWhole) (arg6 : Memref sig .tc .vmem S2048x128 .f32) (harg6 : arg6.IsWhole) (arg7 : Memref sig .tc .vmem S2048x256 .bf16) (harg7 : arg7.IsWhole) (arg8 : Memref sig .tc .vmem S1024x5120 .i32) (harg8 : arg8.IsWhole) (arg9 : Memref sig .tc .vmem S5120x512 .bf16) (harg9 : arg9.IsWhole) (arg10 : Memref sig .tc .vmem S5120x512 .bf16) (harg10 : arg10.IsWhole) (hc0 : ¬cond0_0 i) (hc1 : cond0_1 i) (hc2 : ¬cond0_2 i)
    (x0 : Vec F S5120x256 .fp8e4m3) (x1 : Vec F S5120x256 .fp8e4m3) (x2 : Vec F S68x40 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_gate_up i (Memref.whole main_arg0) (Memref.isWhole_whole _) arg2 harg2 arg3 harg3 arg4 harg4 arg5 harg5 arg6 harg6 arg7 harg7 arg8 harg8 arg9 harg9 arg10 harg10 cc0_scratch3) K := by
    intro W K
    simp only [cc0_gate_up_eq_skeleton]; unfold cc0_gate_up_skel
    rw [k0_part139_eq_skeleton, k0_part140_eq_skeleton]; unfold k0_part139_skel k0_part140_skel
    rw [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton]
    unfold owns
    iintro ⟨⟨%f0, %hf0, H0⟩, ⟨%f1, %hf1, H1⟩, ⟨%f2, %hf2, H2⟩, ⟨%d3, %g3, -, H3⟩, ⟨%d4, %g4, -, H4⟩, ⟨%d5, %g5, -, H5⟩, ⟨%d6, %g6, -, HS0⟩, ⟨%d7, %g7, -, HS1⟩, ⟨%d8, %g8, -, HS2⟩, Hq0, Hh0, HW, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [Hq0]; · iexact Hq0
    isplitl [Hh0]; · iexact Hh0
    iexists _; iexact HW

end Cert.GateUp.Gate

end
-- ==== Proof.GateFrame.Frame.lean ====
/- The frame of the whole program: every run ends, with the argument arrays unchanged and all semaphores at zero. -/
module

public import proofs.«01_k».proof.Proof.GateFrame.RunA
public import proofs.«01_k».proof.Proof.GateFrame.RunB
public import proofs.«01_k».proof.Proof.GateFrame.RunC
public import Idealize.ShloMosaic.Lib.Claim

@[expose] public section

-- membership in a rectangle of production extents (`View.cover_of_tiled`): the elaborator's structural look
-- recurses once per coordinate of the long axes
set_option maxRecDepth 16384

noncomputable section

namespace Cert.GateUp.Gate

open Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The output windows, of whose contents nothing is said. -/
def forgets0 : Fin 6 → Bool := fun w => 3 ≤ w.val

/-- The proof data of the one pipeline on core `c`: the arrays as the region finds them; after a point each input's
    buffer at its block; nothing owed; the two windows on the weights at their shares of the array. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦD osem0 spec0 H0 (V m) c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves in the input windows. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 2400000 in
/-- The body at any point, by the three cases of its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 18 := lt_of_lt_of_eq t.isLt (show cfg0.N = 18 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · iintro ⟨⟨⟨HS0, HS1, HS2⟩, Hg, Hq0, Hh0⟩, ⟨%W, -, HW⟩, ⟨%d0, H0⟩, ⟨%d1, H1⟩, ⟨%d2, H2⟩, H3, H4, H5⟩
    iapply ((runA c (grid0.coords t) _ _ _ _ _ _ _ _ _ _ _ _ _ _ _ _ _ _ ((hcond0_0 t).mpr (by omega)) (fun h => absurd ((hcond0_1 t).mp h) (by omega)) (fun h => absurd ((hcond0_2 t).mp h) (by omega)) (iblk m c 0 t) (iblk m c 1 t) (iblk m c 2 t) (V m c main_arg0)) W _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · by_cases h2 : t.val % 2 = 1
    · iintro ⟨⟨⟨HS0, HS1, HS2⟩, Hg, Hq0, Hh0⟩, ⟨%W, -, HW⟩, ⟨%d0, H0⟩, ⟨%d1, H1⟩, ⟨%d2, H2⟩, H3, H4, H5⟩
      iapply ((runB c (grid0.coords t) _ _ _ _ _ _ _ _ _ _ _ _ _ _ _ _ _ _ (fun h => absurd ((hcond0_0 t).mp h) (by omega)) (fun h => absurd ((hcond0_1 t).mp h) (by omega)) ((hcond0_2 t).mpr h2) (iblk m c 0 t) (iblk m c 1 t) (iblk m c 2 t) (V m c main_arg0)) W _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [Hq0]; · iexact Hq0
      isplitl [Hh0]; · iexact Hh0
      isplitl [HW]; · iexact HW
      iintro ⟨H0, H1, H2, H3, H4, H5, HS0, HS1, HS2, Hq0, Hh0, ⟨%W', HW'⟩⟩
      isplitl [HS0 HS1 HS2 Hg Hq0 Hh0]
      · isplitl [HS0 HS1 HS2]
        · isplitl [HS0]; · iexact HS0
          isplitl [HS1]; · iexact HS1
          iexact HS2
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · iintro ⟨⟨⟨HS0, HS1, HS2⟩, Hg, Hq0, Hh0⟩, ⟨%W, -, HW⟩, ⟨%d0, H0⟩, ⟨%d1, H1⟩, ⟨%d2, H2⟩, H3, H4, H5⟩
      iapply ((runC c (grid0.coords t) _ _ _ _ _ _ _ _ _ _ _ _ _ _ _ _ _ _ (fun h => absurd ((hcond0_0 t).mp h) (by omega)) ((hcond0_1 t).mpr (by omega)) (fun h => absurd ((hcond0_2 t).mp h) (by omega)) (iblk m c 0 t) (iblk m c 1 t) (iblk m c 2 t) (V m c main_arg0)) W _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [Hq0]; · iexact Hq0
      isplitl [Hh0]; · iexact Hh0
      isplitl [HW]; · iexact HW
      iintro ⟨H0, H1, H2, H3, H4, H5, HS0, HS1, HS2, Hq0, Hh0, ⟨%W', HW'⟩⟩
      isplitl [HS0 HS1 HS2 Hg Hq0 Hh0]
      · isplitl [HS0 HS1 HS2]
        · isplitl [HS0]; · iexact HS0
          isplitl [HS1]; · iexact HS1
          iexact HS2
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget_shared (Q' := _) cfgs (dats m) (0 : Fin 1) launch₀0 osem0 defs₀ Variants.none forgets0 ownSemFacts0 H0 H0_sub m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 3 to 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.GateUp.Gate

end
-- ==== Proof.Gate.Kit.lean ====
/- What the runs of the kernel body share: the program up to its pallas_call, the arrays found there, each window's
   block at a grid point, the branch conditions in closed form, the staging and scratch memrefs, the region's invariant. -/
module

public import proofs.«01_k».proof.Proof.Gen.GateUpIdeal.Launch
public import proofs.«01_k».proof.Proof.Gen.GateUpIdeal.Skeleton
public import proofs.«01_k».proof.Proof.Gen.GateUpIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GateUpIdeal.Gate

open Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-- The condition of the body's `scf.if` 1 (`k0_h2`), from the grid coordinates (the skeleton's scalar
    chain substituted). -/
abbrev cond0_1 (i : grid0.Coords) : Prop := k0_cond2 i = 1#1
/-- It holds at the even points after the first — decided over the grid. -/
theorem hcond0_1 : ∀ t : Fin cfg0.N, cond0_1 (grid0.coords t) ↔ (t.val % 2 = 0 ∧ t.val ≠ 0) :=
  (by decide +kernel : ∀ t : Fin grid0.N, cond0_1 (grid0.coords t) ↔ (t.val % 2 = 0 ∧ t.val ≠ 0))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S5120x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S68x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x5120 .i32 := Memref.whole cc0_scratch0
abbrev scM0_1 : Memref sig .tc .vmem S5120x512 .bf16 := Memref.whole cc0_scratch1
abbrev scM0_2 : Memref sig .tc .vmem S5120x512 .bf16 := Memref.whole cc0_scratch2
/-- The operands left in HBM that the body copies into scratch itself, whole. -/
abbrev hbM0_0 : Memref sig .tc .hbm S1024x5120 .i32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 10] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg0))) := by
  rw [Pipeline.ΦD_eq, scopedRest0_eq, ownSems00_eq, hbmPts0_eq]; simp only [scM0_0, scM0_1, scM0_2, owns_whole]; try rfl

end Cert.GateUpIdeal.Gate

end
-- ==== Proof.Gate.Math.lean ====
/- What one grid point computes, as plain functions of the blocks it is given: the dequantised weight block, the codes,
   the rounded rows and the stored scales, and the lemmas that each store of the body stores a piece of one of them. -/
module

public import proofs.«01_k».proof.Proof.Gate.Kit
public import Idealize.ShloMosaic.Lib.Pipeline.Value
public import Idealize.ShloMosaic.Lib.Writes

@[expose] public section

set_option maxRecDepth 16384

noncomputable section

namespace Cert.GateUpIdeal.Gate

open Cert.GateUpIdeal.Gen
open Idealize.ShloMosaic Idealize.ShloMosaic.TcCoe Idealize.ShloMosaic.Tactic

variable {F : FTy → Type} [FloatOps F]

/-- The number of the weight block that grid point `i` dequantises. -/
def blk (i : grid0.Coords) : ℕ := min (i 0).val 16

theorem blk_le (i : grid0.Coords) : blk i ≤ 16 := Nat.min_le_right _ _

/-- The first of two things at 0, else the second. -/
def pick {α : Type} (p : ℕ) (a b : α) : α := match p with
  | 0 => a
  | _ + 1 => b

/-- The scale of element `y` of the weight block `n`: one per 128 rows and 128 columns; the left 256 columns are the
    gate's, the right 256 the up projection's. -/
def sIdx (n : ℕ) (hn : n ≤ 16) (y : S5120x512.Idx) : S68x40.Idx :=
  Fin.cons ⟨34 * ((y 1).val / 256) + 2 * n + (y 1).val % 256 / 128, by have h : (y 1).val < 512 := (y 1).isLt; show _ < 68; omega⟩
    (Fin.cons ⟨(y 0).val / 128, by have h : (y 0).val < 5120 := (y 0).isLt; show _ < 40; omega⟩ finZeroElim)

/-- The element of a 256 column block under element `y` of the block of 512 columns. -/
def cIdx (y : S5120x512.Idx) : S5120x256.Idx :=
  Fin.cons (y 0) (Fin.cons ⟨(y 1).val % 256, Nat.mod_lt _ (by decide)⟩ finZeroElim)

/-- The dequantised weight block of grid point `i`: the gate's block, then the up projection's. -/
def deq (i : grid0.Coords) (x0 x1 : Vec F S5120x256 .fp8e4m3) (x2 : Vec F S68x40 .f32) : Vec F S5120x512 .bf16 :=
  fun y => FloatOps.mulf (φ := .bf16) (FloatOps.extf .bf16 bitsLt_fp8e4m3_bf16 (pick ((y 1).val / 256) x0 x1 (cIdx y)))
    (FloatOps.truncf .bf16 bitsLt_bf16_f32 (x2 (sIdx (blk i) (blk_le i) y)))

/-- The word arithmetic of a gate scale's row. -/
theorem sword0 (a : Fin 18) (n : Fin 2) :
    (Scalar.indexCast (Scalar.addi (Scalar.muli (Scalar.minsi (BitVec.ofNat 32 a.val) 16#32) 2#32) (BitVec.ofNat 32 n.val))).toNat
      = 34 * 0 + 2 * min a.val 16 + n.val := by
  revert a n; decide

/-- The word arithmetic of an up projection scale's row. -/
theorem sword1 (a : Fin 18) (n : Fin 2) :
    (Scalar.indexCast (Scalar.addi (Scalar.addi 34#32 (Scalar.muli (Scalar.minsi (BitVec.ofNat 32 a.val) 16#32) 2#32))
      (BitVec.ofNat 32 n.val))).toNat = 34 * 1 + 2 * min a.val 16 + n.val := by
  revert a n; decide

theorem zero2 : (![0, 0] : Fin 2 → ℕ) = fun _ => 0 := by
  funext a; revert a; decide

/-- One store of the dequantisation stores a piece of `deq`. -/
theorem deq_piece (i : grid0.Coords) (p : ℕ) (hp : p < 2) (arg : Memref sig .tc .vmem S5120x256 .fp8e4m3) (harg : arg.IsWhole)
    (arg4 : Memref sig .tc .smem S68x40 .f32) (harg4 : arg4.IsWhole) (x0 x1 xs : Vec F S5120x256 .fp8e4m3) (x2 : Vec F S68x40 .f32)
    (hxs : xs = pick p x0 x1) (k n : ℕ) (hn : n < 2) (off off' soff : Fin 2 → ℕ) (ho0 : off 0 = 128 * k) (ho1 : off 1 = 256 * p + 128 * n)
    (ho0' : off' 0 = 128 * k) (ho1' : off' 1 = 128 * n)
    (hs0 : soff 0 = 34 * p + 2 * min (i 0).val 16 + n) (hs1 : soff 1 = k)
    (inb : ∀ a, off a + S128x128.size a ≤ S5120x512.size a) (inb' : ∀ a, off' a + S128x128.size a ≤ S5120x256.size a)
    (inb'' : ∀ a, soff a + S1x1.size a ≤ S68x40.size a)
    (hf : 0 < (Rect.unit (s := S68x40) soff S1x1.size inb'').shape.numel)
    (hc : S128x128.ShapeCasts S128x128) (x : S128x128.Idx) :
    shapeCast S128x128 (mulf (F := F) (φ := .bf16) (extf .bf16 (View.readAt (Elt F) arg.view (Rect.unit (s := S5120x256) off' S128x128.size inb').toLoadRect
        (harg.unread xs)) bitsLt_fp8e4m3_bf16)
      (truncf .bf16 (broadcast S128x128 (View.readAt (Elt F) arg4.view (Rect.unit (s := S68x40) soff S1x1.size inb'').toLoadRect
        (harg4.unread x2) (Shape.Idx.first hf))) bitsLt_bf16_f32)) hc x
      = deq i x0 x1 x2 ((Rect.unit (s := S5120x512) off S128x128.size inb).emb x) := by
  refine (congrFun (shapeCast_self (s := S128x128) _ hc) x).trans ?_
  simp only [View.readAt_eq_ld, harg.read_unread, harg4.read_unread]
  show FloatOps.mulf (φ := .bf16) (FloatOps.extf .bf16 _ (xs ((Rect.unit (s := S5120x256) off' S128x128.size inb').emb x)))
      (FloatOps.truncf .bf16 _ (x2 ((Rect.unit (s := S68x40) soff S1x1.size inb'').emb (Shape.Idx.first hf)))) = _
  have hx0 : (x 0).val < 128 := (x 0).isLt
  have hx1 : (x 1).val < 128 := (x 1).isLt
  have e0 : ((Rect.unit (s := S5120x512) off S128x128.size inb).emb x 0 : ℕ) = off 0 + 1 * (x 0).val := rfl
  have e1 : ((Rect.unit (s := S5120x512) off S128x128.size inb).emb x 1 : ℕ) = off 1 + 1 * (x 1).val := rfl
  have hq : ((Rect.unit (s := S5120x512) off S128x128.size inb).emb x 1 : ℕ) / 256 = p := by rw [e1, ho1]; omega
  unfold deq
  rw [hq, ← hxs]
  congr 3
  · funext a
    refine Fin.ext ?_
    refine Fin.cases ?_ (fun a => Fin.cases ?_ (fun a => a.elim0) a) a
    · show off' 0 + 1 * (x 0).val = ((Rect.unit (s := S5120x512) off S128x128.size inb).emb x 0 : ℕ)
      rw [e0, ho0, ho0']
    · show off' 1 + 1 * (x 1).val = ((Rect.unit (s := S5120x512) off S128x128.size inb).emb x 1 : ℕ) % 256
      rw [e1, ho1, ho1']; omega
  · funext a
    refine Fin.ext ?_
    refine Fin.cases ?_ (fun a => Fin.cases ?_ (fun a => a.elim0) a) a
    · show soff 0 + 1 * 0 = 34 * (((Rect.unit (s := S5120x512) off S128x128.size inb).emb x 1 : ℕ) / 256) + 2 * min (i 0).val 16
        + ((Rect.unit (s := S5120x512) off S128x128.size inb).emb x 1 : ℕ) % 256 / 128
      rw [hq, e1, hs0, ho1]; omega
    · show soff 1 + 1 * 0 = ((Rect.unit (s := S5120x512) off S128x128.size inb).emb x 0 : ℕ) / 128
      rw [e0, hs1, ho0]; omega

/-! ## The product's rows and their groups -/

/-- Word rows `128 c` to `128 c + 127` of the activations. -/
def rows8 (x8 : Vec F S1024x5120 .i32) (c : ℕ) : Vec F S128x5120 .i32 :=
  fun j => x8 (Fin.cons ⟨(128 * c + (j 0).val) % 1024, Nat.mod_lt _ (by decide)⟩ (Fin.cons (j 1) finZeroElim))

/-- Rows `256 c` to `256 c + 255` of the scales. -/
def rows6 (x6 : Vec F S2048x128 .f32) (c : ℕ) : Vec F S256x128 .f32 :=
  fun j => x6 (Fin.cons ⟨(256 * c + (j 0).val) % 2048, Nat.mod_lt _ (by decide)⟩ (Fin.cons (j 1) finZeroElim))

/-- The values of 256 rows: the gate's product through `x · logistic x`, times the up projection's product. -/
def vv (xw : Vec F S128x5120 .i32) (w : Vec F S5120x512 .bf16) : FVec F S256x256 .f32 := k0_pay387 xw w

/-- A group of 128 columns of the values. -/
def gsl (b : ℕ) (v : FVec F S256x256 .f32) : FVec F S256x128 .f32 :=
  pick b (extractStridedSlice S256x128 ![0, 0] v slices_S256x256_o0_0_S256x128) (k0_pay399 v)

/-- The largest magnitude of each row of a group. -/
def amax (g : FVec F S256x128 .f32) : FVec F S256x1 .f32 := k0_pay401 (absf g)

/-- The codes of a group. -/
def codeOf (g : FVec F S256x128 .f32) : FVec F S256x128 .fp8e4m3 := k0_pay404 g (k0_pay403 (absf g))

/-- A group rounded to its codes, as values. -/
def maOf (g : FVec F S256x128 .f32) : FVec F S256x128 .bf16 := k0_pay405 g (k0_pay402 (absf g)) (k0_pay403 (absf g))

/-- The number of the block that grid point `i` multiplies. -/
def pt (i : grid0.Coords) : BitVec 32 := Scalar.subi (BitVec.ofNat 32 (i 0).val) 1#32

/-- 256 rows of the scales: those of earlier points kept, the two of this point put in. -/
def msRows (i : grid0.Coords) (d : Vec F S256x128 .f32) (v : FVec F S256x256 .f32) : FVec F S256x128 .f32 :=
  k0_pay398 (k0_pay398 (k0_pay388 (pt i) (iota .tc S256x128 32 [1] iota_S256x128_d1_w32) d) (amax (gsl 0 v)) (k0_pay397 (pt i) (iota .tc S256x128 32 [1] iota_S256x128_d1_w32)))
    (amax (gsl 1 v)) (k0_pay406 (pt i) (iota .tc S256x128 32 [1] iota_S256x128_d1_w32))

/-- Row and column of an element of a 2048 by 256 block within its 256 rows and its group. -/
def gIdx (y : S2048x256.Idx) : S256x128.Idx :=
  Fin.cons ⟨(y 0).val % 256, Nat.mod_lt _ (by decide)⟩ (Fin.cons ⟨(y 1).val % 128, Nat.mod_lt _ (by decide)⟩ finZeroElim)

/-- The codes of a block. -/
def mc (x8 : Vec F S1024x5120 .i32) (w : Vec F S5120x512 .bf16) : Vec F S2048x256 .fp8e4m3 :=
  fun y => codeOf (gsl ((y 1).val / 128) (vv (rows8 x8 ((y 0).val / 256)) w)) (gIdx y)

/-- The rounded values of a block. -/
def ma (x8 : Vec F S1024x5120 .i32) (w : Vec F S5120x512 .bf16) : Vec F S2048x256 .bf16 :=
  fun y => maOf (gsl ((y 1).val / 128) (vv (rows8 x8 ((y 0).val / 256)) w)) (gIdx y)

/-- The scales after a point, from those before. -/
def ms (i : grid0.Coords) (x6 : Vec F S2048x128 .f32) (x8 : Vec F S1024x5120 .i32) (w : Vec F S5120x512 .bf16) : Vec F S2048x128 .f32 :=
  fun y => msRows i (rows6 x6 ((y 0).val / 256)) (vv (rows8 x8 ((y 0).val / 256)) w)
    (Fin.cons ⟨(y 0).val % 256, Nat.mod_lt _ (by decide)⟩ (Fin.cons (y 1) finZeroElim))

theorem ld_rows8 (x8 : Vec F S1024x5120 .i32) (c : ℕ) (hc : c < 8) (off' : Fin 2 → ℕ) (h0' : off' 0 = 128 * c) (h1' : off' 1 = 0)
    (inb' : ∀ a, off' a + S128x5120.size a ≤ S1024x5120.size a) :
    View.ld x8 (Rect.unit (s := S1024x5120) off' S128x5120.size inb') = rows8 x8 c := by
  funext j
  refine congrArg x8 (funext fun a => Fin.ext ?_)
  have hj : (j 0).val < 128 := (j 0).isLt
  refine Fin.cases ?_ (fun a => Fin.cases ?_ (fun a => a.elim0) a) a
  · show off' 0 + 1 * (j 0).val = (128 * c + (j 0).val) % 1024
    rw [h0']; omega
  · show off' 1 + 1 * (j 1).val = (j 1).val
    rw [h1']; omega

theorem ld_rows6 (x6 : Vec F S2048x128 .f32) (c : ℕ) (hc : c < 8) (off' : Fin 2 → ℕ) (h0' : off' 0 = 256 * c) (h1' : off' 1 = 0)
    (inb' : ∀ a, off' a + S256x128.size a ≤ S2048x128.size a) :
    View.ld x6 (Rect.unit (s := S2048x128) off' S256x128.size inb') = rows6 x6 c := by
  funext j
  refine congrArg x6 (funext fun a => Fin.ext ?_)
  have hj : (j 0).val < 256 := (j 0).isLt
  refine Fin.cases ?_ (fun a => Fin.cases ?_ (fun a => a.elim0) a) a
  · show off' 0 + 1 * (j 0).val = (256 * c + (j 0).val) % 2048
    rw [h0']; omega
  · show off' 1 + 1 * (j 1).val = (j 1).val
    rw [h1']; omega

section
variable (arg8 : Memref sig .tc .vmem S1024x5120 .i32) (harg8 : arg8.IsWhole) (argw : Memref sig .tc .vmem S5120x512 .bf16) (hargw : argw.IsWhole)
    (x8 : Vec F S1024x5120 .i32) (w : Vec F S5120x512 .bf16) (c : ℕ) (hc : c < 8)
    (off' off'' : Fin 2 → ℕ) (h0' : off' 0 = 128 * c) (h1' : off' 1 = 0) (h'' : off'' = fun _ => 0)
    (inb' : ∀ a, off' a + S128x5120.size a ≤ S1024x5120.size a)
    (inb'' : ∀ a, off'' a + S5120x512.size a ≤ S5120x512.size a)

include hc h0' h1' h'' in
theorem vv_read :
    vv (View.readAt (Elt F) arg8.view (Rect.unit (s := S1024x5120) off' S128x5120.size inb').toLoadRect (harg8.unread x8))
      (View.readAt (Elt F) argw.view (Rect.unit (s := S5120x512) off'' S5120x512.size inb'').toLoadRect (hargw.unread w))
      = vv (rows8 x8 c) w := by
  simp only [View.readAt_eq_ld, harg8.read_unread, hargw.read_unread]
  rw [View.ld_unit_zero h'' inb'' w, ld_rows8 x8 c hc off' h0' h1' inb']

include hc h0' h1' h'' in
/-- One store of codes stores a piece of `mc`. -/
theorem mc_piece (b : ℕ) (hb : b < 2) (off : Fin 2 → ℕ) (h0 : off 0 = 256 * c) (h1 : off 1 = 128 * b)
    (inb : ∀ a, off a + S256x128.size a ≤ S2048x256.size a) (x : S256x128.Idx) :
    codeOf (gsl b (vv (View.readAt (Elt F) arg8.view (Rect.unit (s := S1024x5120) off' S128x5120.size inb').toLoadRect (harg8.unread x8))
      (View.readAt (Elt F) argw.view (Rect.unit (s := S5120x512) off'' S5120x512.size inb'').toLoadRect (hargw.unread w)))) x
      = mc x8 w ((Rect.unit (s := S2048x256) off S256x128.size inb).emb x) := by
  rw [vv_read arg8 harg8 argw hargw x8 w c hc off' off'' h0' h1' h'' inb' inb'']
  have hx0 : (x 0).val < 256 := (x 0).isLt
  have hx1 : (x 1).val < 128 := (x 1).isLt
  have e0 : ((Rect.unit (s := S2048x256) off S256x128.size inb).emb x 0 : ℕ) = off 0 + 1 * (x 0).val := rfl
  have e1 : ((Rect.unit (s := S2048x256) off S256x128.size inb).emb x 1 : ℕ) = off 1 + 1 * (x 1).val := rfl
  have hq : ((Rect.unit (s := S2048x256) off S256x128.size inb).emb x 0 : ℕ) / 256 = c := by rw [e0, h0]; omega
  have hr : ((Rect.unit (s := S2048x256) off S256x128.size inb).emb x 1 : ℕ) / 128 = b := by rw [e1, h1]; omega
  unfold mc
  rw [hq, hr]
  refine congrArg _ (funext fun a => Fin.ext ?_)
  refine Fin.cases ?_ (fun a => Fin.cases ?_ (fun a => a.elim0) a) a
  · show (x 0).val = ((Rect.unit (s := S2048x256) off S256x128.size inb).emb x 0 : ℕ) % 256
    rw [e0, h0]; omega
  · show (x 1).val = ((Rect.unit (s := S2048x256) off S256x128.size inb).emb x 1 : ℕ) % 128
    rw [e1, h1]; omega

include hc h0' h1' h'' in
/-- One store of rounded values stores a piece of `ma`. -/
theorem ma_piece (b : ℕ) (hb : b < 2) (off : Fin 2 → ℕ) (h0 : off 0 = 256 * c) (h1 : off 1 = 128 * b)
    (inb : ∀ a, off a + S256x128.size a ≤ S2048x256.size a) (x : S256x128.Idx) :
    maOf (gsl b (vv (View.readAt (Elt F) arg8.view (Rect.unit (s := S1024x5120) off' S128x5120.size inb').toLoadRect (harg8.unread x8))
      (View.readAt (Elt F) argw.view (Rect.unit (s := S5120x512) off'' S5120x512.size inb'').toLoadRect (hargw.unread w)))) x
      = ma x8 w ((Rect.unit (s := S2048x256) off S256x128.size inb).emb x) := by
  rw [vv_read arg8 harg8 argw hargw x8 w c hc off' off'' h0' h1' h'' inb' inb'']
  have hx0 : (x 0).val < 256 := (x 0).isLt
  have hx1 : (x 1).val < 128 := (x 1).isLt
  have e0 : ((Rect.unit (s := S2048x256) off S256x128.size inb).emb x 0 : ℕ) = off 0 + 1 * (x 0).val := rfl
  have e1 : ((Rect.unit (s := S2048x256) off S256x128.size inb).emb x 1 : ℕ) = off 1 + 1 * (x 1).val := rfl
  have hq : ((Rect.unit (s := S2048x256) off S256x128.size inb).emb x 0 : ℕ) / 256 = c := by rw [e0, h0]; omega
  have hr : ((Rect.unit (s := S2048x256) off S256x128.size inb).emb x 1 : ℕ) / 128 = b := by rw [e1, h1]; omega
  unfold ma
  rw [hq, hr]
  refine congrArg _ (funext fun a => Fin.ext ?_)
  refine Fin.cases ?_ (fun a => Fin.cases ?_ (fun a => a.elim0) a) a
  · show (x 0).val = ((Rect.unit (s := S2048x256) off S256x128.size inb).emb x 0 : ℕ) % 256
    rw [e0, h0]; omega
  · show (x 1).val = ((Rect.unit (s := S2048x256) off S256x128.size inb).emb x 1 : ℕ) % 128
    rw [e1, h1]; omega

include hc h0' h1' h'' in
/-- One store of scales stores a piece of `ms`. -/
theorem ms_piece (i : grid0.Coords) (arg6 : Memref sig .tc .vmem S2048x128 .f32) (harg6 : arg6.IsWhole) (x6 : Vec F S2048x128 .f32)
    (off : Fin 2 → ℕ) (h0 : off 0 = 256 * c) (h1 : off 1 = 0)
    (inb : ∀ a, off a + S256x128.size a ≤ S2048x128.size a) (x : S256x128.Idx) :
    msRows i (View.readAt (Elt F) arg6.view (Rect.unit (s := S2048x128) off S256x128.size inb).toLoadRect (harg6.unread x6))
      (vv (View.readAt (Elt F) arg8.view (Rect.unit (s := S1024x5120) off' S128x5120.size inb').toLoadRect (harg8.unread x8))
      (View.readAt (Elt F) argw.view (Rect.unit (s := S5120x512) off'' S5120x512.size inb'').toLoadRect (hargw.unread w))) x
      = ms i x6 x8 w ((Rect.unit (s := S2048x128) off S256x128.size inb).emb x) := by
  rw [vv_read arg8 harg8 argw hargw x8 w c hc off' off'' h0' h1' h'' inb' inb'']
  simp only [View.readAt_eq_ld, harg6.read_unread]
  rw [ld_rows6 x6 c hc off h0 h1 inb]
  have hx0 : (x 0).val < 256 := (x 0).isLt
  have e0 : ((Rect.unit (s := S2048x128) off S256x128.size inb).emb x 0 : ℕ) = off 0 + 1 * (x 0).val := rfl
  have e1 : ((Rect.unit (s := S2048x128) off S256x128.size inb).emb x 1 : ℕ) = off 1 + 1 * (x 1).val := rfl
  have hq : ((Rect.unit (s := S2048x128) off S256x128.size inb).emb x 0 : ℕ) / 256 = c := by rw [e0, h0]; omega
  unfold ms
  rw [hq]
  refine congrArg _ (funext fun a => Fin.ext ?_)
  refine Fin.cases ?_ (fun a => Fin.cases ?_ (fun a => a.elim0) a) a
  · show (x 0).val = ((Rect.unit (s := S2048x128) off S256x128.size inb).emb x 0 : ℕ) % 256
    rw [e0, h0]; omega
  · show (x 1).val = ((Rect.unit (s := S2048x128) off S256x128.size inb).emb x 1 : ℕ)
    rw [e1, h1]; omega
end

end Cert.GateUpIdeal.Gate

end
-- ==== Proof.Gate.RunA.lean ====
/- The body at the first grid point: the activations come into the word scratch, and the weight block goes dequantised
   into the first weight scratch. -/
module

public import proofs.«01_k».proof.Proof.Gate.Math

@[expose] public section

-- membership in a rectangle of production extents (`View.cover_of_tiled`): the elaborator's structural look
-- recurses once per coordinate of the long axes
set_option maxRecDepth 16384

noncomputable section

namespace Cert.GateUpIdeal.Gate

open Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- The body at the first grid point: the weight block goes dequantised into the first weight scratch. -/
theorem runA (c : Dev nD) (i : grid0.Coords) (arg2 : Memref sig .tc .vmem S5120x256 .fp8e4m3) (harg2 : arg2.IsWhole) (arg3 : Memref sig .tc .vmem S5120x256 .fp8e4m3) (harg3 : arg3.IsWhole) (arg4 : Memref sig .tc .smem S68x40 .f32) (harg4 : arg4.IsWhole) (arg5 : Memref sig .tc .vmem S2048x256 .fp8e4m3) (harg5 : arg5.IsWhole) (arg6 : Memref sig .tc .vmem S2048x128 .f32) (harg6 : arg6.IsWhole) (arg7 : Memref sig .tc .vmem S2048x256 .bf16) (harg7 : arg7.IsWhole) (arg8 : Memref sig .tc .vmem S1024x5120 .i32) (harg8 : arg8.IsWhole) (arg9 : Memref sig .tc .vmem S5120x512 .bf16) (harg9 : arg9.IsWhole) (arg10 : Memref sig .tc .vmem S5120x512 .bf16) (harg10 : arg10.IsWhole) (hc0 : cond0_0 i) (hc1 : ¬cond0_1 i) (hc2 : ¬cond0_2 i)
    (x0 x1 : Vec F S5120x256 .fp8e4m3) (x2 : Vec F S68x40 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare fh0 ∗ owns (c : Thread nD τ) arg9 fullShare (deq i x0 x1 x2) ∗ (∃ d, owns (c : Thread nD τ) arg10 fullShare d) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_gate_up i (Memref.whole main_arg0) (Memref.isWhole_whole _) arg2 harg2 arg3 harg3 arg4 harg4 arg5 harg5 arg6 harg6 arg7 harg7 arg8 harg8 arg9 harg9 arg10 harg10 cc0_scratch3) K := by
    intro W K
    simp only [cc0_gate_up_eq_skeleton]; unfold cc0_gate_up_skel
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%d3, %g3, -, H3⟩, ⟨%d4, %g4, -, H4⟩, ⟨%d5, %g5, -, H5⟩, ⟨%d6, %g6, -, HS0⟩, ⟨%d7, %g7, -, HS1⟩, ⟨%d8, %g8, -, HS2⟩, Hq0, Hh0, HW, Hk⟩
    obtain rfl := harg2.eq_unread hf0; obtain rfl := harg3.eq_unread hf1; obtain rfl := harg4.eq_unread hf2
    sl_exec! (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _; isplitr; swap; · iexact HS0
      ipureintro; funext y
      refine View.read_writes_apply_of_pieces _ _ (fun y => fh0 y) _ ?_ y ?hcov
      case hcov => exact View.cover_of_tiled (s := S1024x5120) _ S1024x5120.size (by rfl) y
      refine List.forall_mem_cons.2 ⟨fun x => ?_, List.forall_mem_nil _⟩
      show runA.sl.dma0 c fh0 x = fh0 ((Rect.whole S1024x5120).emb x)
      rw [Rect.emb_whole_apply]; rfl
    isplitl [HS1]
    · iexists _; isplitr; swap; · iexact HS1
      ipureintro; funext y
      refine View.read_writes_apply_of_pieces _ _ (deq i x0 x1 x2) _ ?_ y ?hcov
      case hcov => exact View.cover_of_tiled (s := S5120x512) _ S128x128.size (by rfl) y
      refine List.forall_mem_cons.2 ⟨fun x => deq_piece i 1 (by decide) arg3 harg3 arg4 harg4 x0 x1 x1 x2 rfl 39 1 (by decide) ![4992, 384] ![4992, 128] (k0_off80 i 1#32) rfl rfl rfl rfl (sword1 (i 0) 1) rfl inb_S5120x512_S128x128_4992_384 _ _ _ _ x, ?_⟩
      refine List.forall_mem_cons.2 ⟨fun x => deq_piece i 1 (by decide) arg3 harg3 arg4 harg4 x0 x1 x1 x2 rfl 39 0 (by decide) ![4992, 256] ![4992, 0] (k0_off80 i 0#32) rfl rfl rfl rfl (sword1 (i 0) 0) rfl inb_S5120x512_S128x128_4992_256 _ _ _ _ x, ?_⟩
      refine List.forall_mem_cons.2 ⟨fun x => deq_piece i 1 (by decide) arg3 harg3 arg4 harg4 x0 x1 x1 x2 rfl 38 1 (by decide) ![4864, 384] ![4864, 128] (k0_off79 i 1#32) rfl rfl rfl rfl (sword1 (i 0) 1) rfl inb_S5120x512_S128x128_4864_384 _ _ _ _ x, ?_⟩
      refine List.forall_mem_cons.2 ⟨fun x => deq_piece i 1 (by decide) arg3 harg3 arg4 harg4 x0 x1 x1 x2 rfl 38 0 (by decide) ![4864, 256] ![4864, 0] (k0_off79 i 0#32) rfl rfl rfl rfl (sword1 (i 0) 0) rfl inb_S5120x512_S128x128_4864_256 _ _ _ _ x, ?_⟩
      refine List.forall_mem_cons.2 ⟨fun x => deq_piece i 1 (by decide) arg3 harg3 arg4 harg4 x0 x1 x1 x2 rfl 37 1 (by decide) ![4736, 384] ![4736, 128] (k0_off78 i 1#32) rfl rfl rfl rfl (sword1 (i 0) 1) rfl inb_S5120x512_S128x128_4736_384 _ _ _ _ x, ?_⟩
      refine List.forall_mem_cons.2 ⟨fun x => deq_piece i 1 (by decide) arg3 harg3 arg4 harg4 x0 x1 x1 x2 rfl 37 0 (by decide) ![4736, 256] ![4736, 0] (k0_off78 i 0#32) rfl rfl rfl rfl (sword1 (i 0) 0) rfl inb_S5120x512_S128x128_4736_256 _ _ _ _ x, ?_⟩
      refine List.forall_mem_cons.2 ⟨fun x => deq_piece i 1 (by decide) arg3 harg3 arg4 harg4 x0 x1 x1 x2 rfl 36 1 (by decide) ![4608, 384] ![4608, 128] (k0_off77 i 1#32) rfl rfl rfl rfl (sword1 (i 0) 1) rfl inb_S5120x512_S128x128_4608_384 _ _ _ _ x, ?_⟩
      refine List.forall_mem_cons.2 ⟨fun x => deq_piece i 1 (by decide) arg3 harg3 arg4 harg4 x0 x1 x1 x2 rfl 36 0 (by decide) ![4608, 256] ![4608, 0] (k0_off77 i 0#32) rfl rfl rfl rfl (sword1 (i 0) 0) rfl inb_S5120x512_S128x128_4608_256 _ _ _ _ x, ?_⟩
      refine List.forall_mem_cons.2 ⟨fun x => deq_piece i 1 (by decide) arg3 harg3 arg4 harg4 x0 x1 x1 x2 rfl 35 1 (by decide) ![4480, 384] ![4480, 128] (k0_off76 i 1#32) rfl rfl rfl rfl (sword1 (i 0) 1) rfl inb_S5120x512_S128x128_4480_384 _ _ _ _ x, ?_⟩
      refine List.forall_mem_cons.2 ⟨fun x => deq_piece i 1 (by decide) arg3 harg3 arg4 harg4 x0 x1 x1 x2 rfl 35 0 (by decide) ![4480, 256] ![4480, 0] (k0_off76 i 0#32) rfl rfl rfl rfl (sword1 (i 0) 0) rfl inb_S5120x512_S128x128_4480_256 _ _ _ _ x, ?_⟩
      refine List.forall_mem_cons.2 ⟨fun x => deq_piece i 1 (by decide) arg3 harg3 arg4 harg4 x0 x1 x1 x2 rfl 34 1 (by decide) ![4352, 384] ![4352, 128] (k0_off75 i 1#32) rfl rfl rfl rfl (sword1 (i 0) 1) rfl inb_S5120x512_S128x128_4352_384 _ _ _ _ x, ?_⟩
      refine List.forall_mem_cons.2 ⟨fun x => deq_piece i 1 (by decide) arg3 harg3 arg4 harg4 x0 x1 x1 x2 rfl 34 0 (by decide) ![4352, 256] ![4352, 0] (k0_off75 i 0#32) rfl rfl rfl rfl (sword1 (i 0) 0) rfl inb_S5120x512_S128x128_4352_256 _ _ _ _ x, ?_⟩
      refine List.forall_mem_cons.2 ⟨fun x => deq_piece i 1 (by decide) arg3 harg3 arg4 harg4 x0 x1 x1 x2 rfl 33 1 (by decide) ![4224, 384] ![4224, 128] (k0_off74 i 1#32) rfl rfl rfl rfl (sword1 (i 0) 1) rfl inb_S5120x512_S128x128_4224_384 _ _ _ _ x, ?_⟩
      refine List.forall_mem_cons.2 ⟨fun x => deq_piece i 1 (by decide) arg3 harg3 arg4 harg4 x0 x1 x1 x2 rfl 33 0 (by decide) ![4224, 256] ![4224, 0] (k0_off74 i 0#32) rfl rfl rfl rfl (sword1 (i 0) 0) rfl inb_S5120x512_S128x128_4224_256 _ _ _ _ x, ?_⟩
      refine List.forall_mem_cons.2 ⟨fun x => deq_piece i 1 (by decide) arg3 harg3 arg4 harg4 x0 x1 x1 x2 rfl 32 1 (by decide) ![4096, 384] ![4096, 128] (k0_off73 i 1#32) rfl rfl rfl rfl (sword1 (i 0) 1) rfl inb_S5120x512_S128x128_4096_384 _ _ _ _ x, ?_⟩
      refine List.forall_mem_cons.2 ⟨fun x => deq_piece i 1 (by decide) arg3 harg3 arg4 harg4 x0 x1 x1 x2 rfl 32 0 (by decide) ![4096, 256] ![4096, 0] (k0_off73 i 0#32) rfl rfl rfl rfl (sword1 (i 0) 0) rfl inb_S5120x512_S128x128_4096_256 _ _ _ _ x, ?_⟩
      refine List.forall_mem_cons.2 ⟨fun x => deq_piece i 1 (by decide) arg3 harg3 arg4 harg4 x0 x1 x1 x2 rfl 31 1 (by decide) ![3968, 384] ![3968, 128] (k0_off72 i 1#32) rfl rfl rfl rfl (sword1 (i 0) 1) rfl inb_S5120x512_S128x128_3968_384 _ _ _ _ x, ?_⟩
      refine List.forall_mem_cons.2 ⟨fun x => deq_piece i 1 (by decide) arg3 harg3 arg4 harg4 x0 x1 x1 x2 rfl 31 0 (by decide) ![3968, 256] ![3968, 0] (k0_off72 i 0#32) rfl rfl rfl rfl (sword1 (i 0) 0) rfl inb_S5120x512_S128x128_3968_256 _ _ _ _ x, ?_⟩
      refine List.forall_mem_cons.2 ⟨fun x => deq_piece i 1 (by decide) arg3 harg3 arg4 harg4 x0 x1 x1 x2 rfl 30 1 (by decide) ![3840, 384] ![3840, 128] (k0_off71 i 1#32) rfl rfl rfl rfl (sword1 (i 0) 1) rfl inb_S5120x512_S128x128_3840_384 _ _ _ _ x, ?_⟩
      refine List.forall_mem_cons.2 ⟨fun x => deq_piece i 1 (by decide) arg3 harg3 arg4 harg4 x0 x1 x1 x2 rfl 30 0 (by decide) ![3840, 256] ![3840, 0] (k0_off71 i 0#32) rfl rfl rfl rfl (sword1 (i 0) 0) rfl inb_S5120x512_S128x128_3840_256 _ _ _ _ x, ?_⟩
      refine List.forall_mem_cons.2 ⟨fun x => deq_piece i 1 (by decide) arg3 harg3 arg4 harg4 x0 x1 x1 x2 rfl 29 1 (by decide) ![3712, 384] ![3712, 128] (k0_off70 i 1#32) rfl rfl rfl rfl (sword1 (i 0) 1) rfl inb_S5120x512_S128x128_3712_384 _ _ _ _ x, ?_⟩
      refine List.forall_mem_cons.2 ⟨fun x => deq_piece i 1 (by decide) arg3 harg3 arg4 harg4 x0 x1 x1 x2 rfl 29 0 (by decide) ![3712, 256] ![3712, 0] (k0_off70 i 0#32) rfl rfl rfl rfl (sword1 (i 0) 0) rfl inb_S5120x512_S128x128_3712_256 _ _ _ _ x, ?_⟩
      refine List.forall_mem_cons.2 ⟨fun x => deq_piece i 1 (by decide) arg3 harg3 arg4 harg4 x0 x1 x1 x2 rfl 28 1 (by decide) ![3584, 384] ![3584, 128] (k0_off69 i 1#32) rfl rfl rfl rfl (sword1 (i 0) 1) rfl inb_S5120x512_S128x128_3584_384 _ _ _ _ x, ?_⟩
      refine List.forall_mem_cons.2 ⟨fun x => deq_piece i 1 (by decide) arg3 harg3 arg4 harg4 x0 x1 x1 x2 rfl 28 0 (by decide) ![3584, 256] ![3584, 0] (k0_off69 i 0#32) rfl rfl rfl rfl (sword1 (i 0) 0) rfl inb_S5120x512_S128x128_3584_256 _ _ _ _ x, ?_⟩
      refine List.forall_mem_cons.2 ⟨fun x => deq_piece i 1 (by decide) arg3 harg3 arg4 harg4 x0 x1 x1 x2 rfl 27 1 (by decide) ![3456, 384] ![3456, 128] (k0_off68 i 1#32) rfl rfl rfl rfl (sword1 (i 0) 1) rfl inb_S5120x512_S128x128_3456_384 _ _ _ _ x, ?_⟩
      refine List.forall_mem_cons.2 ⟨fun x => deq_piece i 1 (by decide) arg3 harg3 arg4 harg4 x0 x1 x1 x2 rfl 27 0 (by decide) ![3456, 256] ![3456, 0] (k0_off68 i 0#32) rfl rfl rfl rfl (sword1 (i 0) 0) rfl inb_S5120x512_S128x128_3456_256 _ _ _ _ x, ?_⟩
      refine List.forall_mem_cons.2 ⟨fun x => deq_piece i 1 (by decide) arg3 harg3 arg4 harg4 x0 x1 x1 x2 rfl 26 1 (by decide) ![3328, 384] ![3328, 128] (k0_off67 i 1#32) rfl rfl rfl rfl (sword1 (i 0) 1) rfl inb_S5120x512_S128x128_3328_384 _ _ _ _ x, ?_⟩
      refine List.forall_mem_cons.2 ⟨fun x => deq_piece i 1 (by decide) arg3 harg3 arg4 harg4 x0 x1 x1 x2 rfl 26 0 (by decide) ![3328, 256] ![3328, 0] (k0_off67 i 0#32) rfl rfl rfl rfl (sword1 (i 0) 0) rfl inb_S5120x512_S128x128_3328_256 _ _ _ _ x, ?_⟩
      refine List.forall_mem_cons.2 ⟨fun x => deq_piece i 1 (by decide) arg3 harg3 arg4 harg4 x0 x1 x1 x2 rfl 25 1 (by decide) ![3200, 384] ![3200, 128] (k0_off66 i 1#32) rfl rfl rfl rfl (sword1 (i 0) 1) rfl inb_S5120x512_S128x128_3200_384 _ _ _ _ x, ?_⟩
      refine List.forall_mem_cons.2 ⟨fun x => deq_piece i 1 (by decide) arg3 harg3 arg4 harg4 x0 x1 x1 x2 rfl 25 0 (by decide) ![3200, 256] ![3200, 0] (k0_off66 i 0#32) rfl rfl rfl rfl (sword1 (i 0) 0) rfl inb_S5120x512_S128x128_3200_256 _ _ _ _ x, ?_⟩
      refine List.forall_mem_cons.2 ⟨fun x => deq_piece i 1 (by decide) arg3 harg3 arg4 harg4 x0 x1 x1 x2 rfl 24 1 (by decide) ![3072, 384] ![3072, 128] (k0_off65 i 1#32) rfl rfl rfl rfl (sword1 (i 0) 1) rfl inb_S5120x512_S128x128_3072_384 _ _ _ _ x, ?_⟩
      refine List.forall_mem_cons.2 ⟨fun x => deq_piece i 1 (by decide) arg3 harg3 arg4 harg4 x0 x1 x1 x2 rfl 24 0 (by decide) ![3072, 256] ![3072, 0] (k0_off65 i 0#32) rfl rfl rfl rfl (sword1 (i 0) 0) rfl inb_S5120x512_S128x128_3072_256 _ _ _ _ x, ?_⟩
      refine List.forall_mem_cons.2 ⟨fun x => deq_piece i 1 (by decide) arg3 harg3 arg4 harg4 x0 x1 x1 x2 rfl 23 1 (by decide) ![2944, 384] ![2944, 128] (k0_off64 i 1#32) rfl rfl rfl rfl (sword1 (i 0) 1) rfl inb_S5120x512_S128x128_2944_384 _ _ _ _ x, ?_⟩
      refine List.forall_mem_cons.2 ⟨fun x => deq_piece i 1 (by decide) arg3 harg3 arg4 harg4 x0 x1 x1 x2 rfl 23 0 (by decide) ![2944, 256] ![2944, 0] (k0_off64 i 0#32) rfl rfl rfl rfl (sword1 (i 0) 0) rfl inb_S5120x512_S128x128_2944_256 _ _ _ _ x, ?_⟩
      refine List.forall_mem_cons.2 ⟨fun x => deq_piece i 1 (by decide) arg3 harg3 arg4 harg4 x0 x1 x1 x2 rfl 22 1 (by decide) ![2816, 384] ![2816, 128] (k0_off63 i 1#32) rfl rfl rfl rfl (sword1 (i 0) 1) rfl inb_S5120x512_S128x128_2816_384 _ _ _ _ x, ?_⟩
      refine List.forall_mem_cons.2 ⟨fun x => deq_piece i 1 (by decide) arg3 harg3 arg4 harg4 x0 x1 x1 x2 rfl 22 0 (by decide) ![2816, 256] ![2816, 0] (k0_off63 i 0#32) rfl rfl rfl rfl (sword1 (i 0) 0) rfl inb_S5120x512_S128x128_2816_256 _ _ _ _ x, ?_⟩
      refine List.forall_mem_cons.2 ⟨fun x => deq_piece i 1 (by decide) arg3 harg3 arg4 harg4 x0 x1 x1 x2 rfl 21 1 (by decide) ![2688, 384] ![2688, 128] (k0_off62 i 1#32) rfl rfl rfl rfl (sword1 (i 0) 1) rfl inb_S5120x512_S128x128_2688_384 _ _ _ _ x, ?_⟩
      refine List.forall_mem_cons.2 ⟨fun x => deq_piece i 1 (by decide) arg3 harg3 arg4 harg4 x0 x1 x1 x2 rfl 21 0 (by decide) ![2688, 256] ![2688, 0] (k0_off62 i 0#32) rfl rfl rfl rfl (sword1 (i 0) 0) rfl inb_S5120x512_S128x128_2688_256 _ _ _ _ x, ?_⟩
      refine List.forall_mem_cons.2 ⟨fun x => deq_piece i 1 (by decide) arg3 harg3 arg4 harg4 x0 x1 x1 x2 rfl 20 1 (by decide) ![2560, 384] ![2560, 128] (k0_off61 i 1#32) rfl rfl rfl rfl (sword1 (i 0) 1) rfl inb_S5120x512_S128x128_2560_384 _ _ _ _ x, ?_⟩
      refine List.forall_mem_cons.2 ⟨fun x => deq_piece i 1 (by decide) arg3 harg3 arg4 harg4 x0 x1 x1 x2 rfl 20 0 (by decide) ![2560, 256] ![2560, 0] (k0_off61 i 0#32) rfl rfl rfl rfl (sword1 (i 0) 0) rfl inb_S5120x512_S128x128_2560_256 _ _ _ _ x, ?_⟩
      refine List.forall_mem_cons.2 ⟨fun x => deq_piece i 1 (by decide) arg3 harg3 arg4 harg4 x0 x1 x1 x2 rfl 19 1 (by decide) ![2432, 384] ![2432, 128] (k0_off60 i 1#32) rfl rfl rfl rfl (sword1 (i 0) 1) rfl inb_S5120x512_S128x128_2432_384 _ _ _ _ x, ?_⟩
      refine List.forall_mem_cons.2 ⟨fun x => deq_piece i 1 (by decide) arg3 harg3 arg4 harg4 x0 x1 x1 x2 rfl 19 0 (by decide) ![2432, 256] ![2432, 0] (k0_off60 i 0#32) rfl rfl rfl rfl (sword1 (i 0) 0) rfl inb_S5120x512_S128x128_2432_256 _ _ _ _ x, ?_⟩
      refine List.forall_mem_cons.2 ⟨fun x => deq_piece i 1 (by decide) arg3 harg3 arg4 harg4 x0 x1 x1 x2 rfl 18 1 (by decide) ![2304, 384] ![2304, 128] (k0_off59 i 1#32) rfl rfl rfl rfl (sword1 (i 0) 1) rfl inb_S5120x512_S128x128_2304_384 _ _ _ _ x, ?_⟩
      refine List.forall_mem_cons.2 ⟨fun x => deq_piece i 1 (by decide) arg3 harg3 arg4 harg4 x0 x1 x1 x2 rfl 18 0 (by decide) ![2304, 256] ![2304, 0] (k0_off59 i 0#32) rfl rfl rfl rfl (sword1 (i 0) 0) rfl inb_S5120x512_S128x128_2304_256 _ _ _ _ x, ?_⟩
      refine List.forall_mem_cons.2 ⟨fun x => deq_piece i 1 (by decide) arg3 harg3 arg4 harg4 x0 x1 x1 x2 rfl 17 1 (by decide) ![2176, 384] ![2176, 128] (k0_off58 i 1#32) rfl rfl rfl rfl (sword1 (i 0) 1) rfl inb_S5120x512_S128x128_2176_384 _ _ _ _ x, ?_⟩
      refine List.forall_mem_cons.2 ⟨fun x => deq_piece i 1 (by decide) arg3 harg3 arg4 harg4 x0 x1 x1 x2 rfl 17 0 (by decide) ![2176, 256] ![2176, 0] (k0_off58 i 0#32) rfl rfl rfl rfl (sword1 (i 0) 0) rfl inb_S5120x512_S128x128_2176_256 _ _ _ _ x, ?_⟩
      refine List.forall_mem_cons.2 ⟨fun x => deq_piece i 1 (by decide) arg3 harg3 arg4 harg4 x0 x1 x1 x2 rfl 16 1 (by decide) ![2048, 384] ![2048, 128] (k0_off57 i 1#32) rfl rfl rfl rfl (sword1 (i 0) 1) rfl inb_S5120x512_S128x128_2048_384 _ _ _ _ x, ?_⟩
      refine List.forall_mem_cons.2 ⟨fun x => deq_piece i 1 (by decide) arg3 harg3 arg4 harg4 x0 x1 x1 x2 rfl 16 0 (by decide) ![2048, 256] ![2048, 0] (k0_off57 i 0#32) rfl rfl rfl rfl (sword1 (i 0) 0) rfl inb_S5120x512_S128x128_2048_256 _ _ _ _ x, ?_⟩
      refine List.forall_mem_cons.2 ⟨fun x => deq_piece i 1 (by decide) arg3 harg3 arg4 harg4 x0 x1 x1 x2 rfl 15 1 (by decide) ![1920, 384] ![1920, 128] (k0_off56 i 1#32) rfl rfl rfl rfl (sword1 (i 0) 1) rfl inb_S5120x512_S128x128_1920_384 _ _ _ _ x, ?_⟩
      refine List.forall_mem_cons.2 ⟨fun x => deq_piece i 1 (by decide) arg3 harg3 arg4 harg4 x0 x1 x1 x2 rfl 15 0 (by decide) ![1920, 256] ![1920, 0] (k0_off56 i 0#32) rfl rfl rfl rfl (sword1 (i 0) 0) rfl inb_S5120x512_S128x128_1920_256 _ _ _ _ x, ?_⟩
      refine List.forall_mem_cons.2 ⟨fun x => deq_piece i 1 (by decide) arg3 harg3 arg4 harg4 x0 x1 x1 x2 rfl 14 1 (by decide) ![1792, 384] ![1792, 128] (k0_off55 i 1#32) rfl rfl rfl rfl (sword1 (i 0) 1) rfl inb_S5120x512_S128x128_1792_384 _ _ _ _ x, ?_⟩
      refine List.forall_mem_cons.2 ⟨fun x => deq_piece i 1 (by decide) arg3 harg3 arg4 harg4 x0 x1 x1 x2 rfl 14 0 (by decide) ![1792, 256] ![1792, 0] (k0_off55 i 0#32) rfl rfl rfl rfl (sword1 (i 0) 0) rfl inb_S5120x512_S128x128_1792_256 _ _ _ _ x, ?_⟩
      refine List.forall_mem_cons.2 ⟨fun x => deq_piece i 1 (by decide) arg3 harg3 arg4 harg4 x0 x1 x1 x2 rfl 13 1 (by decide) ![1664, 384] ![1664, 128] (k0_off54 i 1#32) rfl rfl rfl rfl (sword1 (i 0) 1) rfl inb_S5120x512_S128x128_1664_384 _ _ _ _ x, ?_⟩
      refine List.forall_mem_cons.2 ⟨fun x => deq_piece i 1 (by decide) arg3 harg3 arg4 harg4 x0 x1 x1 x2 rfl 13 0 (by decide) ![1664, 256] ![1664, 0] (k0_off54 i 0#32) rfl rfl rfl rfl (sword1 (i 0) 0) rfl inb_S5120x512_S128x128_1664_256 _ _ _ _ x, ?_⟩
      refine List.forall_mem_cons.2 ⟨fun x => deq_piece i 1 (by decide) arg3 harg3 arg4 harg4 x0 x1 x1 x2 rfl 12 1 (by decide) ![1536, 384] ![1536, 128] (k0_off53 i 1#32) rfl rfl rfl rfl (sword1 (i 0) 1) rfl inb_S5120x512_S128x128_1536_384 _ _ _ _ x, ?_⟩
      refine List.forall_mem_cons.2 ⟨fun x => deq_piece i 1 (by decide) arg3 harg3 arg4 harg4 x0 x1 x1 x2 rfl 12 0 (by decide) ![1536, 256] ![1536, 0] (k0_off53 i 0#32) rfl rfl rfl rfl (sword1 (i 0) 0) rfl inb_S5120x512_S128x128_1536_256 _ _ _ _ x, ?_⟩
      refine List.forall_mem_cons.2 ⟨fun x => deq_piece i 1 (by decide) arg3 harg3 arg4 harg4 x0 x1 x1 x2 rfl 11 1 (by decide) ![1408, 384] ![1408, 128] (k0_off52 i 1#32) rfl rfl rfl rfl (sword1 (i 0) 1) rfl inb_S5120x512_S128x128_1408_384 _ _ _ _ x, ?_⟩
      refine List.forall_mem_cons.2 ⟨fun x => deq_piece i 1 (by decide) arg3 harg3 arg4 harg4 x0 x1 x1 x2 rfl 11 0 (by decide) ![1408, 256] ![1408, 0] (k0_off52 i 0#32) rfl rfl rfl rfl (sword1 (i 0) 0) rfl inb_S5120x512_S128x128_1408_256 _ _ _ _ x, ?_⟩
      refine List.forall_mem_cons.2 ⟨fun x => deq_piece i 1 (by decide) arg3 harg3 arg4 harg4 x0 x1 x1 x2 rfl 10 1 (by decide) ![1280, 384] ![1280, 128] (k0_off51 i 1#32) rfl rfl rfl rfl (sword1 (i 0) 1) rfl inb_S5120x512_S128x128_1280_384 _ _ _ _ x, ?_⟩
      refine List.forall_mem_cons.2 ⟨fun x => deq_piece i 1 (by decide) arg3 harg3 arg4 harg4 x0 x1 x1 x2 rfl 10 0 (by decide) ![1280, 256] ![1280, 0] (k0_off51 i 0#32) rfl rfl rfl rfl (sword1 (i 0) 0) rfl inb_S5120x512_S128x128_1280_256 _ _ _ _ x, ?_⟩
      refine List.forall_mem_cons.2 ⟨fun x => deq_piece i 1 (by decide) arg3 harg3 arg4 harg4 x0 x1 x1 x2 rfl 9 1 (by decide) ![1152, 384] ![1152, 128] (k0_off50 i 1#32) rfl rfl rfl rfl (sword1 (i 0) 1) rfl inb_S5120x512_S128x128_1152_384 _ _ _ _ x, ?_⟩
      refine List.forall_mem_cons.2 ⟨fun x => deq_piece i 1 (by decide) arg3 harg3 arg4 harg4 x0 x1 x1 x2 rfl 9 0 (by decide) ![1152, 256] ![1152, 0] (k0_off50 i 0#32) rfl rfl rfl rfl (sword1 (i 0) 0) rfl inb_S5120x512_S128x128_1152_256 _ _ _ _ x, ?_⟩
      refine List.forall_mem_cons.2 ⟨fun x => deq_piece i 1 (by decide) arg3 harg3 arg4 harg4 x0 x1 x1 x2 rfl 8 1 (by decide) ![1024, 384] ![1024, 128] (k0_off49 i 1#32) rfl rfl rfl rfl (sword1 (i 0) 1) rfl inb_S5120x512_S128x128_1024_384 _ _ _ _ x, ?_⟩
      refine List.forall_mem_cons.2 ⟨fun x => deq_piece i 1 (by decide) arg3 harg3 arg4 harg4 x0 x1 x1 x2 rfl 8 0 (by decide) ![1024, 256] ![1024, 0] (k0_off49 i 0#32) rfl rfl rfl rfl (sword1 (i 0) 0) rfl inb_S5120x512_S128x128_1024_256 _ _ _ _ x, ?_⟩
      refine List.forall_mem_cons.2 ⟨fun x => deq_piece i 1 (by decide) arg3 harg3 arg4 harg4 x0 x1 x1 x2 rfl 7 1 (by decide) ![896, 384] ![896, 128] (k0_off48 i 1#32) rfl rfl rfl rfl (sword1 (i 0) 1) rfl inb_S5120x512_S128x128_896_384 _ _ _ _ x, ?_⟩
      refine List.forall_mem_cons.2 ⟨fun x => deq_piece i 1 (by decide) arg3 harg3 arg4 harg4 x0 x1 x1 x2 rfl 7 0 (by decide) ![896, 256] ![896, 0] (k0_off48 i 0#32) rfl rfl rfl rfl (sword1 (i 0) 0) rfl inb_S5120x512_S128x128_896_256 _ _ _ _ x, ?_⟩
      refine List.forall_mem_cons.2 ⟨fun x => deq_piece i 1 (by decide) arg3 harg3 arg4 harg4 x0 x1 x1 x2 rfl 6 1 (by decide) ![768, 384] ![768, 128] (k0_off47 i 1#32) rfl rfl rfl rfl (sword1 (i 0) 1) rfl inb_S5120x512_S128x128_768_384 _ _ _ _ x, ?_⟩
      refine List.forall_mem_cons.2 ⟨fun x => deq_piece i 1 (by decide) arg3 harg3 arg4 harg4 x0 x1 x1 x2 rfl 6 0 (by decide) ![768, 256] ![768, 0] (k0_off47 i 0#32) rfl rfl rfl rfl (sword1 (i 0) 0) rfl inb_S5120x512_S128x128_768_256 _ _ _ _ x, ?_⟩
      refine List.forall_mem_cons.2 ⟨fun x => deq_piece i 1 (by decide) arg3 harg3 arg4 harg4 x0 x1 x1 x2 rfl 5 1 (by decide) ![640, 384] ![640, 128] (k0_off46 i 1#32) rfl rfl rfl rfl (sword1 (i 0) 1) rfl inb_S5120x512_S128x128_640_384 _ _ _ _ x, ?_⟩
      refine List.forall_mem_cons.2 ⟨fun x => deq_piece i 1 (by decide) arg3 harg3 arg4 harg4 x0 x1 x1 x2 rfl 5 0 (by decide) ![640, 256] ![640, 0] (k0_off46 i 0#32) rfl rfl rfl rfl (sword1 (i 0) 0) rfl inb_S5120x512_S128x128_640_256 _ _ _ _ x, ?_⟩
      refine List.forall_mem_cons.2 ⟨fun x => deq_piece i 1 (by decide) arg3 harg3 arg4 harg4 x0 x1 x1 x2 rfl 4 1 (by decide) ![512, 384] ![512, 128] (k0_off45 i 1#32) rfl rfl rfl rfl (sword1 (i 0) 1) rfl inb_S5120x512_S128x128_512_384 _ _ _ _ x, ?_⟩
      refine List.forall_mem_cons.2 ⟨fun x => deq_piece i 1 (by decide) arg3 harg3 arg4 harg4 x0 x1 x1 x2 rfl 4 0 (by decide) ![512, 256] ![512, 0] (k0_off45 i 0#32) rfl rfl rfl rfl (sword1 (i 0) 0) rfl inb_S5120x512_S128x128_512_256 _ _ _ _ x, ?_⟩
      refine List.forall_mem_cons.2 ⟨fun x => deq_piece i 1 (by decide) arg3 harg3 arg4 harg4 x0 x1 x1 x2 rfl 3 1 (by decide) ![384, 384] ![384, 128] (k0_off44 i 1#32) rfl rfl rfl rfl (sword1 (i 0) 1) rfl inb_S5120x512_S128x128_384_384 _ _ _ _ x, ?_⟩
      refine List.forall_mem_cons.2 ⟨fun x => deq_piece i 1 (by decide) arg3 harg3 arg4 harg4 x0 x1 x1 x2 rfl 3 0 (by decide) ![384, 256] ![384, 0] (k0_off44 i 0#32) rfl rfl rfl rfl (sword1 (i 0) 0) rfl inb_S5120x512_S128x128_384_256 _ _ _ _ x, ?_⟩
      refine List.forall_mem_cons.2 ⟨fun x => deq_piece i 1 (by decide) arg3 harg3 arg4 harg4 x0 x1 x1 x2 rfl 2 1 (by decide) ![256, 384] ![256, 128] (k0_off43 i 1#32) rfl rfl rfl rfl (sword1 (i 0) 1) rfl inb_S5120x512_S128x128_256_384 _ _ _ _ x, ?_⟩
      refine List.forall_mem_cons.2 ⟨fun x => deq_piece i 1 (by decide) arg3 harg3 arg4 harg4 x0 x1 x1 x2 rfl 2 0 (by decide) ![256, 256] ![256, 0] (k0_off43 i 0#32) rfl rfl rfl rfl (sword1 (i 0) 0) rfl inb_S5120x512_S128x128_256_256 _ _ _ _ x, ?_⟩
      refine List.forall_mem_cons.2 ⟨fun x => deq_piece i 1 (by decide) arg3 harg3 arg4 harg4 x0 x1 x1 x2 rfl 1 1 (by decide) ![128, 384] ![128, 128] (k0_off42 i 1#32) rfl rfl rfl rfl (sword1 (i 0) 1) rfl inb_S5120x512_S128x128_128_384 _ _ _ _ x, ?_⟩
      refine List.forall_mem_cons.2 ⟨fun x => deq_piece i 1 (by decide) arg3 harg3 arg4 harg4 x0 x1 x1 x2 rfl 1 0 (by decide) ![128, 256] ![128, 0] (k0_off42 i 0#32) rfl rfl rfl rfl (sword1 (i 0) 0) rfl inb_S5120x512_S128x128_128_256 _ _ _ _ x, ?_⟩
      refine List.forall_mem_cons.2 ⟨fun x => deq_piece i 1 (by decide) arg3 harg3 arg4 harg4 x0 x1 x1 x2 rfl 0 1 (by decide) ![0, 384] ![0, 128] (k0_off41 i 1#32) rfl rfl rfl rfl (sword1 (i 0) 1) rfl inb_S5120x512_S128x128_0_384 _ _ _ _ x, ?_⟩
      refine List.forall_mem_cons.2 ⟨fun x => deq_piece i 1 (by decide) arg3 harg3 arg4 harg4 x0 x1 x1 x2 rfl 0 0 (by decide) ![0, 256] ![0, 0] (k0_off41 i 0#32) rfl rfl rfl rfl (sword1 (i 0) 0) rfl inb_S5120x512_S128x128_0_256 _ _ _ _ x, ?_⟩
      refine List.forall_mem_cons.2 ⟨fun x => deq_piece i 0 (by decide) arg2 harg2 arg4 harg4 x0 x1 x0 x2 rfl 39 1 (by decide) ![4992, 128] ![4992, 128] (k0_off40 i 1#32) rfl rfl rfl rfl (sword0 (i 0) 1) rfl inb_S5120x512_S128x128_4992_128 _ _ _ _ x, ?_⟩
      refine List.forall_mem_cons.2 ⟨fun x => deq_piece i 0 (by decide) arg2 harg2 arg4 harg4 x0 x1 x0 x2 rfl 39 0 (by decide) ![4992, 0] ![4992, 0] (k0_off40 i 0#32) rfl rfl rfl rfl (sword0 (i 0) 0) rfl inb_S5120x512_S128x128_4992_0 _ _ _ _ x, ?_⟩
      refine List.forall_mem_cons.2 ⟨fun x => deq_piece i 0 (by decide) arg2 harg2 arg4 harg4 x0 x1 x0 x2 rfl 38 1 (by decide) ![4864, 128] ![4864, 128] (k0_off39 i 1#32) rfl rfl rfl rfl (sword0 (i 0) 1) rfl inb_S5120x512_S128x128_4864_128 _ _ _ _ x, ?_⟩
      refine List.forall_mem_cons.2 ⟨fun x => deq_piece i 0 (by decide) arg2 harg2 arg4 harg4 x0 x1 x0 x2 rfl 38 0 (by decide) ![4864, 0] ![4864, 0] (k0_off39 i 0#32) rfl rfl rfl rfl (sword0 (i 0) 0) rfl inb_S5120x512_S128x128_4864_0 _ _ _ _ x, ?_⟩
      refine List.forall_mem_cons.2 ⟨fun x => deq_piece i 0 (by decide) arg2 harg2 arg4 harg4 x0 x1 x0 x2 rfl 37 1 (by decide) ![4736, 128] ![4736, 128] (k0_off38 i 1#32) rfl rfl rfl rfl (sword0 (i 0) 1) rfl inb_S5120x512_S128x128_4736_128 _ _ _ _ x, ?_⟩
      refine List.forall_mem_cons.2 ⟨fun x => deq_piece i 0 (by decide) arg2 harg2 arg4 harg4 x0 x1 x0 x2 rfl 37 0 (by decide) ![4736, 0] ![4736, 0] (k0_off38 i 0#32) rfl rfl rfl rfl (sword0 (i 0) 0) rfl inb_S5120x512_S128x128_4736_0 _ _ _ _ x, ?_⟩
      refine List.forall_mem_cons.2 ⟨fun x => deq_piece i 0 (by decide) arg2 harg2 arg4 harg4 x0 x1 x0 x2 rfl 36 1 (by decide) ![4608, 128] ![4608, 128] (k0_off37 i 1#32) rfl rfl rfl rfl (sword0 (i 0) 1) rfl inb_S5120x512_S128x128_4608_128 _ _ _ _ x, ?_⟩
      refine List.forall_mem_cons.2 ⟨fun x => deq_piece i 0 (by decide) arg2 harg2 arg4 harg4 x0 x1 x0 x2 rfl 36 0 (by decide) ![4608, 0] ![4608, 0] (k0_off37 i 0#32) rfl rfl rfl rfl (sword0 (i 0) 0) rfl inb_S5120x512_S128x128_4608_0 _ _ _ _ x, ?_⟩
      refine List.forall_mem_cons.2 ⟨fun x => deq_piece i 0 (by decide) arg2 harg2 arg4 harg4 x0 x1 x0 x2 rfl 35 1 (by decide) ![4480, 128] ![4480, 128] (k0_off36 i 1#32) rfl rfl rfl rfl (sword0 (i 0) 1) rfl inb_S5120x512_S128x128_4480_128 _ _ _ _ x, ?_⟩
      refine List.forall_mem_cons.2 ⟨fun x => deq_piece i 0 (by decide) arg2 harg2 arg4 harg4 x0 x1 x0 x2 rfl 35 0 (by decide) ![4480, 0] ![4480, 0] (k0_off36 i 0#32) rfl rfl rfl rfl (sword0 (i 0) 0) rfl inb_S5120x512_S128x128_4480_0 _ _ _ _ x, ?_⟩
      refine List.forall_mem_cons.2 ⟨fun x => deq_piece i 0 (by decide) arg2 harg2 arg4 harg4 x0 x1 x0 x2 rfl 34 1 (by decide) ![4352, 128] ![4352, 128] (k0_off35 i 1#32) rfl rfl rfl rfl (sword0 (i 0) 1) rfl inb_S5120x512_S128x128_4352_128 _ _ _ _ x, ?_⟩
      refine List.forall_mem_cons.2 ⟨fun x => deq_piece i 0 (by decide) arg2 harg2 arg4 harg4 x0 x1 x0 x2 rfl 34 0 (by decide) ![4352, 0] ![4352, 0] (k0_off35 i 0#32) rfl rfl rfl rfl (sword0 (i 0) 0) rfl inb_S5120x512_S128x128_4352_0 _ _ _ _ x, ?_⟩
      refine List.forall_mem_cons.2 ⟨fun x => deq_piece i 0 (by decide) arg2 harg2 arg4 harg4 x0 x1 x0 x2 rfl 33 1 (by decide) ![4224, 128] ![4224, 128] (k0_off34 i 1#32) rfl rfl rfl rfl (sword0 (i 0) 1) rfl inb_S5120x512_S128x128_4224_128 _ _ _ _ x, ?_⟩
      refine List.forall_mem_cons.2 ⟨fun x => deq_piece i 0 (by decide) arg2 harg2 arg4 harg4 x0 x1 x0 x2 rfl 33 0 (by decide) ![4224, 0] ![4224, 0] (k0_off34 i 0#32) rfl rfl rfl rfl (sword0 (i 0) 0) rfl inb_S5120x512_S128x128_4224_0 _ _ _ _ x, ?_⟩
      refine List.forall_mem_cons.2 ⟨fun x => deq_piece i 0 (by decide) arg2 harg2 arg4 harg4 x0 x1 x0 x2 rfl 32 1 (by decide) ![4096, 128] ![4096, 128] (k0_off33 i 1#32) rfl rfl rfl rfl (sword0 (i 0) 1) rfl inb_S5120x512_S128x128_4096_128 _ _ _ _ x, ?_⟩
      refine List.forall_mem_cons.2 ⟨fun x => deq_piece i 0 (by decide) arg2 harg2 arg4 harg4 x0 x1 x0 x2 rfl 32 0 (by decide) ![4096, 0] ![4096, 0] (k0_off33 i 0#32) rfl rfl rfl rfl (sword0 (i 0) 0) rfl inb_S5120x512_S128x128_4096_0 _ _ _ _ x, ?_⟩
      refine List.forall_mem_cons.2 ⟨fun x => deq_piece i 0 (by decide) arg2 harg2 arg4 harg4 x0 x1 x0 x2 rfl 31 1 (by decide) ![3968, 128] ![3968, 128] (k0_off32 i 1#32) rfl rfl rfl rfl (sword0 (i 0) 1) rfl inb_S5120x512_S128x128_3968_128 _ _ _ _ x, ?_⟩
      refine List.forall_mem_cons.2 ⟨fun x => deq_piece i 0 (by decide) arg2 harg2 arg4 harg4 x0 x1 x0 x2 rfl 31 0 (by decide) ![3968, 0] ![3968, 0] (k0_off32 i 0#32) rfl rfl rfl rfl (sword0 (i 0) 0) rfl inb_S5120x512_S128x128_3968_0 _ _ _ _ x, ?_⟩
      refine List.forall_mem_cons.2 ⟨fun x => deq_piece i 0 (by decide) arg2 harg2 arg4 harg4 x0 x1 x0 x2 rfl 30 1 (by decide) ![3840, 128] ![3840, 128] (k0_off31 i 1#32) rfl rfl rfl rfl (sword0 (i 0) 1) rfl inb_S5120x512_S128x128_3840_128 _ _ _ _ x, ?_⟩
      refine List.forall_mem_cons.2 ⟨fun x => deq_piece i 0 (by decide) arg2 harg2 arg4 harg4 x0 x1 x0 x2 rfl 30 0 (by decide) ![3840, 0] ![3840, 0] (k0_off31 i 0#32) rfl rfl rfl rfl (sword0 (i 0) 0) rfl inb_S5120x512_S128x128_3840_0 _ _ _ _ x, ?_⟩
      refine List.forall_mem_cons.2 ⟨fun x => deq_piece i 0 (by decide) arg2 harg2 arg4 harg4 x0 x1 x0 x2 rfl 29 1 (by decide) ![3712, 128] ![3712, 128] (k0_off30 i 1#32) rfl rfl rfl rfl (sword0 (i 0) 1) rfl inb_S5120x512_S128x128_3712_128 _ _ _ _ x, ?_⟩
      refine List.forall_mem_cons.2 ⟨fun x => deq_piece i 0 (by decide) arg2 harg2 arg4 harg4 x0 x1 x0 x2 rfl 29 0 (by decide) ![3712, 0] ![3712, 0] (k0_off30 i 0#32) rfl rfl rfl rfl (sword0 (i 0) 0) rfl inb_S5120x512_S128x128_3712_0 _ _ _ _ x, ?_⟩
      refine List.forall_mem_cons.2 ⟨fun x => deq_piece i 0 (by decide) arg2 harg2 arg4 harg4 x0 x1 x0 x2 rfl 28 1 (by decide) ![3584, 128] ![3584, 128] (k0_off29 i 1#32) rfl rfl rfl rfl (sword0 (i 0) 1) rfl inb_S5120x512_S128x128_3584_128 _ _ _ _ x, ?_⟩
      refine List.forall_mem_cons.2 ⟨fun x => deq_piece i 0 (by decide) arg2 harg2 arg4 harg4 x0 x1 x0 x2 rfl 28 0 (by decide) ![3584, 0] ![3584, 0] (k0_off29 i 0#32) rfl rfl rfl rfl (sword0 (i 0) 0) rfl inb_S5120x512_S128x128_3584_0 _ _ _ _ x, ?_⟩
      refine List.forall_mem_cons.2 ⟨fun x => deq_piece i 0 (by decide) arg2 harg2 arg4 harg4 x0 x1 x0 x2 rfl 27 1 (by decide) ![3456, 128] ![3456, 128] (k0_off28 i 1#32) rfl rfl rfl rfl (sword0 (i 0) 1) rfl inb_S5120x512_S128x128_3456_128 _ _ _ _ x, ?_⟩
      refine List.forall_mem_cons.2 ⟨fun x => deq_piece i 0 (by decide) arg2 harg2 arg4 harg4 x0 x1 x0 x2 rfl 27 0 (by decide) ![3456, 0] ![3456, 0] (k0_off28 i 0#32) rfl rfl rfl rfl (sword0 (i 0) 0) rfl inb_S5120x512_S128x128_3456_0 _ _ _ _ x, ?_⟩
      refine List.forall_mem_cons.2 ⟨fun x => deq_piece i 0 (by decide) arg2 harg2 arg4 harg4 x0 x1 x0 x2 rfl 26 1 (by decide) ![3328, 128] ![3328, 128] (k0_off27 i 1#32) rfl rfl rfl rfl (sword0 (i 0) 1) rfl inb_S5120x512_S128x128_3328_128 _ _ _ _ x, ?_⟩
      refine List.forall_mem_cons.2 ⟨fun x => deq_piece i 0 (by decide) arg2 harg2 arg4 harg4 x0 x1 x0 x2 rfl 26 0 (by decide) ![3328, 0] ![3328, 0] (k0_off27 i 0#32) rfl rfl rfl rfl (sword0 (i 0) 0) rfl inb_S5120x512_S128x128_3328_0 _ _ _ _ x, ?_⟩
      refine List.forall_mem_cons.2 ⟨fun x => deq_piece i 0 (by decide) arg2 harg2 arg4 harg4 x0 x1 x0 x2 rfl 25 1 (by decide) ![3200, 128] ![3200, 128] (k0_off26 i 1#32) rfl rfl rfl rfl (sword0 (i 0) 1) rfl inb_S5120x512_S128x128_3200_128 _ _ _ _ x, ?_⟩
      refine List.forall_mem_cons.2 ⟨fun x => deq_piece i 0 (by decide) arg2 harg2 arg4 harg4 x0 x1 x0 x2 rfl 25 0 (by decide) ![3200, 0] ![3200, 0] (k0_off26 i 0#32) rfl rfl rfl rfl (sword0 (i 0) 0) rfl inb_S5120x512_S128x128_3200_0 _ _ _ _ x, ?_⟩
      refine List.forall_mem_cons.2 ⟨fun x => deq_piece i 0 (by decide) arg2 harg2 arg4 harg4 x0 x1 x0 x2 rfl 24 1 (by decide) ![3072, 128] ![3072, 128] (k0_off25 i 1#32) rfl rfl rfl rfl (sword0 (i 0) 1) rfl inb_S5120x512_S128x128_3072_128 _ _ _ _ x, ?_⟩
      refine List.forall_mem_cons.2 ⟨fun x => deq_piece i 0 (by decide) arg2 harg2 arg4 harg4 x0 x1 x0 x2 rfl 24 0 (by decide) ![3072, 0] ![3072, 0] (k0_off25 i 0#32) rfl rfl rfl rfl (sword0 (i 0) 0) rfl inb_S5120x512_S128x128_3072_0 _ _ _ _ x, ?_⟩
      refine List.forall_mem_cons.2 ⟨fun x => deq_piece i 0 (by decide) arg2 harg2 arg4 harg4 x0 x1 x0 x2 rfl 23 1 (by decide) ![2944, 128] ![2944, 128] (k0_off24 i 1#32) rfl rfl rfl rfl (sword0 (i 0) 1) rfl inb_S5120x512_S128x128_2944_128 _ _ _ _ x, ?_⟩
      refine List.forall_mem_cons.2 ⟨fun x => deq_piece i 0 (by decide) arg2 harg2 arg4 harg4 x0 x1 x0 x2 rfl 23 0 (by decide) ![2944, 0] ![2944, 0] (k0_off24 i 0#32) rfl rfl rfl rfl (sword0 (i 0) 0) rfl inb_S5120x512_S128x128_2944_0 _ _ _ _ x, ?_⟩
      refine List.forall_mem_cons.2 ⟨fun x => deq_piece i 0 (by decide) arg2 harg2 arg4 harg4 x0 x1 x0 x2 rfl 22 1 (by decide) ![2816, 128] ![2816, 128] (k0_off23 i 1#32) rfl rfl rfl rfl (sword0 (i 0) 1) rfl inb_S5120x512_S128x128_2816_128 _ _ _ _ x, ?_⟩
      refine List.forall_mem_cons.2 ⟨fun x => deq_piece i 0 (by decide) arg2 harg2 arg4 harg4 x0 x1 x0 x2 rfl 22 0 (by decide) ![2816, 0] ![2816, 0] (k0_off23 i 0#32) rfl rfl rfl rfl (sword0 (i 0) 0) rfl inb_S5120x512_S128x128_2816_0 _ _ _ _ x, ?_⟩
      refine List.forall_mem_cons.2 ⟨fun x => deq_piece i 0 (by decide) arg2 harg2 arg4 harg4 x0 x1 x0 x2 rfl 21 1 (by decide) ![2688, 128] ![2688, 128] (k0_off22 i 1#32) rfl rfl rfl rfl (sword0 (i 0) 1) rfl inb_S5120x512_S128x128_2688_128 _ _ _ _ x, ?_⟩
      refine List.forall_mem_cons.2 ⟨fun x => deq_piece i 0 (by decide) arg2 harg2 arg4 harg4 x0 x1 x0 x2 rfl 21 0 (by decide) ![2688, 0] ![2688, 0] (k0_off22 i 0#32) rfl rfl rfl rfl (sword0 (i 0) 0) rfl inb_S5120x512_S128x128_2688_0 _ _ _ _ x, ?_⟩
      refine List.forall_mem_cons.2 ⟨fun x => deq_piece i 0 (by decide) arg2 harg2 arg4 harg4 x0 x1 x0 x2 rfl 20 1 (by decide) ![2560, 128] ![2560, 128] (k0_off21 i 1#32) rfl rfl rfl rfl (sword0 (i 0) 1) rfl inb_S5120x512_S128x128_2560_128 _ _ _ _ x, ?_⟩
      refine List.forall_mem_cons.2 ⟨fun x => deq_piece i 0 (by decide) arg2 harg2 arg4 harg4 x0 x1 x0 x2 rfl 20 0 (by decide) ![2560, 0] ![2560, 0] (k0_off21 i 0#32) rfl rfl rfl rfl (sword0 (i 0) 0) rfl inb_S5120x512_S128x128_2560_0 _ _ _ _ x, ?_⟩
      refine List.forall_mem_cons.2 ⟨fun x => deq_piece i 0 (by decide) arg2 harg2 arg4 harg4 x0 x1 x0 x2 rfl 19 1 (by decide) ![2432, 128] ![2432, 128] (k0_off20 i 1#32) rfl rfl rfl rfl (sword0 (i 0) 1) rfl inb_S5120x512_S128x128_2432_128 _ _ _ _ x, ?_⟩
      refine List.forall_mem_cons.2 ⟨fun x => deq_piece i 0 (by decide) arg2 harg2 arg4 harg4 x0 x1 x0 x2 rfl 19 0 (by decide) ![2432, 0] ![2432, 0] (k0_off20 i 0#32) rfl rfl rfl rfl (sword0 (i 0) 0) rfl inb_S5120x512_S128x128_2432_0 _ _ _ _ x, ?_⟩
      refine List.forall_mem_cons.2 ⟨fun x => deq_piece i 0 (by decide) arg2 harg2 arg4 harg4 x0 x1 x0 x2 rfl 18 1 (by decide) ![2304, 128] ![2304, 128] (k0_off19 i 1#32) rfl rfl rfl rfl (sword0 (i 0) 1) rfl inb_S5120x512_S128x128_2304_128 _ _ _ _ x, ?_⟩
      refine List.forall_mem_cons.2 ⟨fun x => deq_piece i 0 (by decide) arg2 harg2 arg4 harg4 x0 x1 x0 x2 rfl 18 0 (by decide) ![2304, 0] ![2304, 0] (k0_off19 i 0#32) rfl rfl rfl rfl (sword0 (i 0) 0) rfl inb_S5120x512_S128x128_2304_0 _ _ _ _ x, ?_⟩
      refine List.forall_mem_cons.2 ⟨fun x => deq_piece i 0 (by decide) arg2 harg2 arg4 harg4 x0 x1 x0 x2 rfl 17 1 (by decide) ![2176, 128] ![2176, 128] (k0_off18 i 1#32) rfl rfl rfl rfl (sword0 (i 0) 1) rfl inb_S5120x512_S128x128_2176_128 _ _ _ _ x, ?_⟩
      refine List.forall_mem_cons.2 ⟨fun x => deq_piece i 0 (by decide) arg2 harg2 arg4 harg4 x0 x1 x0 x2 rfl 17 0 (by decide) ![2176, 0] ![2176, 0] (k0_off18 i 0#32) rfl rfl rfl rfl (sword0 (i 0) 0) rfl inb_S5120x512_S128x128_2176_0 _ _ _ _ x, ?_⟩
      refine List.forall_mem_cons.2 ⟨fun x => deq_piece i 0 (by decide) arg2 harg2 arg4 harg4 x0 x1 x0 x2 rfl 16 1 (by decide) ![2048, 128] ![2048, 128] (k0_off17 i 1#32) rfl rfl rfl rfl (sword0 (i 0) 1) rfl inb_S5120x512_S128x128_2048_128 _ _ _ _ x, ?_⟩
      refine List.forall_mem_cons.2 ⟨fun x => deq_piece i 0 (by decide) arg2 harg2 arg4 harg4 x0 x1 x0 x2 rfl 16 0 (by decide) ![2048, 0] ![2048, 0] (k0_off17 i 0#32) rfl rfl rfl rfl (sword0 (i 0) 0) rfl inb_S5120x512_S128x128_2048_0 _ _ _ _ x, ?_⟩
      refine List.forall_mem_cons.2 ⟨fun x => deq_piece i 0 (by decide) arg2 harg2 arg4 harg4 x0 x1 x0 x2 rfl 15 1 (by decide) ![1920, 128] ![1920, 128] (k0_off16 i 1#32) rfl rfl rfl rfl (sword0 (i 0) 1) rfl inb_S5120x512_S128x128_1920_128 _ _ _ _ x, ?_⟩
      refine List.forall_mem_cons.2 ⟨fun x => deq_piece i 0 (by decide) arg2 harg2 arg4 harg4 x0 x1 x0 x2 rfl 15 0 (by decide) ![1920, 0] ![1920, 0] (k0_off16 i 0#32) rfl rfl rfl rfl (sword0 (i 0) 0) rfl inb_S5120x512_S128x128_1920_0 _ _ _ _ x, ?_⟩
      refine List.forall_mem_cons.2 ⟨fun x => deq_piece i 0 (by decide) arg2 harg2 arg4 harg4 x0 x1 x0 x2 rfl 14 1 (by decide) ![1792, 128] ![1792, 128] (k0_off15 i 1#32) rfl rfl rfl rfl (sword0 (i 0) 1) rfl inb_S5120x512_S128x128_1792_128 _ _ _ _ x, ?_⟩
      refine List.forall_mem_cons.2 ⟨fun x => deq_piece i 0 (by decide) arg2 harg2 arg4 harg4 x0 x1 x0 x2 rfl 14 0 (by decide) ![1792, 0] ![1792, 0] (k0_off15 i 0#32) rfl rfl rfl rfl (sword0 (i 0) 0) rfl inb_S5120x512_S128x128_1792_0 _ _ _ _ x, ?_⟩
      refine List.forall_mem_cons.2 ⟨fun x => deq_piece i 0 (by decide) arg2 harg2 arg4 harg4 x0 x1 x0 x2 rfl 13 1 (by decide) ![1664, 128] ![1664, 128] (k0_off14 i 1#32) rfl rfl rfl rfl (sword0 (i 0) 1) rfl inb_S5120x512_S128x128_1664_128 _ _ _ _ x, ?_⟩
      refine List.forall_mem_cons.2 ⟨fun x => deq_piece i 0 (by decide) arg2 harg2 arg4 harg4 x0 x1 x0 x2 rfl 13 0 (by decide) ![1664, 0] ![1664, 0] (k0_off14 i 0#32) rfl rfl rfl rfl (sword0 (i 0) 0) rfl inb_S5120x512_S128x128_1664_0 _ _ _ _ x, ?_⟩
      refine List.forall_mem_cons.2 ⟨fun x => deq_piece i 0 (by decide) arg2 harg2 arg4 harg4 x0 x1 x0 x2 rfl 12 1 (by decide) ![1536, 128] ![1536, 128] (k0_off13 i 1#32) rfl rfl rfl rfl (sword0 (i 0) 1) rfl inb_S5120x512_S128x128_1536_128 _ _ _ _ x, ?_⟩
      refine List.forall_mem_cons.2 ⟨fun x => deq_piece i 0 (by decide) arg2 harg2 arg4 harg4 x0 x1 x0 x2 rfl 12 0 (by decide) ![1536, 0] ![1536, 0] (k0_off13 i 0#32) rfl rfl rfl rfl (sword0 (i 0) 0) rfl inb_S5120x512_S128x128_1536_0 _ _ _ _ x, ?_⟩
      refine List.forall_mem_cons.2 ⟨fun x => deq_piece i 0 (by decide) arg2 harg2 arg4 harg4 x0 x1 x0 x2 rfl 11 1 (by decide) ![1408, 128] ![1408, 128] (k0_off12 i 1#32) rfl rfl rfl rfl (sword0 (i 0) 1) rfl inb_S5120x512_S128x128_1408_128 _ _ _ _ x, ?_⟩
      refine List.forall_mem_cons.2 ⟨fun x => deq_piece i 0 (by decide) arg2 harg2 arg4 harg4 x0 x1 x0 x2 rfl 11 0 (by decide) ![1408, 0] ![1408, 0] (k0_off12 i 0#32) rfl rfl rfl rfl (sword0 (i 0) 0) rfl inb_S5120x512_S128x128_1408_0 _ _ _ _ x, ?_⟩
      refine List.forall_mem_cons.2 ⟨fun x => deq_piece i 0 (by decide) arg2 harg2 arg4 harg4 x0 x1 x0 x2 rfl 10 1 (by decide) ![1280, 128] ![1280, 128] (k0_off11 i 1#32) rfl rfl rfl rfl (sword0 (i 0) 1) rfl inb_S5120x512_S128x128_1280_128 _ _ _ _ x, ?_⟩
      refine List.forall_mem_cons.2 ⟨fun x => deq_piece i 0 (by decide) arg2 harg2 arg4 harg4 x0 x1 x0 x2 rfl 10 0 (by decide) ![1280, 0] ![1280, 0] (k0_off11 i 0#32) rfl rfl rfl rfl (sword0 (i 0) 0) rfl inb_S5120x512_S128x128_1280_0 _ _ _ _ x, ?_⟩
      refine List.forall_mem_cons.2 ⟨fun x => deq_piece i 0 (by decide) arg2 harg2 arg4 harg4 x0 x1 x0 x2 rfl 9 1 (by decide) ![1152, 128] ![1152, 128] (k0_off10 i 1#32) rfl rfl rfl rfl (sword0 (i 0) 1) rfl inb_S5120x512_S128x128_1152_128 _ _ _ _ x, ?_⟩
      refine List.forall_mem_cons.2 ⟨fun x => deq_piece i 0 (by decide) arg2 harg2 arg4 harg4 x0 x1 x0 x2 rfl 9 0 (by decide) ![1152, 0] ![1152, 0] (k0_off10 i 0#32) rfl rfl rfl rfl (sword0 (i 0) 0) rfl inb_S5120x512_S128x128_1152_0 _ _ _ _ x, ?_⟩
      refine List.forall_mem_cons.2 ⟨fun x => deq_piece i 0 (by decide) arg2 harg2 arg4 harg4 x0 x1 x0 x2 rfl 8 1 (by decide) ![1024, 128] ![1024, 128] (k0_off9 i 1#32) rfl rfl rfl rfl (sword0 (i 0) 1) rfl inb_S5120x512_S128x128_1024_128 _ _ _ _ x, ?_⟩
      refine List.forall_mem_cons.2 ⟨fun x => deq_piece i 0 (by decide) arg2 harg2 arg4 harg4 x0 x1 x0 x2 rfl 8 0 (by decide) ![1024, 0] ![1024, 0] (k0_off9 i 0#32) rfl rfl rfl rfl (sword0 (i 0) 0) rfl inb_S5120x512_S128x128_1024_0 _ _ _ _ x, ?_⟩
      refine List.forall_mem_cons.2 ⟨fun x => deq_piece i 0 (by decide) arg2 harg2 arg4 harg4 x0 x1 x0 x2 rfl 7 1 (by decide) ![896, 128] ![896, 128] (k0_off8 i 1#32) rfl rfl rfl rfl (sword0 (i 0) 1) rfl inb_S5120x512_S128x128_896_128 _ _ _ _ x, ?_⟩
      refine List.forall_mem_cons.2 ⟨fun x => deq_piece i 0 (by decide) arg2 harg2 arg4 harg4 x0 x1 x0 x2 rfl 7 0 (by decide) ![896, 0] ![896, 0] (k0_off8 i 0#32) rfl rfl rfl rfl (sword0 (i 0) 0) rfl inb_S5120x512_S128x128_896_0 _ _ _ _ x, ?_⟩
      refine List.forall_mem_cons.2 ⟨fun x => deq_piece i 0 (by decide) arg2 harg2 arg4 harg4 x0 x1 x0 x2 rfl 6 1 (by decide) ![768, 128] ![768, 128] (k0_off7 i 1#32) rfl rfl rfl rfl (sword0 (i 0) 1) rfl inb_S5120x512_S128x128_768_128 _ _ _ _ x, ?_⟩
      refine List.forall_mem_cons.2 ⟨fun x => deq_piece i 0 (by decide) arg2 harg2 arg4 harg4 x0 x1 x0 x2 rfl 6 0 (by decide) ![768, 0] ![768, 0] (k0_off7 i 0#32) rfl rfl rfl rfl (sword0 (i 0) 0) rfl inb_S5120x512_S128x128_768_0 _ _ _ _ x, ?_⟩
      refine List.forall_mem_cons.2 ⟨fun x => deq_piece i 0 (by decide) arg2 harg2 arg4 harg4 x0 x1 x0 x2 rfl 5 1 (by decide) ![640, 128] ![640, 128] (k0_off6 i 1#32) rfl rfl rfl rfl (sword0 (i 0) 1) rfl inb_S5120x512_S128x128_640_128 _ _ _ _ x, ?_⟩
      refine List.forall_mem_cons.2 ⟨fun x => deq_piece i 0 (by decide) arg2 harg2 arg4 harg4 x0 x1 x0 x2 rfl 5 0 (by decide) ![640, 0] ![640, 0] (k0_off6 i 0#32) rfl rfl rfl rfl (sword0 (i 0) 0) rfl inb_S5120x512_S128x128_640_0 _ _ _ _ x, ?_⟩
      refine List.forall_mem_cons.2 ⟨fun x => deq_piece i 0 (by decide) arg2 harg2 arg4 harg4 x0 x1 x0 x2 rfl 4 1 (by decide) ![512, 128] ![512, 128] (k0_off5 i 1#32) rfl rfl rfl rfl (sword0 (i 0) 1) rfl inb_S5120x512_S128x128_512_128 _ _ _ _ x, ?_⟩
      refine List.forall_mem_cons.2 ⟨fun x => deq_piece i 0 (by decide) arg2 harg2 arg4 harg4 x0 x1 x0 x2 rfl 4 0 (by decide) ![512, 0] ![512, 0] (k0_off5 i 0#32) rfl rfl rfl rfl (sword0 (i 0) 0) rfl inb_S5120x512_S128x128_512_0 _ _ _ _ x, ?_⟩
      refine List.forall_mem_cons.2 ⟨fun x => deq_piece i 0 (by decide) arg2 harg2 arg4 harg4 x0 x1 x0 x2 rfl 3 1 (by decide) ![384, 128] ![384, 128] (k0_off4 i 1#32) rfl rfl rfl rfl (sword0 (i 0) 1) rfl inb_S5120x512_S128x128_384_128 _ _ _ _ x, ?_⟩
      refine List.forall_mem_cons.2 ⟨fun x => deq_piece i 0 (by decide) arg2 harg2 arg4 harg4 x0 x1 x0 x2 rfl 3 0 (by decide) ![384, 0] ![384, 0] (k0_off4 i 0#32) rfl rfl rfl rfl (sword0 (i 0) 0) rfl inb_S5120x512_S128x128_384_0 _ _ _ _ x, ?_⟩
      refine List.forall_mem_cons.2 ⟨fun x => deq_piece i 0 (by decide) arg2 harg2 arg4 harg4 x0 x1 x0 x2 rfl 2 1 (by decide) ![256, 128] ![256, 128] (k0_off3 i 1#32) rfl rfl rfl rfl (sword0 (i 0) 1) rfl inb_S5120x512_S128x128_256_128 _ _ _ _ x, ?_⟩
      refine List.forall_mem_cons.2 ⟨fun x => deq_piece i 0 (by decide) arg2 harg2 arg4 harg4 x0 x1 x0 x2 rfl 2 0 (by decide) ![256, 0] ![256, 0] (k0_off3 i 0#32) rfl rfl rfl rfl (sword0 (i 0) 0) rfl inb_S5120x512_S128x128_256_0 _ _ _ _ x, ?_⟩
      refine List.forall_mem_cons.2 ⟨fun x => deq_piece i 0 (by decide) arg2 harg2 arg4 harg4 x0 x1 x0 x2 rfl 1 1 (by decide) ![128, 128] ![128, 128] (k0_off2 i 1#32) rfl rfl rfl rfl (sword0 (i 0) 1) rfl inb_S5120x512_S128x128_128_128 _ _ _ _ x, ?_⟩
      refine List.forall_mem_cons.2 ⟨fun x => deq_piece i 0 (by decide) arg2 harg2 arg4 harg4 x0 x1 x0 x2 rfl 1 0 (by decide) ![128, 0] ![128, 0] (k0_off2 i 0#32) rfl rfl rfl rfl (sword0 (i 0) 0) rfl inb_S5120x512_S128x128_128_0 _ _ _ _ x, ?_⟩
      refine List.forall_mem_cons.2 ⟨fun x => deq_piece i 0 (by decide) arg2 harg2 arg4 harg4 x0 x1 x0 x2 rfl 0 1 (by decide) ![0, 128] ![0, 128] (k0_off1 i 1#32) rfl rfl rfl rfl (sword0 (i 0) 1) rfl inb_S5120x512_S128x128_0_128 _ _ _ _ x, ?_⟩
      refine List.forall_mem_cons.2 ⟨fun x => deq_piece i 0 (by decide) arg2 harg2 arg4 harg4 x0 x1 x0 x2 rfl 0 0 (by decide) ![0, 0] ![0, 0] (k0_off1 i 0#32) rfl rfl rfl rfl (sword0 (i 0) 0) rfl inb_S5120x512_S128x128_0_0 _ _ _ _ x, ?_⟩
      exact List.forall_mem_nil _
    isplitl [HS2]
    · iexists _, _; isplitr; swap; · iexact HS2
      ipureintro; rfl
    isplitl [Hq0]; · iexact Hq0
    isplitl [Hh0]; · iexact Hh0
    iexists _; iexact HW

end Cert.GateUpIdeal.Gate

end
-- ==== Proof.Gate.RunB.lean ====
/- The body at an odd grid point: the weight block goes dequantised into the second weight scratch, and the output
   blocks are computed from the first. -/
module

public import proofs.«01_k».proof.Proof.Gate.Math

@[expose] public section

-- membership in a rectangle of production extents (`View.cover_of_tiled`): the elaborator's structural look
-- recurses once per coordinate of the long axes
set_option maxRecDepth 16384

noncomputable section

namespace Cert.GateUpIdeal.Gate

open Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- The body at an odd grid point. -/
theorem runB (c : Dev nD) (i : grid0.Coords) (arg2 : Memref sig .tc .vmem S5120x256 .fp8e4m3) (harg2 : arg2.IsWhole) (arg3 : Memref sig .tc .vmem S5120x256 .fp8e4m3) (harg3 : arg3.IsWhole) (arg4 : Memref sig .tc .smem S68x40 .f32) (harg4 : arg4.IsWhole) (arg5 : Memref sig .tc .vmem S2048x256 .fp8e4m3) (harg5 : arg5.IsWhole) (arg6 : Memref sig .tc .vmem S2048x128 .f32) (harg6 : arg6.IsWhole) (arg7 : Memref sig .tc .vmem S2048x256 .bf16) (harg7 : arg7.IsWhole) (arg8 : Memref sig .tc .vmem S1024x5120 .i32) (harg8 : arg8.IsWhole) (arg9 : Memref sig .tc .vmem S5120x512 .bf16) (harg9 : arg9.IsWhole) (arg10 : Memref sig .tc .vmem S5120x512 .bf16) (harg10 : arg10.IsWhole) (hc0 : ¬cond0_0 i) (hc1 : ¬cond0_1 i) (hc2 : cond0_2 i)
    (x0 x1 : Vec F S5120x256 .fp8e4m3) (x2 : Vec F S68x40 .f32) (x6 : Vec F S2048x128 .f32) (x8 : Vec F S1024x5120 .i32) (w : Vec F S5120x512 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x6 ∗ (∃ d, owns (c : Thread nD τ) arg7 fullShare d) ∗ owns (c : Thread nD τ) arg8 fullShare x8 ∗ owns (c : Thread nD τ) arg9 fullShare w ∗ (∃ d, owns (c : Thread nD τ) arg10 fullShare d) ∗ semVal ((c : Thread nD τ), SemLoc.dma 10) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (mc x8 w) ∗ owns (c : Thread nD τ) arg6 fullShare (ms i x6 x8 w) ∗ owns (c : Thread nD τ) arg7 fullShare (ma x8 w) ∗ owns (c : Thread nD τ) arg8 fullShare x8 ∗ owns (c : Thread nD τ) arg9 fullShare w ∗ owns (c : Thread nD τ) arg10 fullShare (deq i x0 x1 x2) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_gate_up i (Memref.whole main_arg0) (Memref.isWhole_whole _) arg2 harg2 arg3 harg3 arg4 harg4 arg5 harg5 arg6 harg6 arg7 harg7 arg8 harg8 arg9 harg9 arg10 harg10 cc0_scratch3) K := by
    intro W K
    simp only [cc0_gate_up_eq_skeleton]; unfold cc0_gate_up_skel
    rw [k0_part231_eq_skeleton, k0_part232_eq_skeleton]; unfold k0_part231_skel k0_part232_skel
    rw [k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton]
    unfold owns
    iintro ⟨⟨%f0, %hf0, H0⟩, ⟨%f1, %hf1, H1⟩, ⟨%f2, %hf2, H2⟩, ⟨%d3, %g3, -, H3⟩, ⟨%f4, %hf4, H4⟩, ⟨%d5, %g5, -, H5⟩, ⟨%f6, %hf6, HS0⟩, ⟨%f7, %hf7, HS1⟩, ⟨%d8, %g8, -, HS2⟩, Hq0, Hh0, HW, Hk⟩
    obtain rfl := harg2.eq_unread hf0; obtain rfl := harg3.eq_unread hf1; obtain rfl := harg4.eq_unread hf2; obtain rfl := harg6.eq_unread hf4; obtain rfl := harg8.eq_unread hf6; obtain rfl := harg9.eq_unread hf7
    sl_exec! (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; funext y
      refine View.read_writes_apply_of_pieces _ _ (mc x8 w) _ ?_ y ?hcov
      case hcov => exact View.cover_of_tiled (s := S2048x256) _ S256x128.size (by rfl) y
      refine List.forall_mem_cons.2 ⟨fun x => mc_piece arg8 harg8 arg9 harg9 x8 w 7 (by decide) ![896, 0] ![0, 0] rfl rfl zero2 _ _ 1 (by decide) ![1792, 128] rfl rfl inb_S2048x256_S256x128_1792_128 x, ?_⟩
      refine List.forall_mem_cons.2 ⟨fun x => mc_piece arg8 harg8 arg9 harg9 x8 w 7 (by decide) ![896, 0] ![0, 0] rfl rfl zero2 _ _ 0 (by decide) ![1792, 0] rfl rfl inb_S2048x256_S256x128_1792_0 x, ?_⟩
      refine List.forall_mem_cons.2 ⟨fun x => mc_piece arg8 harg8 arg9 harg9 x8 w 6 (by decide) ![768, 0] ![0, 0] rfl rfl zero2 _ _ 1 (by decide) ![1536, 128] rfl rfl inb_S2048x256_S256x128_1536_128 x, ?_⟩
      refine List.forall_mem_cons.2 ⟨fun x => mc_piece arg8 harg8 arg9 harg9 x8 w 6 (by decide) ![768, 0] ![0, 0] rfl rfl zero2 _ _ 0 (by decide) ![1536, 0] rfl rfl inb_S2048x256_S256x128_1536_0 x, ?_⟩
      refine List.forall_mem_cons.2 ⟨fun x => mc_piece arg8 harg8 arg9 harg9 x8 w 5 (by decide) ![640, 0] ![0, 0] rfl rfl zero2 _ _ 1 (by decide) ![1280, 128] rfl rfl inb_S2048x256_S256x128_1280_128 x, ?_⟩
      refine List.forall_mem_cons.2 ⟨fun x => mc_piece arg8 harg8 arg9 harg9 x8 w 5 (by decide) ![640, 0] ![0, 0] rfl rfl zero2 _ _ 0 (by decide) ![1280, 0] rfl rfl inb_S2048x256_S256x128_1280_0 x, ?_⟩
      refine List.forall_mem_cons.2 ⟨fun x => mc_piece arg8 harg8 arg9 harg9 x8 w 4 (by decide) ![512, 0] ![0, 0] rfl rfl zero2 _ _ 1 (by decide) ![1024, 128] rfl rfl inb_S2048x256_S256x128_1024_128 x, ?_⟩
      refine List.forall_mem_cons.2 ⟨fun x => mc_piece arg8 harg8 arg9 harg9 x8 w 4 (by decide) ![512, 0] ![0, 0] rfl rfl zero2 _ _ 0 (by decide) ![1024, 0] rfl rfl inb_S2048x256_S256x128_1024_0 x, ?_⟩
      refine List.forall_mem_cons.2 ⟨fun x => mc_piece arg8 harg8 arg9 harg9 x8 w 3 (by decide) ![384, 0] ![0, 0] rfl rfl zero2 _ _ 1 (by decide) ![768, 128] rfl rfl inb_S2048x256_S256x128_768_128 x, ?_⟩
      refine List.forall_mem_cons.2 ⟨fun x => mc_piece arg8 harg8 arg9 harg9 x8 w 3 (by decide) ![384, 0] ![0, 0] rfl rfl zero2 _ _ 0 (by decide) ![768, 0] rfl rfl inb_S2048x256_S256x128_768_0 x, ?_⟩
      refine List.forall_mem_cons.2 ⟨fun x => mc_piece arg8 harg8 arg9 harg9 x8 w 2 (by decide) ![256, 0] ![0, 0] rfl rfl zero2 _ _ 1 (by decide) ![512, 128] rfl rfl inb_S2048x256_S256x128_512_128 x, ?_⟩
      refine List.forall_mem_cons.2 ⟨fun x => mc_piece arg8 harg8 arg9 harg9 x8 w 2 (by decide) ![256, 0] ![0, 0] rfl rfl zero2 _ _ 0 (by decide) ![512, 0] rfl rfl inb_S2048x256_S256x128_512_0 x, ?_⟩
      refine List.forall_mem_cons.2 ⟨fun x => mc_piece arg8 harg8 arg9 harg9 x8 w 1 (by decide) ![128, 0] ![0, 0] rfl rfl zero2 _ _ 1 (by decide) ![256, 128] rfl rfl inb_S2048x256_S256x128_256_128 x, ?_⟩
      refine List.forall_mem_cons.2 ⟨fun x => mc_piece arg8 harg8 arg9 harg9 x8 w 1 (by decide) ![128, 0] ![0, 0] rfl rfl zero2 _ _ 0 (by decide) ![256, 0] rfl rfl inb_S2048x256_S256x128_256_0 x, ?_⟩
      refine List.forall_mem_cons.2 ⟨fun x => mc_piece arg8 harg8 arg9 harg9 x8 w 0 (by decide) ![0, 0] ![0, 0] rfl rfl zero2 _ _ 1 (by decide) ![0, 128] rfl rfl inb_S2048x256_S256x128_0_128 x, ?_⟩
      refine List.forall_mem_cons.2 ⟨fun x => mc_piece arg8 harg8 arg9 harg9 x8 w 0 (by decide) ![0, 0] ![0, 0] rfl rfl zero2 _ _ 0 (by decide) ![0, 0] rfl rfl inb_S2048x256_S256x128_0_0 x, ?_⟩
      exact List.forall_mem_nil _
    isplitl [H4]
    · iexists _; isplitr; swap; · iexact H4
      ipureintro; funext y
      refine View.read_writes_apply_of_pieces _ _ (ms i x6 x8 w) _ ?_ y ?hcov
      case hcov => exact View.cover_of_tiled (s := S2048x128) _ S256x128.size (by rfl) y
      refine List.forall_mem_cons.2 ⟨fun x => ms_piece arg8 harg8 arg9 harg9 x8 w 7 (by decide) ![896, 0] ![0, 0] rfl rfl zero2 _ _ i arg6 harg6 x6 ![1792, 0] rfl rfl _ x, ?_⟩
      refine List.forall_mem_cons.2 ⟨fun x => ms_piece arg8 harg8 arg9 harg9 x8 w 6 (by decide) ![768, 0] ![0, 0] rfl rfl zero2 _ _ i arg6 harg6 x6 ![1536, 0] rfl rfl _ x, ?_⟩
      refine List.forall_mem_cons.2 ⟨fun x => ms_piece arg8 harg8 arg9 harg9 x8 w 5 (by decide) ![640, 0] ![0, 0] rfl rfl zero2 _ _ i arg6 harg6 x6 ![1280, 0] rfl rfl _ x, ?_⟩
      refine List.forall_mem_cons.2 ⟨fun x => ms_piece arg8 harg8 arg9 harg9 x8 w 4 (by decide) ![512, 0] ![0, 0] rfl rfl zero2 _ _ i arg6 harg6 x6 ![1024, 0] rfl rfl _ x, ?_⟩
      refine List.forall_mem_cons.2 ⟨fun x => ms_piece arg8 harg8 arg9 harg9 x8 w 3 (by decide) ![384, 0] ![0, 0] rfl rfl zero2 _ _ i arg6 harg6 x6 ![768, 0] rfl rfl _ x, ?_⟩
      refine List.forall_mem_cons.2 ⟨fun x => ms_piece arg8 harg8 arg9 harg9 x8 w 2 (by decide) ![256, 0] ![0, 0] rfl rfl zero2 _ _ i arg6 harg6 x6 ![512, 0] rfl rfl _ x, ?_⟩
      refine List.forall_mem_cons.2 ⟨fun x => ms_piece arg8 harg8 arg9 harg9 x8 w 1 (by decide) ![128, 0] ![0, 0] rfl rfl zero2 _ _ i arg6 harg6 x6 ![256, 0] rfl rfl _ x, ?_⟩
      refine List.forall_mem_cons.2 ⟨fun x => ms_piece arg8 harg8 arg9 harg9 x8 w 0 (by decide) ![0, 0] ![0, 0] rfl rfl zero2 _ _ i arg6 harg6 x6 ![0, 0] rfl rfl _ x, ?_⟩
      exact List.forall_mem_nil _
    isplitl [H5]
    · iexists _; isplitr; swap; · iexact H5
      ipureintro; funext y
      refine View.read_writes_apply_of_pieces _ _ (ma x8 w) _ ?_ y ?hcov
      case hcov => exact View.cover_of_tiled (s := S2048x256) _ S256x128.size (by rfl) y
      refine List.forall_mem_cons.2 ⟨fun x => ma_piece arg8 harg8 arg9 harg9 x8 w 7 (by decide) ![896, 0] ![0, 0] rfl rfl zero2 _ _ 1 (by decide) ![1792, 128] rfl rfl inb_S2048x256_S256x128_1792_128 x, ?_⟩
      refine List.forall_mem_cons.2 ⟨fun x => ma_piece arg8 harg8 arg9 harg9 x8 w 7 (by decide) ![896, 0] ![0, 0] rfl rfl zero2 _ _ 0 (by decide) ![1792, 0] rfl rfl inb_S2048x256_S256x128_1792_0 x, ?_⟩
      refine List.forall_mem_cons.2 ⟨fun x => ma_piece arg8 harg8 arg9 harg9 x8 w 6 (by decide) ![768, 0] ![0, 0] rfl rfl zero2 _ _ 1 (by decide) ![1536, 128] rfl rfl inb_S2048x256_S256x128_1536_128 x, ?_⟩
      refine List.forall_mem_cons.2 ⟨fun x => ma_piece arg8 harg8 arg9 harg9 x8 w 6 (by decide) ![768, 0] ![0, 0] rfl rfl zero2 _ _ 0 (by decide) ![1536, 0] rfl rfl inb_S2048x256_S256x128_1536_0 x, ?_⟩
      refine List.forall_mem_cons.2 ⟨fun x => ma_piece arg8 harg8 arg9 harg9 x8 w 5 (by decide) ![640, 0] ![0, 0] rfl rfl zero2 _ _ 1 (by decide) ![1280, 128] rfl rfl inb_S2048x256_S256x128_1280_128 x, ?_⟩
      refine List.forall_mem_cons.2 ⟨fun x => ma_piece arg8 harg8 arg9 harg9 x8 w 5 (by decide) ![640, 0] ![0, 0] rfl rfl zero2 _ _ 0 (by decide) ![1280, 0] rfl rfl inb_S2048x256_S256x128_1280_0 x, ?_⟩
      refine List.forall_mem_cons.2 ⟨fun x => ma_piece arg8 harg8 arg9 harg9 x8 w 4 (by decide) ![512, 0] ![0, 0] rfl rfl zero2 _ _ 1 (by decide) ![1024, 128] rfl rfl inb_S2048x256_S256x128_1024_128 x, ?_⟩
      refine List.forall_mem_cons.2 ⟨fun x => ma_piece arg8 harg8 arg9 harg9 x8 w 4 (by decide) ![512, 0] ![0, 0] rfl rfl zero2 _ _ 0 (by decide) ![1024, 0] rfl rfl inb_S2048x256_S256x128_1024_0 x, ?_⟩
      refine List.forall_mem_cons.2 ⟨fun x => ma_piece arg8 harg8 arg9 harg9 x8 w 3 (by decide) ![384, 0] ![0, 0] rfl rfl zero2 _ _ 1 (by decide) ![768, 128] rfl rfl inb_S2048x256_S256x128_768_128 x, ?_⟩
      refine List.forall_mem_cons.2 ⟨fun x => ma_piece arg8 harg8 arg9 harg9 x8 w 3 (by decide) ![384, 0] ![0, 0] rfl rfl zero2 _ _ 0 (by decide) ![768, 0] rfl rfl inb_S2048x256_S256x128_768_0 x, ?_⟩
      refine List.forall_mem_cons.2 ⟨fun x => ma_piece arg8 harg8 arg9 harg9 x8 w 2 (by decide) ![256, 0] ![0, 0] rfl rfl zero2 _ _ 1 (by decide) ![512, 128] rfl rfl inb_S2048x256_S256x128_512_128 x, ?_⟩
      refine List.forall_mem_cons.2 ⟨fun x => ma_piece arg8 harg8 arg9 harg9 x8 w 2 (by decide) ![256, 0] ![0, 0] rfl rfl zero2 _ _ 0 (by decide) ![512, 0] rfl rfl inb_S2048x256_S256x128_512_0 x, ?_⟩
      refine List.forall_mem_cons.2 ⟨fun x => ma_piece arg8 harg8 arg9 harg9 x8 w 1 (by decide) ![128, 0] ![0, 0] rfl rfl zero2 _ _ 1 (by decide) ![256, 128] rfl rfl inb_S2048x256_S256x128_256_128 x, ?_⟩
      refine List.forall_mem_cons.2 ⟨fun x => ma_piece arg8 harg8 arg9 harg9 x8 w 1 (by decide) ![128, 0] ![0, 0] rfl rfl zero2 _ _ 0 (by decide) ![256, 0] rfl rfl inb_S2048x256_S256x128_256_0 x, ?_⟩
      refine List.forall_mem_cons.2 ⟨fun x => ma_piece arg8 harg8 arg9 harg9 x8 w 0 (by decide) ![0, 0] ![0, 0] rfl rfl zero2 _ _ 1 (by decide) ![0, 128] rfl rfl inb_S2048x256_S256x128_0_128 x, ?_⟩
      refine List.forall_mem_cons.2 ⟨fun x => ma_piece arg8 harg8 arg9 harg9 x8 w 0 (by decide) ![0, 0] ![0, 0] rfl rfl zero2 _ _ 0 (by decide) ![0, 0] rfl rfl inb_S2048x256_S256x128_0_0 x, ?_⟩
      exact List.forall_mem_nil _
    isplitl [HS0]
    · iexists _; isplitr; · ipureintro; exact harg8.read_unread _
      iexact HS0
    isplitl [HS1]
    · iexists _; isplitr; · ipureintro; exact harg9.read_unread _
      iexact HS1
    isplitl [HS2]
    · iexists _; isplitr; swap; · iexact HS2
      ipureintro; funext y
      refine View.read_writes_apply_of_pieces _ _ (deq i x0 x1 x2) _ ?_ y ?hcov
      case hcov => exact View.cover_of_tiled (s := S5120x512) _ S128x128.size (by rfl) y
      refine List.forall_mem_cons.2 ⟨fun x => deq_piece i 1 (by decide) arg3 harg3 arg4 harg4 x0 x1 x1 x2 rfl 39 1 (by decide) ![4992, 384] ![4992, 128] (k0_off240 i 1#32) rfl rfl rfl rfl (sword1 (i 0) 1) rfl inb_S5120x512_S128x128_4992_384 _ _ _ _ x, ?_⟩
      refine List.forall_mem_cons.2 ⟨fun x => deq_piece i 1 (by decide) arg3 harg3 arg4 harg4 x0 x1 x1 x2 rfl 39 0 (by decide) ![4992, 256] ![4992, 0] (k0_off240 i 0#32) rfl rfl rfl rfl (sword1 (i 0) 0) rfl inb_S5120x512_S128x128_4992_256 _ _ _ _ x, ?_⟩
      refine List.forall_mem_cons.2 ⟨fun x => deq_piece i 1 (by decide) arg3 harg3 arg4 harg4 x0 x1 x1 x2 rfl 38 1 (by decide) ![4864, 384] ![4864, 128] (k0_off239 i 1#32) rfl rfl rfl rfl (sword1 (i 0) 1) rfl inb_S5120x512_S128x128_4864_384 _ _ _ _ x, ?_⟩
      refine List.forall_mem_cons.2 ⟨fun x => deq_piece i 1 (by decide) arg3 harg3 arg4 harg4 x0 x1 x1 x2 rfl 38 0 (by decide) ![4864, 256] ![4864, 0] (k0_off239 i 0#32) rfl rfl rfl rfl (sword1 (i 0) 0) rfl inb_S5120x512_S128x128_4864_256 _ _ _ _ x, ?_⟩
      refine List.forall_mem_cons.2 ⟨fun x => deq_piece i 1 (by decide) arg3 harg3 arg4 harg4 x0 x1 x1 x2 rfl 37 1 (by decide) ![4736, 384] ![4736, 128] (k0_off238 i 1#32) rfl rfl rfl rfl (sword1 (i 0) 1) rfl inb_S5120x512_S128x128_4736_384 _ _ _ _ x, ?_⟩
      refine List.forall_mem_cons.2 ⟨fun x => deq_piece i 1 (by decide) arg3 harg3 arg4 harg4 x0 x1 x1 x2 rfl 37 0 (by decide) ![4736, 256] ![4736, 0] (k0_off238 i 0#32) rfl rfl rfl rfl (sword1 (i 0) 0) rfl inb_S5120x512_S128x128_4736_256 _ _ _ _ x, ?_⟩
      refine List.forall_mem_cons.2 ⟨fun x => deq_piece i 1 (by decide) arg3 harg3 arg4 harg4 x0 x1 x1 x2 rfl 36 1 (by decide) ![4608, 384] ![4608, 128] (k0_off237 i 1#32) rfl rfl rfl rfl (sword1 (i 0) 1) rfl inb_S5120x512_S128x128_4608_384 _ _ _ _ x, ?_⟩
      refine List.forall_mem_cons.2 ⟨fun x => deq_piece i 1 (by decide) arg3 harg3 arg4 harg4 x0 x1 x1 x2 rfl 36 0 (by decide) ![4608, 256] ![4608, 0] (k0_off237 i 0#32) rfl rfl rfl rfl (sword1 (i 0) 0) rfl inb_S5120x512_S128x128_4608_256 _ _ _ _ x, ?_⟩
      refine List.forall_mem_cons.2 ⟨fun x => deq_piece i 1 (by decide) arg3 harg3 arg4 harg4 x0 x1 x1 x2 rfl 35 1 (by decide) ![4480, 384] ![4480, 128] (k0_off236 i 1#32) rfl rfl rfl rfl (sword1 (i 0) 1) rfl inb_S5120x512_S128x128_4480_384 _ _ _ _ x, ?_⟩
      refine List.forall_mem_cons.2 ⟨fun x => deq_piece i 1 (by decide) arg3 harg3 arg4 harg4 x0 x1 x1 x2 rfl 35 0 (by decide) ![4480, 256] ![4480, 0] (k0_off236 i 0#32) rfl rfl rfl rfl (sword1 (i 0) 0) rfl inb_S5120x512_S128x128_4480_256 _ _ _ _ x, ?_⟩
      refine List.forall_mem_cons.2 ⟨fun x => deq_piece i 1 (by decide) arg3 harg3 arg4 harg4 x0 x1 x1 x2 rfl 34 1 (by decide) ![4352, 384] ![4352, 128] (k0_off235 i 1#32) rfl rfl rfl rfl (sword1 (i 0) 1) rfl inb_S5120x512_S128x128_4352_384 _ _ _ _ x, ?_⟩
      refine List.forall_mem_cons.2 ⟨fun x => deq_piece i 1 (by decide) arg3 harg3 arg4 harg4 x0 x1 x1 x2 rfl 34 0 (by decide) ![4352, 256] ![4352, 0] (k0_off235 i 0#32) rfl rfl rfl rfl (sword1 (i 0) 0) rfl inb_S5120x512_S128x128_4352_256 _ _ _ _ x, ?_⟩
      refine List.forall_mem_cons.2 ⟨fun x => deq_piece i 1 (by decide) arg3 harg3 arg4 harg4 x0 x1 x1 x2 rfl 33 1 (by decide) ![4224, 384] ![4224, 128] (k0_off234 i 1#32) rfl rfl rfl rfl (sword1 (i 0) 1) rfl inb_S5120x512_S128x128_4224_384 _ _ _ _ x, ?_⟩
      refine List.forall_mem_cons.2 ⟨fun x => deq_piece i 1 (by decide) arg3 harg3 arg4 harg4 x0 x1 x1 x2 rfl 33 0 (by decide) ![4224, 256] ![4224, 0] (k0_off234 i 0#32) rfl rfl rfl rfl (sword1 (i 0) 0) rfl inb_S5120x512_S128x128_4224_256 _ _ _ _ x, ?_⟩
      refine List.forall_mem_cons.2 ⟨fun x => deq_piece i 1 (by decide) arg3 harg3 arg4 harg4 x0 x1 x1 x2 rfl 32 1 (by decide) ![4096, 384] ![4096, 128] (k0_off233 i 1#32) rfl rfl rfl rfl (sword1 (i 0) 1) rfl inb_S5120x512_S128x128_4096_384 _ _ _ _ x, ?_⟩
      refine List.forall_mem_cons.2 ⟨fun x => deq_piece i 1 (by decide) arg3 harg3 arg4 harg4 x0 x1 x1 x2 rfl 32 0 (by decide) ![4096, 256] ![4096, 0] (k0_off233 i 0#32) rfl rfl rfl rfl (sword1 (i 0) 0) rfl inb_S5120x512_S128x128_4096_256 _ _ _ _ x, ?_⟩
      refine List.forall_mem_cons.2 ⟨fun x => deq_piece i 1 (by decide) arg3 harg3 arg4 harg4 x0 x1 x1 x2 rfl 31 1 (by decide) ![3968, 384] ![3968, 128] (k0_off232 i 1#32) rfl rfl rfl rfl (sword1 (i 0) 1) rfl inb_S5120x512_S128x128_3968_384 _ _ _ _ x, ?_⟩
      refine List.forall_mem_cons.2 ⟨fun x => deq_piece i 1 (by decide) arg3 harg3 arg4 harg4 x0 x1 x1 x2 rfl 31 0 (by decide) ![3968, 256] ![3968, 0] (k0_off232 i 0#32) rfl rfl rfl rfl (sword1 (i 0) 0) rfl inb_S5120x512_S128x128_3968_256 _ _ _ _ x, ?_⟩
      refine List.forall_mem_cons.2 ⟨fun x => deq_piece i 1 (by decide) arg3 harg3 arg4 harg4 x0 x1 x1 x2 rfl 30 1 (by decide) ![3840, 384] ![3840, 128] (k0_off231 i 1#32) rfl rfl rfl rfl (sword1 (i 0) 1) rfl inb_S5120x512_S128x128_3840_384 _ _ _ _ x, ?_⟩
      refine List.forall_mem_cons.2 ⟨fun x => deq_piece i 1 (by decide) arg3 harg3 arg4 harg4 x0 x1 x1 x2 rfl 30 0 (by decide) ![3840, 256] ![3840, 0] (k0_off231 i 0#32) rfl rfl rfl rfl (sword1 (i 0) 0) rfl inb_S5120x512_S128x128_3840_256 _ _ _ _ x, ?_⟩
      refine List.forall_mem_cons.2 ⟨fun x => deq_piece i 1 (by decide) arg3 harg3 arg4 harg4 x0 x1 x1 x2 rfl 29 1 (by decide) ![3712, 384] ![3712, 128] (k0_off230 i 1#32) rfl rfl rfl rfl (sword1 (i 0) 1) rfl inb_S5120x512_S128x128_3712_384 _ _ _ _ x, ?_⟩
      refine List.forall_mem_cons.2 ⟨fun x => deq_piece i 1 (by decide) arg3 harg3 arg4 harg4 x0 x1 x1 x2 rfl 29 0 (by decide) ![3712, 256] ![3712, 0] (k0_off230 i 0#32) rfl rfl rfl rfl (sword1 (i 0) 0) rfl inb_S5120x512_S128x128_3712_256 _ _ _ _ x, ?_⟩
      refine List.forall_mem_cons.2 ⟨fun x => deq_piece i 1 (by decide) arg3 harg3 arg4 harg4 x0 x1 x1 x2 rfl 28 1 (by decide) ![3584, 384] ![3584, 128] (k0_off229 i 1#32) rfl rfl rfl rfl (sword1 (i 0) 1) rfl inb_S5120x512_S128x128_3584_384 _ _ _ _ x, ?_⟩
      refine List.forall_mem_cons.2 ⟨fun x => deq_piece i 1 (by decide) arg3 harg3 arg4 harg4 x0 x1 x1 x2 rfl 28 0 (by decide) ![3584, 256] ![3584, 0] (k0_off229 i 0#32) rfl rfl rfl rfl (sword1 (i 0) 0) rfl inb_S5120x512_S128x128_3584_256 _ _ _ _ x, ?_⟩
      refine List.forall_mem_cons.2 ⟨fun x => deq_piece i 1 (by decide) arg3 harg3 arg4 harg4 x0 x1 x1 x2 rfl 27 1 (by decide) ![3456, 384] ![3456, 128] (k0_off228 i 1#32) rfl rfl rfl rfl (sword1 (i 0) 1) rfl inb_S5120x512_S128x128_3456_384 _ _ _ _ x, ?_⟩
      refine List.forall_mem_cons.2 ⟨fun x => deq_piece i 1 (by decide) arg3 harg3 arg4 harg4 x0 x1 x1 x2 rfl 27 0 (by decide) ![3456, 256] ![3456, 0] (k0_off228 i 0#32) rfl rfl rfl rfl (sword1 (i 0) 0) rfl inb_S5120x512_S128x128_3456_256 _ _ _ _ x, ?_⟩
      refine List.forall_mem_cons.2 ⟨fun x => deq_piece i 1 (by decide) arg3 harg3 arg4 harg4 x0 x1 x1 x2 rfl 26 1 (by decide) ![3328, 384] ![3328, 128] (k0_off227 i 1#32) rfl rfl rfl rfl (sword1 (i 0) 1) rfl inb_S5120x512_S128x128_3328_384 _ _ _ _ x, ?_⟩
      refine List.forall_mem_cons.2 ⟨fun x => deq_piece i 1 (by decide) arg3 harg3 arg4 harg4 x0 x1 x1 x2 rfl 26 0 (by decide) ![3328, 256] ![3328, 0] (k0_off227 i 0#32) rfl rfl rfl rfl (sword1 (i 0) 0) rfl inb_S5120x512_S128x128_3328_256 _ _ _ _ x, ?_⟩
      refine List.forall_mem_cons.2 ⟨fun x => deq_piece i 1 (by decide) arg3 harg3 arg4 harg4 x0 x1 x1 x2 rfl 25 1 (by decide) ![3200, 384] ![3200, 128] (k0_off226 i 1#32) rfl rfl rfl rfl (sword1 (i 0) 1) rfl inb_S5120x512_S128x128_3200_384 _ _ _ _ x, ?_⟩
      refine List.forall_mem_cons.2 ⟨fun x => deq_piece i 1 (by decide) arg3 harg3 arg4 harg4 x0 x1 x1 x2 rfl 25 0 (by decide) ![3200, 256] ![3200, 0] (k0_off226 i 0#32) rfl rfl rfl rfl (sword1 (i 0) 0) rfl inb_S5120x512_S128x128_3200_256 _ _ _ _ x, ?_⟩
      refine List.forall_mem_cons.2 ⟨fun x => deq_piece i 1 (by decide) arg3 harg3 arg4 harg4 x0 x1 x1 x2 rfl 24 1 (by decide) ![3072, 384] ![3072, 128] (k0_off225 i 1#32) rfl rfl rfl rfl (sword1 (i 0) 1) rfl inb_S5120x512_S128x128_3072_384 _ _ _ _ x, ?_⟩
      refine List.forall_mem_cons.2 ⟨fun x => deq_piece i 1 (by decide) arg3 harg3 arg4 harg4 x0 x1 x1 x2 rfl 24 0 (by decide) ![3072, 256] ![3072, 0] (k0_off225 i 0#32) rfl rfl rfl rfl (sword1 (i 0) 0) rfl inb_S5120x512_S128x128_3072_256 _ _ _ _ x, ?_⟩
      refine List.forall_mem_cons.2 ⟨fun x => deq_piece i 1 (by decide) arg3 harg3 arg4 harg4 x0 x1 x1 x2 rfl 23 1 (by decide) ![2944, 384] ![2944, 128] (k0_off224 i 1#32) rfl rfl rfl rfl (sword1 (i 0) 1) rfl inb_S5120x512_S128x128_2944_384 _ _ _ _ x, ?_⟩
      refine List.forall_mem_cons.2 ⟨fun x => deq_piece i 1 (by decide) arg3 harg3 arg4 harg4 x0 x1 x1 x2 rfl 23 0 (by decide) ![2944, 256] ![2944, 0] (k0_off224 i 0#32) rfl rfl rfl rfl (sword1 (i 0) 0) rfl inb_S5120x512_S128x128_2944_256 _ _ _ _ x, ?_⟩
      refine List.forall_mem_cons.2 ⟨fun x => deq_piece i 1 (by decide) arg3 harg3 arg4 harg4 x0 x1 x1 x2 rfl 22 1 (by decide) ![2816, 384] ![2816, 128] (k0_off223 i 1#32) rfl rfl rfl rfl (sword1 (i 0) 1) rfl inb_S5120x512_S128x128_2816_384 _ _ _ _ x, ?_⟩
      refine List.forall_mem_cons.2 ⟨fun x => deq_piece i 1 (by decide) arg3 harg3 arg4 harg4 x0 x1 x1 x2 rfl 22 0 (by decide) ![2816, 256] ![2816, 0] (k0_off223 i 0#32) rfl rfl rfl rfl (sword1 (i 0) 0) rfl inb_S5120x512_S128x128_2816_256 _ _ _ _ x, ?_⟩
      refine List.forall_mem_cons.2 ⟨fun x => deq_piece i 1 (by decide) arg3 harg3 arg4 harg4 x0 x1 x1 x2 rfl 21 1 (by decide) ![2688, 384] ![2688, 128] (k0_off222 i 1#32) rfl rfl rfl rfl (sword1 (i 0) 1) rfl inb_S5120x512_S128x128_2688_384 _ _ _ _ x, ?_⟩
      refine List.forall_mem_cons.2 ⟨fun x => deq_piece i 1 (by decide) arg3 harg3 arg4 harg4 x0 x1 x1 x2 rfl 21 0 (by decide) ![2688, 256] ![2688, 0] (k0_off222 i 0#32) rfl rfl rfl rfl (sword1 (i 0) 0) rfl inb_S5120x512_S128x128_2688_256 _ _ _ _ x, ?_⟩
      refine List.forall_mem_cons.2 ⟨fun x => deq_piece i 1 (by decide) arg3 harg3 arg4 harg4 x0 x1 x1 x2 rfl 20 1 (by decide) ![2560, 384] ![2560, 128] (k0_off221 i 1#32) rfl rfl rfl rfl (sword1 (i 0) 1) rfl inb_S5120x512_S128x128_2560_384 _ _ _ _ x, ?_⟩
      refine List.forall_mem_cons.2 ⟨fun x => deq_piece i 1 (by decide) arg3 harg3 arg4 harg4 x0 x1 x1 x2 rfl 20 0 (by decide) ![2560, 256] ![2560, 0] (k0_off221 i 0#32) rfl rfl rfl rfl (sword1 (i 0) 0) rfl inb_S5120x512_S128x128_2560_256 _ _ _ _ x, ?_⟩
      refine List.forall_mem_cons.2 ⟨fun x => deq_piece i 1 (by decide) arg3 harg3 arg4 harg4 x0 x1 x1 x2 rfl 19 1 (by decide) ![2432, 384] ![2432, 128] (k0_off220 i 1#32) rfl rfl rfl rfl (sword1 (i 0) 1) rfl inb_S5120x512_S128x128_2432_384 _ _ _ _ x, ?_⟩
      refine List.forall_mem_cons.2 ⟨fun x => deq_piece i 1 (by decide) arg3 harg3 arg4 harg4 x0 x1 x1 x2 rfl 19 0 (by decide) ![2432, 256] ![2432, 0] (k0_off220 i 0#32) rfl rfl rfl rfl (sword1 (i 0) 0) rfl inb_S5120x512_S128x128_2432_256 _ _ _ _ x, ?_⟩
      refine List.forall_mem_cons.2 ⟨fun x => deq_piece i 1 (by decide) arg3 harg3 arg4 harg4 x0 x1 x1 x2 rfl 18 1 (by decide) ![2304, 384] ![2304, 128] (k0_off219 i 1#32) rfl rfl rfl rfl (sword1 (i 0) 1) rfl inb_S5120x512_S128x128_2304_384 _ _ _ _ x, ?_⟩
      refine List.forall_mem_cons.2 ⟨fun x => deq_piece i 1 (by decide) arg3 harg3 arg4 harg4 x0 x1 x1 x2 rfl 18 0 (by decide) ![2304, 256] ![2304, 0] (k0_off219 i 0#32) rfl rfl rfl rfl (sword1 (i 0) 0) rfl inb_S5120x512_S128x128_2304_256 _ _ _ _ x, ?_⟩
      refine List.forall_mem_cons.2 ⟨fun x => deq_piece i 1 (by decide) arg3 harg3 arg4 harg4 x0 x1 x1 x2 rfl 17 1 (by decide) ![2176, 384] ![2176, 128] (k0_off218 i 1#32) rfl rfl rfl rfl (sword1 (i 0) 1) rfl inb_S5120x512_S128x128_2176_384 _ _ _ _ x, ?_⟩
      refine List.forall_mem_cons.2 ⟨fun x => deq_piece i 1 (by decide) arg3 harg3 arg4 harg4 x0 x1 x1 x2 rfl 17 0 (by decide) ![2176, 256] ![2176, 0] (k0_off218 i 0#32) rfl rfl rfl rfl (sword1 (i 0) 0) rfl inb_S5120x512_S128x128_2176_256 _ _ _ _ x, ?_⟩
      refine List.forall_mem_cons.2 ⟨fun x => deq_piece i 1 (by decide) arg3 harg3 arg4 harg4 x0 x1 x1 x2 rfl 16 1 (by decide) ![2048, 384] ![2048, 128] (k0_off217 i 1#32) rfl rfl rfl rfl (sword1 (i 0) 1) rfl inb_S5120x512_S128x128_2048_384 _ _ _ _ x, ?_⟩
      refine List.forall_mem_cons.2 ⟨fun x => deq_piece i 1 (by decide) arg3 harg3 arg4 harg4 x0 x1 x1 x2 rfl 16 0 (by decide) ![2048, 256] ![2048, 0] (k0_off217 i 0#32) rfl rfl rfl rfl (sword1 (i 0) 0) rfl inb_S5120x512_S128x128_2048_256 _ _ _ _ x, ?_⟩
      refine List.forall_mem_cons.2 ⟨fun x => deq_piece i 1 (by decide) arg3 harg3 arg4 harg4 x0 x1 x1 x2 rfl 15 1 (by decide) ![1920, 384] ![1920, 128] (k0_off216 i 1#32) rfl rfl rfl rfl (sword1 (i 0) 1) rfl inb_S5120x512_S128x128_1920_384 _ _ _ _ x, ?_⟩
      refine List.forall_mem_cons.2 ⟨fun x => deq_piece i 1 (by decide) arg3 harg3 arg4 harg4 x0 x1 x1 x2 rfl 15 0 (by decide) ![1920, 256] ![1920, 0] (k0_off216 i 0#32) rfl rfl rfl rfl (sword1 (i 0) 0) rfl inb_S5120x512_S128x128_1920_256 _ _ _ _ x, ?_⟩
      refine List.forall_mem_cons.2 ⟨fun x => deq_piece i 1 (by decide) arg3 harg3 arg4 harg4 x0 x1 x1 x2 rfl 14 1 (by decide) ![1792, 384] ![1792, 128] (k0_off215 i 1#32) rfl rfl rfl rfl (sword1 (i 0) 1) rfl inb_S5120x512_S128x128_1792_384 _ _ _ _ x, ?_⟩
      refine List.forall_mem_cons.2 ⟨fun x => deq_piece i 1 (by decide) arg3 harg3 arg4 harg4 x0 x1 x1 x2 rfl 14 0 (by decide) ![1792, 256] ![1792, 0] (k0_off215 i 0#32) rfl rfl rfl rfl (sword1 (i 0) 0) rfl inb_S5120x512_S128x128_1792_256 _ _ _ _ x, ?_⟩
      refine List.forall_mem_cons.2 ⟨fun x => deq_piece i 1 (by decide) arg3 harg3 arg4 harg4 x0 x1 x1 x2 rfl 13 1 (by decide) ![1664, 384] ![1664, 128] (k0_off214 i 1#32) rfl rfl rfl rfl (sword1 (i 0) 1) rfl inb_S5120x512_S128x128_1664_384 _ _ _ _ x, ?_⟩
      refine List.forall_mem_cons.2 ⟨fun x => deq_piece i 1 (by decide) arg3 harg3 arg4 harg4 x0 x1 x1 x2 rfl 13 0 (by decide) ![1664, 256] ![1664, 0] (k0_off214 i 0#32) rfl rfl rfl rfl (sword1 (i 0) 0) rfl inb_S5120x512_S128x128_1664_256 _ _ _ _ x, ?_⟩
      refine List.forall_mem_cons.2 ⟨fun x => deq_piece i 1 (by decide) arg3 harg3 arg4 harg4 x0 x1 x1 x2 rfl 12 1 (by decide) ![1536, 384] ![1536, 128] (k0_off213 i 1#32) rfl rfl rfl rfl (sword1 (i 0) 1) rfl inb_S5120x512_S128x128_1536_384 _ _ _ _ x, ?_⟩
      refine List.forall_mem_cons.2 ⟨fun x => deq_piece i 1 (by decide) arg3 harg3 arg4 harg4 x0 x1 x1 x2 rfl 12 0 (by decide) ![1536, 256] ![1536, 0] (k0_off213 i 0#32) rfl rfl rfl rfl (sword1 (i 0) 0) rfl inb_S5120x512_S128x128_1536_256 _ _ _ _ x, ?_⟩
      refine List.forall_mem_cons.2 ⟨fun x => deq_piece i 1 (by decide) arg3 harg3 arg4 harg4 x0 x1 x1 x2 rfl 11 1 (by decide) ![1408, 384] ![1408, 128] (k0_off212 i 1#32) rfl rfl rfl rfl (sword1 (i 0) 1) rfl inb_S5120x512_S128x128_1408_384 _ _ _ _ x, ?_⟩
      refine List.forall_mem_cons.2 ⟨fun x => deq_piece i 1 (by decide) arg3 harg3 arg4 harg4 x0 x1 x1 x2 rfl 11 0 (by decide) ![1408, 256] ![1408, 0] (k0_off212 i 0#32) rfl rfl rfl rfl (sword1 (i 0) 0) rfl inb_S5120x512_S128x128_1408_256 _ _ _ _ x, ?_⟩
      refine List.forall_mem_cons.2 ⟨fun x => deq_piece i 1 (by decide) arg3 harg3 arg4 harg4 x0 x1 x1 x2 rfl 10 1 (by decide) ![1280, 384] ![1280, 128] (k0_off211 i 1#32) rfl rfl rfl rfl (sword1 (i 0) 1) rfl inb_S5120x512_S128x128_1280_384 _ _ _ _ x, ?_⟩
      refine List.forall_mem_cons.2 ⟨fun x => deq_piece i 1 (by decide) arg3 harg3 arg4 harg4 x0 x1 x1 x2 rfl 10 0 (by decide) ![1280, 256] ![1280, 0] (k0_off211 i 0#32) rfl rfl rfl rfl (sword1 (i 0) 0) rfl inb_S5120x512_S128x128_1280_256 _ _ _ _ x, ?_⟩
      refine List.forall_mem_cons.2 ⟨fun x => deq_piece i 1 (by decide) arg3 harg3 arg4 harg4 x0 x1 x1 x2 rfl 9 1 (by decide) ![1152, 384] ![1152, 128] (k0_off210 i 1#32) rfl rfl rfl rfl (sword1 (i 0) 1) rfl inb_S5120x512_S128x128_1152_384 _ _ _ _ x, ?_⟩
      refine List.forall_mem_cons.2 ⟨fun x => deq_piece i 1 (by decide) arg3 harg3 arg4 harg4 x0 x1 x1 x2 rfl 9 0 (by decide) ![1152, 256] ![1152, 0] (k0_off210 i 0#32) rfl rfl rfl rfl (sword1 (i 0) 0) rfl inb_S5120x512_S128x128_1152_256 _ _ _ _ x, ?_⟩
      refine List.forall_mem_cons.2 ⟨fun x => deq_piece i 1 (by decide) arg3 harg3 arg4 harg4 x0 x1 x1 x2 rfl 8 1 (by decide) ![1024, 384] ![1024, 128] (k0_off209 i 1#32) rfl rfl rfl rfl (sword1 (i 0) 1) rfl inb_S5120x512_S128x128_1024_384 _ _ _ _ x, ?_⟩
      refine List.forall_mem_cons.2 ⟨fun x => deq_piece i 1 (by decide) arg3 harg3 arg4 harg4 x0 x1 x1 x2 rfl 8 0 (by decide) ![1024, 256] ![1024, 0] (k0_off209 i 0#32) rfl rfl rfl rfl (sword1 (i 0) 0) rfl inb_S5120x512_S128x128_1024_256 _ _ _ _ x, ?_⟩
      refine List.forall_mem_cons.2 ⟨fun x => deq_piece i 1 (by decide) arg3 harg3 arg4 harg4 x0 x1 x1 x2 rfl 7 1 (by decide) ![896, 384] ![896, 128] (k0_off208 i 1#32) rfl rfl rfl rfl (sword1 (i 0) 1) rfl inb_S5120x512_S128x128_896_384 _ _ _ _ x, ?_⟩
      refine List.forall_mem_cons.2 ⟨fun x => deq_piece i 1 (by decide) arg3 harg3 arg4 harg4 x0 x1 x1 x2 rfl 7 0 (by decide) ![896, 256] ![896, 0] (k0_off208 i 0#32) rfl rfl rfl rfl (sword1 (i 0) 0) rfl inb_S5120x512_S128x128_896_256 _ _ _ _ x, ?_⟩
      refine List.forall_mem_cons.2 ⟨fun x => deq_piece i 1 (by decide) arg3 harg3 arg4 harg4 x0 x1 x1 x2 rfl 6 1 (by decide) ![768, 384] ![768, 128] (k0_off207 i 1#32) rfl rfl rfl rfl (sword1 (i 0) 1) rfl inb_S5120x512_S128x128_768_384 _ _ _ _ x, ?_⟩
      refine List.forall_mem_cons.2 ⟨fun x => deq_piece i 1 (by decide) arg3 harg3 arg4 harg4 x0 x1 x1 x2 rfl 6 0 (by decide) ![768, 256] ![768, 0] (k0_off207 i 0#32) rfl rfl rfl rfl (sword1 (i 0) 0) rfl inb_S5120x512_S128x128_768_256 _ _ _ _ x, ?_⟩
      refine List.forall_mem_cons.2 ⟨fun x => deq_piece i 1 (by decide) arg3 harg3 arg4 harg4 x0 x1 x1 x2 rfl 5 1 (by decide) ![640, 384] ![640, 128] (k0_off206 i 1#32) rfl rfl rfl rfl (sword1 (i 0) 1) rfl inb_S5120x512_S128x128_640_384 _ _ _ _ x, ?_⟩
      refine List.forall_mem_cons.2 ⟨fun x => deq_piece i 1 (by decide) arg3 harg3 arg4 harg4 x0 x1 x1 x2 rfl 5 0 (by decide) ![640, 256] ![640, 0] (k0_off206 i 0#32) rfl rfl rfl rfl (sword1 (i 0) 0) rfl inb_S5120x512_S128x128_640_256 _ _ _ _ x, ?_⟩
      refine List.forall_mem_cons.2 ⟨fun x => deq_piece i 1 (by decide) arg3 harg3 arg4 harg4 x0 x1 x1 x2 rfl 4 1 (by decide) ![512, 384] ![512, 128] (k0_off205 i 1#32) rfl rfl rfl rfl (sword1 (i 0) 1) rfl inb_S5120x512_S128x128_512_384 _ _ _ _ x, ?_⟩
      refine List.forall_mem_cons.2 ⟨fun x => deq_piece i 1 (by decide) arg3 harg3 arg4 harg4 x0 x1 x1 x2 rfl 4 0 (by decide) ![512, 256] ![512, 0] (k0_off205 i 0#32) rfl rfl rfl rfl (sword1 (i 0) 0) rfl inb_S5120x512_S128x128_512_256 _ _ _ _ x, ?_⟩
      refine List.forall_mem_cons.2 ⟨fun x => deq_piece i 1 (by decide) arg3 harg3 arg4 harg4 x0 x1 x1 x2 rfl 3 1 (by decide) ![384, 384] ![384, 128] (k0_off204 i 1#32) rfl rfl rfl rfl (sword1 (i 0) 1) rfl inb_S5120x512_S128x128_384_384 _ _ _ _ x, ?_⟩
      refine List.forall_mem_cons.2 ⟨fun x => deq_piece i 1 (by decide) arg3 harg3 arg4 harg4 x0 x1 x1 x2 rfl 3 0 (by decide) ![384, 256] ![384, 0] (k0_off204 i 0#32) rfl rfl rfl rfl (sword1 (i 0) 0) rfl inb_S5120x512_S128x128_384_256 _ _ _ _ x, ?_⟩
      refine List.forall_mem_cons.2 ⟨fun x => deq_piece i 1 (by decide) arg3 harg3 arg4 harg4 x0 x1 x1 x2 rfl 2 1 (by decide) ![256, 384] ![256, 128] (k0_off203 i 1#32) rfl rfl rfl rfl (sword1 (i 0) 1) rfl inb_S5120x512_S128x128_256_384 _ _ _ _ x, ?_⟩
      refine List.forall_mem_cons.2 ⟨fun x => deq_piece i 1 (by decide) arg3 harg3 arg4 harg4 x0 x1 x1 x2 rfl 2 0 (by decide) ![256, 256] ![256, 0] (k0_off203 i 0#32) rfl rfl rfl rfl (sword1 (i 0) 0) rfl inb_S5120x512_S128x128_256_256 _ _ _ _ x, ?_⟩
      refine List.forall_mem_cons.2 ⟨fun x => deq_piece i 1 (by decide) arg3 harg3 arg4 harg4 x0 x1 x1 x2 rfl 1 1 (by decide) ![128, 384] ![128, 128] (k0_off202 i 1#32) rfl rfl rfl rfl (sword1 (i 0) 1) rfl inb_S5120x512_S128x128_128_384 _ _ _ _ x, ?_⟩
      refine List.forall_mem_cons.2 ⟨fun x => deq_piece i 1 (by decide) arg3 harg3 arg4 harg4 x0 x1 x1 x2 rfl 1 0 (by decide) ![128, 256] ![128, 0] (k0_off202 i 0#32) rfl rfl rfl rfl (sword1 (i 0) 0) rfl inb_S5120x512_S128x128_128_256 _ _ _ _ x, ?_⟩
      refine List.forall_mem_cons.2 ⟨fun x => deq_piece i 1 (by decide) arg3 harg3 arg4 harg4 x0 x1 x1 x2 rfl 0 1 (by decide) ![0, 384] ![0, 128] (k0_off201 i 1#32) rfl rfl rfl rfl (sword1 (i 0) 1) rfl inb_S5120x512_S128x128_0_384 _ _ _ _ x, ?_⟩
      refine List.forall_mem_cons.2 ⟨fun x => deq_piece i 1 (by decide) arg3 harg3 arg4 harg4 x0 x1 x1 x2 rfl 0 0 (by decide) ![0, 256] ![0, 0] (k0_off201 i 0#32) rfl rfl rfl rfl (sword1 (i 0) 0) rfl inb_S5120x512_S128x128_0_256 _ _ _ _ x, ?_⟩
      refine List.forall_mem_cons.2 ⟨fun x => deq_piece i 0 (by decide) arg2 harg2 arg4 harg4 x0 x1 x0 x2 rfl 39 1 (by decide) ![4992, 128] ![4992, 128] (k0_off200 i 1#32) rfl rfl rfl rfl (sword0 (i 0) 1) rfl inb_S5120x512_S128x128_4992_128 _ _ _ _ x, ?_⟩
      refine List.forall_mem_cons.2 ⟨fun x => deq_piece i 0 (by decide) arg2 harg2 arg4 harg4 x0 x1 x0 x2 rfl 39 0 (by decide) ![4992, 0] ![4992, 0] (k0_off200 i 0#32) rfl rfl rfl rfl (sword0 (i 0) 0) rfl inb_S5120x512_S128x128_4992_0 _ _ _ _ x, ?_⟩
      refine List.forall_mem_cons.2 ⟨fun x => deq_piece i 0 (by decide) arg2 harg2 arg4 harg4 x0 x1 x0 x2 rfl 38 1 (by decide) ![4864, 128] ![4864, 128] (k0_off199 i 1#32) rfl rfl rfl rfl (sword0 (i 0) 1) rfl inb_S5120x512_S128x128_4864_128 _ _ _ _ x, ?_⟩
      refine List.forall_mem_cons.2 ⟨fun x => deq_piece i 0 (by decide) arg2 harg2 arg4 harg4 x0 x1 x0 x2 rfl 38 0 (by decide) ![4864, 0] ![4864, 0] (k0_off199 i 0#32) rfl rfl rfl rfl (sword0 (i 0) 0) rfl inb_S5120x512_S128x128_4864_0 _ _ _ _ x, ?_⟩
      refine List.forall_mem_cons.2 ⟨fun x => deq_piece i 0 (by decide) arg2 harg2 arg4 harg4 x0 x1 x0 x2 rfl 37 1 (by decide) ![4736, 128] ![4736, 128] (k0_off198 i 1#32) rfl rfl rfl rfl (sword0 (i 0) 1) rfl inb_S5120x512_S128x128_4736_128 _ _ _ _ x, ?_⟩
      refine List.forall_mem_cons.2 ⟨fun x => deq_piece i 0 (by decide) arg2 harg2 arg4 harg4 x0 x1 x0 x2 rfl 37 0 (by decide) ![4736, 0] ![4736, 0] (k0_off198 i 0#32) rfl rfl rfl rfl (sword0 (i 0) 0) rfl inb_S5120x512_S128x128_4736_0 _ _ _ _ x, ?_⟩
      refine List.forall_mem_cons.2 ⟨fun x => deq_piece i 0 (by decide) arg2 harg2 arg4 harg4 x0 x1 x0 x2 rfl 36 1 (by decide) ![4608, 128] ![4608, 128] (k0_off197 i 1#32) rfl rfl rfl rfl (sword0 (i 0) 1) rfl inb_S5120x512_S128x128_4608_128 _ _ _ _ x, ?_⟩
      refine List.forall_mem_cons.2 ⟨fun x => deq_piece i 0 (by decide) arg2 harg2 arg4 harg4 x0 x1 x0 x2 rfl 36 0 (by decide) ![4608, 0] ![4608, 0] (k0_off197 i 0#32) rfl rfl rfl rfl (sword0 (i 0) 0) rfl inb_S5120x512_S128x128_4608_0 _ _ _ _ x, ?_⟩
      refine List.forall_mem_cons.2 ⟨fun x => deq_piece i 0 (by decide) arg2 harg2 arg4 harg4 x0 x1 x0 x2 rfl 35 1 (by decide) ![4480, 128] ![4480, 128] (k0_off196 i 1#32) rfl rfl rfl rfl (sword0 (i 0) 1) rfl inb_S5120x512_S128x128_4480_128 _ _ _ _ x, ?_⟩
      refine List.forall_mem_cons.2 ⟨fun x => deq_piece i 0 (by decide) arg2 harg2 arg4 harg4 x0 x1 x0 x2 rfl 35 0 (by decide) ![4480, 0] ![4480, 0] (k0_off196 i 0#32) rfl rfl rfl rfl (sword0 (i 0) 0) rfl inb_S5120x512_S128x128_4480_0 _ _ _ _ x, ?_⟩
      refine List.forall_mem_cons.2 ⟨fun x => deq_piece i 0 (by decide) arg2 harg2 arg4 harg4 x0 x1 x0 x2 rfl 34 1 (by decide) ![4352, 128] ![4352, 128] (k0_off195 i 1#32) rfl rfl rfl rfl (sword0 (i 0) 1) rfl inb_S5120x512_S128x128_4352_128 _ _ _ _ x, ?_⟩
      refine List.forall_mem_cons.2 ⟨fun x => deq_piece i 0 (by decide) arg2 harg2 arg4 harg4 x0 x1 x0 x2 rfl 34 0 (by decide) ![4352, 0] ![4352, 0] (k0_off195 i 0#32) rfl rfl rfl rfl (sword0 (i 0) 0) rfl inb_S5120x512_S128x128_4352_0 _ _ _ _ x, ?_⟩
      refine List.forall_mem_cons.2 ⟨fun x => deq_piece i 0 (by decide) arg2 harg2 arg4 harg4 x0 x1 x0 x2 rfl 33 1 (by decide) ![4224, 128] ![4224, 128] (k0_off194 i 1#32) rfl rfl rfl rfl (sword0 (i 0) 1) rfl inb_S5120x512_S128x128_4224_128 _ _ _ _ x, ?_⟩
      refine List.forall_mem_cons.2 ⟨fun x => deq_piece i 0 (by decide) arg2 harg2 arg4 harg4 x0 x1 x0 x2 rfl 33 0 (by decide) ![4224, 0] ![4224, 0] (k0_off194 i 0#32) rfl rfl rfl rfl (sword0 (i 0) 0) rfl inb_S5120x512_S128x128_4224_0 _ _ _ _ x, ?_⟩
      refine List.forall_mem_cons.2 ⟨fun x => deq_piece i 0 (by decide) arg2 harg2 arg4 harg4 x0 x1 x0 x2 rfl 32 1 (by decide) ![4096, 128] ![4096, 128] (k0_off193 i 1#32) rfl rfl rfl rfl (sword0 (i 0) 1) rfl inb_S5120x512_S128x128_4096_128 _ _ _ _ x, ?_⟩
      refine List.forall_mem_cons.2 ⟨fun x => deq_piece i 0 (by decide) arg2 harg2 arg4 harg4 x0 x1 x0 x2 rfl 32 0 (by decide) ![4096, 0] ![4096, 0] (k0_off193 i 0#32) rfl rfl rfl rfl (sword0 (i 0) 0) rfl inb_S5120x512_S128x128_4096_0 _ _ _ _ x, ?_⟩
      refine List.forall_mem_cons.2 ⟨fun x => deq_piece i 0 (by decide) arg2 harg2 arg4 harg4 x0 x1 x0 x2 rfl 31 1 (by decide) ![3968, 128] ![3968, 128] (k0_off192 i 1#32) rfl rfl rfl rfl (sword0 (i 0) 1) rfl inb_S5120x512_S128x128_3968_128 _ _ _ _ x, ?_⟩
      refine List.forall_mem_cons.2 ⟨fun x => deq_piece i 0 (by decide) arg2 harg2 arg4 harg4 x0 x1 x0 x2 rfl 31 0 (by decide) ![3968, 0] ![3968, 0] (k0_off192 i 0#32) rfl rfl rfl rfl (sword0 (i 0) 0) rfl inb_S5120x512_S128x128_3968_0 _ _ _ _ x, ?_⟩
      refine List.forall_mem_cons.2 ⟨fun x => deq_piece i 0 (by decide) arg2 harg2 arg4 harg4 x0 x1 x0 x2 rfl 30 1 (by decide) ![3840, 128] ![3840, 128] (k0_off191 i 1#32) rfl rfl rfl rfl (sword0 (i 0) 1) rfl inb_S5120x512_S128x128_3840_128 _ _ _ _ x, ?_⟩
      refine List.forall_mem_cons.2 ⟨fun x => deq_piece i 0 (by decide) arg2 harg2 arg4 harg4 x0 x1 x0 x2 rfl 30 0 (by decide) ![3840, 0] ![3840, 0] (k0_off191 i 0#32) rfl rfl rfl rfl (sword0 (i 0) 0) rfl inb_S5120x512_S128x128_3840_0 _ _ _ _ x, ?_⟩
      refine List.forall_mem_cons.2 ⟨fun x => deq_piece i 0 (by decide) arg2 harg2 arg4 harg4 x0 x1 x0 x2 rfl 29 1 (by decide) ![3712, 128] ![3712, 128] (k0_off190 i 1#32) rfl rfl rfl rfl (sword0 (i 0) 1) rfl inb_S5120x512_S128x128_3712_128 _ _ _ _ x, ?_⟩
      refine List.forall_mem_cons.2 ⟨fun x => deq_piece i 0 (by decide) arg2 harg2 arg4 harg4 x0 x1 x0 x2 rfl 29 0 (by decide) ![3712, 0] ![3712, 0] (k0_off190 i 0#32) rfl rfl rfl rfl (sword0 (i 0) 0) rfl inb_S5120x512_S128x128_3712_0 _ _ _ _ x, ?_⟩
      refine List.forall_mem_cons.2 ⟨fun x => deq_piece i 0 (by decide) arg2 harg2 arg4 harg4 x0 x1 x0 x2 rfl 28 1 (by decide) ![3584, 128] ![3584, 128] (k0_off189 i 1#32) rfl rfl rfl rfl (sword0 (i 0) 1) rfl inb_S5120x512_S128x128_3584_128 _ _ _ _ x, ?_⟩
      refine List.forall_mem_cons.2 ⟨fun x => deq_piece i 0 (by decide) arg2 harg2 arg4 harg4 x0 x1 x0 x2 rfl 28 0 (by decide) ![3584, 0] ![3584, 0] (k0_off189 i 0#32) rfl rfl rfl rfl (sword0 (i 0) 0) rfl inb_S5120x512_S128x128_3584_0 _ _ _ _ x, ?_⟩
      refine List.forall_mem_cons.2 ⟨fun x => deq_piece i 0 (by decide) arg2 harg2 arg4 harg4 x0 x1 x0 x2 rfl 27 1 (by decide) ![3456, 128] ![3456, 128] (k0_off188 i 1#32) rfl rfl rfl rfl (sword0 (i 0) 1) rfl inb_S5120x512_S128x128_3456_128 _ _ _ _ x, ?_⟩
      refine List.forall_mem_cons.2 ⟨fun x => deq_piece i 0 (by decide) arg2 harg2 arg4 harg4 x0 x1 x0 x2 rfl 27 0 (by decide) ![3456, 0] ![3456, 0] (k0_off188 i 0#32) rfl rfl rfl rfl (sword0 (i 0) 0) rfl inb_S5120x512_S128x128_3456_0 _ _ _ _ x, ?_⟩
      refine List.forall_mem_cons.2 ⟨fun x => deq_piece i 0 (by decide) arg2 harg2 arg4 harg4 x0 x1 x0 x2 rfl 26 1 (by decide) ![3328, 128] ![3328, 128] (k0_off187 i 1#32) rfl rfl rfl rfl (sword0 (i 0) 1) rfl inb_S5120x512_S128x128_3328_128 _ _ _ _ x, ?_⟩
      refine List.forall_mem_cons.2 ⟨fun x => deq_piece i 0 (by decide) arg2 harg2 arg4 harg4 x0 x1 x0 x2 rfl 26 0 (by decide) ![3328, 0] ![3328, 0] (k0_off187 i 0#32) rfl rfl rfl rfl (sword0 (i 0) 0) rfl inb_S5120x512_S128x128_3328_0 _ _ _ _ x, ?_⟩
      refine List.forall_mem_cons.2 ⟨fun x => deq_piece i 0 (by decide) arg2 harg2 arg4 harg4 x0 x1 x0 x2 rfl 25 1 (by decide) ![3200, 128] ![3200, 128] (k0_off186 i 1#32) rfl rfl rfl rfl (sword0 (i 0) 1) rfl inb_S5120x512_S128x128_3200_128 _ _ _ _ x, ?_⟩
      refine List.forall_mem_cons.2 ⟨fun x => deq_piece i 0 (by decide) arg2 harg2 arg4 harg4 x0 x1 x0 x2 rfl 25 0 (by decide) ![3200, 0] ![3200, 0] (k0_off186 i 0#32) rfl rfl rfl rfl (sword0 (i 0) 0) rfl inb_S5120x512_S128x128_3200_0 _ _ _ _ x, ?_⟩
      refine List.forall_mem_cons.2 ⟨fun x => deq_piece i 0 (by decide) arg2 harg2 arg4 harg4 x0 x1 x0 x2 rfl 24 1 (by decide) ![3072, 128] ![3072, 128] (k0_off185 i 1#32) rfl rfl rfl rfl (sword0 (i 0) 1) rfl inb_S5120x512_S128x128_3072_128 _ _ _ _ x, ?_⟩
      refine List.forall_mem_cons.2 ⟨fun x => deq_piece i 0 (by decide) arg2 harg2 arg4 harg4 x0 x1 x0 x2 rfl 24 0 (by decide) ![3072, 0] ![3072, 0] (k0_off185 i 0#32) rfl rfl rfl rfl (sword0 (i 0) 0) rfl inb_S5120x512_S128x128_3072_0 _ _ _ _ x, ?_⟩
      refine List.forall_mem_cons.2 ⟨fun x => deq_piece i 0 (by decide) arg2 harg2 arg4 harg4 x0 x1 x0 x2 rfl 23 1 (by decide) ![2944, 128] ![2944, 128] (k0_off184 i 1#32) rfl rfl rfl rfl (sword0 (i 0) 1) rfl inb_S5120x512_S128x128_2944_128 _ _ _ _ x, ?_⟩
      refine List.forall_mem_cons.2 ⟨fun x => deq_piece i 0 (by decide) arg2 harg2 arg4 harg4 x0 x1 x0 x2 rfl 23 0 (by decide) ![2944, 0] ![2944, 0] (k0_off184 i 0#32) rfl rfl rfl rfl (sword0 (i 0) 0) rfl inb_S5120x512_S128x128_2944_0 _ _ _ _ x, ?_⟩
      refine List.forall_mem_cons.2 ⟨fun x => deq_piece i 0 (by decide) arg2 harg2 arg4 harg4 x0 x1 x0 x2 rfl 22 1 (by decide) ![2816, 128] ![2816, 128] (k0_off183 i 1#32) rfl rfl rfl rfl (sword0 (i 0) 1) rfl inb_S5120x512_S128x128_2816_128 _ _ _ _ x, ?_⟩
      refine List.forall_mem_cons.2 ⟨fun x => deq_piece i 0 (by decide) arg2 harg2 arg4 harg4 x0 x1 x0 x2 rfl 22 0 (by decide) ![2816, 0] ![2816, 0] (k0_off183 i 0#32) rfl rfl rfl rfl (sword0 (i 0) 0) rfl inb_S5120x512_S128x128_2816_0 _ _ _ _ x, ?_⟩
      refine List.forall_mem_cons.2 ⟨fun x => deq_piece i 0 (by decide) arg2 harg2 arg4 harg4 x0 x1 x0 x2 rfl 21 1 (by decide) ![2688, 128] ![2688, 128] (k0_off182 i 1#32) rfl rfl rfl rfl (sword0 (i 0) 1) rfl inb_S5120x512_S128x128_2688_128 _ _ _ _ x, ?_⟩
      refine List.forall_mem_cons.2 ⟨fun x => deq_piece i 0 (by decide) arg2 harg2 arg4 harg4 x0 x1 x0 x2 rfl 21 0 (by decide) ![2688, 0] ![2688, 0] (k0_off182 i 0#32) rfl rfl rfl rfl (sword0 (i 0) 0) rfl inb_S5120x512_S128x128_2688_0 _ _ _ _ x, ?_⟩
      refine List.forall_mem_cons.2 ⟨fun x => deq_piece i 0 (by decide) arg2 harg2 arg4 harg4 x0 x1 x0 x2 rfl 20 1 (by decide) ![2560, 128] ![2560, 128] (k0_off181 i 1#32) rfl rfl rfl rfl (sword0 (i 0) 1) rfl inb_S5120x512_S128x128_2560_128 _ _ _ _ x, ?_⟩
      refine List.forall_mem_cons.2 ⟨fun x => deq_piece i 0 (by decide) arg2 harg2 arg4 harg4 x0 x1 x0 x2 rfl 20 0 (by decide) ![2560, 0] ![2560, 0] (k0_off181 i 0#32) rfl rfl rfl rfl (sword0 (i 0) 0) rfl inb_S5120x512_S128x128_2560_0 _ _ _ _ x, ?_⟩
      refine List.forall_mem_cons.2 ⟨fun x => deq_piece i 0 (by decide) arg2 harg2 arg4 harg4 x0 x1 x0 x2 rfl 19 1 (by decide) ![2432, 128] ![2432, 128] (k0_off180 i 1#32) rfl rfl rfl rfl (sword0 (i 0) 1) rfl inb_S5120x512_S128x128_2432_128 _ _ _ _ x, ?_⟩
      refine List.forall_mem_cons.2 ⟨fun x => deq_piece i 0 (by decide) arg2 harg2 arg4 harg4 x0 x1 x0 x2 rfl 19 0 (by decide) ![2432, 0] ![2432, 0] (k0_off180 i 0#32) rfl rfl rfl rfl (sword0 (i 0) 0) rfl inb_S5120x512_S128x128_2432_0 _ _ _ _ x, ?_⟩
      refine List.forall_mem_cons.2 ⟨fun x => deq_piece i 0 (by decide) arg2 harg2 arg4 harg4 x0 x1 x0 x2 rfl 18 1 (by decide) ![2304, 128] ![2304, 128] (k0_off179 i 1#32) rfl rfl rfl rfl (sword0 (i 0) 1) rfl inb_S5120x512_S128x128_2304_128 _ _ _ _ x, ?_⟩
      refine List.forall_mem_cons.2 ⟨fun x => deq_piece i 0 (by decide) arg2 harg2 arg4 harg4 x0 x1 x0 x2 rfl 18 0 (by decide) ![2304, 0] ![2304, 0] (k0_off179 i 0#32) rfl rfl rfl rfl (sword0 (i 0) 0) rfl inb_S5120x512_S128x128_2304_0 _ _ _ _ x, ?_⟩
      refine List.forall_mem_cons.2 ⟨fun x => deq_piece i 0 (by decide) arg2 harg2 arg4 harg4 x0 x1 x0 x2 rfl 17 1 (by decide) ![2176, 128] ![2176, 128] (k0_off178 i 1#32) rfl rfl rfl rfl (sword0 (i 0) 1) rfl inb_S5120x512_S128x128_2176_128 _ _ _ _ x, ?_⟩
      refine List.forall_mem_cons.2 ⟨fun x => deq_piece i 0 (by decide) arg2 harg2 arg4 harg4 x0 x1 x0 x2 rfl 17 0 (by decide) ![2176, 0] ![2176, 0] (k0_off178 i 0#32) rfl rfl rfl rfl (sword0 (i 0) 0) rfl inb_S5120x512_S128x128_2176_0 _ _ _ _ x, ?_⟩
      refine List.forall_mem_cons.2 ⟨fun x => deq_piece i 0 (by decide) arg2 harg2 arg4 harg4 x0 x1 x0 x2 rfl 16 1 (by decide) ![2048, 128] ![2048, 128] (k0_off177 i 1#32) rfl rfl rfl rfl (sword0 (i 0) 1) rfl inb_S5120x512_S128x128_2048_128 _ _ _ _ x, ?_⟩
      refine List.forall_mem_cons.2 ⟨fun x => deq_piece i 0 (by decide) arg2 harg2 arg4 harg4 x0 x1 x0 x2 rfl 16 0 (by decide) ![2048, 0] ![2048, 0] (k0_off177 i 0#32) rfl rfl rfl rfl (sword0 (i 0) 0) rfl inb_S5120x512_S128x128_2048_0 _ _ _ _ x, ?_⟩
      refine List.forall_mem_cons.2 ⟨fun x => deq_piece i 0 (by decide) arg2 harg2 arg4 harg4 x0 x1 x0 x2 rfl 15 1 (by decide) ![1920, 128] ![1920, 128] (k0_off176 i 1#32) rfl rfl rfl rfl (sword0 (i 0) 1) rfl inb_S5120x512_S128x128_1920_128 _ _ _ _ x, ?_⟩
      refine List.forall_mem_cons.2 ⟨fun x => deq_piece i 0 (by decide) arg2 harg2 arg4 harg4 x0 x1 x0 x2 rfl 15 0 (by decide) ![1920, 0] ![1920, 0] (k0_off176 i 0#32) rfl rfl rfl rfl (sword0 (i 0) 0) rfl inb_S5120x512_S128x128_1920_0 _ _ _ _ x, ?_⟩
      refine List.forall_mem_cons.2 ⟨fun x => deq_piece i 0 (by decide) arg2 harg2 arg4 harg4 x0 x1 x0 x2 rfl 14 1 (by decide) ![1792, 128] ![1792, 128] (k0_off175 i 1#32) rfl rfl rfl rfl (sword0 (i 0) 1) rfl inb_S5120x512_S128x128_1792_128 _ _ _ _ x, ?_⟩
      refine List.forall_mem_cons.2 ⟨fun x => deq_piece i 0 (by decide) arg2 harg2 arg4 harg4 x0 x1 x0 x2 rfl 14 0 (by decide) ![1792, 0] ![1792, 0] (k0_off175 i 0#32) rfl rfl rfl rfl (sword0 (i 0) 0) rfl inb_S5120x512_S128x128_1792_0 _ _ _ _ x, ?_⟩
      refine List.forall_mem_cons.2 ⟨fun x => deq_piece i 0 (by decide) arg2 harg2 arg4 harg4 x0 x1 x0 x2 rfl 13 1 (by decide) ![1664, 128] ![1664, 128] (k0_off174 i 1#32) rfl rfl rfl rfl (sword0 (i 0) 1) rfl inb_S5120x512_S128x128_1664_128 _ _ _ _ x, ?_⟩
      refine List.forall_mem_cons.2 ⟨fun x => deq_piece i 0 (by decide) arg2 harg2 arg4 harg4 x0 x1 x0 x2 rfl 13 0 (by decide) ![1664, 0] ![1664, 0] (k0_off174 i 0#32) rfl rfl rfl rfl (sword0 (i 0) 0) rfl inb_S5120x512_S128x128_1664_0 _ _ _ _ x, ?_⟩
      refine List.forall_mem_cons.2 ⟨fun x => deq_piece i 0 (by decide) arg2 harg2 arg4 harg4 x0 x1 x0 x2 rfl 12 1 (by decide) ![1536, 128] ![1536, 128] (k0_off173 i 1#32) rfl rfl rfl rfl (sword0 (i 0) 1) rfl inb_S5120x512_S128x128_1536_128 _ _ _ _ x, ?_⟩
      refine List.forall_mem_cons.2 ⟨fun x => deq_piece i 0 (by decide) arg2 harg2 arg4 harg4 x0 x1 x0 x2 rfl 12 0 (by decide) ![1536, 0] ![1536, 0] (k0_off173 i 0#32) rfl rfl rfl rfl (sword0 (i 0) 0) rfl inb_S5120x512_S128x128_1536_0 _ _ _ _ x, ?_⟩
      refine List.forall_mem_cons.2 ⟨fun x => deq_piece i 0 (by decide) arg2 harg2 arg4 harg4 x0 x1 x0 x2 rfl 11 1 (by decide) ![1408, 128] ![1408, 128] (k0_off172 i 1#32) rfl rfl rfl rfl (sword0 (i 0) 1) rfl inb_S5120x512_S128x128_1408_128 _ _ _ _ x, ?_⟩
      refine List.forall_mem_cons.2 ⟨fun x => deq_piece i 0 (by decide) arg2 harg2 arg4 harg4 x0 x1 x0 x2 rfl 11 0 (by decide) ![1408, 0] ![1408, 0] (k0_off172 i 0#32) rfl rfl rfl rfl (sword0 (i 0) 0) rfl inb_S5120x512_S128x128_1408_0 _ _ _ _ x, ?_⟩
      refine List.forall_mem_cons.2 ⟨fun x => deq_piece i 0 (by decide) arg2 harg2 arg4 harg4 x0 x1 x0 x2 rfl 10 1 (by decide) ![1280, 128] ![1280, 128] (k0_off171 i 1#32) rfl rfl rfl rfl (sword0 (i 0) 1) rfl inb_S5120x512_S128x128_1280_128 _ _ _ _ x, ?_⟩
      refine List.forall_mem_cons.2 ⟨fun x => deq_piece i 0 (by decide) arg2 harg2 arg4 harg4 x0 x1 x0 x2 rfl 10 0 (by decide) ![1280, 0] ![1280, 0] (k0_off171 i 0#32) rfl rfl rfl rfl (sword0 (i 0) 0) rfl inb_S5120x512_S128x128_1280_0 _ _ _ _ x, ?_⟩
      refine List.forall_mem_cons.2 ⟨fun x => deq_piece i 0 (by decide) arg2 harg2 arg4 harg4 x0 x1 x0 x2 rfl 9 1 (by decide) ![1152, 128] ![1152, 128] (k0_off170 i 1#32) rfl rfl rfl rfl (sword0 (i 0) 1) rfl inb_S5120x512_S128x128_1152_128 _ _ _ _ x, ?_⟩
      refine List.forall_mem_cons.2 ⟨fun x => deq_piece i 0 (by decide) arg2 harg2 arg4 harg4 x0 x1 x0 x2 rfl 9 0 (by decide) ![1152, 0] ![1152, 0] (k0_off170 i 0#32) rfl rfl rfl rfl (sword0 (i 0) 0) rfl inb_S5120x512_S128x128_1152_0 _ _ _ _ x, ?_⟩
      refine List.forall_mem_cons.2 ⟨fun x => deq_piece i 0 (by decide) arg2 harg2 arg4 harg4 x0 x1 x0 x2 rfl 8 1 (by decide) ![1024, 128] ![1024, 128] (k0_off169 i 1#32) rfl rfl rfl rfl (sword0 (i 0) 1) rfl inb_S5120x512_S128x128_1024_128 _ _ _ _ x, ?_⟩
      refine List.forall_mem_cons.2 ⟨fun x => deq_piece i 0 (by decide) arg2 harg2 arg4 harg4 x0 x1 x0 x2 rfl 8 0 (by decide) ![1024, 0] ![1024, 0] (k0_off169 i 0#32) rfl rfl rfl rfl (sword0 (i 0) 0) rfl inb_S5120x512_S128x128_1024_0 _ _ _ _ x, ?_⟩
      refine List.forall_mem_cons.2 ⟨fun x => deq_piece i 0 (by decide) arg2 harg2 arg4 harg4 x0 x1 x0 x2 rfl 7 1 (by decide) ![896, 128] ![896, 128] (k0_off168 i 1#32) rfl rfl rfl rfl (sword0 (i 0) 1) rfl inb_S5120x512_S128x128_896_128 _ _ _ _ x, ?_⟩
      refine List.forall_mem_cons.2 ⟨fun x => deq_piece i 0 (by decide) arg2 harg2 arg4 harg4 x0 x1 x0 x2 rfl 7 0 (by decide) ![896, 0] ![896, 0] (k0_off168 i 0#32) rfl rfl rfl rfl (sword0 (i 0) 0) rfl inb_S5120x512_S128x128_896_0 _ _ _ _ x, ?_⟩
      refine List.forall_mem_cons.2 ⟨fun x => deq_piece i 0 (by decide) arg2 harg2 arg4 harg4 x0 x1 x0 x2 rfl 6 1 (by decide) ![768, 128] ![768, 128] (k0_off167 i 1#32) rfl rfl rfl rfl (sword0 (i 0) 1) rfl inb_S5120x512_S128x128_768_128 _ _ _ _ x, ?_⟩
      refine List.forall_mem_cons.2 ⟨fun x => deq_piece i 0 (by decide) arg2 harg2 arg4 harg4 x0 x1 x0 x2 rfl 6 0 (by decide) ![768, 0] ![768, 0] (k0_off167 i 0#32) rfl rfl rfl rfl (sword0 (i 0) 0) rfl inb_S5120x512_S128x128_768_0 _ _ _ _ x, ?_⟩
      refine List.forall_mem_cons.2 ⟨fun x => deq_piece i 0 (by decide) arg2 harg2 arg4 harg4 x0 x1 x0 x2 rfl 5 1 (by decide) ![640, 128] ![640, 128] (k0_off166 i 1#32) rfl rfl rfl rfl (sword0 (i 0) 1) rfl inb_S5120x512_S128x128_640_128 _ _ _ _ x, ?_⟩
      refine List.forall_mem_cons.2 ⟨fun x => deq_piece i 0 (by decide) arg2 harg2 arg4 harg4 x0 x1 x0 x2 rfl 5 0 (by decide) ![640, 0] ![640, 0] (k0_off166 i 0#32) rfl rfl rfl rfl (sword0 (i 0) 0) rfl inb_S5120x512_S128x128_640_0 _ _ _ _ x, ?_⟩
      refine List.forall_mem_cons.2 ⟨fun x => deq_piece i 0 (by decide) arg2 harg2 arg4 harg4 x0 x1 x0 x2 rfl 4 1 (by decide) ![512, 128] ![512, 128] (k0_off165 i 1#32) rfl rfl rfl rfl (sword0 (i 0) 1) rfl inb_S5120x512_S128x128_512_128 _ _ _ _ x, ?_⟩
      refine List.forall_mem_cons.2 ⟨fun x => deq_piece i 0 (by decide) arg2 harg2 arg4 harg4 x0 x1 x0 x2 rfl 4 0 (by decide) ![512, 0] ![512, 0] (k0_off165 i 0#32) rfl rfl rfl rfl (sword0 (i 0) 0) rfl inb_S5120x512_S128x128_512_0 _ _ _ _ x, ?_⟩
      refine List.forall_mem_cons.2 ⟨fun x => deq_piece i 0 (by decide) arg2 harg2 arg4 harg4 x0 x1 x0 x2 rfl 3 1 (by decide) ![384, 128] ![384, 128] (k0_off164 i 1#32) rfl rfl rfl rfl (sword0 (i 0) 1) rfl inb_S5120x512_S128x128_384_128 _ _ _ _ x, ?_⟩
      refine List.forall_mem_cons.2 ⟨fun x => deq_piece i 0 (by decide) arg2 harg2 arg4 harg4 x0 x1 x0 x2 rfl 3 0 (by decide) ![384, 0] ![384, 0] (k0_off164 i 0#32) rfl rfl rfl rfl (sword0 (i 0) 0) rfl inb_S5120x512_S128x128_384_0 _ _ _ _ x, ?_⟩
      refine List.forall_mem_cons.2 ⟨fun x => deq_piece i 0 (by decide) arg2 harg2 arg4 harg4 x0 x1 x0 x2 rfl 2 1 (by decide) ![256, 128] ![256, 128] (k0_off163 i 1#32) rfl rfl rfl rfl (sword0 (i 0) 1) rfl inb_S5120x512_S128x128_256_128 _ _ _ _ x, ?_⟩
      refine List.forall_mem_cons.2 ⟨fun x => deq_piece i 0 (by decide) arg2 harg2 arg4 harg4 x0 x1 x0 x2 rfl 2 0 (by decide) ![256, 0] ![256, 0] (k0_off163 i 0#32) rfl rfl rfl rfl (sword0 (i 0) 0) rfl inb_S5120x512_S128x128_256_0 _ _ _ _ x, ?_⟩
      refine List.forall_mem_cons.2 ⟨fun x => deq_piece i 0 (by decide) arg2 harg2 arg4 harg4 x0 x1 x0 x2 rfl 1 1 (by decide) ![128, 128] ![128, 128] (k0_off162 i 1#32) rfl rfl rfl rfl (sword0 (i 0) 1) rfl inb_S5120x512_S128x128_128_128 _ _ _ _ x, ?_⟩
      refine List.forall_mem_cons.2 ⟨fun x => deq_piece i 0 (by decide) arg2 harg2 arg4 harg4 x0 x1 x0 x2 rfl 1 0 (by decide) ![128, 0] ![128, 0] (k0_off162 i 0#32) rfl rfl rfl rfl (sword0 (i 0) 0) rfl inb_S5120x512_S128x128_128_0 _ _ _ _ x, ?_⟩
      refine List.forall_mem_cons.2 ⟨fun x => deq_piece i 0 (by decide) arg2 harg2 arg4 harg4 x0 x1 x0 x2 rfl 0 1 (by decide) ![0, 128] ![0, 128] (k0_off161 i 1#32) rfl rfl rfl rfl (sword0 (i 0) 1) rfl inb_S5120x512_S128x128_0_128 _ _ _ _ x, ?_⟩
      refine List.forall_mem_cons.2 ⟨fun x => deq_piece i 0 (by decide) arg2 harg2 arg4 harg4 x0 x1 x0 x2 rfl 0 0 (by decide) ![0, 0] ![0, 0] (k0_off161 i 0#32) rfl rfl rfl rfl (sword0 (i 0) 0) rfl inb_S5120x512_S128x128_0_0 _ _ _ _ x, ?_⟩
      exact List.forall_mem_nil _
    isplitl [Hq0]; · iexact Hq0
    isplitl [Hh0]; · iexact Hh0
    iexists _; iexact HW

end Cert.GateUpIdeal.Gate

end
-- ==== Proof.Gate.RunC.lean ====
/- The body at an even grid point after the first: the weight block goes dequantised into the first weight scratch, and
   the output blocks are computed from the second. -/
module

public import proofs.«01_k».proof.Proof.Gate.Math

@[expose] public section

-- membership in a rectangle of production extents (`View.cover_of_tiled`): the elaborator's structural look
-- recurses once per coordinate of the long axes
set_option maxRecDepth 16384

noncomputable section

namespace Cert.GateUpIdeal.Gate

open Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- The body at an even grid point after the first. -/
theorem runC (c : Dev nD) (i : grid0.Coords) (arg2 : Memref sig .tc .vmem S5120x256 .fp8e4m3) (harg2 : arg2.IsWhole) (arg3 : Memref sig .tc .vmem S5120x256 .fp8e4m3) (harg3 : arg3.IsWhole) (arg4 : Memref sig .tc .smem S68x40 .f32) (harg4 : arg4.IsWhole) (arg5 : Memref sig .tc .vmem S2048x256 .fp8e4m3) (harg5 : arg5.IsWhole) (arg6 : Memref sig .tc .vmem S2048x128 .f32) (harg6 : arg6.IsWhole) (arg7 : Memref sig .tc .vmem S2048x256 .bf16) (harg7 : arg7.IsWhole) (arg8 : Memref sig .tc .vmem S1024x5120 .i32) (harg8 : arg8.IsWhole) (arg9 : Memref sig .tc .vmem S5120x512 .bf16) (harg9 : arg9.IsWhole) (arg10 : Memref sig .tc .vmem S5120x512 .bf16) (harg10 : arg10.IsWhole) (hc0 : ¬cond0_0 i) (hc1 : cond0_1 i) (hc2 : ¬cond0_2 i)
    (x0 x1 : Vec F S5120x256 .fp8e4m3) (x2 : Vec F S68x40 .f32) (x6 : Vec F S2048x128 .f32) (x8 : Vec F S1024x5120 .i32) (w : Vec F S5120x512 .bf16) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x6 ∗ (∃ d, owns (c : Thread nD τ) arg7 fullShare d) ∗ owns (c : Thread nD τ) arg8 fullShare x8 ∗ (∃ d, owns (c : Thread nD τ) arg9 fullShare d) ∗ owns (c : Thread nD τ) arg10 fullShare w ∗ semVal ((c : Thread nD τ), SemLoc.dma 10) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (mc x8 w) ∗ owns (c : Thread nD τ) arg6 fullShare (ms i x6 x8 w) ∗ owns (c : Thread nD τ) arg7 fullShare (ma x8 w) ∗ owns (c : Thread nD τ) arg8 fullShare x8 ∗ owns (c : Thread nD τ) arg9 fullShare (deq i x0 x1 x2) ∗ owns (c : Thread nD τ) arg10 fullShare w ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0_gate_up i (Memref.whole main_arg0) (Memref.isWhole_whole _) arg2 harg2 arg3 harg3 arg4 harg4 arg5 harg5 arg6 harg6 arg7 harg7 arg8 harg8 arg9 harg9 arg10 harg10 cc0_scratch3) K := by
    intro W K
    simp only [cc0_gate_up_eq_skeleton]; unfold cc0_gate_up_skel
    rw [k0_part139_eq_skeleton, k0_part140_eq_skeleton]; unfold k0_part139_skel k0_part140_skel
    rw [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton]
    unfold owns
    iintro ⟨⟨%f0, %hf0, H0⟩, ⟨%f1, %hf1, H1⟩, ⟨%f2, %hf2, H2⟩, ⟨%d3, %g3, -, H3⟩, ⟨%f4, %hf4, H4⟩, ⟨%d5, %g5, -, H5⟩, ⟨%f6, %hf6, HS0⟩, ⟨%d7, %g7, -, HS1⟩, ⟨%f8, %hf8, HS2⟩, Hq0, Hh0, HW, Hk⟩
    obtain rfl := harg2.eq_unread hf0; obtain rfl := harg3.eq_unread hf1; obtain rfl := harg4.eq_unread hf2; obtain rfl := harg6.eq_unread hf4; obtain rfl := harg8.eq_unread hf6; obtain rfl := harg10.eq_unread hf8
    sl_exec! (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; funext y
      refine View.read_writes_apply_of_pieces _ _ (mc x8 w) _ ?_ y ?hcov
      case hcov => exact View.cover_of_tiled (s := S2048x256) _ S256x128.size (by rfl) y
      refine List.forall_mem_cons.2 ⟨fun x => mc_piece arg8 harg8 arg10 harg10 x8 w 7 (by decide) ![896, 0] ![0, 0] rfl rfl zero2 _ _ 1 (by decide) ![1792, 128] rfl rfl inb_S2048x256_S256x128_1792_128 x, ?_⟩
      refine List.forall_mem_cons.2 ⟨fun x => mc_piece arg8 harg8 arg10 harg10 x8 w 7 (by decide) ![896, 0] ![0, 0] rfl rfl zero2 _ _ 0 (by decide) ![1792, 0] rfl rfl inb_S2048x256_S256x128_1792_0 x, ?_⟩
      refine List.forall_mem_cons.2 ⟨fun x => mc_piece arg8 harg8 arg10 harg10 x8 w 6 (by decide) ![768, 0] ![0, 0] rfl rfl zero2 _ _ 1 (by decide) ![1536, 128] rfl rfl inb_S2048x256_S256x128_1536_128 x, ?_⟩
      refine List.forall_mem_cons.2 ⟨fun x => mc_piece arg8 harg8 arg10 harg10 x8 w 6 (by decide) ![768, 0] ![0, 0] rfl rfl zero2 _ _ 0 (by decide) ![1536, 0] rfl rfl inb_S2048x256_S256x128_1536_0 x, ?_⟩
      refine List.forall_mem_cons.2 ⟨fun x => mc_piece arg8 harg8 arg10 harg10 x8 w 5 (by decide) ![640, 0] ![0, 0] rfl rfl zero2 _ _ 1 (by decide) ![1280, 128] rfl rfl inb_S2048x256_S256x128_1280_128 x, ?_⟩
      refine List.forall_mem_cons.2 ⟨fun x => mc_piece arg8 harg8 arg10 harg10 x8 w 5 (by decide) ![640, 0] ![0, 0] rfl rfl zero2 _ _ 0 (by decide) ![1280, 0] rfl rfl inb_S2048x256_S256x128_1280_0 x, ?_⟩
      refine List.forall_mem_cons.2 ⟨fun x => mc_piece arg8 harg8 arg10 harg10 x8 w 4 (by decide) ![512, 0] ![0, 0] rfl rfl zero2 _ _ 1 (by decide) ![1024, 128] rfl rfl inb_S2048x256_S256x128_1024_128 x, ?_⟩
      refine List.forall_mem_cons.2 ⟨fun x => mc_piece arg8 harg8 arg10 harg10 x8 w 4 (by decide) ![512, 0] ![0, 0] rfl rfl zero2 _ _ 0 (by decide) ![1024, 0] rfl rfl inb_S2048x256_S256x128_1024_0 x, ?_⟩
      refine List.forall_mem_cons.2 ⟨fun x => mc_piece arg8 harg8 arg10 harg10 x8 w 3 (by decide) ![384, 0] ![0, 0] rfl rfl zero2 _ _ 1 (by decide) ![768, 128] rfl rfl inb_S2048x256_S256x128_768_128 x, ?_⟩
      refine List.forall_mem_cons.2 ⟨fun x => mc_piece arg8 harg8 arg10 harg10 x8 w 3 (by decide) ![384, 0] ![0, 0] rfl rfl zero2 _ _ 0 (by decide) ![768, 0] rfl rfl inb_S2048x256_S256x128_768_0 x, ?_⟩
      refine List.forall_mem_cons.2 ⟨fun x => mc_piece arg8 harg8 arg10 harg10 x8 w 2 (by decide) ![256, 0] ![0, 0] rfl rfl zero2 _ _ 1 (by decide) ![512, 128] rfl rfl inb_S2048x256_S256x128_512_128 x, ?_⟩
      refine List.forall_mem_cons.2 ⟨fun x => mc_piece arg8 harg8 arg10 harg10 x8 w 2 (by decide) ![256, 0] ![0, 0] rfl rfl zero2 _ _ 0 (by decide) ![512, 0] rfl rfl inb_S2048x256_S256x128_512_0 x, ?_⟩
      refine List.forall_mem_cons.2 ⟨fun x => mc_piece arg8 harg8 arg10 harg10 x8 w 1 (by decide) ![128, 0] ![0, 0] rfl rfl zero2 _ _ 1 (by decide) ![256, 128] rfl rfl inb_S2048x256_S256x128_256_128 x, ?_⟩
      refine List.forall_mem_cons.2 ⟨fun x => mc_piece arg8 harg8 arg10 harg10 x8 w 1 (by decide) ![128, 0] ![0, 0] rfl rfl zero2 _ _ 0 (by decide) ![256, 0] rfl rfl inb_S2048x256_S256x128_256_0 x, ?_⟩
      refine List.forall_mem_cons.2 ⟨fun x => mc_piece arg8 harg8 arg10 harg10 x8 w 0 (by decide) ![0, 0] ![0, 0] rfl rfl zero2 _ _ 1 (by decide) ![0, 128] rfl rfl inb_S2048x256_S256x128_0_128 x, ?_⟩
      refine List.forall_mem_cons.2 ⟨fun x => mc_piece arg8 harg8 arg10 harg10 x8 w 0 (by decide) ![0, 0] ![0, 0] rfl rfl zero2 _ _ 0 (by decide) ![0, 0] rfl rfl inb_S2048x256_S256x128_0_0 x, ?_⟩
      exact List.forall_mem_nil _
    isplitl [H4]
    · iexists _; isplitr; swap; · iexact H4
      ipureintro; funext y
      refine View.read_writes_apply_of_pieces _ _ (ms i x6 x8 w) _ ?_ y ?hcov
      case hcov => exact View.cover_of_tiled (s := S2048x128) _ S256x128.size (by rfl) y
      refine List.forall_mem_cons.2 ⟨fun x => ms_piece arg8 harg8 arg10 harg10 x8 w 7 (by decide) ![896, 0] ![0, 0] rfl rfl zero2 _ _ i arg6 harg6 x6 ![1792, 0] rfl rfl _ x, ?_⟩
      refine List.forall_mem_cons.2 ⟨fun x => ms_piece arg8 harg8 arg10 harg10 x8 w 6 (by decide) ![768, 0] ![0, 0] rfl rfl zero2 _ _ i arg6 harg6 x6 ![1536, 0] rfl rfl _ x, ?_⟩
      refine List.forall_mem_cons.2 ⟨fun x => ms_piece arg8 harg8 arg10 harg10 x8 w 5 (by decide) ![640, 0] ![0, 0] rfl rfl zero2 _ _ i arg6 harg6 x6 ![1280, 0] rfl rfl _ x, ?_⟩
      refine List.forall_mem_cons.2 ⟨fun x => ms_piece arg8 harg8 arg10 harg10 x8 w 4 (by decide) ![512, 0] ![0, 0] rfl rfl zero2 _ _ i arg6 harg6 x6 ![1024, 0] rfl rfl _ x, ?_⟩
      refine List.forall_mem_cons.2 ⟨fun x => ms_piece arg8 harg8 arg10 harg10 x8 w 3 (by decide) ![384, 0] ![0, 0] rfl rfl zero2 _ _ i arg6 harg6 x6 ![768, 0] rfl rfl _ x, ?_⟩
      refine List.forall_mem_cons.2 ⟨fun x => ms_piece arg8 harg8 arg10 harg10 x8 w 2 (by decide) ![256, 0] ![0, 0] rfl rfl zero2 _ _ i arg6 harg6 x6 ![512, 0] rfl rfl _ x, ?_⟩
      refine List.forall_mem_cons.2 ⟨fun x => ms_piece arg8 harg8 arg10 harg10 x8 w 1 (by decide) ![128, 0] ![0, 0] rfl rfl zero2 _ _ i arg6 harg6 x6 ![256, 0] rfl rfl _ x, ?_⟩
      refine List.forall_mem_cons.2 ⟨fun x => ms_piece arg8 harg8 arg10 harg10 x8 w 0 (by decide) ![0, 0] ![0, 0] rfl rfl zero2 _ _ i arg6 harg6 x6 ![0, 0] rfl rfl _ x, ?_⟩
      exact List.forall_mem_nil _
    isplitl [H5]
    · iexists _; isplitr; swap; · iexact H5
      ipureintro; funext y
      refine View.read_writes_apply_of_pieces _ _ (ma x8 w) _ ?_ y ?hcov
      case hcov => exact View.cover_of_tiled (s := S2048x256) _ S256x128.size (by rfl) y
      refine List.forall_mem_cons.2 ⟨fun x => ma_piece arg8 harg8 arg10 harg10 x8 w 7 (by decide) ![896, 0] ![0, 0] rfl rfl zero2 _ _ 1 (by decide) ![1792, 128] rfl rfl inb_S2048x256_S256x128_1792_128 x, ?_⟩
      refine List.forall_mem_cons.2 ⟨fun x => ma_piece arg8 harg8 arg10 harg10 x8 w 7 (by decide) ![896, 0] ![0, 0] rfl rfl zero2 _ _ 0 (by decide) ![1792, 0] rfl rfl inb_S2048x256_S256x128_1792_0 x, ?_⟩
      refine List.forall_mem_cons.2 ⟨fun x => ma_piece arg8 harg8 arg10 harg10 x8 w 6 (by decide) ![768, 0] ![0, 0] rfl rfl zero2 _ _ 1 (by decide) ![1536, 128] rfl rfl inb_S2048x256_S256x128_1536_128 x, ?_⟩
      refine List.forall_mem_cons.2 ⟨fun x => ma_piece arg8 harg8 arg10 harg10 x8 w 6 (by decide) ![768, 0] ![0, 0] rfl rfl zero2 _ _ 0 (by decide) ![1536, 0] rfl rfl inb_S2048x256_S256x128_1536_0 x, ?_⟩
      refine List.forall_mem_cons.2 ⟨fun x => ma_piece arg8 harg8 arg10 harg10 x8 w 5 (by decide) ![640, 0] ![0, 0] rfl rfl zero2 _ _ 1 (by decide) ![1280, 128] rfl rfl inb_S2048x256_S256x128_1280_128 x, ?_⟩
      refine List.forall_mem_cons.2 ⟨fun x => ma_piece arg8 harg8 arg10 harg10 x8 w 5 (by decide) ![640, 0] ![0, 0] rfl rfl zero2 _ _ 0 (by decide) ![1280, 0] rfl rfl inb_S2048x256_S256x128_1280_0 x, ?_⟩
      refine List.forall_mem_cons.2 ⟨fun x => ma_piece arg8 harg8 arg10 harg10 x8 w 4 (by decide) ![512, 0] ![0, 0] rfl rfl zero2 _ _ 1 (by decide) ![1024, 128] rfl rfl inb_S2048x256_S256x128_1024_128 x, ?_⟩
      refine List.forall_mem_cons.2 ⟨fun x => ma_piece arg8 harg8 arg10 harg10 x8 w 4 (by decide) ![512, 0] ![0, 0] rfl rfl zero2 _ _ 0 (by decide) ![1024, 0] rfl rfl inb_S2048x256_S256x128_1024_0 x, ?_⟩
      refine List.forall_mem_cons.2 ⟨fun x => ma_piece arg8 harg8 arg10 harg10 x8 w 3 (by decide) ![384, 0] ![0, 0] rfl rfl zero2 _ _ 1 (by decide) ![768, 128] rfl rfl inb_S2048x256_S256x128_768_128 x, ?_⟩
      refine List.forall_mem_cons.2 ⟨fun x => ma_piece arg8 harg8 arg10 harg10 x8 w 3 (by decide) ![384, 0] ![0, 0] rfl rfl zero2 _ _ 0 (by decide) ![768, 0] rfl rfl inb_S2048x256_S256x128_768_0 x, ?_⟩
      refine List.forall_mem_cons.2 ⟨fun x => ma_piece arg8 harg8 arg10 harg10 x8 w 2 (by decide) ![256, 0] ![0, 0] rfl rfl zero2 _ _ 1 (by decide) ![512, 128] rfl rfl inb_S2048x256_S256x128_512_128 x, ?_⟩
      refine List.forall_mem_cons.2 ⟨fun x => ma_piece arg8 harg8 arg10 harg10 x8 w 2 (by decide) ![256, 0] ![0, 0] rfl rfl zero2 _ _ 0 (by decide) ![512, 0] rfl rfl inb_S2048x256_S256x128_512_0 x, ?_⟩
      refine List.forall_mem_cons.2 ⟨fun x => ma_piece arg8 harg8 arg10 harg10 x8 w 1 (by decide) ![128, 0] ![0, 0] rfl rfl zero2 _ _ 1 (by decide) ![256, 128] rfl rfl inb_S2048x256_S256x128_256_128 x, ?_⟩
      refine List.forall_mem_cons.2 ⟨fun x => ma_piece arg8 harg8 arg10 harg10 x8 w 1 (by decide) ![128, 0] ![0, 0] rfl rfl zero2 _ _ 0 (by decide) ![256, 0] rfl rfl inb_S2048x256_S256x128_256_0 x, ?_⟩
      refine List.forall_mem_cons.2 ⟨fun x => ma_piece arg8 harg8 arg10 harg10 x8 w 0 (by decide) ![0, 0] ![0, 0] rfl rfl zero2 _ _ 1 (by decide) ![0, 128] rfl rfl inb_S2048x256_S256x128_0_128 x, ?_⟩
      refine List.forall_mem_cons.2 ⟨fun x => ma_piece arg8 harg8 arg10 harg10 x8 w 0 (by decide) ![0, 0] ![0, 0] rfl rfl zero2 _ _ 0 (by decide) ![0, 0] rfl rfl inb_S2048x256_S256x128_0_0 x, ?_⟩
      exact List.forall_mem_nil _
    isplitl [HS0]
    · iexists _; isplitr; · ipureintro; exact harg8.read_unread _
      iexact HS0
    isplitl [HS1]
    · iexists _; isplitr; swap; · iexact HS1
      ipureintro; funext y
      refine View.read_writes_apply_of_pieces _ _ (deq i x0 x1 x2) _ ?_ y ?hcov
      case hcov => exact View.cover_of_tiled (s := S5120x512) _ S128x128.size (by rfl) y
      refine List.forall_mem_cons.2 ⟨fun x => deq_piece i 1 (by decide) arg3 harg3 arg4 harg4 x0 x1 x1 x2 rfl 39 1 (by decide) ![4992, 384] ![4992, 128] (k0_off160 i 1#32) rfl rfl rfl rfl (sword1 (i 0) 1) rfl inb_S5120x512_S128x128_4992_384 _ _ _ _ x, ?_⟩
      refine List.forall_mem_cons.2 ⟨fun x => deq_piece i 1 (by decide) arg3 harg3 arg4 harg4 x0 x1 x1 x2 rfl 39 0 (by decide) ![4992, 256] ![4992, 0] (k0_off160 i 0#32) rfl rfl rfl rfl (sword1 (i 0) 0) rfl inb_S5120x512_S128x128_4992_256 _ _ _ _ x, ?_⟩
      refine List.forall_mem_cons.2 ⟨fun x => deq_piece i 1 (by decide) arg3 harg3 arg4 harg4 x0 x1 x1 x2 rfl 38 1 (by decide) ![4864, 384] ![4864, 128] (k0_off159 i 1#32) rfl rfl rfl rfl (sword1 (i 0) 1) rfl inb_S5120x512_S128x128_4864_384 _ _ _ _ x, ?_⟩
      refine List.forall_mem_cons.2 ⟨fun x => deq_piece i 1 (by decide) arg3 harg3 arg4 harg4 x0 x1 x1 x2 rfl 38 0 (by decide) ![4864, 256] ![4864, 0] (k0_off159 i 0#32) rfl rfl rfl rfl (sword1 (i 0) 0) rfl inb_S5120x512_S128x128_4864_256 _ _ _ _ x, ?_⟩
      refine List.forall_mem_cons.2 ⟨fun x => deq_piece i 1 (by decide) arg3 harg3 arg4 harg4 x0 x1 x1 x2 rfl 37 1 (by decide) ![4736, 384] ![4736, 128] (k0_off158 i 1#32) rfl rfl rfl rfl (sword1 (i 0) 1) rfl inb_S5120x512_S128x128_4736_384 _ _ _ _ x, ?_⟩
      refine List.forall_mem_cons.2 ⟨fun x => deq_piece i 1 (by decide) arg3 harg3 arg4 harg4 x0 x1 x1 x2 rfl 37 0 (by decide) ![4736, 256] ![4736, 0] (k0_off158 i 0#32) rfl rfl rfl rfl (sword1 (i 0) 0) rfl inb_S5120x512_S128x128_4736_256 _ _ _ _ x, ?_⟩
      refine List.forall_mem_cons.2 ⟨fun x => deq_piece i 1 (by decide) arg3 harg3 arg4 harg4 x0 x1 x1 x2 rfl 36 1 (by decide) ![4608, 384] ![4608, 128] (k0_off157 i 1#32) rfl rfl rfl rfl (sword1 (i 0) 1) rfl inb_S5120x512_S128x128_4608_384 _ _ _ _ x, ?_⟩
      refine List.forall_mem_cons.2 ⟨fun x => deq_piece i 1 (by decide) arg3 harg3 arg4 harg4 x0 x1 x1 x2 rfl 36 0 (by decide) ![4608, 256] ![4608, 0] (k0_off157 i 0#32) rfl rfl rfl rfl (sword1 (i 0) 0) rfl inb_S5120x512_S128x128_4608_256 _ _ _ _ x, ?_⟩
      refine List.forall_mem_cons.2 ⟨fun x => deq_piece i 1 (by decide) arg3 harg3 arg4 harg4 x0 x1 x1 x2 rfl 35 1 (by decide) ![4480, 384] ![4480, 128] (k0_off156 i 1#32) rfl rfl rfl rfl (sword1 (i 0) 1) rfl inb_S5120x512_S128x128_4480_384 _ _ _ _ x, ?_⟩
      refine List.forall_mem_cons.2 ⟨fun x => deq_piece i 1 (by decide) arg3 harg3 arg4 harg4 x0 x1 x1 x2 rfl 35 0 (by decide) ![4480, 256] ![4480, 0] (k0_off156 i 0#32) rfl rfl rfl rfl (sword1 (i 0) 0) rfl inb_S5120x512_S128x128_4480_256 _ _ _ _ x, ?_⟩
      refine List.forall_mem_cons.2 ⟨fun x => deq_piece i 1 (by decide) arg3 harg3 arg4 harg4 x0 x1 x1 x2 rfl 34 1 (by decide) ![4352, 384] ![4352, 128] (k0_off155 i 1#32) rfl rfl rfl rfl (sword1 (i 0) 1) rfl inb_S5120x512_S128x128_4352_384 _ _ _ _ x, ?_⟩
      refine List.forall_mem_cons.2 ⟨fun x => deq_piece i 1 (by decide) arg3 harg3 arg4 harg4 x0 x1 x1 x2 rfl 34 0 (by decide) ![4352, 256] ![4352, 0] (k0_off155 i 0#32) rfl rfl rfl rfl (sword1 (i 0) 0) rfl inb_S5120x512_S128x128_4352_256 _ _ _ _ x, ?_⟩
      refine List.forall_mem_cons.2 ⟨fun x => deq_piece i 1 (by decide) arg3 harg3 arg4 harg4 x0 x1 x1 x2 rfl 33 1 (by decide) ![4224, 384] ![4224, 128] (k0_off154 i 1#32) rfl rfl rfl rfl (sword1 (i 0) 1) rfl inb_S5120x512_S128x128_4224_384 _ _ _ _ x, ?_⟩
      refine List.forall_mem_cons.2 ⟨fun x => deq_piece i 1 (by decide) arg3 harg3 arg4 harg4 x0 x1 x1 x2 rfl 33 0 (by decide) ![4224, 256] ![4224, 0] (k0_off154 i 0#32) rfl rfl rfl rfl (sword1 (i 0) 0) rfl inb_S5120x512_S128x128_4224_256 _ _ _ _ x, ?_⟩
      refine List.forall_mem_cons.2 ⟨fun x => deq_piece i 1 (by decide) arg3 harg3 arg4 harg4 x0 x1 x1 x2 rfl 32 1 (by decide) ![4096, 384] ![4096, 128] (k0_off153 i 1#32) rfl rfl rfl rfl (sword1 (i 0) 1) rfl inb_S5120x512_S128x128_4096_384 _ _ _ _ x, ?_⟩
      refine List.forall_mem_cons.2 ⟨fun x => deq_piece i 1 (by decide) arg3 harg3 arg4 harg4 x0 x1 x1 x2 rfl 32 0 (by decide) ![4096, 256] ![4096, 0] (k0_off153 i 0#32) rfl rfl rfl rfl (sword1 (i 0) 0) rfl inb_S5120x512_S128x128_4096_256 _ _ _ _ x, ?_⟩
      refine List.forall_mem_cons.2 ⟨fun x => deq_piece i 1 (by decide) arg3 harg3 arg4 harg4 x0 x1 x1 x2 rfl 31 1 (by decide) ![3968, 384] ![3968, 128] (k0_off152 i 1#32) rfl rfl rfl rfl (sword1 (i 0) 1) rfl inb_S5120x512_S128x128_3968_384 _ _ _ _ x, ?_⟩
      refine List.forall_mem_cons.2 ⟨fun x => deq_piece i 1 (by decide) arg3 harg3 arg4 harg4 x0 x1 x1 x2 rfl 31 0 (by decide) ![3968, 256] ![3968, 0] (k0_off152 i 0#32) rfl rfl rfl rfl (sword1 (i 0) 0) rfl inb_S5120x512_S128x128_3968_256 _ _ _ _ x, ?_⟩
      refine List.forall_mem_cons.2 ⟨fun x => deq_piece i 1 (by decide) arg3 harg3 arg4 harg4 x0 x1 x1 x2 rfl 30 1 (by decide) ![3840, 384] ![3840, 128] (k0_off151 i 1#32) rfl rfl rfl rfl (sword1 (i 0) 1) rfl inb_S5120x512_S128x128_3840_384 _ _ _ _ x, ?_⟩
      refine List.forall_mem_cons.2 ⟨fun x => deq_piece i 1 (by decide) arg3 harg3 arg4 harg4 x0 x1 x1 x2 rfl 30 0 (by decide) ![3840, 256] ![3840, 0] (k0_off151 i 0#32) rfl rfl rfl rfl (sword1 (i 0) 0) rfl inb_S5120x512_S128x128_3840_256 _ _ _ _ x, ?_⟩
      refine List.forall_mem_cons.2 ⟨fun x => deq_piece i 1 (by decide) arg3 harg3 arg4 harg4 x0 x1 x1 x2 rfl 29 1 (by decide) ![3712, 384] ![3712, 128] (k0_off150 i 1#32) rfl rfl rfl rfl (sword1 (i 0) 1) rfl inb_S5120x512_S128x128_3712_384 _ _ _ _ x, ?_⟩
      refine List.forall_mem_cons.2 ⟨fun x => deq_piece i 1 (by decide) arg3 harg3 arg4 harg4 x0 x1 x1 x2 rfl 29 0 (by decide) ![3712, 256] ![3712, 0] (k0_off150 i 0#32) rfl rfl rfl rfl (sword1 (i 0) 0) rfl inb_S5120x512_S128x128_3712_256 _ _ _ _ x, ?_⟩
      refine List.forall_mem_cons.2 ⟨fun x => deq_piece i 1 (by decide) arg3 harg3 arg4 harg4 x0 x1 x1 x2 rfl 28 1 (by decide) ![3584, 384] ![3584, 128] (k0_off149 i 1#32) rfl rfl rfl rfl (sword1 (i 0) 1) rfl inb_S5120x512_S128x128_3584_384 _ _ _ _ x, ?_⟩
      refine List.forall_mem_cons.2 ⟨fun x => deq_piece i 1 (by decide) arg3 harg3 arg4 harg4 x0 x1 x1 x2 rfl 28 0 (by decide) ![3584, 256] ![3584, 0] (k0_off149 i 0#32) rfl rfl rfl rfl (sword1 (i 0) 0) rfl inb_S5120x512_S128x128_3584_256 _ _ _ _ x, ?_⟩
      refine List.forall_mem_cons.2 ⟨fun x => deq_piece i 1 (by decide) arg3 harg3 arg4 harg4 x0 x1 x1 x2 rfl 27 1 (by decide) ![3456, 384] ![3456, 128] (k0_off148 i 1#32) rfl rfl rfl rfl (sword1 (i 0) 1) rfl inb_S5120x512_S128x128_3456_384 _ _ _ _ x, ?_⟩
      refine List.forall_mem_cons.2 ⟨fun x => deq_piece i 1 (by decide) arg3 harg3 arg4 harg4 x0 x1 x1 x2 rfl 27 0 (by decide) ![3456, 256] ![3456, 0] (k0_off148 i 0#32) rfl rfl rfl rfl (sword1 (i 0) 0) rfl inb_S5120x512_S128x128_3456_256 _ _ _ _ x, ?_⟩
      refine List.forall_mem_cons.2 ⟨fun x => deq_piece i 1 (by decide) arg3 harg3 arg4 harg4 x0 x1 x1 x2 rfl 26 1 (by decide) ![3328, 384] ![3328, 128] (k0_off147 i 1#32) rfl rfl rfl rfl (sword1 (i 0) 1) rfl inb_S5120x512_S128x128_3328_384 _ _ _ _ x, ?_⟩
      refine List.forall_mem_cons.2 ⟨fun x => deq_piece i 1 (by decide) arg3 harg3 arg4 harg4 x0 x1 x1 x2 rfl 26 0 (by decide) ![3328, 256] ![3328, 0] (k0_off147 i 0#32) rfl rfl rfl rfl (sword1 (i 0) 0) rfl inb_S5120x512_S128x128_3328_256 _ _ _ _ x, ?_⟩
      refine List.forall_mem_cons.2 ⟨fun x => deq_piece i 1 (by decide) arg3 harg3 arg4 harg4 x0 x1 x1 x2 rfl 25 1 (by decide) ![3200, 384] ![3200, 128] (k0_off146 i 1#32) rfl rfl rfl rfl (sword1 (i 0) 1) rfl inb_S5120x512_S128x128_3200_384 _ _ _ _ x, ?_⟩
      refine List.forall_mem_cons.2 ⟨fun x => deq_piece i 1 (by decide) arg3 harg3 arg4 harg4 x0 x1 x1 x2 rfl 25 0 (by decide) ![3200, 256] ![3200, 0] (k0_off146 i 0#32) rfl rfl rfl rfl (sword1 (i 0) 0) rfl inb_S5120x512_S128x128_3200_256 _ _ _ _ x, ?_⟩
      refine List.forall_mem_cons.2 ⟨fun x => deq_piece i 1 (by decide) arg3 harg3 arg4 harg4 x0 x1 x1 x2 rfl 24 1 (by decide) ![3072, 384] ![3072, 128] (k0_off145 i 1#32) rfl rfl rfl rfl (sword1 (i 0) 1) rfl inb_S5120x512_S128x128_3072_384 _ _ _ _ x, ?_⟩
      refine List.forall_mem_cons.2 ⟨fun x => deq_piece i 1 (by decide) arg3 harg3 arg4 harg4 x0 x1 x1 x2 rfl 24 0 (by decide) ![3072, 256] ![3072, 0] (k0_off145 i 0#32) rfl rfl rfl rfl (sword1 (i 0) 0) rfl inb_S5120x512_S128x128_3072_256 _ _ _ _ x, ?_⟩
      refine List.forall_mem_cons.2 ⟨fun x => deq_piece i 1 (by decide) arg3 harg3 arg4 harg4 x0 x1 x1 x2 rfl 23 1 (by decide) ![2944, 384] ![2944, 128] (k0_off144 i 1#32) rfl rfl rfl rfl (sword1 (i 0) 1) rfl inb_S5120x512_S128x128_2944_384 _ _ _ _ x, ?_⟩
      refine List.forall_mem_cons.2 ⟨fun x => deq_piece i 1 (by decide) arg3 harg3 arg4 harg4 x0 x1 x1 x2 rfl 23 0 (by decide) ![2944, 256] ![2944, 0] (k0_off144 i 0#32) rfl rfl rfl rfl (sword1 (i 0) 0) rfl inb_S5120x512_S128x128_2944_256 _ _ _ _ x, ?_⟩
      refine List.forall_mem_cons.2 ⟨fun x => deq_piece i 1 (by decide) arg3 harg3 arg4 harg4 x0 x1 x1 x2 rfl 22 1 (by decide) ![2816, 384] ![2816, 128] (k0_off143 i 1#32) rfl rfl rfl rfl (sword1 (i 0) 1) rfl inb_S5120x512_S128x128_2816_384 _ _ _ _ x, ?_⟩
      refine List.forall_mem_cons.2 ⟨fun x => deq_piece i 1 (by decide) arg3 harg3 arg4 harg4 x0 x1 x1 x2 rfl 22 0 (by decide) ![2816, 256] ![2816, 0] (k0_off143 i 0#32) rfl rfl rfl rfl (sword1 (i 0) 0) rfl inb_S5120x512_S128x128_2816_256 _ _ _ _ x, ?_⟩
      refine List.forall_mem_cons.2 ⟨fun x => deq_piece i 1 (by decide) arg3 harg3 arg4 harg4 x0 x1 x1 x2 rfl 21 1 (by decide) ![2688, 384] ![2688, 128] (k0_off142 i 1#32) rfl rfl rfl rfl (sword1 (i 0) 1) rfl inb_S5120x512_S128x128_2688_384 _ _ _ _ x, ?_⟩
      refine List.forall_mem_cons.2 ⟨fun x => deq_piece i 1 (by decide) arg3 harg3 arg4 harg4 x0 x1 x1 x2 rfl 21 0 (by decide) ![2688, 256] ![2688, 0] (k0_off142 i 0#32) rfl rfl rfl rfl (sword1 (i 0) 0) rfl inb_S5120x512_S128x128_2688_256 _ _ _ _ x, ?_⟩
      refine List.forall_mem_cons.2 ⟨fun x => deq_piece i 1 (by decide) arg3 harg3 arg4 harg4 x0 x1 x1 x2 rfl 20 1 (by decide) ![2560, 384] ![2560, 128] (k0_off141 i 1#32) rfl rfl rfl rfl (sword1 (i 0) 1) rfl inb_S5120x512_S128x128_2560_384 _ _ _ _ x, ?_⟩
      refine List.forall_mem_cons.2 ⟨fun x => deq_piece i 1 (by decide) arg3 harg3 arg4 harg4 x0 x1 x1 x2 rfl 20 0 (by decide) ![2560, 256] ![2560, 0] (k0_off141 i 0#32) rfl rfl rfl rfl (sword1 (i 0) 0) rfl inb_S5120x512_S128x128_2560_256 _ _ _ _ x, ?_⟩
      refine List.forall_mem_cons.2 ⟨fun x => deq_piece i 1 (by decide) arg3 harg3 arg4 harg4 x0 x1 x1 x2 rfl 19 1 (by decide) ![2432, 384] ![2432, 128] (k0_off140 i 1#32) rfl rfl rfl rfl (sword1 (i 0) 1) rfl inb_S5120x512_S128x128_2432_384 _ _ _ _ x, ?_⟩
      refine List.forall_mem_cons.2 ⟨fun x => deq_piece i 1 (by decide) arg3 harg3 arg4 harg4 x0 x1 x1 x2 rfl 19 0 (by decide) ![2432, 256] ![2432, 0] (k0_off140 i 0#32) rfl rfl rfl rfl (sword1 (i 0) 0) rfl inb_S5120x512_S128x128_2432_256 _ _ _ _ x, ?_⟩
      refine List.forall_mem_cons.2 ⟨fun x => deq_piece i 1 (by decide) arg3 harg3 arg4 harg4 x0 x1 x1 x2 rfl 18 1 (by decide) ![2304, 384] ![2304, 128] (k0_off139 i 1#32) rfl rfl rfl rfl (sword1 (i 0) 1) rfl inb_S5120x512_S128x128_2304_384 _ _ _ _ x, ?_⟩
      refine List.forall_mem_cons.2 ⟨fun x => deq_piece i 1 (by decide) arg3 harg3 arg4 harg4 x0 x1 x1 x2 rfl 18 0 (by decide) ![2304, 256] ![2304, 0] (k0_off139 i 0#32) rfl rfl rfl rfl (sword1 (i 0) 0) rfl inb_S5120x512_S128x128_2304_256 _ _ _ _ x, ?_⟩
      refine List.forall_mem_cons.2 ⟨fun x => deq_piece i 1 (by decide) arg3 harg3 arg4 harg4 x0 x1 x1 x2 rfl 17 1 (by decide) ![2176, 384] ![2176, 128] (k0_off138 i 1#32) rfl rfl rfl rfl (sword1 (i 0) 1) rfl inb_S5120x512_S128x128_2176_384 _ _ _ _ x, ?_⟩
      refine List.forall_mem_cons.2 ⟨fun x => deq_piece i 1 (by decide) arg3 harg3 arg4 harg4 x0 x1 x1 x2 rfl 17 0 (by decide) ![2176, 256] ![2176, 0] (k0_off138 i 0#32) rfl rfl rfl rfl (sword1 (i 0) 0) rfl inb_S5120x512_S128x128_2176_256 _ _ _ _ x, ?_⟩
      refine List.forall_mem_cons.2 ⟨fun x => deq_piece i 1 (by decide) arg3 harg3 arg4 harg4 x0 x1 x1 x2 rfl 16 1 (by decide) ![2048, 384] ![2048, 128] (k0_off137 i 1#32) rfl rfl rfl rfl (sword1 (i 0) 1) rfl inb_S5120x512_S128x128_2048_384 _ _ _ _ x, ?_⟩
      refine List.forall_mem_cons.2 ⟨fun x => deq_piece i 1 (by decide) arg3 harg3 arg4 harg4 x0 x1 x1 x2 rfl 16 0 (by decide) ![2048, 256] ![2048, 0] (k0_off137 i 0#32) rfl rfl rfl rfl (sword1 (i 0) 0) rfl inb_S5120x512_S128x128_2048_256 _ _ _ _ x, ?_⟩
      refine List.forall_mem_cons.2 ⟨fun x => deq_piece i 1 (by decide) arg3 harg3 arg4 harg4 x0 x1 x1 x2 rfl 15 1 (by decide) ![1920, 384] ![1920, 128] (k0_off136 i 1#32) rfl rfl rfl rfl (sword1 (i 0) 1) rfl inb_S5120x512_S128x128_1920_384 _ _ _ _ x, ?_⟩
      refine List.forall_mem_cons.2 ⟨fun x => deq_piece i 1 (by decide) arg3 harg3 arg4 harg4 x0 x1 x1 x2 rfl 15 0 (by decide) ![1920, 256] ![1920, 0] (k0_off136 i 0#32) rfl rfl rfl rfl (sword1 (i 0) 0) rfl inb_S5120x512_S128x128_1920_256 _ _ _ _ x, ?_⟩
      refine List.forall_mem_cons.2 ⟨fun x => deq_piece i 1 (by decide) arg3 harg3 arg4 harg4 x0 x1 x1 x2 rfl 14 1 (by decide) ![1792, 384] ![1792, 128] (k0_off135 i 1#32) rfl rfl rfl rfl (sword1 (i 0) 1) rfl inb_S5120x512_S128x128_1792_384 _ _ _ _ x, ?_⟩
      refine List.forall_mem_cons.2 ⟨fun x => deq_piece i 1 (by decide) arg3 harg3 arg4 harg4 x0 x1 x1 x2 rfl 14 0 (by decide) ![1792, 256] ![1792, 0] (k0_off135 i 0#32) rfl rfl rfl rfl (sword1 (i 0) 0) rfl inb_S5120x512_S128x128_1792_256 _ _ _ _ x, ?_⟩
      refine List.forall_mem_cons.2 ⟨fun x => deq_piece i 1 (by decide) arg3 harg3 arg4 harg4 x0 x1 x1 x2 rfl 13 1 (by decide) ![1664, 384] ![1664, 128] (k0_off134 i 1#32) rfl rfl rfl rfl (sword1 (i 0) 1) rfl inb_S5120x512_S128x128_1664_384 _ _ _ _ x, ?_⟩
      refine List.forall_mem_cons.2 ⟨fun x => deq_piece i 1 (by decide) arg3 harg3 arg4 harg4 x0 x1 x1 x2 rfl 13 0 (by decide) ![1664, 256] ![1664, 0] (k0_off134 i 0#32) rfl rfl rfl rfl (sword1 (i 0) 0) rfl inb_S5120x512_S128x128_1664_256 _ _ _ _ x, ?_⟩
      refine List.forall_mem_cons.2 ⟨fun x => deq_piece i 1 (by decide) arg3 harg3 arg4 harg4 x0 x1 x1 x2 rfl 12 1 (by decide) ![1536, 384] ![1536, 128] (k0_off133 i 1#32) rfl rfl rfl rfl (sword1 (i 0) 1) rfl inb_S5120x512_S128x128_1536_384 _ _ _ _ x, ?_⟩
      refine List.forall_mem_cons.2 ⟨fun x => deq_piece i 1 (by decide) arg3 harg3 arg4 harg4 x0 x1 x1 x2 rfl 12 0 (by decide) ![1536, 256] ![1536, 0] (k0_off133 i 0#32) rfl rfl rfl rfl (sword1 (i 0) 0) rfl inb_S5120x512_S128x128_1536_256 _ _ _ _ x, ?_⟩
      refine List.forall_mem_cons.2 ⟨fun x => deq_piece i 1 (by decide) arg3 harg3 arg4 harg4 x0 x1 x1 x2 rfl 11 1 (by decide) ![1408, 384] ![1408, 128] (k0_off132 i 1#32) rfl rfl rfl rfl (sword1 (i 0) 1) rfl inb_S5120x512_S128x128_1408_384 _ _ _ _ x, ?_⟩
      refine List.forall_mem_cons.2 ⟨fun x => deq_piece i 1 (by decide) arg3 harg3 arg4 harg4 x0 x1 x1 x2 rfl 11 0 (by decide) ![1408, 256] ![1408, 0] (k0_off132 i 0#32) rfl rfl rfl rfl (sword1 (i 0) 0) rfl inb_S5120x512_S128x128_1408_256 _ _ _ _ x, ?_⟩
      refine List.forall_mem_cons.2 ⟨fun x => deq_piece i 1 (by decide) arg3 harg3 arg4 harg4 x0 x1 x1 x2 rfl 10 1 (by decide) ![1280, 384] ![1280, 128] (k0_off131 i 1#32) rfl rfl rfl rfl (sword1 (i 0) 1) rfl inb_S5120x512_S128x128_1280_384 _ _ _ _ x, ?_⟩
      refine List.forall_mem_cons.2 ⟨fun x => deq_piece i 1 (by decide) arg3 harg3 arg4 harg4 x0 x1 x1 x2 rfl 10 0 (by decide) ![1280, 256] ![1280, 0] (k0_off131 i 0#32) rfl rfl rfl rfl (sword1 (i 0) 0) rfl inb_S5120x512_S128x128_1280_256 _ _ _ _ x, ?_⟩
      refine List.forall_mem_cons.2 ⟨fun x => deq_piece i 1 (by decide) arg3 harg3 arg4 harg4 x0 x1 x1 x2 rfl 9 1 (by decide) ![1152, 384] ![1152, 128] (k0_off130 i 1#32) rfl rfl rfl rfl (sword1 (i 0) 1) rfl inb_S5120x512_S128x128_1152_384 _ _ _ _ x, ?_⟩
      refine List.forall_mem_cons.2 ⟨fun x => deq_piece i 1 (by decide) arg3 harg3 arg4 harg4 x0 x1 x1 x2 rfl 9 0 (by decide) ![1152, 256] ![1152, 0] (k0_off130 i 0#32) rfl rfl rfl rfl (sword1 (i 0) 0) rfl inb_S5120x512_S128x128_1152_256 _ _ _ _ x, ?_⟩
      refine List.forall_mem_cons.2 ⟨fun x => deq_piece i 1 (by decide) arg3 harg3 arg4 harg4 x0 x1 x1 x2 rfl 8 1 (by decide) ![1024, 384] ![1024, 128] (k0_off129 i 1#32) rfl rfl rfl rfl (sword1 (i 0) 1) rfl inb_S5120x512_S128x128_1024_384 _ _ _ _ x, ?_⟩
      refine List.forall_mem_cons.2 ⟨fun x => deq_piece i 1 (by decide) arg3 harg3 arg4 harg4 x0 x1 x1 x2 rfl 8 0 (by decide) ![1024, 256] ![1024, 0] (k0_off129 i 0#32) rfl rfl rfl rfl (sword1 (i 0) 0) rfl inb_S5120x512_S128x128_1024_256 _ _ _ _ x, ?_⟩
      refine List.forall_mem_cons.2 ⟨fun x => deq_piece i 1 (by decide) arg3 harg3 arg4 harg4 x0 x1 x1 x2 rfl 7 1 (by decide) ![896, 384] ![896, 128] (k0_off128 i 1#32) rfl rfl rfl rfl (sword1 (i 0) 1) rfl inb_S5120x512_S128x128_896_384 _ _ _ _ x, ?_⟩
      refine List.forall_mem_cons.2 ⟨fun x => deq_piece i 1 (by decide) arg3 harg3 arg4 harg4 x0 x1 x1 x2 rfl 7 0 (by decide) ![896, 256] ![896, 0] (k0_off128 i 0#32) rfl rfl rfl rfl (sword1 (i 0) 0) rfl inb_S5120x512_S128x128_896_256 _ _ _ _ x, ?_⟩
      refine List.forall_mem_cons.2 ⟨fun x => deq_piece i 1 (by decide) arg3 harg3 arg4 harg4 x0 x1 x1 x2 rfl 6 1 (by decide) ![768, 384] ![768, 128] (k0_off127 i 1#32) rfl rfl rfl rfl (sword1 (i 0) 1) rfl inb_S5120x512_S128x128_768_384 _ _ _ _ x, ?_⟩
      refine List.forall_mem_cons.2 ⟨fun x => deq_piece i 1 (by decide) arg3 harg3 arg4 harg4 x0 x1 x1 x2 rfl 6 0 (by decide) ![768, 256] ![768, 0] (k0_off127 i 0#32) rfl rfl rfl rfl (sword1 (i 0) 0) rfl inb_S5120x512_S128x128_768_256 _ _ _ _ x, ?_⟩
      refine List.forall_mem_cons.2 ⟨fun x => deq_piece i 1 (by decide) arg3 harg3 arg4 harg4 x0 x1 x1 x2 rfl 5 1 (by decide) ![640, 384] ![640, 128] (k0_off126 i 1#32) rfl rfl rfl rfl (sword1 (i 0) 1) rfl inb_S5120x512_S128x128_640_384 _ _ _ _ x, ?_⟩
      refine List.forall_mem_cons.2 ⟨fun x => deq_piece i 1 (by decide) arg3 harg3 arg4 harg4 x0 x1 x1 x2 rfl 5 0 (by decide) ![640, 256] ![640, 0] (k0_off126 i 0#32) rfl rfl rfl rfl (sword1 (i 0) 0) rfl inb_S5120x512_S128x128_640_256 _ _ _ _ x, ?_⟩
      refine List.forall_mem_cons.2 ⟨fun x => deq_piece i 1 (by decide) arg3 harg3 arg4 harg4 x0 x1 x1 x2 rfl 4 1 (by decide) ![512, 384] ![512, 128] (k0_off125 i 1#32) rfl rfl rfl rfl (sword1 (i 0) 1) rfl inb_S5120x512_S128x128_512_384 _ _ _ _ x, ?_⟩
      refine List.forall_mem_cons.2 ⟨fun x => deq_piece i 1 (by decide) arg3 harg3 arg4 harg4 x0 x1 x1 x2 rfl 4 0 (by decide) ![512, 256] ![512, 0] (k0_off125 i 0#32) rfl rfl rfl rfl (sword1 (i 0) 0) rfl inb_S5120x512_S128x128_512_256 _ _ _ _ x, ?_⟩
      refine List.forall_mem_cons.2 ⟨fun x => deq_piece i 1 (by decide) arg3 harg3 arg4 harg4 x0 x1 x1 x2 rfl 3 1 (by decide) ![384, 384] ![384, 128] (k0_off124 i 1#32) rfl rfl rfl rfl (sword1 (i 0) 1) rfl inb_S5120x512_S128x128_384_384 _ _ _ _ x, ?_⟩
      refine List.forall_mem_cons.2 ⟨fun x => deq_piece i 1 (by decide) arg3 harg3 arg4 harg4 x0 x1 x1 x2 rfl 3 0 (by decide) ![384, 256] ![384, 0] (k0_off124 i 0#32) rfl rfl rfl rfl (sword1 (i 0) 0) rfl inb_S5120x512_S128x128_384_256 _ _ _ _ x, ?_⟩
      refine List.forall_mem_cons.2 ⟨fun x => deq_piece i 1 (by decide) arg3 harg3 arg4 harg4 x0 x1 x1 x2 rfl 2 1 (by decide) ![256, 384] ![256, 128] (k0_off123 i 1#32) rfl rfl rfl rfl (sword1 (i 0) 1) rfl inb_S5120x512_S128x128_256_384 _ _ _ _ x, ?_⟩
      refine List.forall_mem_cons.2 ⟨fun x => deq_piece i 1 (by decide) arg3 harg3 arg4 harg4 x0 x1 x1 x2 rfl 2 0 (by decide) ![256, 256] ![256, 0] (k0_off123 i 0#32) rfl rfl rfl rfl (sword1 (i 0) 0) rfl inb_S5120x512_S128x128_256_256 _ _ _ _ x, ?_⟩
      refine List.forall_mem_cons.2 ⟨fun x => deq_piece i 1 (by decide) arg3 harg3 arg4 harg4 x0 x1 x1 x2 rfl 1 1 (by decide) ![128, 384] ![128, 128] (k0_off122 i 1#32) rfl rfl rfl rfl (sword1 (i 0) 1) rfl inb_S5120x512_S128x128_128_384 _ _ _ _ x, ?_⟩
      refine List.forall_mem_cons.2 ⟨fun x => deq_piece i 1 (by decide) arg3 harg3 arg4 harg4 x0 x1 x1 x2 rfl 1 0 (by decide) ![128, 256] ![128, 0] (k0_off122 i 0#32) rfl rfl rfl rfl (sword1 (i 0) 0) rfl inb_S5120x512_S128x128_128_256 _ _ _ _ x, ?_⟩
      refine List.forall_mem_cons.2 ⟨fun x => deq_piece i 1 (by decide) arg3 harg3 arg4 harg4 x0 x1 x1 x2 rfl 0 1 (by decide) ![0, 384] ![0, 128] (k0_off121 i 1#32) rfl rfl rfl rfl (sword1 (i 0) 1) rfl inb_S5120x512_S128x128_0_384 _ _ _ _ x, ?_⟩
      refine List.forall_mem_cons.2 ⟨fun x => deq_piece i 1 (by decide) arg3 harg3 arg4 harg4 x0 x1 x1 x2 rfl 0 0 (by decide) ![0, 256] ![0, 0] (k0_off121 i 0#32) rfl rfl rfl rfl (sword1 (i 0) 0) rfl inb_S5120x512_S128x128_0_256 _ _ _ _ x, ?_⟩
      refine List.forall_mem_cons.2 ⟨fun x => deq_piece i 0 (by decide) arg2 harg2 arg4 harg4 x0 x1 x0 x2 rfl 39 1 (by decide) ![4992, 128] ![4992, 128] (k0_off120 i 1#32) rfl rfl rfl rfl (sword0 (i 0) 1) rfl inb_S5120x512_S128x128_4992_128 _ _ _ _ x, ?_⟩
      refine List.forall_mem_cons.2 ⟨fun x => deq_piece i 0 (by decide) arg2 harg2 arg4 harg4 x0 x1 x0 x2 rfl 39 0 (by decide) ![4992, 0] ![4992, 0] (k0_off120 i 0#32) rfl rfl rfl rfl (sword0 (i 0) 0) rfl inb_S5120x512_S128x128_4992_0 _ _ _ _ x, ?_⟩
      refine List.forall_mem_cons.2 ⟨fun x => deq_piece i 0 (by decide) arg2 harg2 arg4 harg4 x0 x1 x0 x2 rfl 38 1 (by decide) ![4864, 128] ![4864, 128] (k0_off119 i 1#32) rfl rfl rfl rfl (sword0 (i 0) 1) rfl inb_S5120x512_S128x128_4864_128 _ _ _ _ x, ?_⟩
      refine List.forall_mem_cons.2 ⟨fun x => deq_piece i 0 (by decide) arg2 harg2 arg4 harg4 x0 x1 x0 x2 rfl 38 0 (by decide) ![4864, 0] ![4864, 0] (k0_off119 i 0#32) rfl rfl rfl rfl (sword0 (i 0) 0) rfl inb_S5120x512_S128x128_4864_0 _ _ _ _ x, ?_⟩
      refine List.forall_mem_cons.2 ⟨fun x => deq_piece i 0 (by decide) arg2 harg2 arg4 harg4 x0 x1 x0 x2 rfl 37 1 (by decide) ![4736, 128] ![4736, 128] (k0_off118 i 1#32) rfl rfl rfl rfl (sword0 (i 0) 1) rfl inb_S5120x512_S128x128_4736_128 _ _ _ _ x, ?_⟩
      refine List.forall_mem_cons.2 ⟨fun x => deq_piece i 0 (by decide) arg2 harg2 arg4 harg4 x0 x1 x0 x2 rfl 37 0 (by decide) ![4736, 0] ![4736, 0] (k0_off118 i 0#32) rfl rfl rfl rfl (sword0 (i 0) 0) rfl inb_S5120x512_S128x128_4736_0 _ _ _ _ x, ?_⟩
      refine List.forall_mem_cons.2 ⟨fun x => deq_piece i 0 (by decide) arg2 harg2 arg4 harg4 x0 x1 x0 x2 rfl 36 1 (by decide) ![4608, 128] ![4608, 128] (k0_off117 i 1#32) rfl rfl rfl rfl (sword0 (i 0) 1) rfl inb_S5120x512_S128x128_4608_128 _ _ _ _ x, ?_⟩
      refine List.forall_mem_cons.2 ⟨fun x => deq_piece i 0 (by decide) arg2 harg2 arg4 harg4 x0 x1 x0 x2 rfl 36 0 (by decide) ![4608, 0] ![4608, 0] (k0_off117 i 0#32) rfl rfl rfl rfl (sword0 (i 0) 0) rfl inb_S5120x512_S128x128_4608_0 _ _ _ _ x, ?_⟩
      refine List.forall_mem_cons.2 ⟨fun x => deq_piece i 0 (by decide) arg2 harg2 arg4 harg4 x0 x1 x0 x2 rfl 35 1 (by decide) ![4480, 128] ![4480, 128] (k0_off116 i 1#32) rfl rfl rfl rfl (sword0 (i 0) 1) rfl inb_S5120x512_S128x128_4480_128 _ _ _ _ x, ?_⟩
      refine List.forall_mem_cons.2 ⟨fun x => deq_piece i 0 (by decide) arg2 harg2 arg4 harg4 x0 x1 x0 x2 rfl 35 0 (by decide) ![4480, 0] ![4480, 0] (k0_off116 i 0#32) rfl rfl rfl rfl (sword0 (i 0) 0) rfl inb_S5120x512_S128x128_4480_0 _ _ _ _ x, ?_⟩
      refine List.forall_mem_cons.2 ⟨fun x => deq_piece i 0 (by decide) arg2 harg2 arg4 harg4 x0 x1 x0 x2 rfl 34 1 (by decide) ![4352, 128] ![4352, 128] (k0_off115 i 1#32) rfl rfl rfl rfl (sword0 (i 0) 1) rfl inb_S5120x512_S128x128_4352_128 _ _ _ _ x, ?_⟩
      refine List.forall_mem_cons.2 ⟨fun x => deq_piece i 0 (by decide) arg2 harg2 arg4 harg4 x0 x1 x0 x2 rfl 34 0 (by decide) ![4352, 0] ![4352, 0] (k0_off115 i 0#32) rfl rfl rfl rfl (sword0 (i 0) 0) rfl inb_S5120x512_S128x128_4352_0 _ _ _ _ x, ?_⟩
      refine List.forall_mem_cons.2 ⟨fun x => deq_piece i 0 (by decide) arg2 harg2 arg4 harg4 x0 x1 x0 x2 rfl 33 1 (by decide) ![4224, 128] ![4224, 128] (k0_off114 i 1#32) rfl rfl rfl rfl (sword0 (i 0) 1) rfl inb_S5120x512_S128x128_4224_128 _ _ _ _ x, ?_⟩
      refine List.forall_mem_cons.2 ⟨fun x => deq_piece i 0 (by decide) arg2 harg2 arg4 harg4 x0 x1 x0 x2 rfl 33 0 (by decide) ![4224, 0] ![4224, 0] (k0_off114 i 0#32) rfl rfl rfl rfl (sword0 (i 0) 0) rfl inb_S5120x512_S128x128_4224_0 _ _ _ _ x, ?_⟩
      refine List.forall_mem_cons.2 ⟨fun x => deq_piece i 0 (by decide) arg2 harg2 arg4 harg4 x0 x1 x0 x2 rfl 32 1 (by decide) ![4096, 128] ![4096, 128] (k0_off113 i 1#32) rfl rfl rfl rfl (sword0 (i 0) 1) rfl inb_S5120x512_S128x128_4096_128 _ _ _ _ x, ?_⟩
      refine List.forall_mem_cons.2 ⟨fun x => deq_piece i 0 (by decide) arg2 harg2 arg4 harg4 x0 x1 x0 x2 rfl 32 0 (by decide) ![4096, 0] ![4096, 0] (k0_off113 i 0#32) rfl rfl rfl rfl (sword0 (i 0) 0) rfl inb_S5120x512_S128x128_4096_0 _ _ _ _ x, ?_⟩
      refine List.forall_mem_cons.2 ⟨fun x => deq_piece i 0 (by decide) arg2 harg2 arg4 harg4 x0 x1 x0 x2 rfl 31 1 (by decide) ![3968, 128] ![3968, 128] (k0_off112 i 1#32) rfl rfl rfl rfl (sword0 (i 0) 1) rfl inb_S5120x512_S128x128_3968_128 _ _ _ _ x, ?_⟩
      refine List.forall_mem_cons.2 ⟨fun x => deq_piece i 0 (by decide) arg2 harg2 arg4 harg4 x0 x1 x0 x2 rfl 31 0 (by decide) ![3968, 0] ![3968, 0] (k0_off112 i 0#32) rfl rfl rfl rfl (sword0 (i 0) 0) rfl inb_S5120x512_S128x128_3968_0 _ _ _ _ x, ?_⟩
      refine List.forall_mem_cons.2 ⟨fun x => deq_piece i 0 (by decide) arg2 harg2 arg4 harg4 x0 x1 x0 x2 rfl 30 1 (by decide) ![3840, 128] ![3840, 128] (k0_off111 i 1#32) rfl rfl rfl rfl (sword0 (i 0) 1) rfl inb_S5120x512_S128x128_3840_128 _ _ _ _ x, ?_⟩
      refine List.forall_mem_cons.2 ⟨fun x => deq_piece i 0 (by decide) arg2 harg2 arg4 harg4 x0 x1 x0 x2 rfl 30 0 (by decide) ![3840, 0] ![3840, 0] (k0_off111 i 0#32) rfl rfl rfl rfl (sword0 (i 0) 0) rfl inb_S5120x512_S128x128_3840_0 _ _ _ _ x, ?_⟩
      refine List.forall_mem_cons.2 ⟨fun x => deq_piece i 0 (by decide) arg2 harg2 arg4 harg4 x0 x1 x0 x2 rfl 29 1 (by decide) ![3712, 128] ![3712, 128] (k0_off110 i 1#32) rfl rfl rfl rfl (sword0 (i 0) 1) rfl inb_S5120x512_S128x128_3712_128 _ _ _ _ x, ?_⟩
      refine List.forall_mem_cons.2 ⟨fun x => deq_piece i 0 (by decide) arg2 harg2 arg4 harg4 x0 x1 x0 x2 rfl 29 0 (by decide) ![3712, 0] ![3712, 0] (k0_off110 i 0#32) rfl rfl rfl rfl (sword0 (i 0) 0) rfl inb_S5120x512_S128x128_3712_0 _ _ _ _ x, ?_⟩
      refine List.forall_mem_cons.2 ⟨fun x => deq_piece i 0 (by decide) arg2 harg2 arg4 harg4 x0 x1 x0 x2 rfl 28 1 (by decide) ![3584, 128] ![3584, 128] (k0_off109 i 1#32) rfl rfl rfl rfl (sword0 (i 0) 1) rfl inb_S5120x512_S128x128_3584_128 _ _ _ _ x, ?_⟩
      refine List.forall_mem_cons.2 ⟨fun x => deq_piece i 0 (by decide) arg2 harg2 arg4 harg4 x0 x1 x0 x2 rfl 28 0 (by decide) ![3584, 0] ![3584, 0] (k0_off109 i 0#32) rfl rfl rfl rfl (sword0 (i 0) 0) rfl inb_S5120x512_S128x128_3584_0 _ _ _ _ x, ?_⟩
      refine List.forall_mem_cons.2 ⟨fun x => deq_piece i 0 (by decide) arg2 harg2 arg4 harg4 x0 x1 x0 x2 rfl 27 1 (by decide) ![3456, 128] ![3456, 128] (k0_off108 i 1#32) rfl rfl rfl rfl (sword0 (i 0) 1) rfl inb_S5120x512_S128x128_3456_128 _ _ _ _ x, ?_⟩
      refine List.forall_mem_cons.2 ⟨fun x => deq_piece i 0 (by decide) arg2 harg2 arg4 harg4 x0 x1 x0 x2 rfl 27 0 (by decide) ![3456, 0] ![3456, 0] (k0_off108 i 0#32) rfl rfl rfl rfl (sword0 (i 0) 0) rfl inb_S5120x512_S128x128_3456_0 _ _ _ _ x, ?_⟩
      refine List.forall_mem_cons.2 ⟨fun x => deq_piece i 0 (by decide) arg2 harg2 arg4 harg4 x0 x1 x0 x2 rfl 26 1 (by decide) ![3328, 128] ![3328, 128] (k0_off107 i 1#32) rfl rfl rfl rfl (sword0 (i 0) 1) rfl inb_S5120x512_S128x128_3328_128 _ _ _ _ x, ?_⟩
      refine List.forall_mem_cons.2 ⟨fun x => deq_piece i 0 (by decide) arg2 harg2 arg4 harg4 x0 x1 x0 x2 rfl 26 0 (by decide) ![3328, 0] ![3328, 0] (k0_off107 i 0#32) rfl rfl rfl rfl (sword0 (i 0) 0) rfl inb_S5120x512_S128x128_3328_0 _ _ _ _ x, ?_⟩
      refine List.forall_mem_cons.2 ⟨fun x => deq_piece i 0 (by decide) arg2 harg2 arg4 harg4 x0 x1 x0 x2 rfl 25 1 (by decide) ![3200, 128] ![3200, 128] (k0_off106 i 1#32) rfl rfl rfl rfl (sword0 (i 0) 1) rfl inb_S5120x512_S128x128_3200_128 _ _ _ _ x, ?_⟩
      refine List.forall_mem_cons.2 ⟨fun x => deq_piece i 0 (by decide) arg2 harg2 arg4 harg4 x0 x1 x0 x2 rfl 25 0 (by decide) ![3200, 0] ![3200, 0] (k0_off106 i 0#32) rfl rfl rfl rfl (sword0 (i 0) 0) rfl inb_S5120x512_S128x128_3200_0 _ _ _ _ x, ?_⟩
      refine List.forall_mem_cons.2 ⟨fun x => deq_piece i 0 (by decide) arg2 harg2 arg4 harg4 x0 x1 x0 x2 rfl 24 1 (by decide) ![3072, 128] ![3072, 128] (k0_off105 i 1#32) rfl rfl rfl rfl (sword0 (i 0) 1) rfl inb_S5120x512_S128x128_3072_128 _ _ _ _ x, ?_⟩
      refine List.forall_mem_cons.2 ⟨fun x => deq_piece i 0 (by decide) arg2 harg2 arg4 harg4 x0 x1 x0 x2 rfl 24 0 (by decide) ![3072, 0] ![3072, 0] (k0_off105 i 0#32) rfl rfl rfl rfl (sword0 (i 0) 0) rfl inb_S5120x512_S128x128_3072_0 _ _ _ _ x, ?_⟩
      refine List.forall_mem_cons.2 ⟨fun x => deq_piece i 0 (by decide) arg2 harg2 arg4 harg4 x0 x1 x0 x2 rfl 23 1 (by decide) ![2944, 128] ![2944, 128] (k0_off104 i 1#32) rfl rfl rfl rfl (sword0 (i 0) 1) rfl inb_S5120x512_S128x128_2944_128 _ _ _ _ x, ?_⟩
      refine List.forall_mem_cons.2 ⟨fun x => deq_piece i 0 (by decide) arg2 harg2 arg4 harg4 x0 x1 x0 x2 rfl 23 0 (by decide) ![2944, 0] ![2944, 0] (k0_off104 i 0#32) rfl rfl rfl rfl (sword0 (i 0) 0) rfl inb_S5120x512_S128x128_2944_0 _ _ _ _ x, ?_⟩
      refine List.forall_mem_cons.2 ⟨fun x => deq_piece i 0 (by decide) arg2 harg2 arg4 harg4 x0 x1 x0 x2 rfl 22 1 (by decide) ![2816, 128] ![2816, 128] (k0_off103 i 1#32) rfl rfl rfl rfl (sword0 (i 0) 1) rfl inb_S5120x512_S128x128_2816_128 _ _ _ _ x, ?_⟩
      refine List.forall_mem_cons.2 ⟨fun x => deq_piece i 0 (by decide) arg2 harg2 arg4 harg4 x0 x1 x0 x2 rfl 22 0 (by decide) ![2816, 0] ![2816, 0] (k0_off103 i 0#32) rfl rfl rfl rfl (sword0 (i 0) 0) rfl inb_S5120x512_S128x128_2816_0 _ _ _ _ x, ?_⟩
      refine List.forall_mem_cons.2 ⟨fun x => deq_piece i 0 (by decide) arg2 harg2 arg4 harg4 x0 x1 x0 x2 rfl 21 1 (by decide) ![2688, 128] ![2688, 128] (k0_off102 i 1#32) rfl rfl rfl rfl (sword0 (i 0) 1) rfl inb_S5120x512_S128x128_2688_128 _ _ _ _ x, ?_⟩
      refine List.forall_mem_cons.2 ⟨fun x => deq_piece i 0 (by decide) arg2 harg2 arg4 harg4 x0 x1 x0 x2 rfl 21 0 (by decide) ![2688, 0] ![2688, 0] (k0_off102 i 0#32) rfl rfl rfl rfl (sword0 (i 0) 0) rfl inb_S5120x512_S128x128_2688_0 _ _ _ _ x, ?_⟩
      refine List.forall_mem_cons.2 ⟨fun x => deq_piece i 0 (by decide) arg2 harg2 arg4 harg4 x0 x1 x0 x2 rfl 20 1 (by decide) ![2560, 128] ![2560, 128] (k0_off101 i 1#32) rfl rfl rfl rfl (sword0 (i 0) 1) rfl inb_S5120x512_S128x128_2560_128 _ _ _ _ x, ?_⟩
      refine List.forall_mem_cons.2 ⟨fun x => deq_piece i 0 (by decide) arg2 harg2 arg4 harg4 x0 x1 x0 x2 rfl 20 0 (by decide) ![2560, 0] ![2560, 0] (k0_off101 i 0#32) rfl rfl rfl rfl (sword0 (i 0) 0) rfl inb_S5120x512_S128x128_2560_0 _ _ _ _ x, ?_⟩
      refine List.forall_mem_cons.2 ⟨fun x => deq_piece i 0 (by decide) arg2 harg2 arg4 harg4 x0 x1 x0 x2 rfl 19 1 (by decide) ![2432, 128] ![2432, 128] (k0_off100 i 1#32) rfl rfl rfl rfl (sword0 (i 0) 1) rfl inb_S5120x512_S128x128_2432_128 _ _ _ _ x, ?_⟩
      refine List.forall_mem_cons.2 ⟨fun x => deq_piece i 0 (by decide) arg2 harg2 arg4 harg4 x0 x1 x0 x2 rfl 19 0 (by decide) ![2432, 0] ![2432, 0] (k0_off100 i 0#32) rfl rfl rfl rfl (sword0 (i 0) 0) rfl inb_S5120x512_S128x128_2432_0 _ _ _ _ x, ?_⟩
      refine List.forall_mem_cons.2 ⟨fun x => deq_piece i 0 (by decide) arg2 harg2 arg4 harg4 x0 x1 x0 x2 rfl 18 1 (by decide) ![2304, 128] ![2304, 128] (k0_off99 i 1#32) rfl rfl rfl rfl (sword0 (i 0) 1) rfl inb_S5120x512_S128x128_2304_128 _ _ _ _ x, ?_⟩
      refine List.forall_mem_cons.2 ⟨fun x => deq_piece i 0 (by decide) arg2 harg2 arg4 harg4 x0 x1 x0 x2 rfl 18 0 (by decide) ![2304, 0] ![2304, 0] (k0_off99 i 0#32) rfl rfl rfl rfl (sword0 (i 0) 0) rfl inb_S5120x512_S128x128_2304_0 _ _ _ _ x, ?_⟩
      refine List.forall_mem_cons.2 ⟨fun x => deq_piece i 0 (by decide) arg2 harg2 arg4 harg4 x0 x1 x0 x2 rfl 17 1 (by decide) ![2176, 128] ![2176, 128] (k0_off98 i 1#32) rfl rfl rfl rfl (sword0 (i 0) 1) rfl inb_S5120x512_S128x128_2176_128 _ _ _ _ x, ?_⟩
      refine List.forall_mem_cons.2 ⟨fun x => deq_piece i 0 (by decide) arg2 harg2 arg4 harg4 x0 x1 x0 x2 rfl 17 0 (by decide) ![2176, 0] ![2176, 0] (k0_off98 i 0#32) rfl rfl rfl rfl (sword0 (i 0) 0) rfl inb_S5120x512_S128x128_2176_0 _ _ _ _ x, ?_⟩
      refine List.forall_mem_cons.2 ⟨fun x => deq_piece i 0 (by decide) arg2 harg2 arg4 harg4 x0 x1 x0 x2 rfl 16 1 (by decide) ![2048, 128] ![2048, 128] (k0_off97 i 1#32) rfl rfl rfl rfl (sword0 (i 0) 1) rfl inb_S5120x512_S128x128_2048_128 _ _ _ _ x, ?_⟩
      refine List.forall_mem_cons.2 ⟨fun x => deq_piece i 0 (by decide) arg2 harg2 arg4 harg4 x0 x1 x0 x2 rfl 16 0 (by decide) ![2048, 0] ![2048, 0] (k0_off97 i 0#32) rfl rfl rfl rfl (sword0 (i 0) 0) rfl inb_S5120x512_S128x128_2048_0 _ _ _ _ x, ?_⟩
      refine List.forall_mem_cons.2 ⟨fun x => deq_piece i 0 (by decide) arg2 harg2 arg4 harg4 x0 x1 x0 x2 rfl 15 1 (by decide) ![1920, 128] ![1920, 128] (k0_off96 i 1#32) rfl rfl rfl rfl (sword0 (i 0) 1) rfl inb_S5120x512_S128x128_1920_128 _ _ _ _ x, ?_⟩
      refine List.forall_mem_cons.2 ⟨fun x => deq_piece i 0 (by decide) arg2 harg2 arg4 harg4 x0 x1 x0 x2 rfl 15 0 (by decide) ![1920, 0] ![1920, 0] (k0_off96 i 0#32) rfl rfl rfl rfl (sword0 (i 0) 0) rfl inb_S5120x512_S128x128_1920_0 _ _ _ _ x, ?_⟩
      refine List.forall_mem_cons.2 ⟨fun x => deq_piece i 0 (by decide) arg2 harg2 arg4 harg4 x0 x1 x0 x2 rfl 14 1 (by decide) ![1792, 128] ![1792, 128] (k0_off95 i 1#32) rfl rfl rfl rfl (sword0 (i 0) 1) rfl inb_S5120x512_S128x128_1792_128 _ _ _ _ x, ?_⟩
      refine List.forall_mem_cons.2 ⟨fun x => deq_piece i 0 (by decide) arg2 harg2 arg4 harg4 x0 x1 x0 x2 rfl 14 0 (by decide) ![1792, 0] ![1792, 0] (k0_off95 i 0#32) rfl rfl rfl rfl (sword0 (i 0) 0) rfl inb_S5120x512_S128x128_1792_0 _ _ _ _ x, ?_⟩
      refine List.forall_mem_cons.2 ⟨fun x => deq_piece i 0 (by decide) arg2 harg2 arg4 harg4 x0 x1 x0 x2 rfl 13 1 (by decide) ![1664, 128] ![1664, 128] (k0_off94 i 1#32) rfl rfl rfl rfl (sword0 (i 0) 1) rfl inb_S5120x512_S128x128_1664_128 _ _ _ _ x, ?_⟩
      refine List.forall_mem_cons.2 ⟨fun x => deq_piece i 0 (by decide) arg2 harg2 arg4 harg4 x0 x1 x0 x2 rfl 13 0 (by decide) ![1664, 0] ![1664, 0] (k0_off94 i 0#32) rfl rfl rfl rfl (sword0 (i 0) 0) rfl inb_S5120x512_S128x128_1664_0 _ _ _ _ x, ?_⟩
      refine List.forall_mem_cons.2 ⟨fun x => deq_piece i 0 (by decide) arg2 harg2 arg4 harg4 x0 x1 x0 x2 rfl 12 1 (by decide) ![1536, 128] ![1536, 128] (k0_off93 i 1#32) rfl rfl rfl rfl (sword0 (i 0) 1) rfl inb_S5120x512_S128x128_1536_128 _ _ _ _ x, ?_⟩
      refine List.forall_mem_cons.2 ⟨fun x => deq_piece i 0 (by decide) arg2 harg2 arg4 harg4 x0 x1 x0 x2 rfl 12 0 (by decide) ![1536, 0] ![1536, 0] (k0_off93 i 0#32) rfl rfl rfl rfl (sword0 (i 0) 0) rfl inb_S5120x512_S128x128_1536_0 _ _ _ _ x, ?_⟩
      refine List.forall_mem_cons.2 ⟨fun x => deq_piece i 0 (by decide) arg2 harg2 arg4 harg4 x0 x1 x0 x2 rfl 11 1 (by decide) ![1408, 128] ![1408, 128] (k0_off92 i 1#32) rfl rfl rfl rfl (sword0 (i 0) 1) rfl inb_S5120x512_S128x128_1408_128 _ _ _ _ x, ?_⟩
      refine List.forall_mem_cons.2 ⟨fun x => deq_piece i 0 (by decide) arg2 harg2 arg4 harg4 x0 x1 x0 x2 rfl 11 0 (by decide) ![1408, 0] ![1408, 0] (k0_off92 i 0#32) rfl rfl rfl rfl (sword0 (i 0) 0) rfl inb_S5120x512_S128x128_1408_0 _ _ _ _ x, ?_⟩
      refine List.forall_mem_cons.2 ⟨fun x => deq_piece i 0 (by decide) arg2 harg2 arg4 harg4 x0 x1 x0 x2 rfl 10 1 (by decide) ![1280, 128] ![1280, 128] (k0_off91 i 1#32) rfl rfl rfl rfl (sword0 (i 0) 1) rfl inb_S5120x512_S128x128_1280_128 _ _ _ _ x, ?_⟩
      refine List.forall_mem_cons.2 ⟨fun x => deq_piece i 0 (by decide) arg2 harg2 arg4 harg4 x0 x1 x0 x2 rfl 10 0 (by decide) ![1280, 0] ![1280, 0] (k0_off91 i 0#32) rfl rfl rfl rfl (sword0 (i 0) 0) rfl inb_S5120x512_S128x128_1280_0 _ _ _ _ x, ?_⟩
      refine List.forall_mem_cons.2 ⟨fun x => deq_piece i 0 (by decide) arg2 harg2 arg4 harg4 x0 x1 x0 x2 rfl 9 1 (by decide) ![1152, 128] ![1152, 128] (k0_off90 i 1#32) rfl rfl rfl rfl (sword0 (i 0) 1) rfl inb_S5120x512_S128x128_1152_128 _ _ _ _ x, ?_⟩
      refine List.forall_mem_cons.2 ⟨fun x => deq_piece i 0 (by decide) arg2 harg2 arg4 harg4 x0 x1 x0 x2 rfl 9 0 (by decide) ![1152, 0] ![1152, 0] (k0_off90 i 0#32) rfl rfl rfl rfl (sword0 (i 0) 0) rfl inb_S5120x512_S128x128_1152_0 _ _ _ _ x, ?_⟩
      refine List.forall_mem_cons.2 ⟨fun x => deq_piece i 0 (by decide) arg2 harg2 arg4 harg4 x0 x1 x0 x2 rfl 8 1 (by decide) ![1024, 128] ![1024, 128] (k0_off89 i 1#32) rfl rfl rfl rfl (sword0 (i 0) 1) rfl inb_S5120x512_S128x128_1024_128 _ _ _ _ x, ?_⟩
      refine List.forall_mem_cons.2 ⟨fun x => deq_piece i 0 (by decide) arg2 harg2 arg4 harg4 x0 x1 x0 x2 rfl 8 0 (by decide) ![1024, 0] ![1024, 0] (k0_off89 i 0#32) rfl rfl rfl rfl (sword0 (i 0) 0) rfl inb_S5120x512_S128x128_1024_0 _ _ _ _ x, ?_⟩
      refine List.forall_mem_cons.2 ⟨fun x => deq_piece i 0 (by decide) arg2 harg2 arg4 harg4 x0 x1 x0 x2 rfl 7 1 (by decide) ![896, 128] ![896, 128] (k0_off88 i 1#32) rfl rfl rfl rfl (sword0 (i 0) 1) rfl inb_S5120x512_S128x128_896_128 _ _ _ _ x, ?_⟩
      refine List.forall_mem_cons.2 ⟨fun x => deq_piece i 0 (by decide) arg2 harg2 arg4 harg4 x0 x1 x0 x2 rfl 7 0 (by decide) ![896, 0] ![896, 0] (k0_off88 i 0#32) rfl rfl rfl rfl (sword0 (i 0) 0) rfl inb_S5120x512_S128x128_896_0 _ _ _ _ x, ?_⟩
      refine List.forall_mem_cons.2 ⟨fun x => deq_piece i 0 (by decide) arg2 harg2 arg4 harg4 x0 x1 x0 x2 rfl 6 1 (by decide) ![768, 128] ![768, 128] (k0_off87 i 1#32) rfl rfl rfl rfl (sword0 (i 0) 1) rfl inb_S5120x512_S128x128_768_128 _ _ _ _ x, ?_⟩
      refine List.forall_mem_cons.2 ⟨fun x => deq_piece i 0 (by decide) arg2 harg2 arg4 harg4 x0 x1 x0 x2 rfl 6 0 (by decide) ![768, 0] ![768, 0] (k0_off87 i 0#32) rfl rfl rfl rfl (sword0 (i 0) 0) rfl inb_S5120x512_S128x128_768_0 _ _ _ _ x, ?_⟩
      refine List.forall_mem_cons.2 ⟨fun x => deq_piece i 0 (by decide) arg2 harg2 arg4 harg4 x0 x1 x0 x2 rfl 5 1 (by decide) ![640, 128] ![640, 128] (k0_off86 i 1#32) rfl rfl rfl rfl (sword0 (i 0) 1) rfl inb_S5120x512_S128x128_640_128 _ _ _ _ x, ?_⟩
      refine List.forall_mem_cons.2 ⟨fun x => deq_piece i 0 (by decide) arg2 harg2 arg4 harg4 x0 x1 x0 x2 rfl 5 0 (by decide) ![640, 0] ![640, 0] (k0_off86 i 0#32) rfl rfl rfl rfl (sword0 (i 0) 0) rfl inb_S5120x512_S128x128_640_0 _ _ _ _ x, ?_⟩
      refine List.forall_mem_cons.2 ⟨fun x => deq_piece i 0 (by decide) arg2 harg2 arg4 harg4 x0 x1 x0 x2 rfl 4 1 (by decide) ![512, 128] ![512, 128] (k0_off85 i 1#32) rfl rfl rfl rfl (sword0 (i 0) 1) rfl inb_S5120x512_S128x128_512_128 _ _ _ _ x, ?_⟩
      refine List.forall_mem_cons.2 ⟨fun x => deq_piece i 0 (by decide) arg2 harg2 arg4 harg4 x0 x1 x0 x2 rfl 4 0 (by decide) ![512, 0] ![512, 0] (k0_off85 i 0#32) rfl rfl rfl rfl (sword0 (i 0) 0) rfl inb_S5120x512_S128x128_512_0 _ _ _ _ x, ?_⟩
      refine List.forall_mem_cons.2 ⟨fun x => deq_piece i 0 (by decide) arg2 harg2 arg4 harg4 x0 x1 x0 x2 rfl 3 1 (by decide) ![384, 128] ![384, 128] (k0_off84 i 1#32) rfl rfl rfl rfl (sword0 (i 0) 1) rfl inb_S5120x512_S128x128_384_128 _ _ _ _ x, ?_⟩
      refine List.forall_mem_cons.2 ⟨fun x => deq_piece i 0 (by decide) arg2 harg2 arg4 harg4 x0 x1 x0 x2 rfl 3 0 (by decide) ![384, 0] ![384, 0] (k0_off84 i 0#32) rfl rfl rfl rfl (sword0 (i 0) 0) rfl inb_S5120x512_S128x128_384_0 _ _ _ _ x, ?_⟩
      refine List.forall_mem_cons.2 ⟨fun x => deq_piece i 0 (by decide) arg2 harg2 arg4 harg4 x0 x1 x0 x2 rfl 2 1 (by decide) ![256, 128] ![256, 128] (k0_off83 i 1#32) rfl rfl rfl rfl (sword0 (i 0) 1) rfl inb_S5120x512_S128x128_256_128 _ _ _ _ x, ?_⟩
      refine List.forall_mem_cons.2 ⟨fun x => deq_piece i 0 (by decide) arg2 harg2 arg4 harg4 x0 x1 x0 x2 rfl 2 0 (by decide) ![256, 0] ![256, 0] (k0_off83 i 0#32) rfl rfl rfl rfl (sword0 (i 0) 0) rfl inb_S5120x512_S128x128_256_0 _ _ _ _ x, ?_⟩
      refine List.forall_mem_cons.2 ⟨fun x => deq_piece i 0 (by decide) arg2 harg2 arg4 harg4 x0 x1 x0 x2 rfl 1 1 (by decide) ![128, 128] ![128, 128] (k0_off82 i 1#32) rfl rfl rfl rfl (sword0 (i 0) 1) rfl inb_S5120x512_S128x128_128_128 _ _ _ _ x, ?_⟩
      refine List.forall_mem_cons.2 ⟨fun x => deq_piece i 0 (by decide) arg2 harg2 arg4 harg4 x0 x1 x0 x2 rfl 1 0 (by decide) ![128, 0] ![128, 0] (k0_off82 i 0#32) rfl rfl rfl rfl (sword0 (i 0) 0) rfl inb_S5120x512_S128x128_128_0 _ _ _ _ x, ?_⟩
      refine List.forall_mem_cons.2 ⟨fun x => deq_piece i 0 (by decide) arg2 harg2 arg4 harg4 x0 x1 x0 x2 rfl 0 1 (by decide) ![0, 128] ![0, 128] (k0_off81 i 1#32) rfl rfl rfl rfl (sword0 (i 0) 1) rfl inb_S5120x512_S128x128_0_128 _ _ _ _ x, ?_⟩
      refine List.forall_mem_cons.2 ⟨fun x => deq_piece i 0 (by decide) arg2 harg2 arg4 harg4 x0 x1 x0 x2 rfl 0 0 (by decide) ![0, 0] ![0, 0] (k0_off81 i 0#32) rfl rfl rfl rfl (sword0 (i 0) 0) rfl inb_S5120x512_S128x128_0_0 _ _ _ _ x, ?_⟩
      exact List.forall_mem_nil _
    isplitl [HS2]
    · iexists _; isplitr; · ipureintro; exact harg10.read_unread _
      iexact HS2
    isplitl [Hq0]; · iexact Hq0
    isplitl [Hh0]; · iexact Hh0
    iexists _; iexact HW

end Cert.GateUpIdeal.Gate

end
-- ==== Proof.Gate.Run.lean ====
/- The run of the whole program: it ends, the result arrays hold the blocks that the grid points compute, and the
   argument arrays are unchanged. A grid point dequantises one weight block into one of two scratch buffers, and from the
   second point on multiplies by the block that the point before it left in the other. -/
module

public import proofs.«01_k».proof.Proof.Gate.RunA
public import proofs.«01_k».proof.Proof.Gate.RunB
public import proofs.«01_k».proof.Proof.Gate.RunC
public import Idealize.ShloMosaic.Lib.Claim

@[expose] public section

set_option maxRecDepth 16384

noncomputable section

namespace Cert.GateUpIdeal.Gate

open Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points leave -/

/-- The point before `t` (`t` itself at the first point). -/
def prv (t : Fin cfg0.N) : Fin cfg0.N := ⟨t.val - 1, lt_of_le_of_lt (Nat.sub_le _ _) t.isLt⟩

/-- The weight block that point `t` dequantises. -/
def dq (c : Dev nD) (t : Fin cfg0.N) : Vec F S5120x512 .bf16 := deq (grid0.coords t) (iblk m c 0 t) (iblk m c 1 t) (iblk m c 2 t)

/-- The codes that point `t` computes, from the weight block of the point before it. -/
def mcb (c : Dev nD) (t : Fin cfg0.N) : Vec F S2048x256 .fp8e4m3 := mc (V m c main_arg0) (dq m c (prv t))

/-- The rounded values that point `t` computes. -/
def mab (c : Dev nD) (t : Fin cfg0.N) : Vec F S2048x256 .bf16 := ma (V m c main_arg0) (dq m c (prv t))

/-- The scales after point `k`: each point puts in its two columns. -/
def msN (c : Dev nD) : (k : ℕ) → k < cfg0.N → Vec F S2048x128 .f32
  | 0, _ => fun _ => FloatOps.ofBits .f32 0x00000000#32
  | k + 1, h => ms (grid0.coords ⟨k + 1, h⟩) (msN c k (by omega)) (V m c main_arg0) (dq m c ⟨k, by omega⟩)

/-- The scales after point `t`. -/
def msb (c : Dev nD) (t : Fin cfg0.N) : Vec F S2048x128 .f32 := msN m c t.val t.isLt

/-- The resources that no point changes. -/
def rest (c : Dev nD) : sProp 𝕄 :=
  iprop((∃ r, prngReg c r) ∗ iprop(semVal ((c : Thread nD τ), SemLoc.dma 10) 0) ∗ iprop(hbPt0 c hbM0_0 (V m c main_arg0)))

/-- What holds before point `k`: before the first, the launch contents; after that the activations are in their scratch
    buffer, and the block of the point before is in the first weight buffer if that point is even, else in the second. -/
def inv (c : Dev nD) (k : ℕ) (hk : k < cfg0.N + 1) : sProp 𝕄 :=
  if h0 : k = 0 then Pipeline.ΦD osem0 spec0 H0 (V m) c
  else if k % 2 = 1 then
    iprop((owns (c : Thread nD τ) scM0_0 fullShare (V m c main_arg0) ∗ owns (c : Thread nD τ) scM0_1 fullShare (dq m c ⟨k - 1, by omega⟩) ∗ (∃ d, owns (c : Thread nD τ) scM0_2 fullShare d)) ∗ rest m c)
  else
    iprop((owns (c : Thread nD τ) scM0_0 fullShare (V m c main_arg0) ∗ (∃ d, owns (c : Thread nD τ) scM0_1 fullShare d) ∗ owns (c : Thread nD τ) scM0_2 fullShare (dq m c ⟨k - 1, by omega⟩)) ∗ rest m c)

theorem inv_zero (c : Dev nD) (hk) :
    inv m c 0 hk = iprop(((∃ d, owns (c : Thread nD τ) scM0_0 fullShare d) ∗ (∃ d, owns (c : Thread nD τ) scM0_1 fullShare d) ∗ (∃ d, owns (c : Thread nD τ) scM0_2 fullShare d)) ∗ rest m c) := by
  unfold inv rest; rw [dif_pos rfl, PhiD0_eq]

theorem inv_even (c : Dev nD) (t : Fin cfg0.N) (h : t.val % 2 = 0) (hk) :
    inv m c (t.val + 1) hk = iprop((owns (c : Thread nD τ) scM0_0 fullShare (V m c main_arg0) ∗ owns (c : Thread nD τ) scM0_1 fullShare (dq m c t) ∗ (∃ d, owns (c : Thread nD τ) scM0_2 fullShare d)) ∗ rest m c) := by
  unfold inv; rw [dif_neg (by omega), if_pos (by omega)]; rfl

theorem inv_odd (c : Dev nD) (t : Fin cfg0.N) (h : t.val % 2 = 1) (hk) :
    inv m c (t.val + 1) hk = iprop((owns (c : Thread nD τ) scM0_0 fullShare (V m c main_arg0) ∗ (∃ d, owns (c : Thread nD τ) scM0_1 fullShare d) ∗ owns (c : Thread nD τ) scM0_2 fullShare (dq m c t)) ∗ rest m c) := by
  unfold inv; rw [dif_neg (by omega), if_neg (by omega)]; rfl

theorem inv_at_odd (c : Dev nD) (t : Fin cfg0.N) (h : t.val % 2 = 1) (hk) :
    inv m c t.val hk = iprop((owns (c : Thread nD τ) scM0_0 fullShare (V m c main_arg0) ∗ owns (c : Thread nD τ) scM0_1 fullShare (dq m c (prv t)) ∗ (∃ d, owns (c : Thread nD τ) scM0_2 fullShare d)) ∗ rest m c) := by
  unfold inv; rw [dif_neg (by omega), if_pos (by omega)]; rfl

theorem inv_at_even (c : Dev nD) (t : Fin cfg0.N) (h : t.val % 2 = 0) (h' : t.val ≠ 0) (hk) :
    inv m c t.val hk = iprop((owns (c : Thread nD τ) scM0_0 fullShare (V m c main_arg0) ∗ (∃ d, owns (c : Thread nD τ) scM0_1 fullShare d) ∗ owns (c : Thread nD τ) scM0_2 fullShare (dq m c (prv t))) ∗ rest m c) := by
  unfold inv; rw [dif_neg h', if_neg (by omega)]; rfl

/-! ## The pipeline's proof data -/

/-- The proof data of the one pipeline on core `c`: the arrays as the region finds them (`V`); after the body at
    point `t` each input's buffer at its block and the outputs' at `mcb`, `msb`, `mab`; the invariant `inv`; nothing owed; the two windows on the weights at their shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mcb m c t
    | ⟨4, _⟩ => msb m c t
    | ⟨5, _⟩ => mab m c t
  Φ t := inv m c t.val t.isLt
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = mcb m c t := by dsimp only [dats]
theorem after0_4 (c : Dev nD) (t : Fin cfg0.N) : (dats m 0 c).after 4 t = msb m c t := by dsimp only [dats]
theorem after0_5 (c : Dev nD) (t : Fin cfg0.N) : (dats m 0 c).after 5 t = mab m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Output 0's buffer holds anything at the first point. -/
theorem before0_3_zero (c : Dev nD) (t : Fin cfg0.N) (h : t.val = 0) (d) : (dats m 0 c).before 3 t d = d := by
  unfold Dat.before; rw [show (cfg0.win 3).fetch t = false from rfl, if_neg Bool.false_ne_true, if_pos h]
/-- It is idle at the first point only, and is not written back there. -/
theorem idle0_3 : ∀ t : Fin cfg0.N, t.val = 0 → cfg0.idle 3 (grid0.coords t) = true :=
  (by decide +kernel : ∀ t : Fin grid0.N, t.val = 0 → idle0 3 (grid0.coords t) = true)
theorem live0_3 : ∀ t : Fin cfg0.N, t.val ≠ 0 → cfg0.idle 3 (grid0.coords t) = false :=
  (by decide +kernel : ∀ t : Fin grid0.N, t.val ≠ 0 → idle0 3 (grid0.coords t) = false)
theorem flush0_3 : ∀ t : Fin cfg0.N, (cfg0.win 3).flush t = !decide (t.val = 0) :=
  (by decide +kernel : ∀ t : Fin grid0.N, win0_3.flush t = !decide (t.val = 0))

/-- Output 1's buffer holds anything at the first point. -/
theorem before0_4_zero (c : Dev nD) (t : Fin cfg0.N) (h : t.val = 0) (d) : (dats m 0 c).before 4 t d = d := by
  unfold Dat.before; rw [show (cfg0.win 4).fetch t = false from rfl, if_neg Bool.false_ne_true, if_pos h]
/-- It is idle at the first point only, and is not written back there. -/
theorem idle0_4 : ∀ t : Fin cfg0.N, t.val = 0 → cfg0.idle 4 (grid0.coords t) = true :=
  (by decide +kernel : ∀ t : Fin grid0.N, t.val = 0 → idle0 4 (grid0.coords t) = true)
theorem live0_4 : ∀ t : Fin cfg0.N, t.val ≠ 0 → cfg0.idle 4 (grid0.coords t) = false :=
  (by decide +kernel : ∀ t : Fin grid0.N, t.val ≠ 0 → idle0 4 (grid0.coords t) = false)
theorem flush0_4 : ∀ t : Fin cfg0.N, (cfg0.win 4).flush t = decide (t.val = 17) :=
  (by decide +kernel : ∀ t : Fin grid0.N, win0_4.flush t = decide (t.val = 17))

/-- Output 2's buffer holds anything at the first point. -/
theorem before0_5_zero (c : Dev nD) (t : Fin cfg0.N) (h : t.val = 0) (d) : (dats m 0 c).before 5 t d = d := by
  unfold Dat.before; rw [show (cfg0.win 5).fetch t = false from rfl, if_neg Bool.false_ne_true, if_pos h]
/-- It is idle at the first point only, and is not written back there. -/
theorem idle0_5 : ∀ t : Fin cfg0.N, t.val = 0 → cfg0.idle 5 (grid0.coords t) = true :=
  (by decide +kernel : ∀ t : Fin grid0.N, t.val = 0 → idle0 5 (grid0.coords t) = true)
theorem live0_5 : ∀ t : Fin cfg0.N, t.val ≠ 0 → cfg0.idle 5 (grid0.coords t) = false :=
  (by decide +kernel : ∀ t : Fin grid0.N, t.val ≠ 0 → idle0 5 (grid0.coords t) = false)
theorem flush0_5 : ∀ t : Fin cfg0.N, (cfg0.win 5).flush t = !decide (t.val = 0) :=
  (by decide +kernel : ∀ t : Fin grid0.N, win0_5.flush t = !decide (t.val = 0))

/-- A lane's number. -/
theorem lane (y : S256x128.Idx) : iota .tc S256x128 32 [1] iota_S256x128_d1_w32 y = BitVec.ofNat 32 (y 1).val := by
  show BitVec.ofNat 32 (0 * 128 + (y 1).val) = _
  rw [Nat.zero_mul, Nat.zero_add]

/-- The first point that computes keeps no column of the scales. -/
theorem keep_none (v : IVec S256x128 32) (hv : v = iota .tc S256x128 32 [1] iota_S256x128_d1_w32) (d d' : Vec F S256x128 .f32) :
    k0_pay388 0#32 v d = k0_pay388 0#32 v d' := by
  subst hv
  funext y
  have e : ∀ a : Fin 128, Scalar.cmpi .slt (BitVec.ofNat 32 a.val) (Scalar.muli 0#32 2#32) = 0#1 := by decide
  show Scalar.select (Scalar.cmpi .slt (iota .tc S256x128 32 [1] iota_S256x128_d1_w32 y) (Scalar.muli 0#32 2#32)) _ _
    = Scalar.select (Scalar.cmpi .slt (iota .tc S256x128 32 [1] iota_S256x128_d1_w32 y) (Scalar.muli 0#32 2#32)) _ _
  rw [lane y, e (y 1)]
  rfl

theorem ms_first (i : grid0.Coords) (h : (i 0).val = 1) (x6 x6' : Vec F S2048x128 .f32) (x8 : Vec F S1024x5120 .i32) (w : Vec F S5120x512 .bf16) :
    ms i x6 x8 w = ms i x6' x8 w := by
  have e : pt i = 0#32 := by unfold pt; rw [h]; rfl
  unfold ms msRows
  rw [e]
  funext y
  rw [keep_none _ rfl (rows6 x6 _) (rows6 x6' _)]

theorem coord0 : ∀ t : Fin cfg0.N, (grid0.coords t 0).val = t.val :=
  (by decide +kernel : ∀ t : Fin grid0.N, _)

/-- What a point leaves of the scales, from what it found. -/
theorem ms_step (c : Dev nD) (t : Fin cfg0.N) (h0 : t.val ≠ 0) (d) :
    msb m c t = ms (grid0.coords t) ((dats m 0 c).before 4 t d) (V m c main_arg0) (dq m c (prv t)) := by
  have hN : t.val < 18 := lt_of_lt_of_eq t.isLt (show cfg0.N = 18 from N_0)
  have e : ∀ (k : ℕ) (hk : k < cfg0.N) (h : k ≠ 0), msN m c k hk = ms (grid0.coords ⟨k, hk⟩) (msN m c (k - 1) (by omega)) (V m c main_arg0) (dq m c ⟨k - 1, by omega⟩) := by
    intro k hk h
    cases k with
    | zero => exact absurd rfl h
    | succ k => rfl
  refine (e t.val t.isLt h0).trans ?_
  by_cases h1 : t.val = 1
  · exact ms_first _ ((coord0 t).trans h1) _ _ _ _
  · have hl : cfg0.idle 4 (grid0.coords (prv t)) = false := live0_4 (prv t) (by show t.val - 1 ≠ 0; omega)
    have hf : (cfg0.win 4).flush (prv t) = false := (flush0_4 (prv t)).trans (decide_eq_false (by show ¬ t.val - 1 = 17; omega))
    have hb : (dats m 0 c).before 4 t d = msb m c (prv t) := by
      refine ((dats m 0 c).before_of_pos 4 t h0 rfl d).trans ?_
      rw [show (cfg0.win 4).flush ⟨t.val - 1, Nat.lt_of_le_of_lt (Nat.sub_le _ _) t.isLt⟩ = false from hf, if_neg Bool.false_ne_true]
      unfold Dat.left
      rw [show cfg0.idle 4 (cfg0.grid.coords ⟨t.val - 1, Nat.lt_of_le_of_lt (Nat.sub_le _ _) t.isLt⟩) = false from hl]
      show (dats m 0 c).kept 4 (prv t) d = _
      unfold Dat.kept
      rw [Pipeline.fill_of_clip_none (cfg := cfg0) 4 _ (fun _ => rfl) d ((dats m 0 c).after 4 (prv t)), Window.fill_cut, after0_4]
    rw [hb]; rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1200000 in
/-- The body at any point, by the three cases of its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = inv m c t.val t.castSucc.isLt from rfl, show (dats m 0 c).Φ t.succ = inv m c (t.val + 1) t.succ.isLt from rfl]
  unfold Dat.owesAt Pipeline.owesWithin
  rw [show (dats m 0 c).owed t.castSucc = 0 from rfl, show (dats m 0 c).owed t.succ = 0 from rfl]
  have hN : t.val < 18 := lt_of_lt_of_eq t.isLt (show cfg0.N = 18 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · rw [Dat.leavesExact_idle _ 3 t (idle0_3 t h0) ((flush0_3 t).trans (by rw [decide_eq_true h0]; rfl)),
      Dat.leavesExact_idle _ 4 t (idle0_4 t h0) ((flush0_4 t).trans (decide_eq_false (by omega))),
      Dat.leavesExact_idle _ 5 t (idle0_5 t h0) ((flush0_5 t).trans (by rw [decide_eq_true h0]; rfl))]
    simp only [before0_3_zero m c t h0, before0_4_zero m c t h0, before0_5_zero m c t h0]
    rw [show inv m c t.val t.castSucc.isLt = inv m c 0 (Nat.succ_pos _) from by congr 1, inv_zero, inv_even m c t (by omega)]
    unfold rest
    iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ _ _ ((hcond0_0 t).mpr (by omega)) (fun h => absurd ((hcond0_1 t).mp h) (by omega)) (fun h => absurd ((hcond0_2 t).mp h) (by omega)) (iblk m c 0 t) (iblk m c 1 t) (iblk m c 2 t) (V m c main_arg0)) W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, HS0, HS1, HS2, Hq0, Hh0, ⟨%W', HW'⟩⟩
    isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · by_cases h2 : t.val % 2 = 1
    · rw [show (dats m 0 c).leavesExact 3 t = owns (c : Thread nD τ) (ms0_3 t) fullShare ((dats m 0 c).after 3 t) from by
        unfold Dat.leavesExact; rw [live0_3 t h0], after0_3]
      rw [show (dats m 0 c).leavesExact 4 t = owns (c : Thread nD τ) (ms0_4 t) fullShare ((dats m 0 c).after 4 t) from by
        unfold Dat.leavesExact; rw [live0_4 t h0], after0_4]
      rw [show (dats m 0 c).leavesExact 5 t = owns (c : Thread nD τ) (ms0_5 t) fullShare ((dats m 0 c).after 5 t) from by
        unfold Dat.leavesExact; rw [live0_5 t h0], after0_5]
      rw [inv_at_odd m c t h2, inv_odd m c t h2]
      unfold rest
      iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ _ _ (fun h => absurd ((hcond0_0 t).mp h) (by omega)) (fun h => absurd ((hcond0_1 t).mp h) (by omega)) ((hcond0_2 t).mpr h2) (iblk m c 0 t) (iblk m c 1 t) (iblk m c 2 t) ((dats m 0 c).before 4 t d4) (V m c main_arg0) (dq m c (prv t)) (V m c main_arg0)) W _)
      isplitl [H0]; · iexact H0
      isplitl [H1]; · iexact H1
      isplitl [H2]; · iexact H2
      isplitl [H3]; · iexists _; iexact H3
      isplitl [H4]; · iexact H4
      isplitl [H5]; · iexists _; iexact H5
      isplitl [HS0]; · iexact HS0
      isplitl [HS1]; · iexact HS1
      isplitl [HS2]; · iexact HS2
      isplitl [Hq0]; · iexact Hq0
      isplitl [Hh0]; · iexact Hh0
      isplitl [HW]; · iexact HW
      iintro ⟨H0, H1, H2, H3, H4, H5, HS0, HS1, HS2, Hq0, Hh0, ⟨%W', HW'⟩⟩
      isplitl [HS0 HS1 HS2 Hg Hq0 Hh0]
      · isplitl [HS0 HS1 HS2]
        · isplitl [HS0]; · iexact HS0
          isplitl [HS1]; · iexists _; iexact HS1
          iexact HS2
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · rw [ms_step m c t h0 d4]; iexact H4
      iexact H5
    · rw [show (dats m 0 c).leavesExact 3 t = owns (c : Thread nD τ) (ms0_3 t) fullShare ((dats m 0 c).after 3 t) from by
        unfold Dat.leavesExact; rw [live0_3 t h0], after0_3]
      rw [show (dats m 0 c).leavesExact 4 t = owns (c : Thread nD τ) (ms0_4 t) fullShare ((dats m 0 c).after 4 t) from by
        unfold Dat.leavesExact; rw [live0_4 t h0], after0_4]
      rw [show (dats m 0 c).leavesExact 5 t = owns (c : Thread nD τ) (ms0_5 t) fullShare ((dats m 0 c).after 5 t) from by
        unfold Dat.leavesExact; rw [live0_5 t h0], after0_5]
      rw [inv_at_even m c t (by omega) h0, inv_even m c t (by omega)]
      unfold rest
      iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ _ _ _ _ _ _ (fun h => absurd ((hcond0_0 t).mp h) (by omega)) ((hcond0_1 t).mpr (by omega)) (fun h => absurd ((hcond0_2 t).mp h) (by omega)) (iblk m c 0 t) (iblk m c 1 t) (iblk m c 2 t) ((dats m 0 c).before 4 t d4) (V m c main_arg0) (dq m c (prv t)) (V m c main_arg0)) W _)
      isplitl [H0]; · iexact H0
      isplitl [H1]; · iexact H1
      isplitl [H2]; · iexact H2
      isplitl [H3]; · iexists _; iexact H3
      isplitl [H4]; · iexact H4
      isplitl [H5]; · iexists _; iexact H5
      isplitl [HS0]; · iexact HS0
      isplitl [HS1]; · iexact HS1
      isplitl [HS2]; · iexact HS2
      isplitl [Hq0]; · iexact Hq0
      isplitl [Hh0]; · iexact Hh0
      isplitl [HW]; · iexact HW
      iintro ⟨H0, H1, H2, H3, H4, H5, HS0, HS1, HS2, Hq0, Hh0, ⟨%W', HW'⟩⟩
      isplitl [HS0 HS1 HS2 Hg Hq0 Hh0]
      · isplitl [HS0 HS1 HS2]
        · isplitl [HS0]; · iexact HS0
          isplitl [HS1]; · iexact HS1
          iexists _; iexact HS2
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · rw [ms_step m c t h0 d4]; iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- After the last point the scratch holds something. -/
theorem inv_last (c : Dev nD) : (dats m 0 c).Φ (Fin.last cfg0.N) ⊢ Pipeline.ΦD osem0 spec0 H0 (V m) c := by
  have hN : cfg0.N = 18 := N_0
  have e : ∀ (k : ℕ) (hk : k < cfg0.N + 1) (hk' : 17 + 1 < cfg0.N + 1), k = 17 + 1 → inv m c k hk = inv m c (17 + 1) hk' := by
    intro k hk hk' h; subst h; rfl
  rw [show (dats m 0 c).Φ (Fin.last cfg0.N) = inv m c cfg0.N (Nat.lt_succ_self _) from rfl, e _ _ (by omega) hN,
    inv_odd m c ⟨17, by omega⟩ (show 17 % 2 = 1 from rfl), PhiD0_eq]
  unfold rest
  iintro ⟨⟨HS0, HS1, HS2⟩, Hg, Hq0, Hh0⟩
  isplitl [HS0 HS1 HS2]
  · isplitl [HS0]; · iexists _; iexact HS0
    isplitl [HS1]; · iexact HS1
    iexists _; iexact HS2
  isplitl [Hg]; · iexact Hg
  isplitl [Hq0]; · iexact Hq0
  iexact Hh0

set_option backward.isDefEq.respectTransparency.types false in
/-- Every run ends with the arrays at what the proof data say and every semaphore counter at zero. -/
theorem run_main : θ_run defs (onTc (τ := τ) (main (F := F))) (s₀ m ρ) (fun r => Pipeline.FramePost cfgs (dats m) (0 : Fin 1) (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := fun c => Entails.of_eq (by show _ = inv m c 0 (Nat.succ_pos _); unfold inv; rw [dif_pos rfl])) (hout := inv_last m)

end Cert.GateUpIdeal.Gate

end
-- ==== Proof.Gate.Power.lean ====
/- The scale of a group, over the extended reals: the power of two that the kernel searches for step by step is the
   smallest of the reference's powers above the group's quotient. -/
module

public import Idealize.ShloMosaic.PureOps.Ideal
public import Idealize.ShloMosaic.PureOps.Ideal.Laws
public import Idealize.ShloMosaic.Lib.IdealHost

@[expose] public section

noncomputable section

namespace Cert.GateSpec

open Idealize.ShloMosaic

/-- The powers of two from `2 ^ -126` on. -/
def P (n : ℕ) : EReal := ((2 ^ ((n : ℤ) - 126) : ℝ) : EReal)

theorem P_le {n k : ℕ} (h : n ≤ k) : P n ≤ P k := by
  unfold P
  exact EReal.coe_le_coe_iff.mpr (zpow_le_zpow_right₀ (by norm_num) (by omega))

theorem P_lt {n k : ℕ} (h : n < k) : P n < P k := by
  unfold P
  exact EReal.coe_lt_coe_iff.mpr (zpow_lt_zpow_right₀ (by norm_num) (by omega))

theorem lt_of_P_lt {n k : ℕ} (h : P n < P k) : n < k := by
  by_contra hn
  exact absurd h (not_lt.mpr (P_le (not_lt.mp hn)))

theorem P_mul (n k : ℕ) : P n * ((2 ^ k : ℝ) : EReal) = P (n + k) := by
  unfold P
  rw [← EReal.coe_mul]
  congr 1
  rw [← zpow_natCast, ← zpow_add₀ (by norm_num)]
  congr 1
  push_cast
  ring

theorem c118 : Ideal.ofBits .f32 0x7A800000#32 = ((2 ^ 118 : ℝ) : EReal) := by
  simp [Ideal.ofBits, Ideal.ieee, -EReal.coe_mul, -EReal.coe_pow]; norm_num [-EReal.coe_pow]
theorem c64 : Ideal.ofBits .f32 0x5F800000#32 = ((2 ^ 64 : ℝ) : EReal) := by
  simp [Ideal.ofBits, Ideal.ieee, -EReal.coe_mul, -EReal.coe_pow]; norm_num [-EReal.coe_pow]
theorem c32 : Ideal.ofBits .f32 0x4F800000#32 = ((2 ^ 32 : ℝ) : EReal) := by
  simp [Ideal.ofBits, Ideal.ieee, -EReal.coe_mul, -EReal.coe_pow]; norm_num [-EReal.coe_pow]
theorem c16 : Ideal.ofBits .f32 0x47800000#32 = ((2 ^ 16 : ℝ) : EReal) := by
  simp [Ideal.ofBits, Ideal.ieee, -EReal.coe_mul, -EReal.coe_pow]; norm_num [-EReal.coe_pow]
theorem c8 : Ideal.ofBits .f32 0x43800000#32 = ((2 ^ 8 : ℝ) : EReal) := by
  simp [Ideal.ofBits, Ideal.ieee, -EReal.coe_mul, -EReal.coe_pow]; norm_num [-EReal.coe_pow]
theorem c4 : Ideal.ofBits .f32 0x41800000#32 = ((2 ^ 4 : ℝ) : EReal) := by
  simp [Ideal.ofBits, Ideal.ieee, -EReal.coe_mul, -EReal.coe_pow]; norm_num [-EReal.coe_pow]
theorem c2 : Ideal.ofBits .f32 0x40800000#32 = ((2 ^ 2 : ℝ) : EReal) := by
  simp [Ideal.ofBits, Ideal.ieee, -EReal.coe_mul, -EReal.coe_pow]; norm_num [-EReal.coe_pow]
theorem c1 : Ideal.ofBits .f32 0x40000000#32 = ((2 ^ 1 : ℝ) : EReal) := by
  simp [Ideal.ofBits, Ideal.ieee, -EReal.coe_mul, -EReal.coe_pow]; norm_num [-EReal.coe_pow]
theorem cP0 : Ideal.ofBits .f32 0x00800000#32 = P 0 := by
  simp [P, Ideal.ofBits, Ideal.ieee, -EReal.coe_mul, -EReal.coe_pow]; norm_num [-EReal.coe_pow]
theorem cP246 : Ideal.ofBits .f32 0x7B800000#32 = P 246 := by
  simp [P, Ideal.ofBits, Ideal.ieee, -EReal.coe_mul, -EReal.coe_pow]; norm_num [-EReal.coe_pow]
theorem c126 : Ideal.ofBits .f32 0x42FC0000#32 = ((126 : ℝ) : EReal) := by
  simp [Ideal.ofBits, Ideal.ieee, -EReal.coe_mul, -EReal.coe_pow]; norm_num [-EReal.coe_pow]
theorem cTop : Ideal.ofBits .f32 0x7F800000#32 = ⊤ := by
  simp [Ideal.ofBits, Ideal.ieee]

/-- One step of the search: the power times `c` if that is no more than `x`, else the power. -/
def st (x c p : EReal) : EReal := Scalar.select (Ideal.cmp .oge x (p * c)) (p * c) p

/-- The search, from `2 ^ -126`, and the last doubling. -/
def chain (x : EReal) : EReal :=
  st x (Ideal.ofBits .f32 0x40000000#32) (st x (Ideal.ofBits .f32 0x40800000#32) (st x (Ideal.ofBits .f32 0x41800000#32)
    (st x (Ideal.ofBits .f32 0x43800000#32) (st x (Ideal.ofBits .f32 0x47800000#32) (st x (Ideal.ofBits .f32 0x4F800000#32)
      (st x (Ideal.ofBits .f32 0x5F800000#32) (st x (Ideal.ofBits .f32 0x7A800000#32) (Ideal.ofBits .f32 0x00800000#32))))))))
    * Ideal.ofBits .f32 0x40000000#32

/-- What the search has found when powers up to `R` steps further are still to be tried. -/
def Inv (x : EReal) (n R : ℕ) : Prop := (n = 0 ∨ P n ≤ x) ∧ (x < P (n + R + 1) ∨ 245 ≤ n + R) ∧ n + R ≤ 245

theorem select_oge (x y a b : EReal) : Scalar.select (Ideal.cmp .oge x y) a b = if y ≤ x then a else b := by
  by_cases h : y ≤ x <;> simp [Scalar.select, Ideal.cmp, h]

theorem select_olt (x y a b : EReal) : Scalar.select (Ideal.cmp .olt x y) a b = if x < y then a else b := by
  by_cases h : x < y <;> simp [Scalar.select, Ideal.cmp, h]

theorem select_ogt (x y a b : EReal) : Scalar.select (Ideal.cmp .ogt x y) a b = if y < x then a else b := by
  by_cases h : y < x <;> simp [Scalar.select, Ideal.cmp, h]

/-- A step keeps the invariant. -/
theorem st_inv (x : EReal) (n k R : ℕ) (h : Inv x n (k + R)) (hk : k ≤ R + 1) :
    ∃ n', st x ((2 ^ k : ℝ) : EReal) (P n) = P n' ∧ Inv x n' R := by
  obtain ⟨h0, h1, h2⟩ := h
  unfold st
  rw [P_mul, select_oge]
  by_cases hx : P (n + k) ≤ x
  · rw [if_pos hx]
    refine ⟨n + k, rfl, Or.inr hx, ?_, by omega⟩
    rcases h1 with h1 | h1
    · left; rwa [show n + k + R + 1 = n + (k + R) + 1 by omega]
    · right; omega
  · rw [if_neg hx]
    refine ⟨n, rfl, h0, Or.inl (lt_of_lt_of_le (not_le.mp hx) (P_le (by omega))), by omega⟩

/-- The search ends at the largest power up to `2 ^ 119` that is no more than `x`, and doubles it. -/
theorem chain_spec (x : EReal) : ∃ n, chain x = P (n + 1) ∧ Inv x n 0 := by
  unfold chain
  rw [c118, c64, c32, c16, c8, c4, c2, c1, cP0]
  obtain ⟨n0, e0, i0⟩ := st_inv x 0 118 127 ⟨Or.inl rfl, Or.inr (by omega), by omega⟩ (by omega)
  obtain ⟨n1, e1, i1⟩ := st_inv x n0 64 63 i0 (by omega)
  obtain ⟨n2, e2, i2⟩ := st_inv x n1 32 31 i1 (by omega)
  obtain ⟨n3, e3, i3⟩ := st_inv x n2 16 15 i2 (by omega)
  obtain ⟨n4, e4, i4⟩ := st_inv x n3 8 7 i3 (by omega)
  obtain ⟨n5, e5, i5⟩ := st_inv x n4 4 3 i4 (by omega)
  obtain ⟨n6, e6, i6⟩ := st_inv x n5 2 1 i5 (by omega)
  obtain ⟨n7, e7, i7⟩ := st_inv x n6 1 0 i6 (by omega)
  rw [e0, e1, e2, e3, e4, e5, e6, e7, P_mul]
  exact ⟨n7, rfl, i7⟩

/-- The kernel's scale of a group whose quotient is `x`. -/
def kscale (x : EReal) : EReal := Scalar.select (Ideal.cmp .olt x (Ideal.ofBits .f32 0x00800000#32)) (Ideal.ofBits .f32 0x00800000#32) (chain x)

/-- The kernel's stored scale. -/
def kstored (x : EReal) : EReal := Scalar.select (Ideal.cmp .olt x (Ideal.ofBits .f32 0x00800000#32)) (Ideal.ofBits .f32 0x3F800000#32) (chain x)

/-- The reference's candidate number `n`: the power, if above `x`, else `2 ^ 120`. -/
def cand (x : EReal) (n : ℕ) : EReal :=
  Scalar.select (Ideal.cmp .ogt (Ideal.exp2 (((BitVec.ofNat 32 n).toInt : ℝ) - Ideal.ofBits .f32 0x42FC0000#32)) x)
    (Ideal.exp2 (((BitVec.ofNat 32 n).toInt : ℝ) - Ideal.ofBits .f32 0x42FC0000#32)) (Ideal.ofBits .f32 0x7B800000#32)

/-- The reference's scale. -/
def rscale (x : EReal) : EReal := (Finset.univ : Finset (Fin 247)).fold min (Ideal.ofBits .f32 0x7F800000#32) fun n => cand x n.val

/-- The reference's stored scale. -/
def rstored (x : EReal) : EReal := Scalar.select (Ideal.cmp .olt x (Ideal.ofBits .f32 0x00800000#32)) (Ideal.ofBits .f32 0x3F800000#32) (rscale x)

theorem cand_eq (x : EReal) (n : ℕ) (hn : n < 247) : cand x n = if x < P n then P n else P 246 := by
  have e : Ideal.exp2 (((BitVec.ofNat 32 n).toInt : ℝ) - Ideal.ofBits .f32 0x42FC0000#32) = P n := by
    have ei : (BitVec.ofNat 32 n).toInt = (n : ℤ) := by
      exact (by decide : ∀ k : Fin 247, (BitVec.ofNat 32 k.val).toInt = (k.val : ℤ)) ⟨n, hn⟩
    rw [c126, ei, ← EReal.coe_sub, Ideal.exp2_coe]
    unfold P
    congr 1
    rw [← Real.rpow_intCast]
    show (2 : ℝ) ^ (((n : ℤ) : ℝ) - 126) = _
    push_cast
    rfl
  unfold cand
  rw [e, select_ogt, cP246]

theorem rscale_eq (x : EReal) : rscale x = kscale x := by
  unfold kscale rscale
  rw [select_olt, cP0, cTop]
  obtain ⟨n, e, h0, h1, h2⟩ := chain_spec x
  by_cases hx : x < P 0
  · rw [if_pos hx]
    apply le_antisymm
    · refine (Finset.fold_min_le _).mpr (Or.inr ⟨⟨0, by omega⟩, Finset.mem_univ _, ?_⟩)
      show cand x 0 ≤ _
      rw [cand_eq x 0 (by omega), if_pos hx]
    · refine (Finset.le_fold_min _).mpr ⟨le_top, fun k _ => ?_⟩
      rw [cand_eq x k.val k.isLt]
      split_ifs <;> exact P_le (Nat.zero_le _)
  · rw [if_neg hx, e]
    have hx' : P n ≤ x := by
      rcases h0 with rfl | h0
      · exact not_lt.mp hx
      · exact h0
    apply le_antisymm
    · refine (Finset.fold_min_le _).mpr (Or.inr ⟨⟨n + 1, by omega⟩, Finset.mem_univ _, ?_⟩)
      show cand x (n + 1) ≤ _
      rw [cand_eq x (n + 1) (by omega)]
      split_ifs with h
      · exact le_refl _
      · rcases h1 with h1 | h1
        · exact absurd h1 h
        · exact P_le (by omega)
    · refine (Finset.le_fold_min _).mpr ⟨le_top, fun k _ => ?_⟩
      rw [cand_eq x k.val k.isLt]
      split_ifs with h
      · exact P_le (lt_of_P_lt (lt_of_le_of_lt hx' h))
      · exact P_le (by omega)

theorem rstored_eq (x : EReal) : rstored x = kstored x := by
  unfold rstored kstored
  rw [rscale_eq]
  unfold kscale
  simp only [select_olt]
  split_ifs <;> rfl

end Cert.GateSpec

end
-- ==== Proof.Gate.Spec.lean ====
/- The three results as formulas over the extended reals, and the reference's payloads that equal them. -/
module

public import proofs.«01_k».proof.Proof.Gate.Power
public import proofs.«01_k».proof.Proof.Down.Spec
public import proofs.«01_k».proof.Proof.Gen.GateUpReferenceIdeal.Skeleton
public import Idealize.ShloMosaic.Lib.BitcastPair
public import Idealize.ShloMosaic.Lib.MatmulPlain

@[expose] public section

set_option maxRecDepth 16384

noncomputable section

namespace Cert.GateSpec

open Idealize.ShloMosaic Idealize.ShloMosaic.ValueIdx
open Cert.Down (act act_eq)
open scoped BigOperators

/-! ## A group of 128 values -/

/-- The largest magnitude. -/
def gmax (v : Fin 128 → EReal) : EReal :=
  (Finset.univ : Finset (Fin 128)).fold max (Ideal.ofBits .f32 0xFF800000#32) fun j => max (v j) (-(v j))

/-- The largest magnitude times the constant near 1/448. -/
def gx (v : Fin 128 → EReal) : EReal := gmax v * Ideal.ofBits .f32 0x3B124925#32

/-- The code of value `j`. -/
def gcode (v : Fin 128 → EReal) (j : Fin 128) : EReal :=
  min (Ideal.ofBits .f32 0x43E00000#32) (max (Ideal.ofBits .f32 0xC3E00000#32)
    (v j * Ideal.div (Ideal.ofBits .f32 0x3F800000#32) (kscale (gx v))))

/-- Value `j` rounded to its code. -/
def gma (v : Fin 128 → EReal) (j : Fin 128) : EReal := gcode v j * kscale (gx v)

/-! ## The results -/

/-- The product of the activations and the dequantised weights. -/
def prod (a0 : Vec Ideal ⟨2, ![1024, 5120]⟩ .i32) (a1 : Vec Ideal ⟨2, ![5120, 8704]⟩ .fp8e4m3) (a2 : Vec Ideal ⟨2, ![40, 68]⟩ .f32)
    (r : Fin 2048) (q : Fin 8704) : EReal :=
  ∑ k : Fin 5120, act a0 r.val (by omega) k
    * (a1 (ix2 k q) * a2 (ix2 (⟨k.val / 128, by omega⟩ : Fin 40) (⟨q.val / 128, by omega⟩ : Fin 68)))

/-- The values: the gate's product through `x · logistic x`, times the up projection's product. -/
def val (a0 : Vec Ideal ⟨2, ![1024, 5120]⟩ .i32) (a1 : Vec Ideal ⟨2, ![5120, 8704]⟩ .fp8e4m3) (a2 : Vec Ideal ⟨2, ![40, 68]⟩ .f32)
    (r : Fin 2048) (q : Fin 4352) : EReal :=
  prod a0 a1 a2 r ⟨q.val, by omega⟩ * Ideal.logistic (prod a0 a1 a2 r ⟨q.val, by omega⟩) * prod a0 a1 a2 r ⟨4352 + q.val, by omega⟩

/-- Group `g` of row `r`. -/
def grp (a0 : Vec Ideal ⟨2, ![1024, 5120]⟩ .i32) (a1 : Vec Ideal ⟨2, ![5120, 8704]⟩ .fp8e4m3) (a2 : Vec Ideal ⟨2, ![40, 68]⟩ .f32)
    (r : Fin 2048) (g : Fin 34) (j : Fin 128) : EReal := val a0 a1 a2 r ⟨128 * g.val + j.val, by omega⟩

/-- The codes. -/
def mcS (a0 : Vec Ideal ⟨2, ![1024, 5120]⟩ .i32) (a1 : Vec Ideal ⟨2, ![5120, 8704]⟩ .fp8e4m3) (a2 : Vec Ideal ⟨2, ![40, 68]⟩ .f32)
    (r : Fin 2048) (q : Fin 4352) : EReal := gcode (grp a0 a1 a2 r ⟨q.val / 128, by omega⟩) ⟨q.val % 128, by omega⟩

/-- The rounded values. -/
def maS (a0 : Vec Ideal ⟨2, ![1024, 5120]⟩ .i32) (a1 : Vec Ideal ⟨2, ![5120, 8704]⟩ .fp8e4m3) (a2 : Vec Ideal ⟨2, ![40, 68]⟩ .f32)
    (r : Fin 2048) (q : Fin 4352) : EReal := gma (grp a0 a1 a2 r ⟨q.val / 128, by omega⟩) ⟨q.val % 128, by omega⟩

/-- The stored scales: one per group, zeros after the 34 groups. -/
def msS (a0 : Vec Ideal ⟨2, ![1024, 5120]⟩ .i32) (a1 : Vec Ideal ⟨2, ![5120, 8704]⟩ .fp8e4m3) (a2 : Vec Ideal ⟨2, ![40, 68]⟩ .f32)
    (r : Fin 2048) (l : Fin 128) : EReal := if h : l.val < 34 then kstored (gx (grp a0 a1 a2 r ⟨l.val, h⟩)) else Ideal.ofBits .f32 0x00000000#32

/-! ## The reference's payloads -/

open Cert.GateUpReferenceIdeal.Gen

section Ref

variable (a0 : Vec Ideal ⟨2, ![1024, 5120]⟩ .i32) (a1 : Vec Ideal ⟨2, ![5120, 8704]⟩ .fp8e4m3) (a2 : Vec Ideal ⟨2, ![40, 68]⟩ .f32)

/-- The reference's values. -/
theorem pay6_eq (r : Fin 2048) (g : Fin 34) (j : Fin 128) : k0_pay6 (F := Ideal) a0 a1 a2 (ix3 r g j) = grp a0 a1 a2 r g j := by
  unfold k0_pay6
  refine (shapeCast_apply _ _ _ (ix2 r (⟨128 * g.val + j.val, by omega⟩ : Fin 4352)) ?_).trans ?_
  · rw [Shape.rowMajor_val_three, Shape.rowMajor_val_two]
    show r.val * 4352 + (128 * g.val + j.val) = (r.val * 34 + g.val) * 128 + j.val
    omega
  unfold grp val
  have hp : ∀ (q : Fin 8704) (i : (⟨2, ![2048, 8704]⟩ : Shape).Idx), i = ix2 r q →
      FloatOps.matmul (F := Ideal) (DotDims.plain 2048 5120 8704) none
        (bitcastToFloat (F := Ideal) .bf16 (bitcast ⟨2, ![2048, 5120]⟩ 16 a0 Cert.GateUpReferenceIdeal.Gen.bitcasts_S1024x5120_w32_S2048x5120_w16))
        (shapeCast ⟨2, ![5120, 8704]⟩ (mulf (F := Ideal) (φ := .bf16)
          (shapeCast ⟨3, ![40, 128, 8704]⟩ (extf (F := Ideal) .bf16 a1 bitsLt_fp8e4m3_bf16) shapeCasts_S5120x8704_S40x128x8704)
          (broadcastTo ⟨3, ![40, 128, 8704]⟩ (shapeCast ⟨3, ![40, 1, 8704]⟩ (shapeCast ⟨2, ![40, 8704]⟩ (broadcastTo ⟨3, ![40, 68, 128]⟩
            (shapeCast ⟨3, ![40, 68, 1]⟩ (truncf (F := Ideal) .bf16 a2 bitsLt_bf16_f32) shapeCasts_S40x68_S40x68x1) broadcasts_S40x68x1_S40x68x128)
              shapeCasts_S40x68x128_S40x8704) shapeCasts_S40x8704_S40x1x8704) broadcasts_S40x1x8704_S40x128x8704)) shapeCasts_S40x128x8704_S5120x8704)
        (constant (F := Ideal) ⟨2, ![2048, 8704]⟩ .f32 0x00000000#32) i = prod a0 a1 a2 r q := by
    rintro q _ rfl
    rw [Ideal.matmul_plain_apply]
    show Ideal.ofBits .f32 0x00000000#32 + _ = _
    rw [Ideal.ofBits_zero_f32, zero_add]
    unfold prod
    refine Finset.sum_congr rfl fun k _ => ?_
    refine congrArg₂ (· * ·) (act_eq a0 _ r _ k) ?_
    refine (shapeCast_apply _ _ (ix2 k q) (ix3 (⟨k.val / 128, by omega⟩ : Fin 40) (⟨k.val % 128, by omega⟩ : Fin 128) q) ?_).trans ?_
    · rw [Shape.rowMajor_val_three, Shape.rowMajor_val_two]
      show (k.val / 128 * 128 + k.val % 128) * 8704 + q.val = k.val * 8704 + q.val
      omega
    refine congrArg₂ (· * ·) ?_ ?_
    · refine (shapeCast_apply _ _ _ (ix2 k q) ?_).trans rfl
      rw [Shape.rowMajor_val_three, Shape.rowMajor_val_two]
      show k.val * 8704 + q.val = (k.val / 128 * 128 + k.val % 128) * 8704 + q.val
      omega
    refine (broadcastTo_apply _ _ _ (ix3 (⟨k.val / 128, by omega⟩ : Fin 40) (0 : Fin 1) q) ?_).trans ?_
    · intro a
      match a with
      | ⟨0, _⟩ => rfl
      | ⟨1, _⟩ => rfl
      | ⟨2, _⟩ => rfl
    refine (shapeCast_apply _ _ _ (ix2 (⟨k.val / 128, by omega⟩ : Fin 40) q) ?_).trans ?_
    · rw [Shape.rowMajor_val_three, Shape.rowMajor_val_two]
      show k.val / 128 * 8704 + q.val = (k.val / 128 * 1 + 0) * 8704 + q.val
      omega
    refine (shapeCast_apply _ _ _ (ix3 (⟨k.val / 128, by omega⟩ : Fin 40) (⟨q.val / 128, by omega⟩ : Fin 68) (⟨q.val % 128, by omega⟩ : Fin 128)) ?_).trans ?_
    · rw [Shape.rowMajor_val_three, Shape.rowMajor_val_two]
      show (k.val / 128 * 68 + q.val / 128) * 128 + q.val % 128 = k.val / 128 * 8704 + q.val
      omega
    refine (broadcastTo_apply _ _ _ (ix3 (⟨k.val / 128, by omega⟩ : Fin 40) (⟨q.val / 128, by omega⟩ : Fin 68) (0 : Fin 1)) ?_).trans ?_
    · intro a
      match a with
      | ⟨0, _⟩ => rfl
      | ⟨1, _⟩ => rfl
      | ⟨2, _⟩ => rfl
    refine (shapeCast_apply _ _ _ (ix2 (⟨k.val / 128, by omega⟩ : Fin 40) (⟨q.val / 128, by omega⟩ : Fin 68)) ?_).trans rfl
    rw [Shape.rowMajor_val_three, Shape.rowMajor_val_two]
    show k.val / 128 * 68 + q.val / 128 = (k.val / 128 * 68 + q.val / 128) * 1 + 0
    omega
  have eg : ∀ x y x' y' : EReal, x = x' → y = y' → x * Ideal.logistic x * y = x' * Ideal.logistic x' * y' := by
    rintro x y _ _ rfl rfl; rfl
  refine eg _ _ _ _ (hp _ _ ?_) (hp _ _ ?_)
  · funext a; apply Fin.ext
    match a with
    | ⟨0, _⟩ => show 0 + r.val = r.val; omega
    | ⟨1, _⟩ => show 0 + (128 * g.val + j.val) = 128 * g.val + j.val; omega
  · funext a; apply Fin.ext
    match a with
    | ⟨0, _⟩ => show 0 + r.val = r.val; omega
    | ⟨1, _⟩ => rfl

end Ref

end Cert.GateSpec

end
-- ==== Proof.Gate.Ref.lean ====
/- The reference's quotients, scales, codes and rounded values, as the formulas. -/
module

public import proofs.«01_k».proof.Proof.Gate.Spec

@[expose] public section

noncomputable section

namespace Cert.GateSpec

open Idealize.ShloMosaic Idealize.ShloMosaic.ValueIdx
open Cert.GateUpReferenceIdeal Cert.GateUpReferenceIdeal.Gen

/-! ## The reference's operations, of any values -/

/-- The largest magnitudes. -/
def m7 (v6 : FVec Ideal S2048x34x128 .f32) : FVec Ideal S2048x34 .f32 :=
  multiReduction .maximumf [2] S2048x34 (absf v6) 0xFF800000#32 reduces_S2048x34x128_S2048x34 (.inl rfl) rfl

/-- The quotients. -/
def q7 (v6 : FVec Ideal S2048x34x128 .f32) : FVec Ideal S2048x34 .f32 :=
  mulf (m7 v6) (broadcast S2048x34 (Scalar.ofBits (F := Ideal) .f32 0x3B124925#32))

/-- The powers. -/
def p8 : FVec Ideal S2048x34x247 .f32 :=
  exp2 (subf (sitofp .f32 (iota .tc S2048x34x247 32 [2] iota_S2048x34x247_d2_w32)) (broadcast S2048x34x247 (Scalar.ofBits (F := Ideal) .f32 0x42FC0000#32)))

/-- The candidates. -/
def c8v (v7 : FVec Ideal S2048x34 .f32) : FVec Ideal S2048x34x247 .f32 :=
  select (cmpf .ogt p8 (broadcastTo S2048x34x247 (shapeCast S2048x34x1 v7 shapeCasts_S2048x34_S2048x34x1) broadcasts_S2048x34x1_S2048x34x247)) p8
    (broadcast S2048x34x247 (Scalar.ofBits (F := Ideal) .f32 0x7B800000#32))

/-- The scales. -/
def s8 (v7 : FVec Ideal S2048x34 .f32) : FVec Ideal S2048x34 .f32 :=
  multiReduction .minimumf [2] S2048x34 (c8v v7) 0x7F800000#32 reduces_S2048x34x247_S2048x34 (.inl rfl) rfl

/-- The codes before the cast. -/
def c9 (v6 : FVec Ideal S2048x34x128 .f32) (v8 : FVec Ideal S2048x34 .f32) : FVec Ideal S2048x34x128 .f32 :=
  minimumf (broadcast S2048x34x128 (Scalar.ofBits (F := Ideal) .f32 0x43E00000#32))
    (maximumf (broadcast S2048x34x128 (Scalar.ofBits (F := Ideal) .f32 0xC3E00000#32))
      (mulf v6 (broadcastTo S2048x34x128 (shapeCast S2048x34x1 (divf (broadcast S2048x34 (Scalar.ofBits (F := Ideal) .f32 0x3F800000#32)) v8)
        shapeCasts_S2048x34_S2048x34x1) broadcasts_S2048x34x1_S2048x34x128)))

theorem sb (b : BitVec 32) : Scalar.ofBits (F := Ideal) .f32 b = Ideal.ofBits .f32 b := rfl

theorem mul_bc {s : Shape} (w : FVec Ideal s .f32) (b : BitVec 32) (i : s.Idx) :
    mulf w (broadcast s (Scalar.ofBits (F := Ideal) .f32 b)) i = (fun x : EReal => x * Ideal.ofBits .f32 b) (w i) := rfl

theorem pow_eq {s : Shape} (io : IVec s 32) (b : BitVec 32) (i : s.Idx) :
    exp2 (subf (sitofp (F := Ideal) .f32 io) (broadcast s (Scalar.ofBits (F := Ideal) .f32 b))) i
      = Ideal.exp2 (((io i).toInt : ℝ) - Ideal.ofBits .f32 b) := rfl

theorem sel_eq {s : Shape} (p x : FVec Ideal s .f32) (b : BitVec 32) (i : s.Idx) :
    select (cmpf .ogt p x) p (broadcast s (Scalar.ofBits (F := Ideal) .f32 b)) i
      = Scalar.select (Ideal.cmp .ogt (p i) (x i)) (p i) (Ideal.ofBits .f32 b) := rfl

theorem sel'_eq {s : Shape} (x y : FVec Ideal s .f32) (b b' : BitVec 32) (i : s.Idx) :
    select (cmpf .olt x (broadcast s (Scalar.ofBits (F := Ideal) .f32 b))) (broadcast s (Scalar.ofBits (F := Ideal) .f32 b')) y i
      = Scalar.select (Ideal.cmp .olt (x i) (Ideal.ofBits .f32 b)) (Ideal.ofBits .f32 b') (y i) := rfl

theorem clip_eq {s : Shape} (x y : FVec Ideal s .f32) (hi lo : BitVec 32) (i : s.Idx) :
    minimumf (broadcast s (Scalar.ofBits (F := Ideal) .f32 hi)) (maximumf (broadcast s (Scalar.ofBits (F := Ideal) .f32 lo)) (mulf x y)) i
      = (fun y : EReal => min (Ideal.ofBits .f32 hi) (max (Ideal.ofBits .f32 lo) ((fun x : EReal => x) (x i) * y))) (y i) := rfl

theorem div_eq {s : Shape} (v : FVec Ideal s .f32) (b : BitVec 32) (i : s.Idx) :
    divf (broadcast s (Scalar.ofBits (F := Ideal) .f32 b)) v i = Ideal.div (Ideal.ofBits .f32 b) (v i) := rfl

theorem fold_of (f : EReal → EReal → EReal) [Std.Commutative f] [Std.Associative f] (b : EReal) {n : ℕ} (k : ℕ) (h : n = k) (x : Fin n → EReal)
    (y : Fin k → EReal) (e : ∀ j : Fin k, x (Fin.cast h.symm j) = y j) :
    (Finset.univ : Finset (Fin n)).fold f b x = (Finset.univ : Finset (Fin k)).fold f b y := by
  subst h
  exact Finset.fold_congr fun j _ => e j

theorem m7_eq (v6 : FVec Ideal S2048x34x128 .f32) (r : Fin 2048) (g : Fin 34) : m7 v6 (ix2 r g) = gmax fun j => v6 (ix3 r g j) := by
  have e : ∀ j : Fin 128, v6 (Shape.Reduces.lift reduces_S2048x34x128_S2048x34 (ix2 r g) j) = v6 (ix3 r g j) := fun j =>
    congrArg v6 (funext fun a => Fin.ext (by
      match a with
      | ⟨0, _⟩ => rfl
      | ⟨1, _⟩ => rfl
      | ⟨2, _⟩ => rfl))
  unfold m7 gmax
  refine (Ideal.multiReduction_maximumf_single _ _ reduces_S2048x34x128_S2048x34 _ _ _).trans ?_
  refine (fold_of max _ 128 rfl _ _ fun j => ?_)
  exact congrArg (fun x : EReal => max x (-x)) (e j)

theorem q7_eq (v6 : FVec Ideal S2048x34x128 .f32) (r : Fin 2048) (g : Fin 34) : q7 v6 (ix2 r g) = gx fun j => v6 (ix3 r g j) := by
  refine Eq.trans ?_ (congrArg (fun x : EReal => x * Ideal.ofBits .f32 0x3B124925#32) (m7_eq v6 r g))
  exact mul_bc (m7 v6) _ _

theorem bc_eq (v7 : FVec Ideal S2048x34 .f32) (r : Fin 2048) (g : Fin 34) (n : Fin 247) :
    broadcastTo S2048x34x247 (shapeCast S2048x34x1 v7 shapeCasts_S2048x34_S2048x34x1) broadcasts_S2048x34x1_S2048x34x247 (ix3 r g n) = v7 (ix2 r g) := by
  refine (broadcastTo_apply _ _ _ (ix3 r g (0 : Fin 1)) ?_).trans ?_
  · intro a
    match a with
    | ⟨0, _⟩ => rfl
    | ⟨1, _⟩ => rfl
    | ⟨2, _⟩ => rfl
  refine shapeCast_apply _ _ _ (ix2 r g) ?_
  rw [Shape.rowMajor_val_three, Shape.rowMajor_val_two]
  show r.val * 34 + g.val = (r.val * 34 + g.val) * 1 + 0
  omega

theorem bc'_eq (v7 : FVec Ideal S2048x34 .f32) (r : Fin 2048) (g : Fin 34) (n : Fin 128) :
    broadcastTo S2048x34x128 (shapeCast S2048x34x1 v7 shapeCasts_S2048x34_S2048x34x1) broadcasts_S2048x34x1_S2048x34x128 (ix3 r g n) = v7 (ix2 r g) := by
  refine (broadcastTo_apply _ _ _ (ix3 r g (0 : Fin 1)) ?_).trans ?_
  · intro a
    match a with
    | ⟨0, _⟩ => rfl
    | ⟨1, _⟩ => rfl
    | ⟨2, _⟩ => rfl
  refine shapeCast_apply _ _ _ (ix2 r g) ?_
  rw [Shape.rowMajor_val_three, Shape.rowMajor_val_two]
  show r.val * 34 + g.val = (r.val * 34 + g.val) * 1 + 0
  omega

theorem iota_eq (r : Fin 2048) (g : Fin 34) (n : Fin 247) :
    iota .tc S2048x34x247 32 [2] iota_S2048x34x247_d2_w32 (ix3 r g n) = BitVec.ofNat 32 n.val := by
  show BitVec.ofNat 32 (0 * 247 + n.val) = _
  rw [Nat.zero_mul, Nat.zero_add]

theorem p8_eq (r : Fin 2048) (g : Fin 34) (n : Fin 247) :
    p8 (ix3 r g n) = Ideal.exp2 (((BitVec.ofNat 32 n.val).toInt : ℝ) - Ideal.ofBits .f32 0x42FC0000#32) := by
  rw [← iota_eq r g n]
  exact pow_eq _ _ _

theorem c8v_eq (v7 : FVec Ideal S2048x34 .f32) (r : Fin 2048) (g : Fin 34) (n : Fin 247) : c8v v7 (ix3 r g n) = cand (v7 (ix2 r g)) n.val := by
  unfold cand
  rw [← p8_eq r g n, ← bc_eq v7 r g n]
  exact sel_eq p8 _ _ _

theorem s8_eq (v7 : FVec Ideal S2048x34 .f32) (r : Fin 2048) (g : Fin 34) : s8 v7 (ix2 r g) = kscale (v7 (ix2 r g)) := by
  rw [← rscale_eq]
  unfold s8 rscale
  have e : ∀ n : Fin 247, c8v v7 (Shape.Reduces.lift reduces_S2048x34x247_S2048x34 (ix2 r g) n) = cand (v7 (ix2 r g)) n.val := fun n =>
    (congrArg (c8v v7) (funext fun a => Fin.ext (by
      match a with
      | ⟨0, _⟩ => rfl
      | ⟨1, _⟩ => rfl
      | ⟨2, _⟩ => rfl))).trans (c8v_eq v7 r g n)
  refine (multiReduction_minimumf_eq_fold _ _ reduces_S2048x34x247_S2048x34 _ _ _).trans ?_
  refine (Shape.Reduces.fold_filter_drop_single reduces_S2048x34x247_S2048x34 _ _ _ _).trans ?_
  exact fold_of min _ 247 rfl _ _ e

theorem c9_eq (v6 : FVec Ideal S2048x34x128 .f32) (v8 : FVec Ideal S2048x34 .f32) (r : Fin 2048) (g : Fin 34) (j : Fin 128)
    (h : v8 (ix2 r g) = kscale (gx fun j => v6 (ix3 r g j))) : c9 v6 v8 (ix3 r g j) = gcode (fun j => v6 (ix3 r g j)) j := by
  unfold gcode
  rw [← h, ← div_eq v8 _ (ix2 r g), ← bc'_eq (divf (broadcast S2048x34 (Scalar.ofBits (F := Ideal) .f32 0x3F800000#32)) v8) r g j]
  exact clip_eq v6 _ _ _ _

/-- The rounded values of any codes and scales. -/
theorem ma_eq (v8 : FVec Ideal S2048x34 .f32) (v9 : FVec Ideal S2048x34x128 .f32) (r : Fin 2048) (q : Fin 4352) :
    k0_pay3 (F := Ideal) v8 v9 (ix2 r q)
      = (v9 (ix3 r (⟨q.val / 128, by omega⟩ : Fin 34) (⟨q.val % 128, by omega⟩ : Fin 128)) * v8 (ix2 r (⟨q.val / 128, by omega⟩ : Fin 34)) : EReal) := by
  unfold k0_pay3 k0_pay1
  refine (shapeCast_apply _ _ _ (ix3 r (⟨q.val / 128, by omega⟩ : Fin 34) (⟨q.val % 128, by omega⟩ : Fin 128)) ?_).trans ?_
  · rw [Shape.rowMajor_val_three, Shape.rowMajor_val_two]
    show (r.val * 34 + q.val / 128) * 128 + q.val % 128 = r.val * 4352 + q.val
    omega
  rw [← bc'_eq v8 r _ (⟨q.val % 128, by omega⟩ : Fin 128)]
  rfl

/-- The codes. -/
theorem mc_eq (v9 : FVec Ideal S2048x34x128 .f32) (r : Fin 2048) (q : Fin 4352) :
    k0_pay2 (F := Ideal) v9 (ix2 r q) = v9 (ix3 r (⟨q.val / 128, by omega⟩ : Fin 34) (⟨q.val % 128, by omega⟩ : Fin 128)) := by
  unfold k0_pay2 k0_pay1
  refine (shapeCast_apply _ _ _ (ix3 r (⟨q.val / 128, by omega⟩ : Fin 34) (⟨q.val % 128, by omega⟩ : Fin 128)) ?_).trans rfl
  rw [Shape.rowMajor_val_three, Shape.rowMajor_val_two]
  show (r.val * 34 + q.val / 128) * 128 + q.val % 128 = r.val * 4352 + q.val
  omega

/-- The stored scales of any quotients and scales. -/
theorem st_eq (v7 v8 : FVec Ideal S2048x34 .f32) (r : Fin 2048) (g : Fin 34) (h : v8 (ix2 r g) = kscale (v7 (ix2 r g))) :
    k0_pay5 (F := Ideal) v7 v8 (ix2 r g) = kstored (v7 (ix2 r g)) := by
  rw [← rstored_eq]
  unfold rstored
  rw [rscale_eq, ← h]
  exact sel'_eq v7 v8 _ _ _

/-! ## The reference's payloads -/

section Ref

variable (a0 : Vec Ideal ⟨2, ![1024, 5120]⟩ .i32) (a1 : Vec Ideal ⟨2, ![5120, 8704]⟩ .fp8e4m3) (a2 : Vec Ideal ⟨2, ![40, 68]⟩ .f32)

theorem is7 : k0_pay7 (F := Ideal) a0 a1 a2 = q7 (k0_pay6 a0 a1 a2) := by unfold k0_pay7 q7 m7; rfl
theorem is8 : k0_pay8 (F := Ideal) a0 a1 a2 = s8 (k0_pay7 a0 a1 a2) := by unfold k0_pay8 s8 c8v p8; rfl
theorem is9 : k0_pay9 (F := Ideal) a0 a1 a2 = c9 (k0_pay6 a0 a1 a2) (k0_pay8 a0 a1 a2) := by unfold k0_pay9 c9; rfl

theorem grp_eq (r : Fin 2048) (g : Fin 34) : (fun j => k0_pay6 (F := Ideal) a0 a1 a2 (ix3 r g j)) = grp a0 a1 a2 r g :=
  funext fun j => pay6_eq a0 a1 a2 r g j

/-- The reference's quotients. -/
theorem pay7_eq (r : Fin 2048) (g : Fin 34) : k0_pay7 (F := Ideal) a0 a1 a2 (ix2 r g) = gx (grp a0 a1 a2 r g) := by
  rw [is7, q7_eq, grp_eq]

/-- The reference's scales. -/
theorem pay8_eq (r : Fin 2048) (g : Fin 34) : k0_pay8 (F := Ideal) a0 a1 a2 (ix2 r g) = kscale (gx (grp a0 a1 a2 r g)) := by
  rw [is8, s8_eq, pay7_eq]

/-- The reference's codes, before the cast. -/
theorem pay9_eq (r : Fin 2048) (g : Fin 34) (j : Fin 128) : k0_pay9 (F := Ideal) a0 a1 a2 (ix3 r g j) = gcode (grp a0 a1 a2 r g) j := by
  rw [is9, c9_eq _ _ r g j (by rw [pay8_eq, grp_eq]), grp_eq]

/-- The reference's codes. -/
theorem pay2_eq (r : Fin 2048) (q : Fin 4352) : k0_pay2 (F := Ideal) (k0_pay9 a0 a1 a2) (ix2 r q) = mcS a0 a1 a2 r q := by
  rw [mc_eq, pay9_eq]
  rfl

/-- The reference's rounded values. -/
theorem pay3_eq (r : Fin 2048) (q : Fin 4352) :
    k0_pay3 (F := Ideal) (k0_pay8 a0 a1 a2) (k0_pay9 a0 a1 a2) (ix2 r q) = maS a0 a1 a2 r q := by
  rw [ma_eq, pay9_eq, pay8_eq]
  rfl

/-- The reference's stored scales. -/
theorem pay5_eq (r : Fin 2048) (g : Fin 34) :
    k0_pay5 (F := Ideal) (k0_pay7 a0 a1 a2) (k0_pay8 a0 a1 a2) (ix2 r g) = kstored (gx (grp a0 a1 a2 r g)) := by
  rw [st_eq _ _ r g (by rw [pay8_eq, pay7_eq]), pay7_eq]

end Ref

end Cert.GateSpec

end
-- ==== Proof.Gate.Block.lean ====
/- What the kernel's body computes for one block, over the extended reals: the codes, the rounded values and the stored
   scales of a group are the formulas of the group's 128 values, and the values are those of the block's products. -/
module

public import proofs.«01_k».proof.Proof.Gate.Math
public import proofs.«01_k».proof.Proof.Gate.Ref

@[expose] public section

noncomputable section

namespace Cert.GateSpec

open Idealize.ShloMosaic Idealize.ShloMosaic.ValueIdx
open Cert.GateUpIdeal Cert.GateUpIdeal.Gen Cert.GateUpIdeal.Gate
open Cert.Down (act act_eq)
open scoped BigOperators

/-! ## The search, on vectors -/

/-- A step of the search. -/
def stV {s : Shape} (x : FVec Ideal s .f32) (b : BitVec 32) (p : FVec Ideal s .f32) : FVec Ideal s .f32 :=
  select (cmpf .oge x (mulf p (broadcast s (Scalar.ofBits (F := Ideal) .f32 b)))) (mulf p (broadcast s (Scalar.ofBits (F := Ideal) .f32 b))) p

theorem stV_eq {s : Shape} (x : FVec Ideal s .f32) (b : BitVec 32) (p : FVec Ideal s .f32) (i : s.Idx) :
    stV x b p i = st (x i) (Ideal.ofBits .f32 b) (p i) := rfl

theorem bc_bits {s : Shape} (b : BitVec 32) (i : s.Idx) : broadcast s (Scalar.ofBits (F := Ideal) .f32 b) i = Ideal.ofBits .f32 b := rfl

theorem extf_eq {s : Shape} (v : FVec Ideal s .fp8e4m3) (i : s.Idx) : extf (F := Ideal) .bf16 v bitsLt_fp8e4m3_bf16 i = v i := rfl

/-- The search and the last doubling. -/
def chainV {s : Shape} (x : FVec Ideal s .f32) : FVec Ideal s .f32 :=
  mulf (stV x 0x40000000#32 (stV x 0x40800000#32 (stV x 0x41800000#32 (stV x 0x43800000#32 (stV x 0x47800000#32 (stV x 0x4F800000#32
    (stV x 0x5F800000#32 (stV x 0x7A800000#32 (broadcast s (Scalar.ofBits (F := Ideal) .f32 0x00800000#32))))))))))
    (broadcast s (Scalar.ofBits (F := Ideal) .f32 0x40000000#32))

theorem chainV_eq {s : Shape} (x : FVec Ideal s .f32) (i : s.Idx) : chainV x i = chain (x i) := by
  unfold chainV chain
  rw [mul_bc, stV_eq, stV_eq, stV_eq, stV_eq, stV_eq, stV_eq, stV_eq, stV_eq, bc_bits]

/-- The quotients. -/
def qV {s : Shape} (a : FVec Ideal s .f32) : FVec Ideal s .f32 := mulf a (broadcast s (Scalar.ofBits (F := Ideal) .f32 0x3B124925#32))

theorem up_eq (v : FVec Ideal S256x128 .f32) :
    k0_pay402 (F := Ideal) v = select (cmpf .olt (qV (k0_pay401 v)) (broadcast S256x1 (Scalar.ofBits (F := Ideal) .f32 0x00800000#32)))
      (broadcast S256x1 (Scalar.ofBits (F := Ideal) .f32 0x00800000#32)) (chainV (qV (k0_pay401 v))) := by
  unfold k0_pay402 chainV qV stV
  rfl

theorem amax_eq (g : FVec Ideal S256x128 .f32) (r : Fin 256) : amax g (ix2 r (0 : Fin 1)) = gmax fun j => g (ix2 r j) := by
  have e : ∀ j : Fin 128, g (Shape.Reduces.lift reduces_S256x128_S256 (ix1 r) j) = g (ix2 r j) := fun j =>
    congrArg g (funext fun a => Fin.ext (by
      match a with
      | ⟨0, _⟩ => rfl
      | ⟨1, _⟩ => rfl))
  unfold amax k0_pay401 gmax
  refine (shapeCast_apply _ _ _ (ix1 r) ?_).trans ?_
  · rw [Shape.rowMajor_val_one, Shape.rowMajor_val_two]
    show r.val = r.val * 1 + 0
    omega
  refine (Ideal.multiReduction_maximumf_single _ _ reduces_S256x128_S256 _ _ _).trans ?_
  refine (fold_of max _ 128 rfl _ _ fun j => ?_)
  exact congrArg (fun x : EReal => max x (-x)) (e j)

theorem quot_eq (g : FVec Ideal S256x128 .f32) (r : Fin 256) : qV (amax g) (ix2 r (0 : Fin 1)) = gx fun j => g (ix2 r j) := by
  unfold gx
  rw [← amax_eq]
  exact mul_bc (amax g) _ _

/-- The kernel's scale of a group's row. -/
theorem scale_eq (g : FVec Ideal S256x128 .f32) (r : Fin 256) :
    k0_pay402 (F := Ideal) (absf g) (ix2 r (0 : Fin 1)) = kscale (gx fun j => g (ix2 r j)) := by
  rw [up_eq, sel'_eq, chainV_eq, ← quot_eq]
  rfl

theorem inv_eq (g : FVec Ideal S256x128 .f32) (r : Fin 256) (j : Fin 128) :
    k0_pay403 (F := Ideal) (absf g) (ix2 r j) = Ideal.div (Ideal.ofBits .f32 0x3F800000#32) (kscale (gx fun j => g (ix2 r j))) := by
  unfold k0_pay403
  refine (broadcastTo_apply _ _ _ (ix2 r (0 : Fin 1)) ?_).trans ?_
  · intro a
    match a with
    | ⟨0, _⟩ => rfl
    | ⟨1, _⟩ => rfl
  rw [← scale_eq]
  exact div_eq _ _ _

/-- The kernel's codes of a group. -/
theorem code_eq (g : FVec Ideal S256x128 .f32) (r : Fin 256) (j : Fin 128) : codeOf g (ix2 r j) = gcode (fun j => g (ix2 r j)) j := by
  unfold codeOf gcode
  rw [← inv_eq g r j]
  unfold k0_pay404
  exact clip_eq g _ _ _ _

/-- The kernel's rounded values of a group. -/
theorem maOf_eq (g : FVec Ideal S256x128 .f32) (r : Fin 256) (j : Fin 128) : maOf g (ix2 r j) = gma (fun j => g (ix2 r j)) j := by
  unfold maOf gma
  rw [← code_eq g r j, ← scale_eq g r]
  unfold codeOf k0_pay405
  generalize k0_pay404 (F := Ideal) g (k0_pay403 (absf g)) = x
  generalize k0_pay402 (F := Ideal) (absf g) = u
  have e : broadcastTo S256x128 (truncf (F := Ideal) .bf16 u bitsLt_bf16_f32) broadcasts_S256x1_S256x128 (ix2 r j) = u (ix2 r (0 : Fin 1)) := by
    refine (broadcastTo_apply _ _ _ (ix2 r (0 : Fin 1)) ?_).trans rfl
    intro a
    match a with
    | ⟨0, _⟩ => rfl
    | ⟨1, _⟩ => rfl
  rw [← e]
  rfl

/-- A group's stored scales put in at the lanes of a mask. -/
theorem put_eq (d : FVec Ideal S256x128 .f32) (g : FVec Ideal S256x128 .f32) (mask : IVec S256x128 1) (r : Fin 256) (l : Fin 128) :
    k0_pay398 (F := Ideal) d (amax g) mask (ix2 r l)
      = Scalar.select (mask (ix2 r l)) (kstored (gx fun j => g (ix2 r j))) (d (ix2 r l)) := by
  have e0 : k0_pay398 (F := Ideal) d (amax g) mask = select mask (broadcastTo S256x128 (shapeCast S256x1
      (select (cmpf .olt (qV (amax g)) (broadcast S256x1 (Scalar.ofBits (F := Ideal) .f32 0x00800000#32)))
        (broadcast S256x1 (Scalar.ofBits (F := Ideal) .f32 0x3F800000#32)) (chainV (qV (amax g)))) shapeCasts_S256x1_S256x1) broadcasts_S256x1_S256x128) d := by
    unfold k0_pay398 chainV qV stV
    rfl
  rw [e0]
  unfold select
  refine congrArg (fun x => Scalar.select (mask (ix2 r l)) x (d (ix2 r l))) ?_
  refine (broadcastTo_apply _ _ _ (ix2 r (0 : Fin 1)) ?_).trans ?_
  · intro a
    match a with
    | ⟨0, _⟩ => rfl
    | ⟨1, _⟩ => rfl
  rw [shapeCast_self]
  refine (sel'_eq (qV (amax g)) (chainV (qV (amax g))) _ _ _).trans ?_
  rw [chainV_eq, quot_eq]
  rfl

/-! ## The values -/

/-- The product of row `r` and column `c` of a weight block. -/
def kp (x8 : Vec Ideal S1024x5120 .i32) (w : Vec Ideal S5120x512 .bf16) (r : Fin 2048) (c : Fin 512) : EReal :=
  ∑ k : Fin 5120, act x8 r.val (by omega) k * w (ix2 k c)

/-- The value at row `r` and column `c` of a block. -/
def kv (x8 : Vec Ideal S1024x5120 .i32) (w : Vec Ideal S5120x512 .bf16) (r : Fin 2048) (c : Fin 256) : EReal :=
  kp x8 w r ⟨c.val, by omega⟩ * Ideal.logistic (kp x8 w r ⟨c.val, by omega⟩) * kp x8 w r ⟨256 + c.val, by omega⟩

set_option maxRecDepth 16384 in
theorem dot_eq (x8 : Vec Ideal S1024x5120 .i32) (w : Vec Ideal S5120x512 .bf16) (r : Fin 2048) (c : Fin 512) (i : S256x512.Idx)
    (hi : i = ix2 (⟨r.val % 256, by omega⟩ : Fin 256) c) :
    FloatOps.matmul (F := Ideal) (φ₁ := .bf16) (φ₂ := .bf16) (DotDims.plain 256 5120 512) none
      (bitcastToFloat (F := Ideal) .bf16 (bitcast ⟨2, ![256, 5120]⟩ 16 (rows8 x8 (r.val / 256)) bitcasts_S128x5120_w32_S256x5120_w16)) w
      (constant (F := Ideal) S256x512 .f32 0x00000000#32) i = kp x8 w r c := by
  subst hi
  rw [Ideal.matmul_plain_apply]
  show Ideal.ofBits .f32 0x00000000#32 + _ = _
  rw [Ideal.ofBits_zero_f32, zero_add]
  unfold kp
  refine Finset.sum_congr rfl fun k _ => congrArg (· * w (ix2 k c)) ?_
  refine (act_eq (rows8 x8 (r.val / 256)) _ (⟨r.val % 256, by omega⟩ : Fin 256) (by show r.val % 256 / 2 < 128; omega) k).trans ?_
  unfold act
  have e : ∀ (i i' : (⟨2, ![1024, 5120]⟩ : Shape).Idx) (n n' : ℕ), i = i' → n = n' →
      FloatOps.ofBits (F := Ideal) .bf16 ((x8 i).extractLsb' (16 * n) 16) = FloatOps.ofBits (F := Ideal) .bf16 ((x8 i').extractLsb' (16 * n') 16) := by
    rintro i _ n _ rfl rfl; rfl
  refine e _ _ _ _ (funext fun a => Fin.ext ?_) (by show r.val % 256 % 2 = r.val % 2; omega)
  match a with
  | ⟨0, _⟩ => show (128 * (r.val / 256) + r.val % 256 / 2) % 1024 = r.val / 2; omega
  | ⟨1, _⟩ => rfl

set_option maxRecDepth 16384 in
/-- The kernel's values. -/
theorem vv_eq (x8 : Vec Ideal S1024x5120 .i32) (w : Vec Ideal S5120x512 .bf16) (r : Fin 2048) (c : Fin 256) (i : S256x256.Idx)
    (hi : i = ix2 (⟨r.val % 256, by omega⟩ : Fin 256) c) : vv (F := Ideal) (rows8 x8 (r.val / 256)) w i = kv x8 w r c := by
  subst hi
  unfold vv k0_pay387 kv
  have eg : ∀ x y x' y' : EReal, x = x' → y = y' → x * Ideal.logistic x * y = x' * Ideal.logistic x' * y' := by
    rintro x y _ _ rfl rfl; rfl
  refine eg _ _ _ _ (dot_eq x8 w r _ _ ?_) (dot_eq x8 w r _ _ ?_)
  · funext a; apply Fin.ext
    match a with
    | ⟨0, _⟩ => show 0 + r.val % 256 = r.val % 256; omega
    | ⟨1, _⟩ => show 0 + c.val = c.val; omega
  · funext a; apply Fin.ext
    match a with
    | ⟨0, _⟩ => show 0 + r.val % 256 = r.val % 256; omega
    | ⟨1, _⟩ => rfl

/-- Group `b` of row `r` of a block. -/
def kg (x8 : Vec Ideal S1024x5120 .i32) (w : Vec Ideal S5120x512 .bf16) (r : Fin 2048) (b : Fin 2) (j : Fin 128) : EReal :=
  kv x8 w r ⟨128 * b.val + j.val, by omega⟩

theorem gsl_at (v : FVec Ideal S256x256 .f32) (r : Fin 256) (b : Fin 2) (j : Fin 128) :
    gsl (F := Ideal) b.val v (ix2 r j) = v (ix2 r (⟨128 * b.val + j.val, by omega⟩ : Fin 256)) := by
  match b with
  | ⟨0, _⟩ =>
    refine extractStridedSlice_apply ![0, 0] v slices_S256x256_o0_0_S256x128 _ (ix2 r (⟨128 * 0 + j.val, by omega⟩ : Fin 256)) ?_
    intro a
    match a with
    | ⟨0, _⟩ => show r.val = 0 + r.val; omega
    | ⟨1, _⟩ => show 128 * 0 + j.val = 0 + j.val; omega
  | ⟨1, _⟩ =>
    refine extractStridedSlice_apply ![0, 128] v slices_S256x256_o0_128_S256x128 _ (ix2 r (⟨128 * 1 + j.val, by omega⟩ : Fin 256)) ?_
    intro a
    match a with
    | ⟨0, _⟩ => show r.val = 0 + r.val; omega
    | ⟨1, _⟩ => show 128 * 1 + j.val = 128 + j.val; omega

theorem gsl_eq (x8 : Vec Ideal S1024x5120 .i32) (w : Vec Ideal S5120x512 .bf16) (r : Fin 2048) (b : Fin 2) (j : Fin 128) :
    gsl (F := Ideal) b.val (vv (rows8 x8 (r.val / 256)) w) (ix2 (⟨r.val % 256, by omega⟩ : Fin 256) j) = kg x8 w r b j :=
  (gsl_at _ _ b j).trans (vv_eq x8 w r _ _ rfl)

theorem kg_row (x8 : Vec Ideal S1024x5120 .i32) (w : Vec Ideal S5120x512 .bf16) (r : Fin 2048) (b : Fin 2) :
    (fun j : Fin 128 => gsl (F := Ideal) b.val (vv (rows8 x8 (r.val / 256)) w) (ix2 (⟨r.val % 256, by omega⟩ : Fin 256) j)) = kg x8 w r b :=
  funext fun j => gsl_eq x8 w r b j

theorem gIdx_eq (r : Fin 2048) (p : Fin 256) :
    gIdx (ix2 r p) = ix2 (⟨r.val % 256, by omega⟩ : Fin 256) (⟨p.val % 128, by omega⟩ : Fin 128) := by
  funext a
  match a with
  | ⟨0, _⟩ => rfl
  | ⟨1, _⟩ => rfl

/-- The codes of a block. -/
theorem mcK_eq (x8 : Vec Ideal S1024x5120 .i32) (w : Vec Ideal S5120x512 .bf16) (r : Fin 2048) (p : Fin 256) :
    mc (F := Ideal) x8 w (ix2 r p) = gcode (kg x8 w r ⟨p.val / 128, by omega⟩) ⟨p.val % 128, by omega⟩ := by
  rw [← kg_row, ← code_eq, ← gIdx_eq]
  rfl

/-- The rounded values of a block. -/
theorem maK_eq (x8 : Vec Ideal S1024x5120 .i32) (w : Vec Ideal S5120x512 .bf16) (r : Fin 2048) (p : Fin 256) :
    ma (F := Ideal) x8 w (ix2 r p) = gma (kg x8 w r ⟨p.val / 128, by omega⟩) ⟨p.val % 128, by omega⟩ := by
  rw [← kg_row, ← maOf_eq, ← gIdx_eq]
  rfl

/-! ## The stored scales -/

theorem laneK (r : Fin 256) (l : Fin 128) :
    iota .tc S256x128 32 [1] iota_S256x128_d1_w32 (ix2 r l) = BitVec.ofNat 32 l.val := by
  show BitVec.ofNat 32 (0 * 128 + l.val) = _
  rw [Nat.zero_mul, Nat.zero_add]

theorem word_lt : ∀ (k : Fin 17) (l : Fin 128),
    Scalar.cmpi .slt (BitVec.ofNat 32 l.val) (Scalar.muli (Scalar.subi (BitVec.ofNat 32 (k.val + 1)) 1#32) 2#32)
      = if l.val < 2 * k.val then 1#1 else 0#1 := by decide +kernel
theorem word_0 : ∀ (k : Fin 17) (l : Fin 128),
    Scalar.cmpi .eq (BitVec.ofNat 32 l.val) (Scalar.addi (Scalar.muli (Scalar.subi (BitVec.ofNat 32 (k.val + 1)) 1#32) 2#32) 0#32)
      = if l.val = 2 * k.val then 1#1 else 0#1 := by decide +kernel
theorem word_1 : ∀ (k : Fin 17) (l : Fin 128),
    Scalar.cmpi .eq (BitVec.ofNat 32 l.val) (Scalar.addi (Scalar.muli (Scalar.subi (BitVec.ofNat 32 (k.val + 1)) 1#32) 2#32) 1#32)
      = if l.val = 2 * k.val + 1 then 1#1 else 0#1 := by decide +kernel

theorem sel_if {α : Type} (p : Prop) [Decidable p] (a b : α) : Scalar.select (if p then 1#1 else 0#1) a b = if p then a else b := by
  by_cases h : p <;> simp [Scalar.select, h]

/-- The scales after grid point `k + 1`, from those before. -/
theorem msK_eq (i : grid0.Coords) (k : ℕ) (hk : k < 17) (hi : (i 0).val = k + 1) (x6 : Vec Ideal S2048x128 .f32) (x8 : Vec Ideal S1024x5120 .i32)
    (w : Vec Ideal S5120x512 .bf16) (r : Fin 2048) (l : Fin 128) :
    ms (F := Ideal) i x6 x8 w (ix2 r l) = if l.val = 2 * k + 1 then kstored (gx (kg x8 w r 1)) else if l.val = 2 * k then kstored (gx (kg x8 w r 0))
      else if l.val < 2 * k then x6 (ix2 r l) else Ideal.ofBits .f32 0x00000000#32 := by
  have hp : pt i = Scalar.subi (BitVec.ofNat 32 (k + 1)) 1#32 := by unfold pt; rw [hi]
  have e : ms (F := Ideal) i x6 x8 w (ix2 r l)
      = msRows i (rows6 x6 (r.val / 256)) (vv (rows8 x8 (r.val / 256)) w) (ix2 (⟨r.val % 256, by omega⟩ : Fin 256) l) := by
    unfold ms
    refine congrArg (msRows i (rows6 x6 (r.val / 256)) (vv (rows8 x8 (r.val / 256)) w)) ?_
    funext a
    match a with
    | ⟨0, _⟩ => rfl
    | ⟨1, _⟩ => rfl
  have e1 : k0_pay406 (pt i) (iota .tc S256x128 32 [1] iota_S256x128_d1_w32) (ix2 (⟨r.val % 256, by omega⟩ : Fin 256) l)
      = if l.val = 2 * k + 1 then 1#1 else 0#1 := by
    refine Eq.trans ?_ (word_1 ⟨k, hk⟩ l)
    rw [← laneK (⟨r.val % 256, by omega⟩ : Fin 256) l, hp]
    rfl
  have e0 : k0_pay397 (pt i) (iota .tc S256x128 32 [1] iota_S256x128_d1_w32) (ix2 (⟨r.val % 256, by omega⟩ : Fin 256) l)
      = if l.val = 2 * k then 1#1 else 0#1 := by
    refine Eq.trans ?_ (word_0 ⟨k, hk⟩ l)
    rw [← laneK (⟨r.val % 256, by omega⟩ : Fin 256) l, hp]
    rfl
  have ed : ∀ d : Vec Ideal S256x128 .f32, k0_pay388 (F := Ideal) (pt i) (iota .tc S256x128 32 [1] iota_S256x128_d1_w32) d (ix2 (⟨r.val % 256, by omega⟩ : Fin 256) l)
      = if l.val < 2 * k then d (ix2 (⟨r.val % 256, by omega⟩ : Fin 256) l) else Ideal.ofBits .f32 0x00000000#32 := by
    intro d
    refine Eq.trans ?_ (sel_if _ _ _)
    rw [← word_lt ⟨k, hk⟩ l, ← laneK (⟨r.val % 256, by omega⟩ : Fin 256) l, hp]
    unfold k0_pay388
    rw [shapeCast_self]
    rfl
  have e6 : rows6 x6 (r.val / 256) (ix2 (⟨r.val % 256, by omega⟩ : Fin 256) l) = x6 (ix2 r l) := by
    unfold rows6
    refine congrArg x6 (funext fun a => Fin.ext ?_)
    match a with
    | ⟨0, _⟩ => show (256 * (r.val / 256) + r.val % 256) % 2048 = r.val; omega
    | ⟨1, _⟩ => rfl
  rw [e]
  unfold msRows
  rw [put_eq, put_eq, e1, e0, ed, sel_if, sel_if, e6]
  have g1 := kg_row x8 w r 1
  have g0 := kg_row x8 w r 0
  rw [← g1, ← g0]
  rfl

end Cert.GateSpec

end
-- ==== Proof.Gate.Value.lean ====
/- The three result arrays after a run of the kernel, at the extended reals: the formulas `Cert.GateSpec.mcS`, `msS` and
   `maS` of the arguments. -/
module

public import proofs.«01_k».proof.Proof.Gate.Run
public import proofs.«01_k».proof.Proof.Gate.Block

@[expose] public section

set_option maxRecDepth 16384

noncomputable section

namespace Cert.GateUpIdeal.Gate

open Cert.GateUpIdeal.Gen Cert.GateSpec

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Down (act)
open scoped BigOperators

section Blocks

variable {F : FTy → Type} [FloatOps F] (m : (ℓ : Loc nD τ sig) → Buf (Elt F) ℓ)

/-- The pipeline is entered with the scales transposed. -/
theorem V_scales (c : Dev nD) : V m c main_v0 = transpose S68x40 [1, 0] (m ((c : Thread nD τ).loc main_arg2)) transposes_S40x68_S68x40_1_0 := by
  show StableHlo.after hostOps0 _ (Proc.devRef .tc main_v0) = _
  after_results

/-- The block numbers of the windows at point `t`. -/
theorem idx0 : ∀ t : Fin cfg0.N, win0_0.index t (0 : Fin 2) = 0 ∧ win0_0.index t (1 : Fin 2) = min t.val 16 :=
  (by decide +kernel : ∀ t : Fin grid0.N, _)
theorem idx1 : ∀ t : Fin cfg0.N, win0_1.index t (0 : Fin 2) = 0 ∧ win0_1.index t (1 : Fin 2) = min t.val 16 + 17 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val - 1 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = t.val - 1 :=
  (by decide +kernel : ∀ t : Fin grid0.N, _)

theorem lt18 (t : Fin cfg0.N) : t.val < 18 := lt_of_lt_of_eq t.isLt (show cfg0.N = 18 from N_0)

/-- The gate's weight block of point `t`. -/
theorem iblk0_apply (c : Dev nD) (t : Fin cfg0.N) (k : Fin 5120) (p : Fin 256) :
    iblk m c 0 t (ix2 k p) = m ((c : Thread nD τ).loc main_arg1) (ix2 k (⟨256 * min t.val 16 + p.val, by omega⟩ : Fin 8704)) := by
  show V m c main_arg1 (((cfg0.win 0).blk t).view.emb (ix2 k p)) = _
  rw [V_main_arg1]
  obtain ⟨e0, e1⟩ := idx0 t
  refine congrArg (m ((c : Thread nD τ).loc main_arg1)) (funext fun a => Fin.ext ?_)
  match a with
  | ⟨0, _⟩ => show win0_0.index t (0 : Fin 2) * 5120 + 1 * k.val = k.val; omega
  | ⟨1, _⟩ => show win0_0.index t (1 : Fin 2) * 256 + 1 * p.val = 256 * min t.val 16 + p.val; omega

/-- The up projection's weight block of point `t`. -/
theorem iblk1_apply (c : Dev nD) (t : Fin cfg0.N) (k : Fin 5120) (p : Fin 256) :
    iblk m c 1 t (ix2 k p) = m ((c : Thread nD τ).loc main_arg1) (ix2 k (⟨4352 + 256 * min t.val 16 + p.val, by omega⟩ : Fin 8704)) := by
  show V m c main_arg1 (((cfg0.win 1).blk t).view.emb (ix2 k p)) = _
  rw [V_main_arg1]
  obtain ⟨e0, e1⟩ := idx1 t
  refine congrArg (m ((c : Thread nD τ).loc main_arg1)) (funext fun a => Fin.ext ?_)
  match a with
  | ⟨0, _⟩ => show win0_1.index t (0 : Fin 2) * 5120 + 1 * k.val = k.val; omega
  | ⟨1, _⟩ => show win0_1.index t (1 : Fin 2) * 256 + 1 * p.val = 4352 + 256 * min t.val 16 + p.val; omega

/-- The scales, at every point. -/
theorem iblk2_apply (c : Dev nD) (t : Fin cfg0.N) (a : Fin 68) (b : Fin 40) :
    iblk m c 2 t (ix2 a b) = m ((c : Thread nD τ).loc main_arg2) (ix2 b a) := by
  show V m c main_v0 (((cfg0.win 2).blk t).view.emb (ix2 a b)) = _
  rw [V_scales]
  obtain ⟨e0, e1⟩ := idx2 t
  refine transpose_apply _ _ _ _ _ ?_
  intro x
  match x with
  | ⟨0, _⟩ => show a.val = win0_2.index t (0 : Fin 2) * 68 + 1 * a.val; omega
  | ⟨1, _⟩ => show b.val = win0_2.index t (1 : Fin 2) * 40 + 1 * b.val; omega

end Blocks

variable (m : (ℓ : Loc nD τ sig) → Buf (Elt Ideal) ℓ) (ρ : Dev nD → PrngReg)

/-- The arguments, as arrays. -/
abbrev xa (c : Dev nD) : Vec Ideal S1024x5120 .i32 := m ((c : Thread nD τ).loc main_arg0)
abbrev wts (c : Dev nD) : Vec Ideal S5120x8704 .fp8e4m3 := m ((c : Thread nD τ).loc main_arg1)
abbrev scl (c : Dev nD) : Vec Ideal S40x68 .f32 := m ((c : Thread nD τ).loc main_arg2)

/-- The dequantised weight block of point `t`, its left half: the gate's weights times scales. -/
theorem dq_gate (c : Dev nD) (t : Fin cfg0.N) (k : Fin 5120) (p : Fin 256) :
    dq m c t (ix2 k (⟨p.val, by omega⟩ : Fin 512)) = wts m c (ix2 k (⟨256 * min t.val 16 + p.val, by omega⟩ : Fin 8704))
      * scl m c (ix2 (⟨k.val / 128, by omega⟩ : Fin 40) (⟨(256 * min t.val 16 + p.val) / 128, by omega⟩ : Fin 68)) := by
  unfold dq deq
  have hq : p.val / 256 = 0 := by omega
  refine congrArg₂ (fun a b : EReal => a * b) ?_ ?_
  · refine Eq.trans ?_ (iblk0_apply m c t k p)
    show pick (p.val / 256) (iblk m c 0 t) (iblk m c 1 t) _ = _
    rw [hq]
    refine congrArg (iblk m c 0 t) (funext fun a => Fin.ext ?_)
    match a with
    | ⟨0, _⟩ => rfl
    | ⟨1, _⟩ => show p.val % 256 = p.val; omega
  · refine Eq.trans ?_ (iblk2_apply m c t _ _)
    refine congrArg (iblk m c 2 t) (funext fun a => Fin.ext ?_)
    match a with
    | ⟨0, _⟩ =>
      show 34 * (p.val / 256) + 2 * min (grid0.coords t 0).val 16 + p.val % 256 / 128 = (256 * min t.val 16 + p.val) / 128
      rw [coord0]; omega
    | ⟨1, _⟩ => rfl

/-- Its right half: the up projection's weights times scales. -/
theorem dq_up (c : Dev nD) (t : Fin cfg0.N) (k : Fin 5120) (p : Fin 256) :
    dq m c t (ix2 k (⟨256 + p.val, by omega⟩ : Fin 512)) = wts m c (ix2 k (⟨4352 + 256 * min t.val 16 + p.val, by omega⟩ : Fin 8704))
      * scl m c (ix2 (⟨k.val / 128, by omega⟩ : Fin 40) (⟨(4352 + 256 * min t.val 16 + p.val) / 128, by omega⟩ : Fin 68)) := by
  unfold dq deq
  have hq : (256 + p.val) / 256 = 1 := by omega
  refine congrArg₂ (fun a b : EReal => a * b) ?_ ?_
  · refine Eq.trans ?_ (iblk1_apply m c t k p)
    show pick ((256 + p.val) / 256) (iblk m c 0 t) (iblk m c 1 t) _ = _
    rw [hq]
    refine congrArg (iblk m c 1 t) (funext fun a => Fin.ext ?_)
    match a with
    | ⟨0, _⟩ => rfl
    | ⟨1, _⟩ => show (256 + p.val) % 256 = p.val; omega
  · refine Eq.trans ?_ (iblk2_apply m c t _ _)
    refine congrArg (iblk m c 2 t) (funext fun a => Fin.ext ?_)
    match a with
    | ⟨0, _⟩ =>
      show 34 * ((256 + p.val) / 256) + 2 * min (grid0.coords t 0).val 16 + (256 + p.val) % 256 / 128 = (4352 + 256 * min t.val 16 + p.val) / 128
      rw [coord0]; omega
    | ⟨1, _⟩ => rfl

/-- The products of a block are products of the arguments. -/
theorem kp_gate (c : Dev nD) (t : Fin cfg0.N) (r : Fin 2048) (p : Fin 256) :
    kp (V m c main_arg0) (dq m c t) r ⟨p.val, by omega⟩ = prod (xa m c) (wts m c) (scl m c) r ⟨256 * min t.val 16 + p.val, by omega⟩ := by
  unfold kp prod
  rw [V_main_arg0]
  exact Finset.sum_congr rfl fun k _ => congrArg (fun b : EReal => act _ r.val _ k * b) (dq_gate m c t k p)

theorem kp_up (c : Dev nD) (t : Fin cfg0.N) (r : Fin 2048) (p : Fin 256) :
    kp (V m c main_arg0) (dq m c t) r ⟨256 + p.val, by omega⟩ = prod (xa m c) (wts m c) (scl m c) r ⟨4352 + 256 * min t.val 16 + p.val, by omega⟩ := by
  unfold kp prod
  rw [V_main_arg0]
  exact Finset.sum_congr rfl fun k _ => congrArg (fun b : EReal => act _ r.val _ k * b) (dq_up m c t k p)

/-- The groups of a block are groups of the formula. -/
theorem kg_eq (c : Dev nD) (t : Fin cfg0.N) (r : Fin 2048) (b : Fin 2) (g : Fin 34) (hg : g.val = 2 * min t.val 16 + b.val) :
    kg (V m c main_arg0) (dq m c t) r b = grp (xa m c) (wts m c) (scl m c) r g := by
  funext j
  unfold kg kv grp val
  have e1 := kp_gate m c t r ⟨128 * b.val + j.val, by omega⟩
  have e2 := kp_up m c t r ⟨128 * b.val + j.val, by omega⟩
  have c1 : ∀ q q' : Fin 8704, q.val = q'.val → prod (xa m c) (wts m c) (scl m c) r q = prod (xa m c) (wts m c) (scl m c) r q' :=
    fun q q' h => congrArg _ (Fin.ext h)
  have f1 := e1.trans (c1 _ ⟨128 * g.val + j.val, by omega⟩ (by show 256 * min t.val 16 + (128 * b.val + j.val) = 128 * g.val + j.val; omega))
  have f2 := e2.trans (c1 _ ⟨4352 + (128 * g.val + j.val), by omega⟩
    (by show 4352 + 256 * min t.val 16 + (128 * b.val + j.val) = 4352 + (128 * g.val + j.val); omega))
  have eg : ∀ x y x' y' : EReal, x = x' → y = y' → x * Ideal.logistic x * y = x' * Ideal.logistic x' * y' := by
    rintro x y _ _ rfl rfl; rfl
  exact eg _ _ _ _ f1 f2

/-! ## The results -/

/-- The formulas of the arguments, as arrays. -/
def resC (c : Dev nD) : Vec Ideal S2048x4352 .fp8e4m3 := fun y => mcS (xa m c) (wts m c) (scl m c) (y 0) (y 1)
def resS (c : Dev nD) : Vec Ideal S2048x128 .f32 := fun y => msS (xa m c) (wts m c) (scl m c) (y 0) (y 1)
def resA (c : Dev nD) : Vec Ideal S2048x4352 .bf16 := fun y => maS (xa m c) (wts m c) (scl m c) (y 0) (y 1)

/-- What point `t` computes of the codes is its block of the formula. -/
theorem mcb_apply (c : Dev nD) (t : Fin cfg0.N) (h : t.val ≠ 0) (r : Fin 2048) (p : Fin 256) :
    mcb m c t (ix2 r p) = resC m c (ix2 r (⟨256 * (t.val - 1) + p.val, by have := lt18 t; omega⟩ : Fin 4352)) := by
  have ht := lt18 t
  unfold mcb
  rw [mcK_eq, kg_eq m c (prv t) r _ ⟨(256 * (t.val - 1) + p.val) / 128, by omega⟩
    (by show (256 * (t.val - 1) + p.val) / 128 = 2 * min (t.val - 1) 16 + p.val / 128; omega)]
  unfold resC mcS
  refine congrArg (gcode _) (Fin.ext ?_)
  show p.val % 128 = (256 * (t.val - 1) + p.val) % 128
  omega

/-- What point `t` computes of the rounded values is its block of the formula. -/
theorem mab_apply (c : Dev nD) (t : Fin cfg0.N) (h : t.val ≠ 0) (r : Fin 2048) (p : Fin 256) :
    mab m c t (ix2 r p) = resA m c (ix2 r (⟨256 * (t.val - 1) + p.val, by have := lt18 t; omega⟩ : Fin 4352)) := by
  have ht := lt18 t
  unfold mab
  rw [maK_eq, kg_eq m c (prv t) r _ ⟨(256 * (t.val - 1) + p.val) / 128, by omega⟩
    (by show (256 * (t.val - 1) + p.val) / 128 = 2 * min (t.val - 1) 16 + p.val / 128; omega)]
  unfold resA maS
  refine congrArg (gma _) (Fin.ext ?_)
  show p.val % 128 = (256 * (t.val - 1) + p.val) % 128
  omega

/-- After point `k` the lanes below `2 k` hold the formula, the others zero. -/
theorem msN_apply (c : Dev nD) (k : ℕ) (hk : k < cfg0.N) (r : Fin 2048) (l : Fin 128) :
    msN m c k hk (ix2 r l) = if l.val < 2 * k then resS m c (ix2 r l) else Ideal.ofBits .f32 0x00000000#32 := by
  have hN : cfg0.N = 18 := N_0
  induction k with
  | zero => exact (if_neg (by omega)).symm
  | succ k ih =>
    refine (msK_eq _ k (by omega) (coord0 ⟨k + 1, hk⟩) _ _ _ r l).trans ?_
    rw [ih]
    have em : min k 16 = k := by omega
    have es : ∀ (b : Fin 2), l.val = 2 * k + b.val → kstored (gx (kg (V m c main_arg0) (dq m c ⟨k, by omega⟩) r b)) = resS m c (ix2 r l) := by
      intro b hb
      have hl : l.val < 34 := by omega
      rw [kg_eq m c ⟨k, by omega⟩ r b ⟨l.val, hl⟩ (by show l.val = 2 * min k 16 + b.val; omega)]
      show _ = msS (xa m c) (wts m c) (scl m c) r l
      unfold msS
      rw [dif_pos hl]
    by_cases h1 : l.val = 2 * k + 1
    · rw [if_pos h1, if_pos (show l.val < 2 * (k + 1) by omega)]
      exact es 1 h1
    rw [if_neg h1]
    by_cases h0 : l.val = 2 * k
    · rw [if_pos h0, if_pos (show l.val < 2 * (k + 1) by omega)]
      exact es 0 h0
    rw [if_neg h0]
    by_cases h2 : l.val < 2 * k
    · rw [if_pos h2, if_pos h2, if_pos (show l.val < 2 * (k + 1) by omega)]
    · rw [if_neg h2, if_neg (show ¬ l.val < 2 * (k + 1) by omega)]

/-- After the last point the scales are the formula. -/
theorem msb_apply (c : Dev nD) (t : Fin cfg0.N) (h : t.val = 17) (r : Fin 2048) (l : Fin 128) : msb m c t (ix2 r l) = resS m c (ix2 r l) := by
  unfold msb
  rw [msN_apply]
  by_cases hl : l.val < 2 * t.val
  · rw [if_pos hl]
  · rw [if_neg hl]
    show _ = msS (xa m c) (wts m c) (scl m c) r l
    unfold msS
    rw [dif_neg (show ¬ l.val < 34 by omega)]

/-! ## What the points write back -/

theorem flushed_eq3 (c : Dev nD) (t : Fin cfg0.N) (hf : (cfg0.win 3).flush t = true) :
    (dats m 0 c).flushed 3 t = ((cfg0.win 3).blk t).view.read (Elt Ideal) (resC m c) := by
  have h : t.val ≠ 0 := by
    intro h; rw [flush0_3, decide_eq_true h] at hf; exact absurd hf (by decide)
  show (cfg0.win 3).cut (grid0.coords t) ((dats m 0 c).after 3 t) = _
  rw [after0_3]
  funext j
  show mcb m c t j = resC m c (((cfg0.win 3).blk t).view.emb j)
  obtain ⟨e0, e1⟩ := idx3 t
  have hj : j = ix2 (j 0) (j 1) := eq_ix2 (n0 := 2048) (n1 := 256) j
  rw [hj]
  refine (mcb_apply m c t h (j 0) (j 1)).trans (congrArg (resC m c) (funext fun a => Fin.ext ?_))
  match a with
  | ⟨0, _⟩ => show (j 0).val = win0_3.index t (0 : Fin 2) * 2048 + 1 * (j 0).val; omega
  | ⟨1, _⟩ => show 256 * (t.val - 1) + (j 1).val = win0_3.index t (1 : Fin 2) * 256 + 1 * (j 1).val; omega

theorem flushed_eq5 (c : Dev nD) (t : Fin cfg0.N) (hf : (cfg0.win 5).flush t = true) :
    (dats m 0 c).flushed 5 t = ((cfg0.win 5).blk t).view.read (Elt Ideal) (resA m c) := by
  have h : t.val ≠ 0 := by
    intro h; rw [flush0_5, decide_eq_true h] at hf; exact absurd hf (by decide)
  show (cfg0.win 5).cut (grid0.coords t) ((dats m 0 c).after 5 t) = _
  rw [after0_5]
  funext j
  show mab m c t j = resA m c (((cfg0.win 5).blk t).view.emb j)
  obtain ⟨e0, e1⟩ := idx5 t
  have hj : j = ix2 (j 0) (j 1) := eq_ix2 (n0 := 2048) (n1 := 256) j
  rw [hj]
  refine (mab_apply m c t h (j 0) (j 1)).trans (congrArg (resA m c) (funext fun a => Fin.ext ?_))
  match a with
  | ⟨0, _⟩ => show (j 0).val = win0_5.index t (0 : Fin 2) * 2048 + 1 * (j 0).val; omega
  | ⟨1, _⟩ => show 256 * (t.val - 1) + (j 1).val = win0_5.index t (1 : Fin 2) * 256 + 1 * (j 1).val; omega

theorem flushed_eq4 (c : Dev nD) (t : Fin cfg0.N) (hf : (cfg0.win 4).flush t = true) :
    (dats m 0 c).flushed 4 t = ((cfg0.win 4).blk t).view.read (Elt Ideal) (resS m c) := by
  have h : t.val = 17 := by
    rw [flush0_4] at hf; exact of_decide_eq_true hf
  show (cfg0.win 4).cut (grid0.coords t) ((dats m 0 c).after 4 t) = _
  rw [after0_4]
  funext j
  show msb m c t j = resS m c (((cfg0.win 4).blk t).view.emb j)
  obtain ⟨e0, e1⟩ := idx4 t
  have hj : j = ix2 (j 0) (j 1) := eq_ix2 (n0 := 2048) (n1 := 128) j
  rw [hj]
  refine (msb_apply m c t h (j 0) (j 1)).trans (congrArg (resS m c) (funext fun a => Fin.ext ?_))
  match a with
  | ⟨0, _⟩ => show (j 0).val = win0_4.index t (0 : Fin 2) * 2048 + 1 * (j 0).val; omega
  | ⟨1, _⟩ => show (j 1).val = win0_4.index t (1 : Fin 2) * 128 + 1 * (j 1).val; omega

/-- Every index is in the block that some point writes back. -/
theorem covered3 (i : S2048x4352.Idx) :
    ∃ t : Fin cfg0.N, (cfg0.win 3).flush t = true ∧ i ∈ ((cfg0.win 3).blk t).view.set := by
  have h0 : (i 0).val < 2048 := (i 0).isLt
  have h1 : (i 1).val < 4352 := (i 1).isLt
  have hN : cfg0.N = 18 := N_0
  let t : Fin cfg0.N := ⟨(i 1).val / 256 + 1, by omega⟩
  refine ⟨t, (flush0_3 t).trans (by rw [decide_eq_false (show ¬ (i 1).val / 256 + 1 = 0 by omega)]; rfl), ?_⟩
  have e := ((cfg0.win 3).blk t).view.emb_mem_set (ix2 (i 0) (⟨(i 1).val % 256, Nat.mod_lt _ (by decide)⟩ : Fin 256))
  obtain ⟨e0, e1⟩ := idx3 t
  have ei : ((cfg0.win 3).blk t).view.emb (ix2 (i 0) (⟨(i 1).val % 256, Nat.mod_lt _ (by decide)⟩ : Fin 256)) = i := by
    funext a; apply Fin.ext
    match a with
    | ⟨0, _⟩ => show win0_3.index t (0 : Fin 2) * 2048 + 1 * (i 0).val = (i 0).val; omega
    | ⟨1, _⟩ =>
      have e2 : win0_3.index t (1 : Fin 2) = (i 1).val / 256 := e1
      show win0_3.index t (1 : Fin 2) * 256 + 1 * ((i 1).val % 256) = (i 1).val; omega
  rwa [ei] at e

theorem covered5 (i : S2048x4352.Idx) :
    ∃ t : Fin cfg0.N, (cfg0.win 5).flush t = true ∧ i ∈ ((cfg0.win 5).blk t).view.set := by
  have h0 : (i 0).val < 2048 := (i 0).isLt
  have h1 : (i 1).val < 4352 := (i 1).isLt
  have hN : cfg0.N = 18 := N_0
  let t : Fin cfg0.N := ⟨(i 1).val / 256 + 1, by omega⟩
  refine ⟨t, (flush0_5 t).trans (by rw [decide_eq_false (show ¬ (i 1).val / 256 + 1 = 0 by omega)]; rfl), ?_⟩
  have e := ((cfg0.win 5).blk t).view.emb_mem_set (ix2 (i 0) (⟨(i 1).val % 256, Nat.mod_lt _ (by decide)⟩ : Fin 256))
  obtain ⟨e0, e1⟩ := idx5 t
  have ei : ((cfg0.win 5).blk t).view.emb (ix2 (i 0) (⟨(i 1).val % 256, Nat.mod_lt _ (by decide)⟩ : Fin 256)) = i := by
    funext a; apply Fin.ext
    match a with
    | ⟨0, _⟩ => show win0_5.index t (0 : Fin 2) * 2048 + 1 * (i 0).val = (i 0).val; omega
    | ⟨1, _⟩ =>
      have e2 : win0_5.index t (1 : Fin 2) = (i 1).val / 256 := e1
      show win0_5.index t (1 : Fin 2) * 256 + 1 * ((i 1).val % 256) = (i 1).val; omega
  rwa [ei] at e

theorem covered4 (i : S2048x128.Idx) :
    ∃ t : Fin cfg0.N, (cfg0.win 4).flush t = true ∧ i ∈ ((cfg0.win 4).blk t).view.set := by
  have hN : cfg0.N = 18 := N_0
  let t : Fin cfg0.N := ⟨17, by omega⟩
  refine ⟨t, (flush0_4 t).trans (decide_eq_true rfl), ?_⟩
  have e := ((cfg0.win 4).blk t).view.emb_mem_set (ix2 (i 0) (i 1))
  obtain ⟨e0, e1⟩ := idx4 t
  have ei : ((cfg0.win 4).blk t).view.emb (ix2 (i 0) (i 1)) = i := by
    funext a; apply Fin.ext
    match a with
    | ⟨0, _⟩ => show win0_4.index t (0 : Fin 2) * 2048 + 1 * (i 0).val = (i 0).val; omega
    | ⟨1, _⟩ => show win0_4.index t (1 : Fin 2) * 128 + 1 * (i 1).val = (i 1).val; omega
  rwa [ei] at e

/-- The result arrays after the run. -/
theorem final3 (c : Dev nD) : (dats m 0 c).arrAt 3 cfg0.N = resC m c :=
  (dats m 0 c).arrAt_eq_of_cover 3 (resC m c) (flushed_eq3 m c) covered3
theorem final4 (c : Dev nD) : (dats m 0 c).arrAt 4 cfg0.N = resS m c :=
  (dats m 0 c).arrAt_eq_of_cover 4 (resS m c) (flushed_eq4 m c) covered4
theorem final5 (c : Dev nD) : (dats m 0 c).arrAt 5 cfg0.N = resA m c :=
  (dats m 0 c).arrAt_eq_of_cover 5 (resA m c) (flushed_eq5 m c) covered5

/-- The arguments after the run are as launched. -/
theorem kept (F : FTy → Type) [FloatOps F] (m : (ℓ : Loc nD τ sig) → Buf (Elt F) ℓ)
    (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c)⟩

/-- Every run ends with the formulas in the result arrays and the arguments unchanged. -/
theorem run : θ_run defs (onTc (τ := τ) (main (F := Ideal))) ⟨m, fun _ => 0, ρ⟩ fun r => ∀ c : Dev nD,
      r.2.mem ((c.tc : Thread nD τ).loc main_v1_0) = resC m c
      ∧ r.2.mem ((c.tc : Thread nD τ).loc main_v1_1) = resS m c
      ∧ r.2.mem ((c.tc : Thread nD τ).loc main_v1_2) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final3 m c), ((h.1 c).1 4).trans (final4 m c), ((h.1 c).1 5).trans (final5 m c),
    kept Ideal m r h.1 c⟩) (run_main m ρ)

/-- The frame: every run ends, with the argument arrays unchanged and all semaphores at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept F m r h.1 c, h.2⟩) (run_main m ρ)

end Cert.GateUpIdeal.Gate

end
-- ==== Proof.Gate.RefRun.lean ====
/- The three result arrays after a run of the reference, at the extended reals: the formulas `Cert.GateSpec.mcS`, `msS`
   and `maS` of the arguments. -/
module

public import proofs.«01_k».proof.Proof.Gate.Ref
public import proofs.«01_k».proof.Proof.Gen.GateUpReferenceIdeal.Value
public import Idealize.ShloMosaic.Lib.WritesUnit

@[expose] public section

set_option maxRecDepth 16384

noncomputable section

namespace Cert.GateUpReferenceIdeal.Whole

open Cert.GateUpReferenceIdeal Cert.GateUpReferenceIdeal.Gen Cert.GateSpec

open Idealize.ShloMosaic Idealize.ShloMosaic.TcCoe Idealize.ShloMosaic.Tactic Idealize.ShloMosaic.ValueIdx
open Idealize.SL Idealize.SL.Sem
open Idealize.ShloMosaic.Pipeline (Dat Cfg Window)

section Blocks

variable {F : FTy → Type} [FloatOps F] (m : (ℓ : Loc nD τ sig) → Buf (Elt F) ℓ)

theorem hz : (![0, 0] : Fin 2 → Nat) = fun _ => 0 := funext fun a => by fin_cases a <;> rfl

/-- What the body leaves of the codes. -/
theorem out3_eq (c : Dev nD) (a0 : Memref sig .tc .vmem S1024x5120 .i32) (h0 : a0.IsWhole) (a1 : Memref sig .tc .vmem S5120x8704 .fp8e4m3) (h1 : a1.IsWhole)
    (a2 : Memref sig .tc .vmem S40x68 .f32) (h2 : a2.IsWhole) (a3 : Memref sig .tc .vmem S2048x4352 .fp8e4m3) (h3 : a3.IsWhole)
    (a4 : Memref sig .tc .vmem S2048x128 .f32) (h4 : a4.IsWhole) (a5 : Memref sig .tc .vmem S2048x4352 .bf16) (h5 : a5.IsWhole)
    (x0 : Vec F S1024x5120 .i32) (x1 : Vec F S5120x8704 .fp8e4m3) (x2 : Vec F S40x68 .f32) :
    out0_A_3 c a0 h0 a1 h1 a2 h2 a3 h3 a4 h4 a5 h5 x0 x1 x2 = k0_pay2 (k0_pay9 x0 x1 x2) := by
  unfold out0_A_3
  rw [View.read_writes_eq_canon _ _ _ (cover0_A_3 c a0 h0 a1 h1 a2 h2 a3 h3 a4 h4 a5 h5 x0 x1 x2)]
  unfold kernelRun0_A
  dsimp only
  sl_unfold_words
  rw [View.canon_unit_zero (S := S2048x4352) hz]
  simp only [View.readAt_eq_ld, h0.read_unread, h1.read_unread, h2.read_unread, View.ld_unit_zero (S := S1024x5120) hz,
    View.ld_unit_zero (S := S5120x8704) hz, View.ld_unit_zero (S := S40x68) hz]

/-- What the body leaves of the rounded values. -/
theorem out5_eq (c : Dev nD) (a0 : Memref sig .tc .vmem S1024x5120 .i32) (h0 : a0.IsWhole) (a1 : Memref sig .tc .vmem S5120x8704 .fp8e4m3) (h1 : a1.IsWhole)
    (a2 : Memref sig .tc .vmem S40x68 .f32) (h2 : a2.IsWhole) (a3 : Memref sig .tc .vmem S2048x4352 .fp8e4m3) (h3 : a3.IsWhole)
    (a4 : Memref sig .tc .vmem S2048x128 .f32) (h4 : a4.IsWhole) (a5 : Memref sig .tc .vmem S2048x4352 .bf16) (h5 : a5.IsWhole)
    (x0 : Vec F S1024x5120 .i32) (x1 : Vec F S5120x8704 .fp8e4m3) (x2 : Vec F S40x68 .f32) :
    out0_A_5 c a0 h0 a1 h1 a2 h2 a3 h3 a4 h4 a5 h5 x0 x1 x2 = k0_pay3 (k0_pay8 x0 x1 x2) (k0_pay9 x0 x1 x2) := by
  unfold out0_A_5
  rw [View.read_writes_eq_canon _ _ _ (cover0_A_5 c a0 h0 a1 h1 a2 h2 a3 h3 a4 h4 a5 h5 x0 x1 x2)]
  unfold kernelRun0_A
  dsimp only
  sl_unfold_words
  rw [View.canon_unit_zero (S := S2048x4352) hz]
  simp only [View.readAt_eq_ld, h0.read_unread, h1.read_unread, h2.read_unread, View.ld_unit_zero (S := S1024x5120) hz,
    View.ld_unit_zero (S := S5120x8704) hz, View.ld_unit_zero (S := S40x68) hz]

/-- What it leaves of the scales in the first 34 lanes. -/
theorem out4_in (c : Dev nD) (a0 : Memref sig .tc .vmem S1024x5120 .i32) (h0 : a0.IsWhole) (a1 : Memref sig .tc .vmem S5120x8704 .fp8e4m3) (h1 : a1.IsWhole)
    (a2 : Memref sig .tc .vmem S40x68 .f32) (h2 : a2.IsWhole) (a3 : Memref sig .tc .vmem S2048x4352 .fp8e4m3) (h3 : a3.IsWhole)
    (a4 : Memref sig .tc .vmem S2048x128 .f32) (h4 : a4.IsWhole) (a5 : Memref sig .tc .vmem S2048x4352 .bf16) (h5 : a5.IsWhole)
    (x0 : Vec F S1024x5120 .i32) (x1 : Vec F S5120x8704 .fp8e4m3) (x2 : Vec F S40x68 .f32) (r : Fin 2048) (g : Fin 34) :
    out0_A_4 c a0 h0 a1 h1 a2 h2 a3 h3 a4 h4 a5 h5 x0 x1 x2 (ix2 r (⟨g.val, by omega⟩ : Fin 128)) = k0_pay5 (k0_pay7 x0 x1 x2) (k0_pay8 x0 x1 x2) (ix2 r g) := by
  unfold out0_A_4 kernelRun0_A
  dsimp only
  sl_unfold_words
  refine (View.read_writes_cons_unit_of_mem VO0_4 VO0_4.junk _ _ _ _ (ix2 r g) hz (fun a => ?_)).trans ?_
  · match a with
    | ⟨0, _⟩ => show r.val = 0 + r.val; omega
    | ⟨1, _⟩ => show g.val = 0 + g.val; omega
  simp only [View.readAt_eq_ld, h0.read_unread, h1.read_unread, h2.read_unread, View.ld_unit_zero (S := S1024x5120) hz,
    View.ld_unit_zero (S := S5120x8704) hz, View.ld_unit_zero (S := S40x68) hz]

/-- and in the others. -/
theorem out4_out (c : Dev nD) (a0 : Memref sig .tc .vmem S1024x5120 .i32) (h0 : a0.IsWhole) (a1 : Memref sig .tc .vmem S5120x8704 .fp8e4m3) (h1 : a1.IsWhole)
    (a2 : Memref sig .tc .vmem S40x68 .f32) (h2 : a2.IsWhole) (a3 : Memref sig .tc .vmem S2048x4352 .fp8e4m3) (h3 : a3.IsWhole)
    (a4 : Memref sig .tc .vmem S2048x128 .f32) (h4 : a4.IsWhole) (a5 : Memref sig .tc .vmem S2048x4352 .bf16) (h5 : a5.IsWhole)
    (x0 : Vec F S1024x5120 .i32) (x1 : Vec F S5120x8704 .fp8e4m3) (x2 : Vec F S40x68 .f32) (r : Fin 2048) (l : Fin 128) (hl : ¬ l.val < 34) :
    out0_A_4 c a0 h0 a1 h1 a2 h2 a3 h3 a4 h4 a5 h5 x0 x1 x2 (ix2 r l) = k0_pay4 (F := F) (ix2 r l) := by
  unfold out0_A_4 kernelRun0_A
  dsimp only
  sl_unfold_words
  refine (View.read_writes_cons_unit_of_not_mem VO0_4 VO0_4.junk _ _ _ _ hz (1 : Fin 2) (Or.inr ?_)).trans ?_
  · show 0 + 34 ≤ l.val; omega
  refine View.read_writes_cons_unit_of_mem VO0_4 VO0_4.junk _ _ _ _ (ix2 r l) hz (fun a => ?_)
  match a with
  | ⟨0, _⟩ => show r.val = 0 + r.val; omega
  | ⟨1, _⟩ => show l.val = 0 + l.val; omega

theorem idx0 : ∀ t : Fin cfg0.N, win0_0.index t (0 : Fin 2) = 0 ∧ win0_0.index t (1 : Fin 2) = 0 :=
  (by decide +kernel : ∀ t : Fin grid0.N, _)
theorem emb0 (t : Fin cfg0.N) (j : S1024x5120.Idx) : ((cfg0.win 0).blk t).view.emb j = j := by
  obtain ⟨e0, e1⟩ := idx0 t
  funext a; apply Fin.ext
  match a with
  | ⟨0, _⟩ => show win0_0.index t (0 : Fin 2) * 1024 + 1 * (j 0).val = (j 0).val; omega
  | ⟨1, _⟩ => show win0_0.index t (1 : Fin 2) * 5120 + 1 * (j 1).val = (j 1).val; omega
theorem iblk0_eq (c : Dev nD) (t : Fin cfg0.N) : iblk m c 0 t = m ((c : Thread nD τ).loc main_arg0) := by
  funext j; show V m c main_arg0 (((cfg0.win 0).blk t).view.emb j) = _; rw [emb0]

theorem idx1 : ∀ t : Fin cfg0.N, win0_1.index t (0 : Fin 2) = 0 ∧ win0_1.index t (1 : Fin 2) = 0 :=
  (by decide +kernel : ∀ t : Fin grid0.N, _)
theorem emb1 (t : Fin cfg0.N) (j : S5120x8704.Idx) : ((cfg0.win 1).blk t).view.emb j = j := by
  obtain ⟨e0, e1⟩ := idx1 t
  funext a; apply Fin.ext
  match a with
  | ⟨0, _⟩ => show win0_1.index t (0 : Fin 2) * 5120 + 1 * (j 0).val = (j 0).val; omega
  | ⟨1, _⟩ => show win0_1.index t (1 : Fin 2) * 8704 + 1 * (j 1).val = (j 1).val; omega
theorem iblk1_eq (c : Dev nD) (t : Fin cfg0.N) : iblk m c 1 t = m ((c : Thread nD τ).loc main_arg1) := by
  funext j; show V m c main_arg1 (((cfg0.win 1).blk t).view.emb j) = _; rw [emb1]

theorem idx2 : ∀ t : Fin cfg0.N, win0_2.index t (0 : Fin 2) = 0 ∧ win0_2.index t (1 : Fin 2) = 0 :=
  (by decide +kernel : ∀ t : Fin grid0.N, _)
theorem emb2 (t : Fin cfg0.N) (j : S40x68.Idx) : ((cfg0.win 2).blk t).view.emb j = j := by
  obtain ⟨e0, e1⟩ := idx2 t
  funext a; apply Fin.ext
  match a with
  | ⟨0, _⟩ => show win0_2.index t (0 : Fin 2) * 40 + 1 * (j 0).val = (j 0).val; omega
  | ⟨1, _⟩ => show win0_2.index t (1 : Fin 2) * 68 + 1 * (j 1).val = (j 1).val; omega
theorem iblk2_eq (c : Dev nD) (t : Fin cfg0.N) : iblk m c 2 t = m ((c : Thread nD τ).loc main_arg2) := by
  funext j; show V m c main_arg2 (((cfg0.win 2).blk t).view.emb j) = _; rw [emb2]

theorem idx3 : ∀ t : Fin cfg0.N, win0_3.index t (0 : Fin 2) = 0 ∧ win0_3.index t (1 : Fin 2) = 0 :=
  (by decide +kernel : ∀ t : Fin grid0.N, _)
theorem emb3 (t : Fin cfg0.N) (j : S2048x4352.Idx) : ((cfg0.win 3).blk t).view.emb j = j := by
  obtain ⟨e0, e1⟩ := idx3 t
  funext a; apply Fin.ext
  match a with
  | ⟨0, _⟩ => show win0_3.index t (0 : Fin 2) * 2048 + 1 * (j 0).val = (j 0).val; omega
  | ⟨1, _⟩ => show win0_3.index t (1 : Fin 2) * 4352 + 1 * (j 1).val = (j 1).val; omega
theorem cut3_eq (t : Fin cfg0.N) (X : Vec F S2048x4352 .fp8e4m3) :
    (cfg0.win 3).cut (grid0.coords t) X = ((cfg0.win 3).blk t).view.read (Elt F) X := by
  funext j
  show X j = X (((cfg0.win 3).blk t).view.emb j)
  rw [emb3]
theorem covered3 (i : S2048x4352.Idx) : ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

theorem idx4 : ∀ t : Fin cfg0.N, win0_4.index t (0 : Fin 2) = 0 ∧ win0_4.index t (1 : Fin 2) = 0 :=
  (by decide +kernel : ∀ t : Fin grid0.N, _)
theorem emb4 (t : Fin cfg0.N) (j : S2048x128.Idx) : ((cfg0.win 4).blk t).view.emb j = j := by
  obtain ⟨e0, e1⟩ := idx4 t
  funext a; apply Fin.ext
  match a with
  | ⟨0, _⟩ => show win0_4.index t (0 : Fin 2) * 2048 + 1 * (j 0).val = (j 0).val; omega
  | ⟨1, _⟩ => show win0_4.index t (1 : Fin 2) * 128 + 1 * (j 1).val = (j 1).val; omega
theorem cut4_eq (t : Fin cfg0.N) (X : Vec F S2048x128 .f32) :
    (cfg0.win 4).cut (grid0.coords t) X = ((cfg0.win 4).blk t).view.read (Elt F) X := by
  funext j
  show X j = X (((cfg0.win 4).blk t).view.emb j)
  rw [emb4]
theorem covered4 (i : S2048x128.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

theorem idx5 : ∀ t : Fin cfg0.N, win0_5.index t (0 : Fin 2) = 0 ∧ win0_5.index t (1 : Fin 2) = 0 :=
  (by decide +kernel : ∀ t : Fin grid0.N, _)
theorem emb5 (t : Fin cfg0.N) (j : S2048x4352.Idx) : ((cfg0.win 5).blk t).view.emb j = j := by
  obtain ⟨e0, e1⟩ := idx5 t
  funext a; apply Fin.ext
  match a with
  | ⟨0, _⟩ => show win0_5.index t (0 : Fin 2) * 2048 + 1 * (j 0).val = (j 0).val; omega
  | ⟨1, _⟩ => show win0_5.index t (1 : Fin 2) * 4352 + 1 * (j 1).val = (j 1).val; omega
theorem cut5_eq (t : Fin cfg0.N) (X : Vec F S2048x4352 .bf16) :
    (cfg0.win 5).cut (grid0.coords t) X = ((cfg0.win 5).blk t).view.read (Elt F) X := by
  funext j
  show X j = X (((cfg0.win 5).blk t).view.emb j)
  rw [emb5]
theorem covered5 (i : S2048x4352.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- What the outputs hold after the body, of the arguments. -/
theorem at3 (c : Dev nD) (t : Fin cfg0.N) : (outsAt0 m c t).1 = k0_pay2 (k0_pay9 (m ((c : Thread nD τ).loc main_arg0)) (m ((c : Thread nD τ).loc main_arg1)) (m ((c : Thread nD τ).loc main_arg2))) := by
  unfold outsAt0
  dsimp only
  rw [out3_eq, iblk0_eq, iblk1_eq, iblk2_eq]
theorem at5 (c : Dev nD) (t : Fin cfg0.N) :
    (outsAt0 m c t).2.2 = k0_pay3 (k0_pay8 (m ((c : Thread nD τ).loc main_arg0)) (m ((c : Thread nD τ).loc main_arg1)) (m ((c : Thread nD τ).loc main_arg2))) (k0_pay9 (m ((c : Thread nD τ).loc main_arg0)) (m ((c : Thread nD τ).loc main_arg1)) (m ((c : Thread nD τ).loc main_arg2))) := by
  unfold outsAt0
  dsimp only
  rw [out5_eq, iblk0_eq, iblk1_eq, iblk2_eq]
theorem at4_in (c : Dev nD) (t : Fin cfg0.N) (r : Fin 2048) (g : Fin 34) :
    (outsAt0 m c t).2.1 (ix2 r (⟨g.val, by omega⟩ : Fin 128)) = k0_pay5 (k0_pay7 (m ((c : Thread nD τ).loc main_arg0)) (m ((c : Thread nD τ).loc main_arg1)) (m ((c : Thread nD τ).loc main_arg2))) (k0_pay8 (m ((c : Thread nD τ).loc main_arg0)) (m ((c : Thread nD τ).loc main_arg1)) (m ((c : Thread nD τ).loc main_arg2))) (ix2 r g) := by
  unfold outsAt0
  dsimp only
  rw [out4_in, iblk0_eq, iblk1_eq, iblk2_eq]
theorem at4_out (c : Dev nD) (t : Fin cfg0.N) (r : Fin 2048) (l : Fin 128) (hl : ¬ l.val < 34) :
    (outsAt0 m c t).2.1 (ix2 r l) = k0_pay4 (F := F) (ix2 r l) := by
  unfold outsAt0
  dsimp only
  rw [out4_out _ _ _ _ _ _ _ _ _ _ _ _ _ _ _ _ r l hl]

end Blocks

variable (m : (ℓ : Loc nD τ sig) → Buf (Elt Ideal) ℓ) (ρ : Dev nD → PrngReg)

/-- The arguments, as arrays. -/
abbrev xa (c : Dev nD) : Vec Ideal S1024x5120 .i32 := m ((c : Thread nD τ).loc main_arg0)
abbrev wts (c : Dev nD) : Vec Ideal S5120x8704 .fp8e4m3 := m ((c : Thread nD τ).loc main_arg1)
abbrev scl (c : Dev nD) : Vec Ideal S40x68 .f32 := m ((c : Thread nD τ).loc main_arg2)

/-- The formulas of the arguments, as arrays. -/
def resC (c : Dev nD) : Vec Ideal S2048x4352 .fp8e4m3 := fun y => mcS (xa m c) (wts m c) (scl m c) (y 0) (y 1)
def resS (c : Dev nD) : Vec Ideal S2048x128 .f32 := fun y => msS (xa m c) (wts m c) (scl m c) (y 0) (y 1)
def resA (c : Dev nD) : Vec Ideal S2048x4352 .bf16 := fun y => maS (xa m c) (wts m c) (scl m c) (y 0) (y 1)

theorem pay4_eq (y : S2048x128.Idx) : k0_pay4 (F := Ideal) y = Ideal.ofBits .f32 0x00000000#32 := rfl

theorem outs3 (c : Dev nD) (t : Fin cfg0.N) : (outsAt0 m c t).1 = resC m c := by
  rw [at3]
  funext y
  have hy : y = ix2 (y 0) (y 1) := eq_ix2 (n0 := 2048) (n1 := 4352) y
  rw [hy]
  exact pay2_eq _ _ _ _ _

theorem outs5 (c : Dev nD) (t : Fin cfg0.N) : (outsAt0 m c t).2.2 = resA m c := by
  rw [at5]
  funext y
  have hy : y = ix2 (y 0) (y 1) := eq_ix2 (n0 := 2048) (n1 := 4352) y
  rw [hy]
  exact pay3_eq _ _ _ _ _

theorem outs4 (c : Dev nD) (t : Fin cfg0.N) : (outsAt0 m c t).2.1 = resS m c := by
  funext y
  obtain ⟨r, l, rfl⟩ : ∃ (r : Fin 2048) (l : Fin 128), y = ix2 r l := ⟨y 0, y 1, eq_ix2 (n0 := 2048) (n1 := 128) y⟩
  show _ = msS (xa m c) (wts m c) (scl m c) r l
  unfold msS
  by_cases hl : l.val < 34
  · rw [dif_pos hl]
    rw [at4_in m c t r ⟨l.val, hl⟩]
    exact pay5_eq _ _ _ _ _
  · rw [dif_neg hl]
    exact (at4_out m c t r l hl).trans (pay4_eq _)

/-- The result arrays after the run. -/
theorem final3 (c : Dev nD) : (dats m 0 c).arrAt 3 cfg0.N = resC m c :=
  (dats m 0 c).arrAt_eq_of_cover 3 (resC m c)
    (fun t _ => (Value.flushed3 m c t).trans ((congrArg _ (outs3 m c t)).trans (cut3_eq t _))) covered3
theorem final4 (c : Dev nD) : (dats m 0 c).arrAt 4 cfg0.N = resS m c :=
  (dats m 0 c).arrAt_eq_of_cover 4 (resS m c)
    (fun t _ => (Value.flushed4 m c t).trans ((congrArg _ (outs4 m c t)).trans (cut4_eq t _))) covered4
theorem final5 (c : Dev nD) : (dats m 0 c).arrAt 5 cfg0.N = resA m c :=
  (dats m 0 c).arrAt_eq_of_cover 5 (resA m c)
    (fun t _ => (Value.flushed5 m c t).trans ((congrArg _ (outs5 m c t)).trans (cut5_eq t _))) covered5

/-- Every run ends with the formulas in the result arrays and the arguments unchanged. -/
theorem run : θ_run defs (onTc (τ := τ) (main (F := Ideal))) ⟨m, fun _ => 0, ρ⟩ fun r => ∀ c : Dev nD,
      r.2.mem ((c.tc : Thread nD τ).loc main_v0_0) = resC m c
      ∧ r.2.mem ((c.tc : Thread nD τ).loc main_v0_1) = resS m c
      ∧ r.2.mem ((c.tc : Thread nD τ).loc main_v0_2) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final3 m c), (h c).2.1.trans (final4 m c), (h c).2.2.1.trans (final5 m c), (h c).2.2.2⟩)
    (Value.run_blocks m ρ)

end Cert.GateUpReferenceIdeal.Whole

end
-- ==== Proof.lean ====
/- The claim, for each of the two calls: the frames of its three programs, the preservation of the kernel by its
   idealization, and the equality of the results of kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Frame.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Down.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.GateUpReferenceIdeal.Value
public import proofs.«01_k».proof.Proof.GateFrame.Frame
public import proofs.«01_k».proof.Proof.Gate.Value
public import proofs.«01_k».proof.Proof.Gate.RefRun
public import Idealize.ShloMosaic.Adequacy
public import Idealize.ShloMosaic.Init

@[expose] public section

noncomputable section

namespace Cert.Proof

open Idealize.ShloMosaic Idealize.SL.Sem Cert.Kernel

/-- Kernel and reference give equal results: each ends at the formula `Cert.Down.spec` of the arguments. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨Cert.KernelIdeal.Down.res m, Cert.KernelIdeal.Down.run m g, ?_⟩
  refine (θ_run _ _ _).mono (fun r h c => ⟨((h c).1).trans ?_, (h c).2⟩) (Cert.ReferenceIdeal.Value.run (F := Ideal) m' g')
  obtain ⟨h0, h1, h2, h3⟩ := hm c
  funext y
  have hy := ValueIdx.eq_ix2 (n0 := 2048) (n1 := 5120) y
  rw [hy]
  refine (Cert.Down.ref_eq _ _ _ _ (y 0) (y 1)).trans ?_
  exact congrFun (congrFun (congr (congr (congr (congrArg Cert.Down.spec h0) h1) h2) h3) (y 0)) (y 1)

/-- Kernel and reference of the gated linear unit give equal results: each ends at the formulas `Cert.GateSpec.mcS`, `msS`
    and `maS` of the arguments. -/
theorem algebraicGateUp : Cert.algebraic_GateUpIdeal_GateUpReferenceIdeal (hGateUpIdeal := Cert.GateUpIdeal.Gen.facts)
    (hGateUpReferenceIdeal := Cert.GateUpReferenceIdeal.Gen.facts) := by
  intro m g m' g' _ hm
  refine ⟨Cert.GateUpIdeal.Gate.resC m, Cert.GateUpIdeal.Gate.resS m, Cert.GateUpIdeal.Gate.resA m, Cert.GateUpIdeal.Gate.run m g, ?_⟩
  refine (θ_run _ _ _).mono (fun r h c => ?_) (Cert.GateUpReferenceIdeal.Whole.run m' g')
  obtain ⟨h0, h1, h2⟩ := hm c
  obtain ⟨r0, r1, r2, hk⟩ := h c
  refine ⟨r0.trans ?_, r1.trans ?_, r2.trans ?_, hk⟩
  · funext y
    exact congrFun (congrFun (congr (congr (congrArg Cert.GateSpec.mcS h0) h1) h2) (y 0)) (y 1)
  · funext y
    exact congrFun (congrFun (congr (congr (congrArg Cert.GateSpec.msS h0) h1) h2) (y 0)) (y 1)
  · funext y
    exact congrFun (congrFun (congr (congr (congrArg Cert.GateSpec.maS h0) h1) h2) (y 0)) (y 1)

theorem claim : Cert.Claim := ⟨Cert.Kernel.Gen.facts, Cert.KernelIdeal.Gen.facts, Cert.ReferenceIdeal.Gen.facts,
  Cert.GateUp.Gen.facts, Cert.GateUpIdeal.Gen.facts, Cert.GateUpReferenceIdeal.Gen.facts,
  fun m ρ _ => Cert.Kernel.Down.frame m ρ, fun m ρ _ => Cert.KernelIdeal.Down.frame m ρ,
  fun m ρ _ => Cert.ReferenceIdeal.Gen.frame m ρ,
  fun m ρ _ => Cert.GateUp.Gate.frame m ρ, fun m ρ _ => Cert.GateUpIdeal.Gate.frame m ρ,
  fun m ρ _ => Cert.GateUpReferenceIdeal.Gen.frame m ρ, trivial, algebraic, trivial, algebraicGateUp⟩

end Cert.Proof

end
